-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_moderate_floors [hPre_moderate_floors : Cert.Pre_moderate_floors.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_moderate_floors.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_moderate_floors [hPre_moderate_floors : Cert.Pre_moderate_floors.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_moderate_floors.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_moderate_floors [hKernel6Ideal : Cert.Kernel6Ideal.Facts] [hPre_moderate_floors : Cert.Pre_moderate_floors.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_moderate_floors m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_moderate_floors [hReference6Ideal : Cert.Reference6Ideal.Facts] [hPre_moderate_floors : Cert.Pre_moderate_floors.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_moderate_floors m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)
  ∧ IdealRules.named_const.Statement Cert.KernelIdeal.κ "neg_inf" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)) (v1 : (c : Dev Cert.Kernel3Ideal.nD) → Buf (Elt Ideal) ((c.tc : Thread Cert.Kernel3Ideal.nD Cert.Kernel3Ideal.τ).loc Cert.Kernel3Ideal.main_v7)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_v7) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_v35) = v3 c
          ∧ r.2.mem ((c.tc : Thread Cert.Reference3Ideal.nD Cert.Reference3Ideal.τ).loc Cert.Reference3Ideal.main_v31) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5)) (v1 : (c : Dev Cert.Kernel5Ideal.nD) → Buf (Elt Ideal) ((c.tc : Thread Cert.Kernel5Ideal.nD Cert.Kernel5Ideal.τ).loc Cert.Kernel5Ideal.main_v6)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_v6) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_v35) = v3 c
          ∧ r.2.mem ((c.tc : Thread Cert.Reference5Ideal.nD Cert.Reference5Ideal.τ).loc Cert.Reference5Ideal.main_v31) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_moderate_floors [hKernel6Ideal : Cert.Kernel6Ideal.Facts] [hReference6Ideal : Cert.Reference6Ideal.Facts] [hPre_moderate_floors : Cert.Pre_moderate_floors.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_moderate_floors m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v110) = v0 c
          ∧ r.2.mem ((c.tc : Thread Cert.Reference6Ideal.nD Cert.Reference6Ideal.τ).loc Cert.Reference6Ideal.main_v108) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  IdealRules.named_const.Statement Cert.Kernel7Ideal.κ "q_scale" .f32 0x3E38AA3B#32 ((8⁻¹ * (Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v72) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts) (hPre_moderate_floors : Cert.Pre_moderate_floors.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_moderate_floors (hKernel6Ideal := hKernel6Ideal) (hPre_moderate_floors := hPre_moderate_floors)
    ∧ quiescent_Reference6Ideal (hReference6Ideal := hReference6Ideal)
    ∧ quiescent_Reference6Ideal_pre_moderate_floors (hReference6Ideal := hReference6Ideal) (hPre_moderate_floors := hPre_moderate_floors)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_moderate_floors (hKernel6Ideal := hKernel6Ideal) (hReference6Ideal := hReference6Ideal) (hPre_moderate_floors := hPre_moderate_floors)
    ∧ preserves_Kernel7_Kernel7Ideal
    ∧ algebraic_Kernel7Ideal_Reference7Ideal (hKernel7Ideal := hKernel7Ideal) (hReference7Ideal := hReference7Ideal)
-- ==== Pre_finite_inputs.lean ====
abbrev S8x8192x1024 : Shape := ⟨3, ![8, 8192, 1024]⟩
abbrev S4x64 : Shape := ⟨2, ![4, 64]⟩
abbrev S128 : Shape := ⟨1, ![128]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S8x8192x1024 .f32) (main_arg1 : FVec F S8x8192x1024 .f32) (main_arg2 : FVec F S8x8192x1024 .f32) (main_arg3 : FVec F S4x64 .f32) (main_arg4 : FVec F S128 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x8192x1024 .f32 := Host.absf main_arg1
  let main_cst_0 : FVec F S_ .f32 := constant S_ .f32 0x7F800000#32
  let main_v5 : FVec F S8x8192x1024 .f32 := broadcastInDim S8x8192x1024 ![] bcast_S_S8x8192x1024 main_cst_0
  let main_v6 : IVec S8x8192x1024 1 := cmpf .olt main_v4 main_v5
  let main_c_1 : IVec S_ 1 := constantI S_ 1 1#1
  let main_v7 : IVec S_ 1 := (fun x v => Host.reduce IntOp.andi x v reducesTo_S8x8192x1024_S_d0_1_2 h_S_) main_v6 main_c_1
  let main_v8 : IVec S_ 1 := andi main_v3 main_v7
  let main_v9 : FVec F S8x8192x1024 .f32 := Host.absf main_arg2
  let main_cst_2 : FVec F S_ .f32 := constant S_ .f32 0x7F800000#32
  let main_v10 : FVec F S8x8192x1024 .f32 := broadcastInDim S8x8192x1024 ![] bcast_S_S8x8192x1024 main_cst_2
  let main_v11 : IVec S8x8192x1024 1 := cmpf .olt main_v9 main_v10
  let main_c_3 : IVec S_ 1 := constantI S_ 1 1#1
  let main_v12 : IVec S_ 1 := (fun x v => Host.reduce IntOp.andi x v reducesTo_S8x8192x1024_S_d0_1_2 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Pre_moderate_floors.lean ====
abbrev S16x16x1024 : Shape := ⟨3, ![16, 16, 1024]⟩
abbrev S1024 : Shape := ⟨1, ![1024]⟩
abbrev S1024x4096 : Shape := ⟨2, ![1024, 4096]⟩
abbrev S2x1024 : Shape := ⟨2, ![2, 1024]⟩
abbrev S16x8x128x128 : Shape := ⟨4, ![16, 8, 128, 128]⟩
abbrev S_ : Shape := ⟨0, ![]⟩
abbrev S1x1024 : Shape := ⟨2, ![1, 1024]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel
  slices_S2x1024_S1x1024_1_0 : S2x1024.Slices ![1, 0] S1x1024
  shapeCasts_S1x1024_S1024 : S1x1024.ShapeCasts S1024
  slices_S2x1024_S1x1024_0_0 : S2x1024.Slices ![0, 0] S1x1024
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x16x1024 .f32) (main_arg1 : FVec F S1024 .f32) (main_arg2 : FVec F S1024x4096 .f32) (main_arg3 : FVec F S2x1024 .f32) (main_arg4 : FVec F S1024 .f32) (main_arg5 : FVec F S16x8x128x128 .f32) : IVec S_ 1 :=
  let main_v0 : FVec F S2x1024 .f32 := Host.absf main_arg3
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_v4 : FVec F S1x1024 .f32 := (extractStridedSlice S1x1024 ![1, 0] · slices_S2x1024_S1x1024_1_0) main_arg3
  let main_v5 : FVec F S1024 .f32 := shapeCast S1024 main_v4 shapeCasts_S1x1024_S1024
  let main_v6 : FVec F S1x1024 .f32 := (extractStridedSlice S1x1024 ![0, 0] · slices_S2x1024_S1x1024_0_0) main_arg3
  let main_v7 : FVec F S1024 .f32 := shapeCast S1024 main_v6 shapeCasts_S1x1024_S1024
  let main_v8 : FVec F S1024 .f32 := subf main_v5 main_v7
  let main_cst_0 : FVec F S_ .f32 := constant S_ .f32 0x41100000#32
  let main_v9 : FVec F S1024 .f32 := broadcastInDim S1024 ![] bcast_S_S1024 main_cst_0
  let main_v10 : IVec S1024 1 := cmpf .ole main_v8 main_v9
  let main_c_1 : IVec S_ 1 := constantI S_ 1 1#1
  let main_v11 : IVec S_ 1 := (fun x v => Host.reduce IntOp.andi x v reducesTo_S1024_S_d0 h_S_) main_v10 main_c_1
  let main_v12 : IVec S_ 1 := andi main_v3 main_v11
  main_v12
-- ==== Kernel.lean ====
abbrev S8x8192x1024 : Shape := ⟨3, ![8, 8192, 1024]⟩
abbrev S4x64 : Shape := ⟨2, ![4, 64]⟩
abbrev S128 : Shape := ⟨1, ![128]⟩
abbrev S1x128 : Shape := ⟨2, ![1, 128]⟩
abbrev S1x512x128 : Shape := ⟨3, ![1, 512, 128]⟩
abbrev S1x8192x128 : Shape := ⟨3, ![1, 8192, 128]⟩
abbrev S16x144x512 : Shape := ⟨3, ![16, 144, 512]⟩
abbrev S2x2x512x512 : Shape := ⟨4, ![2, 2, 512, 512]⟩
abbrev S2x2x8x512 : Shape := ⟨4, ![2, 2, 8, 512]⟩
abbrev S2x8x512 : Shape := ⟨3, ![2, 8, 512]⟩
abbrev S2x144x512 : Shape := ⟨3, ![2, 144, 512]⟩
abbrev S512x128 : Shape := ⟨2, ![512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩
abbrev S512x512 : Shape := ⟨2, ![512, 512]⟩
abbrev S1x1x512x512 : Shape := ⟨4, ![1, 1, 512, 512]⟩
abbrev S512 : Shape := ⟨1, ![512]⟩
abbrev S1x512 : Shape := ⟨2, ![1, 512]⟩
abbrev S1x1x1x512 : Shape := ⟨4, ![1, 1, 1, 512]⟩
abbrev S1x144x512 : Shape := ⟨3, ![1, 144, 512]⟩
abbrev S144x512 : Shape := ⟨2, ![144, 512]⟩
abbrev S1x1x512 : Shape := ⟨3, ![1, 1, 512]⟩
abbrev S1x64 : Shape := ⟨2, ![1, 64]⟩
abbrev S1 : Shape := ⟨1, ![1]⟩
abbrev S1x1 : Shape := ⟨2, ![1, 1]⟩

abbrev nBuf : Space → Nat
  | .hbm => 9
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S4x64, .f32⟩
  | .hbm, ⟨4, _⟩ => ⟨S128, .f32⟩
  | .hbm, ⟨5, _⟩ => ⟨S8x8192x1024, .bf16⟩
  | .hbm, ⟨6, _⟩ => ⟨S8x8192x1024, .bf16⟩
  | .hbm, ⟨7, _⟩ => ⟨S1x128, .f32⟩
  | .hbm, ⟨8, _⟩ => ⟨S8x8192x1024, .bf16⟩
  | .local _ .vmem, ⟨0, _⟩ => ⟨S1x512x128, .f32⟩
  | .local _ .vmem, ⟨1, _⟩ => ⟨S1x512x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S4x64, .f32⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | .local _ .vmem, ⟨10, _⟩ => ⟨S16x144x512, .bf16⟩
  | .local _ .vmem, ⟨11, _⟩ => ⟨S2x2x512x512, .f32⟩
  | .local _ .vmem, ⟨12, _⟩ => ⟨S2x2x8x512, .f32⟩
  | .local _ .vmem, ⟨13, _⟩ => ⟨S2x8x512, .f32⟩
  | .local _ .vmem, ⟨14, _⟩ => ⟨S2x144x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_102 : BitVec 32 := 0#32
  let c16_i32 : BitVec 32 := 16#32
  let v207 : BitVec 32 := Scalar.addi c0_i32_102 c16_i32
  let c1_i32_103 : BitVec 32 := 1#32
  ⟨c0_i32_102, v207, c1_i32_103⟩
def k0_mult1 (k0_t1 : Fin k0_t1_loop.trips) : BitVec 32 :=
  let c0_i32_102 : BitVec 32 := 0#32
  let c1_i32_103 : BitVec 32 := 1#32
  let arg14 : BitVec 32 := Scf.iv c0_i32_102 c1_i32_103 k0_t1
  let c512_i32_105 : BitVec 32 := 512#32
  let v208 : BitVec 32 := Scalar.muli arg14 c512_i32_105
  v208
def k0_off1 (k0_t1 : Fin k0_t1_loop.trips) : Fin 3 → Nat :=
  let c0_106 : Index := 0#32
  let c0_i32_102 : BitVec 32 := 0#32
  let c1_i32_103 : BitVec 32 := 1#32
  let arg14 : BitVec 32 := Scf.iv c0_i32_102 c1_i32_103 k0_t1
  let c512_i32_105 : BitVec 32 := 512#32
  let v208 : BitVec 32 := Scalar.muli arg14 c512_i32_105
  let v209 : BitVec 32 := v208
  let v210 : Index := Scalar.indexCast v209
  let c0_107 : Index := 0#32
  ![0, v210.toNat, 0]
def k0_off2 (k0_t1 : Fin k0_t1_loop.trips) : Fin 3 → Nat :=
  let c0_i32_102 : BitVec 32 := 0#32
  let c1_i32_103 : BitVec 32 := 1#32
  let arg14 : BitVec 32 := Scf.iv c0_i32_102 c1_i32_103 k0_t1
  let v216 : Index := Scalar.indexCast arg14
  let c0_108 : Index := 0#32
  let c0_109 : Index := 0#32
  ![v216.toNat, 0, 0]
def k0_off3 (k0_t1 : Fin k0_t1_loop.trips) : Fin 3 → Nat :=
  let c0_i32_102 : BitVec 32 := 0#32
  let c1_i32_103 : BitVec 32 := 1#32
  let arg14 : BitVec 32 := Scf.iv c0_i32_102 c1_i32_103 k0_t1
  let v221 : Index := Scalar.indexCast arg14
  let c128_111 : Index := 128#32
  let c0_112 : Index := 0#32
  ![v221.toNat, 128, 0]
def k0_mult2 (i : grid0.Coords) : BitVec 32 :=
  let arg2 : BitVec 32 := BitVec.ofNat 32 (i 2).val
  let c512_i32 : BitVec 32 := 512#32
  let v29 : BitVec 32 := Scalar.muli arg2 c512_i32
  v29
def k0_off4 (i : grid0.Coords) : Fin 3 → Nat :=
  let c0_14 : Index := 0#32
  let arg2 : BitVec 32 := BitVec.ofNat 32 (i 2).val
  let c512_i32 : BitVec 32 := 512#32
  let v29 : BitVec 32 := Scalar.muli arg2 c512_i32
  let v30 : BitVec 32 := v29
  let v31 : Index := Scalar.indexCast v30
  let c0_15 : Index := 0#32
  ![0, v31.toNat, 0]
@[reducible] def k0_t2_loop (i : grid0.Coords) : Scf.Loop 32 :=
  let c0_i32_57 : BitVec 32 := 0#32
  let arg2 : BitVec 32 := BitVec.ofNat 32 (i 2).val
  let c0_i32_50 : BitVec 32 := 0#32
  let v108 : BitVec 1 := Scalar.cmpi .sgt arg2 c0_i32_50
  let v109 : BitVec 32 := Scalar.extui v108
  let c0_i32_51 : BitVec 32 := 0#32
  let v110 : BitVec 1 := Scalar.cmpi .slt arg2 c0_i32_51
  let v111 : BitVec 32 := Scalar.extui v110
  let v112 : BitVec 32 := Scalar.subi v109 v111
  let c2_i32 : BitVec 32 := 2#32
  let c0_i32_52 : BitVec 32 := 0#32
  let v113 : BitVec 1 := Scalar.cmpi .sgt c2_i32 c0_i32_52
  let v114 : BitVec 32 := Scalar.extui v113
  let c0_i32_53 : BitVec 32 := 0#32
  let v115 : BitVec 1 := Scalar.cmpi .slt c2_i32 c0_i32_53
  let v116 : BitVec 32 := Scalar.extui v115
  let v117 : BitVec 32 := Scalar.subi v114 v116
  let v118 : BitVec 1 := Scalar.cmpi .ne v112 v117
  let v119 : BitVec 32 := Scalar.remsi arg2 c2_i32
  let c0_i32_54 : BitVec 32 := 0#32
  let v120 : BitVec 1 := Scalar.cmpi .ne v119 c0_i32_54
  let v121 : BitVec 1 := Scalar.andi v118 v120
  let v107 : BitVec 32 := Scalar.divsi arg2 c2_i32
  let c1_i32_55 : BitVec 32 := 1#32
  let v122 : BitVec 32 := Scalar.subi v107 c1_i32_55
  let v123 : BitVec 32 := Scalar.select v121 v122 v107
  let v124 : BitVec 32 := Scalar.subi v123 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_59 : BitVec 32 := 1#32
  ⟨c0_i32_57, v128, c1_i32_59⟩
def k0_mult3 (i : grid0.Coords) (k0_t2 : Fin (k0_t2_loop i).trips) : BitVec 32 :=
  let c2_i32_102 : BitVec 32 := 2#32
  let c0_i32_57 : BitVec 32 := 0#32
  let c1_i32_59 : BitVec 32 := 1#32
  let arg14 : BitVec 32 := Scf.iv c0_i32_57 c1_i32_59 k0_t2
  let v207 : BitVec 32 := Scalar.muli c2_i32_102 arg14
  let c512_i32_103 : BitVec 32 := 512#32
  let v208 : BitVec 32 := Scalar.muli v207 c512_i32_103
  v208
def k0_off5 (i : grid0.Coords) (k0_t2 : Fin (k0_t2_loop i).trips) : Fin 3 → Nat :=
  let c0_104 : Index := 0#32
  let c2_i32_102 : BitVec 32 := 2#32
  let c0_i32_57 : BitVec 32 := 0#32
  let c1_i32_59 : BitVec 32 := 1#32
  let arg14 : BitVec 32 := Scf.iv c0_i32_57 c1_i32_59 k0_t2
  let v207 : BitVec 32 := Scalar.muli c2_i32_102 arg14
  let c512_i32_103 : BitVec 32 := 512#32
  let v208 : BitVec 32 := Scalar.muli v207 c512_i32_103
  let v209 : BitVec 32 := v208
  let v210 : Index := Scalar.indexCast v209
  let c0_105 : Index := 0#32
  ![0, v210.toNat, 0]
def k0_off6 (i : grid0.Coords) (k0_t2 : Fin (k0_t2_loop i).trips) : Fin 3 → Nat :=
  let c0_i32_57 : BitVec 32 := 0#32
  let c1_i32_59 : BitVec 32 := 1#32
  let arg14 : BitVec 32 := Scf.iv c0_i32_57 c1_i32_59 k0_t2
  let c0_i32_126 : BitVec 32 := 0#32
  let v231 : BitVec 1 := Scalar.cmpi .eq arg14 c0_i32_126
  let arg2 : BitVec 32 := BitVec.ofNat 32 (i 2).val
  let c2_i32_127 : BitVec 32 := 2#32
  let v232 : BitVec 32 := Scalar.muli c2_i32_127 arg14
  let c1_i32_128 : BitVec 32 := 1#32
  let v233 : BitVec 32 := Scalar.subi v232 c1_i32_128
  let v234 : BitVec 32 := Scalar.select v231 arg2 v233
  let v235 : Index := Scalar.indexCast v234
  let c0_129 : Index := 0#32
  let c0_130 : Index := 0#32
  ![v235.toNat, 0, 0]
def k0_mult4 (i : grid0.Coords) (k0_t2 : Fin (k0_t2_loop i).trips) : BitVec 32 :=
  let c2_i32_173 : BitVec 32 := 2#32
  let c0_i32_57 : BitVec 32 := 0#32
  let c1_i32_59 : BitVec 32 := 1#32
  let arg14 : BitVec 32 := Scf.iv c0_i32_57 c1_i32_59 k0_t2
  let v288 : BitVec 32 := Scalar.muli c2_i32_173 arg14
  let c1_i32_174 : BitVec 32 := 1#32
  let v289 : BitVec 32 := Scalar.addi v288 c1_i32_174
  let c512_i32_175 : BitVec 32 := 512#32
  let v290 : BitVec 32 := Scalar.muli v289 c512_i32_175
  v290
def k0_off7 (i : grid0.Coords) (k0_t2 : Fin (k0_t2_loop i).trips) : Fin 3 → Nat :=
  let c0_176 : Index := 0#32
  let c2_i32_173 : BitVec 32 := 2#32
  let c0_i32_57 : BitVec 32 := 0#32
  let c1_i32_59 : BitVec 32 := 1#32
  let arg14 : BitVec 32 := Scf.iv c0_i32_57 c1_i32_59 k0_t2
  let v288 : BitVec 32 := Scalar.muli c2_i32_173 arg14
  let c1_i32_174 : BitVec 32 := 1#32
  let v289 : BitVec 32 := Scalar.addi v288 c1_i32_174
  let c512_i32_175 : BitVec 32 := 512#32
  let v290 : BitVec 32 := Scalar.muli v289 c512_i32_175
  let v291 : BitVec 32 := v290
  let v292 : Index := Scalar.indexCast v291
  let c0_177 : Index := 0#32
  ![0, v292.toNat, 0]
def k0_off8 (i : grid0.Coords) (k0_t2 : Fin (k0_t2_loop i).trips) : Fin 3 → Nat :=
  let c2_i32_198 : BitVec 32 := 2#32
  let c0_i32_57 : BitVec 32 := 0#32
  let c1_i32_59 : BitVec 32 := 1#32
  let arg14 : BitVec 32 := Scf.iv c0_i32_57 c1_i32_59 k0_t2
  let v313 : BitVec 32 := Scalar.muli c2_i32_198 arg14
  let v314 : Index := Scalar.indexCast v313
  let c0_199 : Index := 0#32
  let c0_200 : Index := 0#32
  ![v314.toNat, 0, 0]
@[reducible] def k0_t3_loop (i : grid0.Coords) : Scf.Loop 32 :=
  let c0_i32_57 : BitVec 32 := 0#32
  let arg2 : BitVec 32 := BitVec.ofNat 32 (i 2).val
  let c0_i32_50 : BitVec 32 := 0#32
  let v108 : BitVec 1 := Scalar.cmpi .sgt arg2 c0_i32_50
  let v109 : BitVec 32 := Scalar.extui v108
  let c0_i32_51 : BitVec 32 := 0#32
  let v110 : BitVec 1 := Scalar.cmpi .slt arg2 c0_i32_51
  let v111 : BitVec 32 := Scalar.extui v110
  let v112 : BitVec 32 := Scalar.subi v109 v111
  let c2_i32 : BitVec 32 := 2#32
  let c0_i32_52 : BitVec 32 := 0#32
  let v113 : BitVec 1 := Scalar.cmpi .sgt c2_i32 c0_i32_52
  let v114 : BitVec 32 := Scalar.extui v113
  let c0_i32_53 : BitVec 32 := 0#32
  let v115 : BitVec 1 := Scalar.cmpi .slt c2_i32 c0_i32_53
  let v116 : BitVec 32 := Scalar.extui v115
  let v117 : BitVec 32 := Scalar.subi v114 v116
  let v118 : BitVec 1 := Scalar.cmpi .ne v112 v117
  let v119 : BitVec 32 := Scalar.remsi arg2 c2_i32
  let c0_i32_54 : BitVec 32 := 0#32
  let v120 : BitVec 1 := Scalar.cmpi .ne v119 c0_i32_54
  let v121 : BitVec 1 := Scalar.andi v118 v120
  let v107 : BitVec 32 := Scalar.divsi arg2 c2_i32
  let c1_i32_55 : BitVec 32 := 1#32
  let v122 : BitVec 32 := Scalar.subi v107 c1_i32_55
  let v123 : BitVec 32 := Scalar.select v121 v122 v107
  let v124 : BitVec 32 := Scalar.subi v123 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let v125 : BitVec 32 := Scalar.addi c0_i32_57 v124
  let c1_i32_60 : BitVec 32 := 1#32
  ⟨v128, v125, c1_i32_60⟩
def k0_mult5 (i : grid0.Coords) (k0_t3 : Fin (k0_t3_loop i).trips) : BitVec 32 :=
  let c2_i32_102 : BitVec 32 := 2#32
  let c0_i32_57 : BitVec 32 := 0#32
  let arg2 : BitVec 32 := BitVec.ofNat 32 (i 2).val
  let c0_i32_50 : BitVec 32 := 0#32
  let v108 : BitVec 1 := Scalar.cmpi .sgt arg2 c0_i32_50
  let v109 : BitVec 32 := Scalar.extui v108
  let c0_i32_51 : BitVec 32 := 0#32
  let v110 : BitVec 1 := Scalar.cmpi .slt arg2 c0_i32_51
  let v111 : BitVec 32 := Scalar.extui v110
  let v112 : BitVec 32 := Scalar.subi v109 v111
  let c2_i32 : BitVec 32 := 2#32
  let c0_i32_52 : BitVec 32 := 0#32
  let v113 : BitVec 1 := Scalar.cmpi .sgt c2_i32 c0_i32_52
  let v114 : BitVec 32 := Scalar.extui v113
  let c0_i32_53 : BitVec 32 := 0#32
  let v115 : BitVec 1 := Scalar.cmpi .slt c2_i32 c0_i32_53
  let v116 : BitVec 32 := Scalar.extui v115
  let v117 : BitVec 32 := Scalar.subi v114 v116
  let v118 : BitVec 1 := Scalar.cmpi .ne v112 v117
  let v119 : BitVec 32 := Scalar.remsi arg2 c2_i32
  let c0_i32_54 : BitVec 32 := 0#32
  let v120 : BitVec 1 := Scalar.cmpi .ne v119 c0_i32_54
  let v121 : BitVec 1 := Scalar.andi v118 v120
  let v107 : BitVec 32 := Scalar.divsi arg2 c2_i32
  let c1_i32_55 : BitVec 32 := 1#32
  let v122 : BitVec 32 := Scalar.subi v107 c1_i32_55
  let v123 : BitVec 32 := Scalar.select v121 v122 v107
  let v124 : BitVec 32 := Scalar.subi v123 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg14 : BitVec 32 := Scf.iv v128 c1_i32_60 k0_t3
  let v207 : BitVec 32 := Scalar.muli c2_i32_102 arg14
  let c512_i32_103 : BitVec 32 := 512#32
  let v208 : BitVec 32 := Scalar.muli v207 c512_i32_103
  v208
def k0_off9 (i : grid0.Coords) (k0_t3 : Fin (k0_t3_loop i).trips) : Fin 3 → Nat :=
  let c0_104 : Index := 0#32
  let c2_i32_102 : BitVec 32 := 2#32
  let c0_i32_57 : BitVec 32 := 0#32
  let arg2 : BitVec 32 := BitVec.ofNat 32 (i 2).val
  let c0_i32_50 : BitVec 32 := 0#32
  let v108 : BitVec 1 := Scalar.cmpi .sgt arg2 c0_i32_50
  let v109 : BitVec 32 := Scalar.extui v108
  let c0_i32_51 : BitVec 32 := 0#32
  let v110 : BitVec 1 := Scalar.cmpi .slt arg2 c0_i32_51
  let v111 : BitVec 32 := Scalar.extui v110
  let v112 : BitVec 32 := Scalar.subi v109 v111
  let c2_i32 : BitVec 32 := 2#32
  let c0_i32_52 : BitVec 32 := 0#32
  let v113 : BitVec 1 := Scalar.cmpi .sgt c2_i32 c0_i32_52
  let v114 : BitVec 32 := Scalar.extui v113
  let c0_i32_53 : BitVec 32 := 0#32
  let v115 : BitVec 1 := Scalar.cmpi .slt c2_i32 c0_i32_53
  let v116 : BitVec 32 := Scalar.extui v115
  let v117 : BitVec 32 := Scalar.subi v114 v116
  let v118 : BitVec 1 := Scalar.cmpi .ne v112 v117
  let v119 : BitVec 32 := Scalar.remsi arg2 c2_i32
  let c0_i32_54 : BitVec 32 := 0#32
  let v120 : BitVec 1 := Scalar.cmpi .ne v119 c0_i32_54
  let v121 : BitVec 1 := Scalar.andi v118 v120
  let v107 : BitVec 32 := Scalar.divsi arg2 c2_i32
  let c1_i32_55 : BitVec 32 := 1#32
  let v122 : BitVec 32 := Scalar.subi v107 c1_i32_55
  let v123 : BitVec 32 := Scalar.select v121 v122 v107
  let v124 : BitVec 32 := Scalar.subi v123 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg14 : BitVec 32 := Scf.iv v128 c1_i32_60 k0_t3
  let v207 : BitVec 32 := Scalar.muli c2_i32_102 arg14
  let c512_i32_103 : BitVec 32 := 512#32
  let v208 : BitVec 32 := Scalar.muli v207 c512_i32_103
  let v209 : BitVec 32 := v208
  let v210 : Index := Scalar.indexCast v209
  let c0_105 : Index := 0#32
  ![0, v210.toNat, 0]
def k0_off10 (i : grid0.Coords) (k0_t3 : Fin (k0_t3_loop i).trips) : Fin 3 → Nat :=
  let c0_i32_57 : BitVec 32 := 0#32
  let arg2 : BitVec 32 := BitVec.ofNat 32 (i 2).val
  let c0_i32_50 : BitVec 32 := 0#32
  let v108 : BitVec 1 := Scalar.cmpi .sgt arg2 c0_i32_50
  let v109 : BitVec 32 := Scalar.extui v108
  let c0_i32_51 : BitVec 32 := 0#32
  let v110 : BitVec 1 := Scalar.cmpi .slt arg2 c0_i32_51
  let v111 : BitVec 32 := Scalar.extui v110
  let v112 : BitVec 32 := Scalar.subi v109 v111
  let c2_i32 : BitVec 32 := 2#32
  let c0_i32_52 : BitVec 32 := 0#32
  let v113 : BitVec 1 := Scalar.cmpi .sgt c2_i32 c0_i32_52
  let v114 : BitVec 32 := Scalar.extui v113
  let c0_i32_53 : BitVec 32 := 0#32
  let v115 : BitVec 1 := Scalar.cmpi .slt c2_i32 c0_i32_53
  let v116 : BitVec 32 := Scalar.extui v115
  let v117 : BitVec 32 := Scalar.subi v114 v116
  let v118 : BitVec 1 := Scalar.cmpi .ne v112 v117
  let v119 : BitVec 32 := Scalar.remsi arg2 c2_i32
  let c0_i32_54 : BitVec 32 := 0#32
  let v120 : BitVec 1 := Scalar.cmpi .ne v119 c0_i32_54
  let v121 : BitVec 1 := Scalar.andi v118 v120
  let v107 : BitVec 32 := Scalar.divsi arg2 c2_i32
  let c1_i32_55 : BitVec 32 := 1#32
  let v122 : BitVec 32 := Scalar.subi v107 c1_i32_55
  let v123 : BitVec 32 := Scalar.select v121 v122 v107
  let v124 : BitVec 32 := Scalar.subi v123 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg14 : BitVec 32 := Scf.iv v128 c1_i32_60 k0_t3
  let c0_i32_126 : BitVec 32 := 0#32
  let v231 : BitVec 1 := Scalar.cmpi .eq arg14 c0_i32_126
  let c2_i32_127 : BitVec 32 := 2#32
  let v232 : BitVec 32 := Scalar.muli c2_i32_127 arg14
  let c1_i32_128 : BitVec 32 := 1#32
  let v233 : BitVec 32 := Scalar.subi v232 c1_i32_128
  let v234 : BitVec 32 := Scalar.select v231 arg2 v233
  let v235 : Index := Scalar.indexCast v234
  let c0_129 : Index := 0#32
  let c0_130 : Index := 0#32
  ![v235.toNat, 0, 0]
def k0_mult6 (i : grid0.Coords) (k0_t3 : Fin (k0_t3_loop i).trips) : BitVec 32 :=
  let c2_i32_173 : BitVec 32 := 2#32
  let c0_i32_57 : BitVec 32 := 0#32
  let arg2 : BitVec 32 := BitVec.ofNat 32 (i 2).val
  let c0_i32_50 : BitVec 32 := 0#32
  let v108 : BitVec 1 := Scalar.cmpi .sgt arg2 c0_i32_50
  let v109 : BitVec 32 := Scalar.extui v108
  let c0_i32_51 : BitVec 32 := 0#32
  let v110 : BitVec 1 := Scalar.cmpi .slt arg2 c0_i32_51
  let v111 : BitVec 32 := Scalar.extui v110
  let v112 : BitVec 32 := Scalar.subi v109 v111
  let c2_i32 : BitVec 32 := 2#32
  let c0_i32_52 : BitVec 32 := 0#32
  let v113 : BitVec 1 := Scalar.cmpi .sgt c2_i32 c0_i32_52
  let v114 : BitVec 32 := Scalar.extui v113
  let c0_i32_53 : BitVec 32 := 0#32
  let v115 : BitVec 1 := Scalar.cmpi .slt c2_i32 c0_i32_53
  let v116 : BitVec 32 := Scalar.extui v115
  let v117 : BitVec 32 := Scalar.subi v114 v116
  let v118 : BitVec 1 := Scalar.cmpi .ne v112 v117
  let v119 : BitVec 32 := Scalar.remsi arg2 c2_i32
  let c0_i32_54 : BitVec 32 := 0#32
  let v120 : BitVec 1 := Scalar.cmpi .ne v119 c0_i32_54
  let v121 : BitVec 1 := Scalar.andi v118 v120
  let v107 : BitVec 32 := Scalar.divsi arg2 c2_i32
  let c1_i32_55 : BitVec 32 := 1#32
  let v122 : BitVec 32 := Scalar.subi v107 c1_i32_55
  let v123 : BitVec 32 := Scalar.select v121 v122 v107
  let v124 : BitVec 32 := Scalar.subi v123 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg14 : BitVec 32 := Scf.iv v128 c1_i32_60 k0_t3
  let v288 : BitVec 32 := Scalar.muli c2_i32_173 arg14
  let c1_i32_174 : BitVec 32 := 1#32
  let v289 : BitVec 32 := Scalar.addi v288 c1_i32_174
  let c512_i32_175 : BitVec 32 := 512#32
  let v290 : BitVec 32 := Scalar.muli v289 c512_i32_175
  v290
def k0_off11 (i : grid0.Coords) (k0_t3 : Fin (k0_t3_loop i).trips) : Fin 3 → Nat :=
  let c0_176 : Index := 0#32
  let c2_i32_173 : BitVec 32 := 2#32
  let c0_i32_57 : BitVec 32 := 0#32
  let arg2 : BitVec 32 := BitVec.ofNat 32 (i 2).val
  let c0_i32_50 : BitVec 32 := 0#32
  let v108 : BitVec 1 := Scalar.cmpi .sgt arg2 c0_i32_50
  let v109 : BitVec 32 := Scalar.extui v108
  let c0_i32_51 : BitVec 32 := 0#32
  let v110 : BitVec 1 := Scalar.cmpi .slt arg2 c0_i32_51
  let v111 : BitVec 32 := Scalar.extui v110
  let v112 : BitVec 32 := Scalar.subi v109 v111
  let c2_i32 : BitVec 32 := 2#32
  let c0_i32_52 : BitVec 32 := 0#32
  let v113 : BitVec 1 := Scalar.cmpi .sgt c2_i32 c0_i32_52
  let v114 : BitVec 32 := Scalar.extui v113
  let c0_i32_53 : BitVec 32 := 0#32
  let v115 : BitVec 1 := Scalar.cmpi .slt c2_i32 c0_i32_53
  let v116 : BitVec 32 := Scalar.extui v115
  let v117 : BitVec 32 := Scalar.subi v114 v116
  let v118 : BitVec 1 := Scalar.cmpi .ne v112 v117
  let v119 : BitVec 32 := Scalar.remsi arg2 c2_i32
  let c0_i32_54 : BitVec 32 := 0#32
  let v120 : BitVec 1 := Scalar.cmpi .ne v119 c0_i32_54
  let v121 : BitVec 1 := Scalar.andi v118 v120
  let v107 : BitVec 32 := Scalar.divsi arg2 c2_i32
  let c1_i32_55 : BitVec 32 := 1#32
  let v122 : BitVec 32 := Scalar.subi v107 c1_i32_55
  let v123 : BitVec 32 := Scalar.select v121 v122 v107
  let v124 : BitVec 32 := Scalar.subi v123 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg14 : BitVec 32 := Scf.iv v128 c1_i32_60 k0_t3
  let v288 : BitVec 32 := Scalar.muli c2_i32_173 arg14
  let c1_i32_174 : BitVec 32 := 1#32
  let v289 : BitVec 32 := Scalar.addi v288 c1_i32_174
  let c512_i32_175 : BitVec 32 := 512#32
  let v290 : BitVec 32 := Scalar.muli v289 c512_i32_175
  let v291 : BitVec 32 := v290
  let v292 : Index := Scalar.indexCast v291
  let c0_177 : Index := 0#32
  ![0, v292.toNat, 0]
def k0_off12 (i : grid0.Coords) (k0_t3 : Fin (k0_t3_loop i).trips) : Fin 3 → Nat :=
  let c2_i32_198 : BitVec 32 := 2#32
  let c0_i32_57 : BitVec 32 := 0#32
  let arg2 : BitVec 32 := BitVec.ofNat 32 (i 2).val
  let c0_i32_50 : BitVec 32 := 0#32
  let v108 : BitVec 1 := Scalar.cmpi .sgt arg2 c0_i32_50
  let v109 : BitVec 32 := Scalar.extui v108
  let c0_i32_51 : BitVec 32 := 0#32
  let v110 : BitVec 1 := Scalar.cmpi .slt arg2 c0_i32_51
  let v111 : BitVec 32 := Scalar.extui v110
  let v112 : BitVec 32 := Scalar.subi v109 v111
  let c2_i32 : BitVec 32 := 2#32
  let c0_i32_52 : BitVec 32 := 0#32
  let v113 : BitVec 1 := Scalar.cmpi .sgt c2_i32 c0_i32_52
  let v114 : BitVec 32 := Scalar.extui v113
  let c0_i32_53 : BitVec 32 := 0#32
  let v115 : BitVec 1 := Scalar.cmpi .slt c2_i32 c0_i32_53
  let v116 : BitVec 32 := Scalar.extui v115
  let v117 : BitVec 32 := Scalar.subi v114 v116
  let v118 : BitVec 1 := Scalar.cmpi .ne v112 v117
  let v119 : BitVec 32 := Scalar.remsi arg2 c2_i32
  let c0_i32_54 : BitVec 32 := 0#32
  let v120 : BitVec 1 := Scalar.cmpi .ne v119 c0_i32_54
  let v121 : BitVec 1 := Scalar.andi v118 v120
  let v107 : BitVec 32 := Scalar.divsi arg2 c2_i32
  let c1_i32_55 : BitVec 32 := 1#32
  let v122 : BitVec 32 := Scalar.subi v107 c1_i32_55
  let v123 : BitVec 32 := Scalar.select v121 v122 v107
  let v124 : BitVec 32 := Scalar.subi v123 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg14 : BitVec 32 := Scf.iv v128 c1_i32_60 k0_t3
  let v313 : BitVec 32 := Scalar.muli c2_i32_198 arg14
  let v314 : Index := Scalar.indexCast v313
  let c0_199 : Index := 0#32
  let c0_200 : Index := 0#32
  ![v314.toNat, 0, 0]
def k0_cond2 (i : grid0.Coords) : BitVec 1 :=
  let arg2 : BitVec 32 := BitVec.ofNat 32 (i 2).val
  let c2_i32_61 : BitVec 32 := 2#32
  let c0_i32_62 : BitVec 32 := 0#32
  let v129 : BitVec 1 := Scalar.cmpi .eq c2_i32_61 c0_i32_62
  let c1_i32_63 : BitVec 32 := 1#32
  let v130 : BitVec 32 := Scalar.select v129 c1_i32_63 c2_i32_61
  let v131 : BitVec 32 := Scalar.remsi arg2 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c1_i32_67 : BitVec 32 := 1#32
  let v139 : BitVec 1 := Scalar.cmpi .eq v138 c1_i32_67
  let v140 : BitVec 32 := Scalar.extui v139
  let c0_i32_68 : BitVec 32 := 0#32
  let v141 : BitVec 1 := Scalar.cmpi .ne v140 c0_i32_68
  v141

def k0_mult7 (i : grid0.Coords) : BitVec 32 :=
  let arg2 : BitVec 32 := BitVec.ofNat 32 (i 2).val
  let c1_i32_102 : BitVec 32 := 1#32
  let v207 : BitVec 32 := Scalar.subi arg2 c1_i32_102
  let c512_i32_103 : BitVec 32 := 512#32
  let v208 : BitVec 32 := Scalar.muli v207 c512_i32_103
  v208
def k0_off13 (i : grid0.Coords) : Fin 3 → Nat :=
  let c0_104 : Index := 0#32
  let arg2 : BitVec 32 := BitVec.ofNat 32 (i 2).val
  let c1_i32_102 : BitVec 32 := 1#32
  let v207 : BitVec 32 := Scalar.subi arg2 c1_i32_102
  let c512_i32_103 : BitVec 32 := 512#32
  let v208 : BitVec 32 := Scalar.muli v207 c512_i32_103
  let v209 : BitVec 32 := v208
  let v210 : Index := Scalar.indexCast v209
  let c0_105 : Index := 0#32
  ![0, v210.toNat, 0]
def k0_off14 (i : grid0.Coords) : Fin 3 → Nat :=
  let arg2 : BitVec 32 := BitVec.ofNat 32 (i 2).val
  let c1_i32_126 : BitVec 32 := 1#32
  let v231 : BitVec 1 := Scalar.cmpi .eq arg2 c1_i32_126
  let c2_i32_127 : BitVec 32 := 2#32
  let v232 : BitVec 32 := Scalar.subi arg2 c2_i32_127
  let v233 : BitVec 32 := Scalar.select v231 arg2 v232
  let v234 : Index := Scalar.indexCast v233
  let c0_128 : Index := 0#32
  let c0_129 : Index := 0#32
  ![v234.toNat, 0, 0]
def k0_off15 (i : grid0.Coords) : Fin 3 → Nat :=
  let arg2 : BitVec 32 := BitVec.ofNat 32 (i 2).val
  let c1_i32_172 : BitVec 32 := 1#32
  let v287 : BitVec 32 := Scalar.subi arg2 c1_i32_172
  let v288 : Index := Scalar.indexCast v287
  let c0_173 : Index := 0#32
  let c0_174 : Index := 0#32
  ![v288.toNat, 0, 0]
def k0_cond3 (i : grid0.Coords) : BitVec 1 :=
  let arg2 : BitVec 32 := BitVec.ofNat 32 (i 2).val
  let c2_i32_69 : BitVec 32 := 2#32
  let c0_i32_70 : BitVec 32 := 0#32
  let v142 : BitVec 1 := Scalar.cmpi .eq c2_i32_69 c0_i32_70
  let c1_i32_71 : BitVec 32 := 1#32
  let v143 : BitVec 32 := Scalar.select v142 c1_i32_71 c2_i32_69
  let v144 : BitVec 32 := Scalar.remsi arg2 v143
  let c0_i32_73 : BitVec 32 := 0#32
  let v146 : BitVec 1 := Scalar.cmpi .slt v144 c0_i32_73
  let c0_i32_74 : BitVec 32 := 0#32
  let v147 : BitVec 1 := Scalar.cmpi .slt v143 c0_i32_74
  let v148 : BitVec 1 := Scalar.xori v146 v147
  let c0_i32_72 : BitVec 32 := 0#32
  let v145 : BitVec 1 := Scalar.cmpi .ne v144 c0_i32_72
  let v149 : BitVec 1 := Scalar.andi v148 v145
  let v150 : BitVec 32 := Scalar.addi v144 v143
  let v151 : BitVec 32 := Scalar.select v149 v150 v144
  let c0_i32_75 : BitVec 32 := 0#32
  let v152 : BitVec 1 := Scalar.cmpi .eq v151 c0_i32_75
  let v153 : BitVec 32 := Scalar.extui v152
  let c0_i32_76 : BitVec 32 := 0#32
  let v154 : BitVec 1 := Scalar.cmpi .ne v153 c0_i32_76
  v154

def k0_off16 (i : grid0.Coords) : Fin 3 → Nat :=
  let arg2 : BitVec 32 := BitVec.ofNat 32 (i 2).val
  let c1_i32_102 : BitVec 32 := 1#32
  let v207 : BitVec 32 := Scalar.subi arg2 c1_i32_102
  let c0_i32_103 : BitVec 32 := 0#32
  let v208 : BitVec 32 := Scalar.maxsi v207 c0_i32_103
  let v209 : Index := Scalar.indexCast v208
  let c0_104 : Index := 0#32
  let c0_105 : Index := 0#32
  ![v209.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "neg_inf" => some ⊥
  | "q_scale" => some ((8⁻¹ * (Real.log 2)⁻¹ : ℝ) : EReal)
  | _ => none
-- ==== ReferenceIdeal.lean ====
abbrev S8x8192x1024 : Shape := ⟨3, ![8, 8192, 1024]⟩
abbrev S4x64 : Shape := ⟨2, ![4, 64]⟩
abbrev S128 : Shape := ⟨1, ![128]⟩
abbrev S8x8192x8x2x64 : Shape := ⟨5, ![8, 8192, 8, 2, 64]⟩
abbrev S8x8192x8x128 : Shape := ⟨4, ![8, 8192, 8, 128]⟩
abbrev S1x64 : Shape := ⟨2, ![1, 64]⟩
abbrev S64 : Shape := ⟨1, ![64]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8x2x8192x8192 : Shape := ⟨5, ![8, 8, 2, 8192, 8192]⟩
abbrev S8x8x2x8192 : Shape := ⟨4, ![8, 8, 2, 8192]⟩
abbrev S8x8x2x8192x1 : Shape := ⟨5, ![8, 8, 2, 8192, 1]⟩
abbrev S8x8x1x8192x8192 : Shape := ⟨5, ![8, 8, 1, 8192, 8192]⟩
abbrev S8x8x8192x8192 : Shape := ⟨4, ![8, 8, 8192, 8192]⟩
abbrev S8x8x128x8192 : Shape := ⟨4, ![8, 8, 128, 8192]⟩
abbrev S8x8192x8 : Shape := ⟨3, ![8, 8192, 8]⟩
abbrev S8x8192x8x1 : Shape := ⟨4, ![8, 8192, 8, 1]⟩
abbrev S1x1x1x128 : Shape := ⟨4, ![1, 1, 1, 128]⟩

abbrev nBuf : Space → Nat
  | .hbm => 122
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S4x64, .f32⟩
  | .hbm, ⟨4, _⟩ => ⟨S128, .f32⟩
  | .hbm, ⟨5, _⟩ => ⟨S8x8192x8x2x64, .f32⟩
  | .hbm, ⟨6, _⟩ => ⟨S8x8192x8x2x64, .f32⟩
  | .hbm, ⟨7, _⟩ => ⟨S8x8192x8x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .i32⟩
  | .hbm, ⟨28, _⟩ => ⟨S1x8192, .i32⟩
  | .hbm, ⟨29, _⟩ => ⟨S_, .i32⟩
  | .hbm, ⟨30, _⟩ => ⟨S_, .i32⟩
  | .hbm, ⟨31, _⟩ => ⟨S1x8192, .i32⟩
  | .hbm, ⟨32, _⟩ => ⟨S1x8192, .i32⟩
  | .hbm, ⟨33, _⟩ => ⟨S1x8192, .i32⟩
  | .hbm, ⟨34, _⟩ => ⟨S_, .i32⟩
  | .hbm, ⟨35, _⟩ => ⟨S1x8192, .i32⟩
  | .hbm, ⟨36, _⟩ => ⟨S1x8192, .i1⟩
  | .hbm, ⟨37, _⟩ => ⟨S1x8192, .i32⟩
  | .hbm, ⟨38, _⟩ => ⟨S1x8192, .i32⟩
  | .hbm, ⟨39, _⟩ => ⟨S_, .i32⟩
  | .hbm, ⟨40, _⟩ => ⟨S1x8192, .i32⟩
  | .hbm, ⟨41, _⟩ => ⟨S1x8192, .i1⟩
  | .hbm, ⟨42, _⟩ => ⟨S1x8192, .i1⟩
  | .hbm, ⟨43, _⟩ => ⟨S_, .i32⟩
  | .hbm, ⟨44, _⟩ => ⟨S1x8192, .i32⟩
  | .hbm, ⟨45, _⟩ => ⟨S1x8192, .i32⟩
  | .hbm, ⟨46, _⟩ => ⟨S1x8192, .i32⟩
  | .hbm, ⟨47, _⟩ => ⟨S8192x1, .i32⟩
  | .hbm, ⟨48, _⟩ => ⟨S_, .i32⟩
  | .hbm, ⟨49, _⟩ => ⟨S_, .i32⟩
  | .hbm, ⟨50, _⟩ => ⟨S8192x1, .i32⟩
  | .hbm, ⟨51, _⟩ => ⟨S8192x1, .i32⟩
  | .hbm, ⟨52, _⟩ => ⟨S8192x1, .i32⟩
  | .hbm, ⟨53, _⟩ => ⟨S_, .i32⟩
  | .hbm, ⟨54, _⟩ => ⟨S8192x1, .i32⟩
  | .hbm, ⟨55, _⟩ => ⟨S8192x1, .i1⟩
  | .hbm, ⟨56, _⟩ => ⟨S8192x1, .i32⟩
  | .hbm, ⟨57, _⟩ => ⟨S8192x1, .i32⟩
  | .hbm, ⟨58, _⟩ => ⟨S_, .i32⟩
  | .hbm, ⟨59, _⟩ => ⟨S8192x1, .i32⟩
  | .hbm, ⟨60, _⟩ => ⟨S8192x1, .i1⟩
  | .hbm, ⟨61, _⟩ => ⟨S8192x1, .i1⟩
  | .hbm, ⟨62, _⟩ => ⟨S_, .i32⟩
  | .hbm, ⟨63, _⟩ => ⟨S8192x1, .i32⟩
  | .hbm, ⟨64, _⟩ => ⟨S8192x1, .i32⟩
  | .hbm, ⟨65, _⟩ => ⟨S8192x1, .i32⟩
  | .hbm, ⟨66, _⟩ => ⟨S8192x8192, .i32⟩
  | .hbm, ⟨67, _⟩ => ⟨S8192x8192, .i32⟩
  | .hbm, ⟨68, _⟩ => ⟨S8192x8192, .i1⟩
  | .hbm, ⟨69, _⟩ => ⟨S8x8x2x8192x8192, .f32⟩
  | .hbm, ⟨70, _⟩ => ⟨S_, .f32⟩
  | .hbm, ⟨71, _⟩ => ⟨S8x8x2x8192x8192, .f32⟩
  | .hbm, ⟨72, _⟩ => ⟨S8x8x2x8192x8192, .f32⟩
  | .hbm, ⟨73, _⟩ => ⟨S_, .f32⟩
  | .hbm, ⟨74, _⟩ => ⟨S_, .f32⟩
  | .hbm, ⟨75, _⟩ => ⟨S8x8x2x8192x8192, .i1⟩
  | .hbm, ⟨76, _⟩ => ⟨S8x8x2x8192x8192, .f32⟩
  | .hbm, ⟨77, _⟩ => ⟨S8x8x2x8192x8192, .f32⟩
  | .hbm, ⟨78, _⟩ => ⟨S_, .f32⟩
  | .hbm, ⟨79, _⟩ => ⟨S8x8x2x8192, .f32⟩
  | .hbm, ⟨80, _⟩ => ⟨S_, .f32⟩
  | .hbm, ⟨81, _⟩ => ⟨S8x8x2x8192, .f32⟩
  | .hbm, ⟨82, _⟩ => ⟨S8x8x2x8192, .f32⟩
  | .hbm, ⟨83, _⟩ => ⟨S8x8x2x8192x1, .f32⟩
  | .hbm, ⟨84, _⟩ => ⟨S8x8x2x8192x8192, .f32⟩
  | .hbm, ⟨85, _⟩ => ⟨S8x8x2x8192x8192, .f32⟩
  | .hbm, ⟨86, _⟩ => ⟨S8x8x2x8192x8192, .f32⟩
  | .hbm, ⟨87, _⟩ => ⟨S_, .f32⟩
  | .hbm, ⟨88, _⟩ => ⟨S8x8x2x8192, .f32⟩
  | .hbm, ⟨89, _⟩ => ⟨S8x8x2x8192x1, .f32⟩
  | .hbm, ⟨90, _⟩ => ⟨S8x8x2x8192x8192, .f32⟩
  | .hbm, ⟨91, _⟩ => ⟨S8x8x2x8192x8192, .f32⟩
  | .hbm, ⟨92, _⟩ => ⟨S8x8x1x8192x8192, .f32⟩
  | .hbm, ⟨93, _⟩ => ⟨S8x8x8192x8192, .f32⟩
  | .hbm, ⟨94, _⟩ => ⟨S8x8x1x8192x8192, .f32⟩
  | .hbm, ⟨95, _⟩ => ⟨S8x8x8192x8192, .f32⟩
  | .hbm, ⟨96, _⟩ => ⟨S8x8x8192x8192, .f32⟩
  | .hbm, ⟨97, _⟩ => ⟨S8x8x8192x8192, .f32⟩
  | .hbm, ⟨98, _⟩ => ⟨S8x8x8192x8192, .f32⟩
  | .hbm, ⟨99, _⟩ => ⟨S8x8x128x8192, .f32⟩
  | .hbm, ⟨100, _⟩ => ⟨S8x8192x8x128, .f32⟩
  | .hbm, ⟨101, _⟩ => ⟨S8x8192x8x128, .f32⟩
  | .hbm, ⟨102, _⟩ => ⟨S_, .f32⟩
  | .hbm, ⟨103, _⟩ => ⟨S8x8192x8, .f32⟩
  | .hbm, ⟨104, _⟩ => ⟨S8x8192x8x1, .f32⟩
  | .hbm, ⟨105, _⟩ => ⟨S_, .f32⟩
  | .hbm, ⟨106, _⟩ => ⟨S8x8192x8x1, .f32⟩
  | .hbm, ⟨107, _⟩ => ⟨S8x8192x8x1, .f32⟩
  | .hbm, ⟨108, _⟩ => ⟨S_, .f32⟩
  | .hbm, ⟨109, _⟩ => ⟨S8x8192x8x1, .f32⟩
  | .hbm, ⟨110, _⟩ => ⟨S8x8192x8x1, .f32⟩
  | .hbm, ⟨111, _⟩ => ⟨S8x8192x8x1, .f32⟩
  | .hbm, ⟨112, _⟩ => ⟨S8x8192x8x128, .f32⟩
  | .hbm, ⟨113, _⟩ => ⟨S8x8192x8x128, .f32⟩
  | .hbm, ⟨114, _⟩ => ⟨S1x1x1x128, .f32⟩
  | .hbm, ⟨115, _⟩ => ⟨S8x8192x8x128, .f32⟩
  | .hbm, ⟨116, _⟩ => ⟨S8x8192x8x128, .f32⟩
  | .hbm, ⟨117, _⟩ => ⟨S_, .f32⟩
  | .hbm, ⟨118, _⟩ => ⟨S8x8192x8x128, .f32⟩
  | .hbm, ⟨119, _⟩ => ⟨S8x8192x8x128, .f32⟩
  | .hbm, ⟨120, _⟩ => ⟨S8x8192x1024, .f32⟩
  | .hbm, ⟨121, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v21 : Ref sig .tc := ⟨.hbm, 46, rfl⟩
abbrev main_v22 : Ref sig .tc := ⟨.hbm, 47, rfl⟩
abbrev main_c_2 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_3 : Ref sig .tc := ⟨.hbm, 70, rfl⟩
abbrev main_v28 : Ref sig .tc := ⟨.hbm, 71, rfl⟩
abbrev main_v29 : Ref sig .tc := ⟨.hbm, 72, rfl⟩
abbrev main_cst_4 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v30 : Ref sig .tc := ⟨.hbm, 77, rfl⟩
abbrev main_cst_5 : Ref sig .tc := ⟨.hbm, 78, rfl⟩
abbrev main_v31 : Ref sig .tc := ⟨.hbm, 79, rfl⟩
abbrev main_cst_6 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_7 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_8 : Ref sig .tc := ⟨.hbm, 102, rfl⟩
abbrev main_v52 : Ref sig .tc := ⟨.hbm, 103, rfl⟩
abbrev main_v53 : Ref sig .tc := ⟨.hbm, 104, rfl⟩
abbrev main_cst_9 : Ref sig .tc := ⟨.hbm, 105, rfl⟩
abbrev main_v54 : Ref sig .tc := ⟨.hbm, 106, rfl⟩
abbrev main_v55 : Ref sig .tc := ⟨.hbm, 107, rfl⟩
abbrev main_cst_10 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_11 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S65536x1024 : Shape := ⟨2, ![65536, 1024]⟩
abbrev S1x1024 : Shape := ⟨2, ![1, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 18
  | .vmem => 12
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S65536x1024, .bf16⟩
  | .hbm, ⟨9, _⟩ => ⟨S65536x1024, .f32⟩
  | .hbm, ⟨10, _⟩ => ⟨S1024x1024, .bf16⟩
  | .hbm, ⟨11, _⟩ => ⟨S1024x4096, .bf16⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S65536x1024, .f32⟩
  | .hbm, ⟨17, _⟩ => ⟨S8x8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x8192x1024 : Shape := ⟨3, ![8, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩

abbrev nBuf : Space → Nat
  | .hbm => 66
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S8x8192x1024, .f32⟩
  | .hbm, ⟨9, _⟩ => ⟨S8x8192x1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S_, .f32⟩
  | .hbm, ⟨32, _⟩ => ⟨S8x8192x1, .f32⟩
  | .hbm, ⟨33, _⟩ => ⟨S8x8192x1, .f32⟩
  | .hbm, ⟨34, _⟩ => ⟨S_, .f32⟩
  | .hbm, ⟨35, _⟩ => ⟨S8x8192x1, .f32⟩
  | .hbm, ⟨36, _⟩ => ⟨S8x8192x1, .f32⟩
  | .hbm, ⟨37, _⟩ => ⟨S8x8192x1, .f32⟩
  | .hbm, ⟨38, _⟩ => ⟨S8x8192x1024, .f32⟩
  | .hbm, ⟨39, _⟩ => ⟨S8x8192x1024, .f32⟩
  | .hbm, ⟨40, _⟩ => ⟨S1x1x1024, .f32⟩
  | .hbm, ⟨41, _⟩ => ⟨S8x8192x1024, .f32⟩
  | .hbm, ⟨42, _⟩ => ⟨S8x8192x1024, .f32⟩
  | .hbm, ⟨43, _⟩ => ⟨S8x8192x4096, .f32⟩
  | .hbm, ⟨44, _⟩ => ⟨S_, .f32⟩
  | .hbm, ⟨45, _⟩ => ⟨S8x8192x4096, .f32⟩
  | .hbm, ⟨46, _⟩ => ⟨S8x8192x4096, .f32⟩
  | .hbm, ⟨47, _⟩ => ⟨S8x8192x4096, .f32⟩
  | .hbm, ⟨48, _⟩ => ⟨S8x8192x1024, .f32⟩
  | .hbm, ⟨49, _⟩ => ⟨S8x8192x1024, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S_, .f32⟩
  | .hbm, ⟨54, _⟩ => ⟨S8x8192x1, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x8192x1, .f32⟩
  | .hbm, ⟨60, _⟩ => ⟨S8x8192x1024, .f32⟩
  | .hbm, ⟨61, _⟩ => ⟨S8x8192x1024, .f32⟩
  | .hbm, ⟨62, _⟩ => ⟨S1x1x1024, .f32⟩
  | .hbm, ⟨63, _⟩ => ⟨S8x8192x1024, .f32⟩
  | .hbm, ⟨64, _⟩ => ⟨S8x8192x1024, .f32⟩
  | .hbm, ⟨65, _⟩ => ⟨S8x8192x1024, .f32⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S8x1024x8192 : Shape := ⟨3, ![8, 1024, 8192]⟩
abbrev S1x1024x1024 : Shape := ⟨3, ![1, 1024, 1024]⟩
abbrev S1024x1 : Shape := ⟨2, ![1024, 1]⟩
abbrev S8x8x2x64x8192 : Shape := ⟨5, ![8, 8, 2, 64, 8192]⟩
abbrev S8x8192x8x2x64 : Shape := ⟨5, ![8, 8192, 8, 2, 64]⟩
abbrev S8x8192x8x128 : Shape := ⟨4, ![8, 8192, 8, 128]⟩

abbrev nBuf : Space → Nat
  | .hbm => 17
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x1024, .f32⟩
  | .hbm, ⟨5, _⟩ => ⟨S1024x2048, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8x1024x8192, .f32⟩
  | .hbm, ⟨10, _⟩ => ⟨S8x8192x1024, .f32⟩
  | .hbm, ⟨11, _⟩ => ⟨S8x8192x1024, .bf16⟩
  | .hbm, ⟨12, _⟩ => ⟨S8x8192x1024, .bf16⟩
  | .hbm, ⟨13, _⟩ => ⟨S8x8192x1024, .f32⟩
  | .hbm, ⟨14, _⟩ => ⟨S8x8x2x64x8192, .f32⟩
  | .hbm, ⟨15, _⟩ => ⟨S8x8192x8x2x64, .f32⟩
  | .hbm, ⟨16, _⟩ => ⟨S8x8192x8x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1024x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .f32⟩
  | .local _ .vmem, ⟨15, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x8192x1024 : Shape := ⟨3, ![8, 8192, 1024]⟩
abbrev S1024 : Shape := ⟨1, ![1024]⟩
abbrev S1024x2048 : Shape := ⟨2, ![1024, 2048]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2048 : Shape := ⟨3, ![8, 8192, 2048]⟩
abbrev S8x8192x8x2x64 : Shape := ⟨5, ![8, 8192, 8, 2, 64]⟩
abbrev S8x8192x8x128 : Shape := ⟨4, ![8, 8192, 8, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x2048, .f32⟩
  | .hbm, ⟨22, _⟩ => ⟨S8x8192x1024, .f32⟩
  | .hbm, ⟨23, _⟩ => ⟨S8x8192x8x2x64, .f32⟩
  | .hbm, ⟨24, _⟩ => ⟨S8x8192x1024, .f32⟩
  | .hbm, ⟨25, _⟩ => ⟨S8x8192x8x128, .f32⟩
  | .hbm, ⟨26, _⟩ => ⟨S8x8192x1024, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S_, .f32⟩
  | .hbm, ⟨31, _⟩ => ⟨S8x8192x1, .f32⟩
  | .hbm, ⟨32, _⟩ => ⟨S8x8192x1, .f32⟩
  | .hbm, ⟨33, _⟩ => ⟨S_, .f32⟩
  | .hbm, ⟨34, _⟩ => ⟨S8x8192x1, .f32⟩
  | .hbm, ⟨35, _⟩ => ⟨S8x8192x1, .f32⟩
  | .hbm, ⟨36, _⟩ => ⟨S8x8192x1, .f32⟩
  | .hbm, ⟨37, _⟩ => ⟨S8x8192x1024, .f32⟩
  | .hbm, ⟨38, _⟩ => ⟨S8x8192x1024, .f32⟩
  | .hbm, ⟨39, _⟩ => ⟨S1x1x1024, .f32⟩
  | .hbm, ⟨40, _⟩ => ⟨S8x8192x1024, .f32⟩
  | .hbm, ⟨41, _⟩ => ⟨S8x8192x1024, .f32⟩
  | .hbm, ⟨42, _⟩ => ⟨S8x8192x1024, .f32⟩
  | .hbm, ⟨43, _⟩ => ⟨S8x8192x1024, .f32⟩
  | .hbm, ⟨44, _⟩ => ⟨S8x8192x1024, .bf16⟩
  | .hbm, ⟨45, _⟩ => ⟨S8x8192x1024, .f32⟩
  | .hbm, ⟨46, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel4.lean ====
abbrev S16x16x1024 : Shape := ⟨3, ![16, 16, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 18
  | .vmem => 9
  | .smem => 0
  | _ => 0

abbrev bufTy : (tb : Table) → Fin (tcTables nBuf tb) → BufTy
  | .hbm, ⟨0, _⟩ => ⟨S16x16x1024, .bf16⟩
  | .hbm, ⟨1, _⟩ => ⟨S16x16x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S256x1024, .bf16⟩
  | .hbm, ⟨9, _⟩ => ⟨S256x1024, .f32⟩
  | .hbm, ⟨10, _⟩ => ⟨S1024x1024, .bf16⟩
  | .hbm, ⟨11, _⟩ => ⟨S1024x4096, .bf16⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S256x1024, .f32⟩
  | .hbm, ⟨17, _⟩ => ⟨S16x16x1024, .f32⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S256x1024, .f32⟩
  | _, _ => ⟨S16x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference4Ideal.lean ====
abbrev S16x16x1024 : Shape := ⟨3, ![16, 16, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x16x4096 : Shape := ⟨3, ![16, 16, 4096]⟩

abbrev nBuf : Space → Nat
  | .hbm => 66
  | .vmem => 0
  | .smem => 0
  | _ => 0

abbrev bufTy : (tb : Table) → Fin (tcTables nBuf tb) → BufTy
  | .hbm, ⟨0, _⟩ => ⟨S16x16x1024, .bf16⟩
  | .hbm, ⟨1, _⟩ => ⟨S16x16x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16x16x1024, .f32⟩
  | .hbm, ⟨9, _⟩ => ⟨S16x16x1024, .f32⟩
  | .hbm, ⟨10, _⟩ => ⟨S16x16x1024, .f32⟩
  | .hbm, ⟨11, _⟩ => ⟨S_, .f32⟩
  | .hbm, ⟨12, _⟩ => ⟨S16x16, .f32⟩
  | .hbm, ⟨13, _⟩ => ⟨S16x16x1, .f32⟩
  | .hbm, ⟨14, _⟩ => ⟨S_, .f32⟩
  | .hbm, ⟨15, _⟩ => ⟨S16x16x1, .f32⟩
  | .hbm, ⟨16, _⟩ => ⟨S16x16x1, .f32⟩
  | .hbm, ⟨17, _⟩ => ⟨S_, .f32⟩
  | .hbm, ⟨18, _⟩ => ⟨S16x16x1, .f32⟩
  | .hbm, ⟨19, _⟩ => ⟨S16x16x1, .f32⟩
  | .hbm, ⟨20, _⟩ => ⟨S16x16x1, .f32⟩
  | .hbm, ⟨21, _⟩ => ⟨S16x16x1024, .f32⟩
  | .hbm, ⟨22, _⟩ => ⟨S16x16x1024, .f32⟩
  | .hbm, ⟨23, _⟩ => ⟨S1x1x1024, .f32⟩
  | .hbm, ⟨24, _⟩ => ⟨S16x16x1024, .f32⟩
  | .hbm, ⟨25, _⟩ => ⟨S16x16x1024, .f32⟩
  | .hbm, ⟨26, _⟩ => ⟨S16x16x1024, .f32⟩
  | .hbm, ⟨27, _⟩ => ⟨S16x16x1024, .f32⟩
  | .hbm, ⟨28, _⟩ => ⟨S_, .f32⟩
  | .hbm, ⟨29, _⟩ => ⟨S16x16, .f32⟩
  | .hbm, ⟨30, _⟩ => ⟨S16x16x1, .f32⟩
  | .hbm, ⟨31, _⟩ => ⟨S_, .f32⟩
  | .hbm, ⟨32, _⟩ => ⟨S16x16x1, .f32⟩
  | .hbm, ⟨33, _⟩ => ⟨S16x16x1, .f32⟩
  | .hbm, ⟨34, _⟩ => ⟨S_, .f32⟩
  | .hbm, ⟨35, _⟩ => ⟨S16x16x1, .f32⟩
  | .hbm, ⟨36, _⟩ => ⟨S16x16x1, .f32⟩
  | .hbm, ⟨37, _⟩ => ⟨S16x16x1, .f32⟩
  | .hbm, ⟨38, _⟩ => ⟨S16x16x1024, .f32⟩
  | .hbm, ⟨39, _⟩ => ⟨S16x16x1024, .f32⟩
  | .hbm, ⟨40, _⟩ => ⟨S1x1x1024, .f32⟩
  | .hbm, ⟨41, _⟩ => ⟨S16x16x1024, .f32⟩
  | .hbm, ⟨42, _⟩ => ⟨S16x16x1024, .f32⟩
  | .hbm, ⟨43, _⟩ => ⟨S16x16x4096, .f32⟩
  | .hbm, ⟨44, _⟩ => ⟨S_, .f32⟩
  | .hbm, ⟨45, _⟩ => ⟨S16x16x4096, .f32⟩
  | .hbm, ⟨46, _⟩ => ⟨S16x16x4096, .f32⟩
  | .hbm, ⟨47, _⟩ => ⟨S16x16x4096, .f32⟩
  | .hbm, ⟨48, _⟩ => ⟨S16x16x1024, .f32⟩
  | .hbm, ⟨49, _⟩ => ⟨S16x16x1024, .f32⟩
  | .hbm, ⟨50, _⟩ => ⟨S_, .f32⟩
  | .hbm, ⟨51, _⟩ => ⟨S16x16, .f32⟩
  | .hbm, ⟨52, _⟩ => ⟨S16x16x1, .f32⟩
  | .hbm, ⟨53, _⟩ => ⟨S_, .f32⟩
  | .hbm, ⟨54, _⟩ => ⟨S16x16x1, .f32⟩
  | .hbm, ⟨55, _⟩ => ⟨S16x16x1, .f32⟩
  | .hbm, ⟨56, _⟩ => ⟨S_, .f32⟩
  | .hbm, ⟨57, _⟩ => ⟨S16x16x1, .f32⟩
  | .hbm, ⟨58, _⟩ => ⟨S16x16x1, .f32⟩
  | .hbm, ⟨59, _⟩ => ⟨S16x16x1, .f32⟩
  | .hbm, ⟨60, _⟩ => ⟨S16x16x1024, .f32⟩
  | .hbm, ⟨61, _⟩ => ⟨S16x16x1024, .f32⟩
  | .hbm, ⟨62, _⟩ => ⟨S1x1x1024, .f32⟩
  | .hbm, ⟨63, _⟩ => ⟨S16x16x1024, .f32⟩
  | .hbm, ⟨64, _⟩ => ⟨S16x16x1024, .f32⟩
  | .hbm, ⟨65, _⟩ => ⟨S16x16x1024, .f32⟩
  | _, _ => ⟨S16x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel5.lean ====
abbrev S16x16x1024 : Shape := ⟨3, ![16, 16, 1024]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S1x16x1024 : Shape := ⟨3, ![1, 16, 1024]⟩
abbrev S16x1024 : Shape := ⟨2, ![16, 1024]⟩
abbrev S16 : Shape := ⟨1, ![16]⟩
abbrev S16x1 : Shape := ⟨2, ![16, 1]⟩
abbrev S16x2048 : Shape := ⟨2, ![16, 2048]⟩
abbrev S16x16x8x2x64 : Shape := ⟨5, ![16, 16, 8, 2, 64]⟩
abbrev S16x16x8x128 : Shape := ⟨4, ![16, 16, 8, 128]⟩

abbrev nBuf : Space → Nat
  | .hbm => 16
  | .vmem => 16
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x1024, .f32⟩
  | .hbm, ⟨5, _⟩ => ⟨S1024x2048, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16x16x1024, .f32⟩
  | .hbm, ⟨10, _⟩ => ⟨S16x16x1024, .f32⟩
  | .hbm, ⟨11, _⟩ => ⟨S16x16x1024, .bf16⟩
  | .hbm, ⟨12, _⟩ => ⟨S16x16x1024, .bf16⟩
  | .hbm, ⟨13, _⟩ => ⟨S16x16x1024, .f32⟩
  | .hbm, ⟨14, _⟩ => ⟨S16x16x8x2x64, .f32⟩
  | .hbm, ⟨15, _⟩ => ⟨S16x16x8x128, .f32⟩
  | .local _ .vmem, ⟨0, _⟩ => ⟨S1x16x1024, .f32⟩
  | .local _ .vmem, ⟨1, _⟩ => ⟨S1x16x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1024x1024, .bf16⟩
  | .local _ .vmem, ⟨6, _⟩ => ⟨S1x16x1024, .f32⟩
  | .local _ .vmem, ⟨7, _⟩ => ⟨S1x16x1024, .f32⟩
  | .local _ .vmem, ⟨8, _⟩ => ⟨S1x16x1024, .f32⟩
  | .local _ .vmem, ⟨9, _⟩ => ⟨S1x16x1024, .f32⟩
  | .local _ .vmem, ⟨10, _⟩ => ⟨S1x16x1024, .bf16⟩
  | .local _ .vmem, ⟨11, _⟩ => ⟨S1x16x1024, .bf16⟩
  | .local _ .vmem, ⟨12, _⟩ => ⟨S1x16x1024, .bf16⟩
  | .local _ .vmem, ⟨13, _⟩ => ⟨S1x16x1024, .bf16⟩
  | .local _ .vmem, ⟨14, _⟩ => ⟨S1x16x1024, .f32⟩
  | .local _ .vmem, ⟨15, _⟩ => ⟨S1x16x1024, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S16x16x1024 : Shape := ⟨3, ![16, 16, 1024]⟩
abbrev S1024 : Shape := ⟨1, ![1024]⟩
abbrev S1024x2048 : Shape := ⟨2, ![1024, 2048]⟩
abbrev S1024x1024 : Shape := ⟨2, ![1024, 1024]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x16x2048 : Shape := ⟨3, ![16, 16, 2048]⟩
abbrev S16x16x8x2x64 : Shape := ⟨5, ![16, 16, 8, 2, 64]⟩
abbrev S16x16x8x128 : Shape := ⟨4, ![16, 16, 8, 128]⟩

abbrev nBuf : Space → Nat
  | .hbm => 47
  | .vmem => 0
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x1024, .f32⟩
  | .hbm, ⟨5, _⟩ => ⟨S16x16x1024, .f32⟩
  | .hbm, ⟨6, _⟩ => ⟨S_, .f32⟩
  | .hbm, ⟨7, _⟩ => ⟨S16x16, .f32⟩
  | .hbm, ⟨8, _⟩ => ⟨S16x16x1, .f32⟩
  | .hbm, ⟨9, _⟩ => ⟨S_, .f32⟩
  | .hbm, ⟨10, _⟩ => ⟨S16x16x1, .f32⟩
  | .hbm, ⟨11, _⟩ => ⟨S16x16x1, .f32⟩
  | .hbm, ⟨12, _⟩ => ⟨S_, .f32⟩
  | .hbm, ⟨13, _⟩ => ⟨S16x16x1, .f32⟩
  | .hbm, ⟨14, _⟩ => ⟨S16x16x1, .f32⟩
  | .hbm, ⟨15, _⟩ => ⟨S16x16x1, .f32⟩
  | .hbm, ⟨16, _⟩ => ⟨S16x16x1024, .f32⟩
  | .hbm, ⟨17, _⟩ => ⟨S16x16x1024, .f32⟩
  | .hbm, ⟨18, _⟩ => ⟨S1x1x1024, .f32⟩
  | .hbm, ⟨19, _⟩ => ⟨S16x16x1024, .f32⟩
  | .hbm, ⟨20, _⟩ => ⟨S16x16x1024, .f32⟩
  | .hbm, ⟨21, _⟩ => ⟨S16x16x2048, .f32⟩
  | .hbm, ⟨22, _⟩ => ⟨S16x16x1024, .f32⟩
  | .hbm, ⟨23, _⟩ => ⟨S16x16x8x2x64, .f32⟩
  | .hbm, ⟨24, _⟩ => ⟨S16x16x1024, .f32⟩
  | .hbm, ⟨25, _⟩ => ⟨S16x16x8x128, .f32⟩
  | .hbm, ⟨26, _⟩ => ⟨S16x16x1024, .f32⟩
  | .hbm, ⟨27, _⟩ => ⟨S_, .f32⟩
  | .hbm, ⟨28, _⟩ => ⟨S16x16, .f32⟩
  | .hbm, ⟨29, _⟩ => ⟨S16x16x1, .f32⟩
  | .hbm, ⟨30, _⟩ => ⟨S_, .f32⟩
  | .hbm, ⟨31, _⟩ => ⟨S16x16x1, .f32⟩
  | .hbm, ⟨32, _⟩ => ⟨S16x16x1, .f32⟩
  | .hbm, ⟨33, _⟩ => ⟨S_, .f32⟩
  | .hbm, ⟨34, _⟩ => ⟨S16x16x1, .f32⟩
  | .hbm, ⟨35, _⟩ => ⟨S16x16x1, .f32⟩
  | .hbm, ⟨36, _⟩ => ⟨S16x16x1, .f32⟩
  | .hbm, ⟨37, _⟩ => ⟨S16x16x1024, .f32⟩
  | .hbm, ⟨38, _⟩ => ⟨S16x16x1024, .f32⟩
  | .hbm, ⟨39, _⟩ => ⟨S1x1x1024, .f32⟩
  | .hbm, ⟨40, _⟩ => ⟨S16x16x1024, .f32⟩
  | .hbm, ⟨41, _⟩ => ⟨S16x16x1024, .f32⟩
  | .hbm, ⟨42, _⟩ => ⟨S16x16x1024, .f32⟩
  | .hbm, ⟨43, _⟩ => ⟨S16x16x1024, .f32⟩
  | .hbm, ⟨44, _⟩ => ⟨S16x16x1024, .bf16⟩
  | .hbm, ⟨45, _⟩ => ⟨S16x16x1024, .f32⟩
  | .hbm, ⟨46, _⟩ => ⟨S16x16x1024, .bf16⟩
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel6.lean ====
abbrev S16x16x1024 : Shape := ⟨3, ![16, 16, 1024]⟩
abbrev S1024 : Shape := ⟨1, ![1024]⟩
abbrev S1024x4096 : Shape := ⟨2, ![1024, 4096]⟩
abbrev S2x1024 : Shape := ⟨2, ![2, 1024]⟩
abbrev S16x8x128x128 : Shape := ⟨4, ![16, 8, 128, 128]⟩
abbrev S1x1024 : Shape := ⟨2, ![1, 1024]⟩
abbrev S1x16x1024 : Shape := ⟨3, ![1, 16, 1024]⟩
abbrev S1x8x128x128 : Shape := ⟨4, ![1, 8, 128, 128]⟩
abbrev S8x128x128 : Shape := ⟨3, ![8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S16x1024 : Shape := ⟨2, ![16, 1024]⟩
abbrev S16 : Shape := ⟨1, ![16]⟩
abbrev S16x1 : Shape := ⟨2, ![16, 1]⟩
abbrev S16x4096 : Shape := ⟨2, ![16, 4096]⟩
abbrev S16x16 : Shape := ⟨2, ![16, 16]⟩
abbrev S16x128 : Shape := ⟨2, ![16, 128]⟩
abbrev S1x128 : Shape := ⟨2, ![1, 128]⟩

abbrev nBuf : Space → Nat
  | .hbm => 11
  | .vmem => 13
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S1024x4096, .f32⟩
  | .hbm, ⟨3, _⟩ => ⟨S2x1024, .f32⟩
  | .hbm, ⟨4, _⟩ => ⟨S1024, .f32⟩
  | .hbm, ⟨5, _⟩ => ⟨S16x8x128x128, .f32⟩
  | .hbm, ⟨6, _⟩ => ⟨S1024x4096, .bf16⟩
  | .hbm, ⟨7, _⟩ => ⟨S1x1024, .f32⟩
  | .hbm, ⟨8, _⟩ => ⟨S1x1024, .f32⟩
  | .hbm, ⟨9, _⟩ => ⟨S16x16x1024, .bf16⟩
  | .hbm, ⟨10, _⟩ => ⟨S16x8x128x128, .f32⟩
  | .local _ .vmem, ⟨0, _⟩ => ⟨S1x16x1024, .f32⟩
  | .local _ .vmem, ⟨1, _⟩ => ⟨S1x16x1024, .f32⟩
  | .local _ .vmem, ⟨2, _⟩ => ⟨S1x1024, .f32⟩
  | .local _ .vmem, ⟨3, _⟩ => ⟨S1024x4096, .bf16⟩
  | .local _ .vmem, ⟨4, _⟩ => ⟨S2x1024, .f32⟩
  | .local _ .vmem, ⟨5, _⟩ => ⟨S1x1024, .f32⟩
  | .local _ .vmem, ⟨6, _⟩ => ⟨S1x8x128x128, .f32⟩
  | .local _ .vmem, ⟨7, _⟩ => ⟨S1x8x128x128, .f32⟩
  | .local _ .vmem, ⟨8, _⟩ => ⟨S1x16x1024, .bf16⟩
  | .local _ .vmem, ⟨9, _⟩ => ⟨S1x16x1024, .bf16⟩
  | .local _ .vmem, ⟨10, _⟩ => ⟨S1x8x128x128, .f32⟩
  | .local _ .vmem, ⟨11, _⟩ => ⟨S1x8x128x128, .f32⟩
  | .local _ .vmem, ⟨12, _⟩ => ⟨S8x128x128, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_149 : BitVec 32 := 0#32
  let v474 : BitVec 1 := Scalar.cmpi .eq arg1 c0_i32_149
  let v475 : BitVec 32 := Scalar.extui v474
  let c0_i32_150 : BitVec 32 := 0#32
  let v476 : BitVec 1 := Scalar.cmpi .ne v475 c0_i32_150
  v476

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference6Ideal.lean ====
abbrev S16x16x1024 : Shape := ⟨3, ![16, 16, 1024]⟩
abbrev S1024 : Shape := ⟨1, ![1024]⟩
abbrev S1024x4096 : Shape := ⟨2, ![1024, 4096]⟩
abbrev S2x1024 : Shape := ⟨2, ![2, 1024]⟩
abbrev S16x8x128x128 : Shape := ⟨4, ![16, 8, 128, 128]⟩
abbrev S_ : Shape := ⟨0, ![]⟩
abbrev S1x1024 : Shape := ⟨2, ![1, 1024]⟩
abbrev S16x16 : Shape := ⟨2, ![16, 16]⟩
abbrev S16x16x1 : Shape := ⟨3, ![16, 16, 1]⟩
abbrev S1x1x1024 : Shape := ⟨3, ![1, 1, 1024]⟩
abbrev S16x16x4096 : Shape := ⟨3, ![16, 16, 4096]⟩
abbrev S16x16x8x128 : Shape := ⟨4, ![16, 16, 8, 128]⟩
abbrev S1x16x16x1x1 : Shape := ⟨5, ![1, 16, 16, 1, 1]⟩
abbrev S16x16x1x8x128 : Shape := ⟨5, ![16, 16, 1, 8, 128]⟩
abbrev S16x1x16x8x128 : Shape := ⟨5, ![16, 1, 16, 8, 128]⟩
abbrev S16x16x16x8x128 : Shape := ⟨5, ![16, 16, 16, 8, 128]⟩
abbrev S16x16x16x8 : Shape := ⟨4, ![16, 16, 16, 8]⟩
abbrev S16x8x128x16 : Shape := ⟨4, ![16, 8, 128, 16]⟩
abbrev S8x128 : Shape := ⟨2, ![8, 128]⟩
abbrev S16x16x8 : Shape := ⟨3, ![16, 16, 8]⟩
abbrev S16x16x8x1 : Shape := ⟨4, ![16, 16, 8, 1]⟩
abbrev S1x1x8x128 : Shape := ⟨4, ![1, 1, 8, 128]⟩
abbrev S16x1x8x128 : Shape := ⟨4, ![16, 1, 8, 128]⟩
abbrev S16x8x128 : Shape := ⟨3, ![16, 8, 128]⟩
abbrev S16x8x128x1 : Shape := ⟨4, ![16, 8, 128, 1]⟩

abbrev nBuf : Space → Nat
  | .hbm => 164
  | .vmem => 0
  | .smem => 0
  | _ => 0

abbrev hbmTy0_0 (i : Nat) : BufTy := match i % 128 with
  | 0 => ⟨S16x16x1024, .f32⟩
  | 1 => ⟨S1024, .f32⟩
  | 2 => ⟨S1024x4096, .f32⟩
  | 3 => ⟨S2x1024, .f32⟩
  | 4 => ⟨S1024, .f32⟩
  | 5 => ⟨S16x8x128x128, .f32⟩
  | 6 => ⟨S_, .f32⟩
  | 7 => ⟨S1024, .f32⟩
  | 8 => ⟨S_, .f32⟩
  | 9 => ⟨S1024, .f32⟩
  | 10 => ⟨S1024, .f32⟩
  | 11 => ⟨S1x1024, .f32⟩
  | 12 => ⟨S2x1024, .f32⟩
  | 13 => ⟨S2x1024, .f32⟩
  | 14 => ⟨S2x1024, .f32⟩
  | 15 => ⟨S_, .f32⟩
  | 16 => ⟨S1024, .f32⟩
  | 17 => ⟨S1x1024, .f32⟩
  | 18 => ⟨S2x1024, .f32⟩
  | 19 => ⟨S2x1024, .f32⟩
  | 20 => ⟨S_, .f32⟩
  | 21 => ⟨S_, .f32⟩
  | 22 => ⟨S2x1024, .f32⟩
  | 23 => ⟨S1x1024, .f32⟩
  | 24 => ⟨S1024, .f32⟩
  | 25 => ⟨S16x16x1024, .f32⟩
  | 26 => ⟨S_, .f32⟩
  | 27 => ⟨S16x16, .f32⟩
  | 28 => ⟨S16x16x1, .f32⟩
  | 29 => ⟨S_, .f32⟩
  | 30 => ⟨S16x16x1, .f32⟩
  | 31 => ⟨S16x16x1, .f32⟩
  | 32 => ⟨S_, .f32⟩
  | 33 => ⟨S16x16x1, .f32⟩
  | 34 => ⟨S16x16x1, .f32⟩
  | 35 => ⟨S16x16x1, .f32⟩
  | 36 => ⟨S16x16x1024, .f32⟩
  | 37 => ⟨S16x16x1024, .f32⟩
  | 38 => ⟨S1x1x1024, .f32⟩
  | 39 => ⟨S16x16x1024, .f32⟩
  | 40 => ⟨S16x16x1024, .f32⟩
  | 41 => ⟨S16x16x4096, .f32⟩
  | 42 => ⟨S16x16x1024, .f32⟩
  | 43 => ⟨S16x16x1024, .f32⟩
  | 44 => ⟨S16x16x1024, .f32⟩
  | 45 => ⟨S16x16x1024, .f32⟩
  | 46 => ⟨S_, .f32⟩
  | 47 => ⟨S1024, .f32⟩
  | 48 => ⟨S1024, .f32⟩
  | 49 => ⟨S16x16x1024, .f32⟩
  | 50 => ⟨S16x16x1024, .f32⟩
  | 51 => ⟨S_, .f32⟩
  | 52 => ⟨S16x16x1024, .f32⟩
  | 53 => ⟨S16x16x1024, .f32⟩
  | 54 => ⟨S_, .f32⟩
  | 55 => ⟨S16x16x1024, .f32⟩
  | 56 => ⟨S16x16x1024, .f32⟩
  | 57 => ⟨S1x1x1024, .f32⟩
  | 58 => ⟨S16x16x1024, .f32⟩
  | 59 => ⟨S16x16x1024, .f32⟩
  | 60 => ⟨S1x1x1024, .f32⟩
  | 61 => ⟨S16x16x1024, .f32⟩
  | 62 => ⟨S16x16x1024, .f32⟩
  | 63 => ⟨S16x16x1024, .f32⟩
  | 64 => ⟨S16x16x1024, .f32⟩
  | 65 => ⟨S_, .f32⟩
  | 66 => ⟨S16x16x1024, .f32⟩
  | 67 => ⟨S16x16x1024, .f32⟩
  | 68 => ⟨S_, .f32⟩
  | 69 => ⟨S16x16x1024, .f32⟩
  | 70 => ⟨S16x16x1024, .f32⟩
  | 71 => ⟨S16x16x1024, .f32⟩
  | 72 => ⟨S16x16x8x128, .f32⟩
  | 73 => ⟨S_, .f32⟩
  | 74 => ⟨S16x16x1024, .f32⟩
  | 75 => ⟨S16x16x1024, .f32⟩
  | 76 => ⟨S16x16x8x128, .f32⟩
  | 77 => ⟨S16x16x1024, .f32⟩
  | 78 => ⟨S16x16x8x128, .f32⟩
  | 79 => ⟨S16x16x8x128, .f32⟩
  | 80 => ⟨S_, .f32⟩
  | 81 => ⟨S_, .f32⟩
  | 82 => ⟨S16x16x8x128, .f32⟩
  | 83 => ⟨S_, .i1⟩
  | 84 => ⟨S16x16, .i1⟩
  | 85 => ⟨S16x16, .i32⟩
  | 86 => ⟨S_, .i32⟩
  | 87 => ⟨S16x16, .i32⟩
  | 88 => ⟨S16x16, .i32⟩
  | 89 => ⟨S16x16, .i32⟩
  | 90 => ⟨S16x16, .i1⟩
  | 91 => ⟨S_, .i1⟩
  | 92 => ⟨S16x16, .i1⟩
  | 93 => ⟨S16x16, .i1⟩
  | 94 => ⟨S1x16x16x1x1, .i1⟩
  | 95 => ⟨S16x16x1x8x128, .f32⟩
  | 96 => ⟨S16x1x16x8x128, .f32⟩
  | 97 => ⟨S16x16x16x8x128, .f32⟩
  | 98 => ⟨S16x16x16x8x128, .f32⟩
  | 99 => ⟨S16x16x16x8x128, .f32⟩
  | 100 => ⟨S_, .f32⟩
  | 101 => ⟨S_, .f32⟩
  | 102 => ⟨S16x16x16x8x128, .i1⟩
  | 103 => ⟨S16x16x16x8x128, .f32⟩
  | 104 => ⟨S16x16x16x8x128, .f32⟩
  | 105 => ⟨S16x16x16x8x128, .f32⟩
  | 106 => ⟨S16x16x1x8x128, .f32⟩
  | 107 => ⟨S16x1x16x8x128, .f32⟩
  | 108 => ⟨S16x16x16x8x128, .f32⟩
  | 109 => ⟨S16x16x16x8x128, .f32⟩
  | 110 => ⟨S16x16x16x8x128, .f32⟩
  | 111 => ⟨S16x16x16x8x128, .f32⟩
  | 112 => ⟨S_, .f32⟩
  | 113 => ⟨S16x16x16x8, .f32⟩
  | 114 => ⟨S16x8x128x16, .f32⟩
  | 115 => ⟨S16x16x8x128, .f32⟩
  | 116 => ⟨S16x16x8x128, .f32⟩
  | 117 => ⟨S16x16x8x128, .f32⟩
  | 118 => ⟨S16x8x128x16, .f32⟩
  | 119 => ⟨S16x16x8x128, .f32⟩
  | 120 => ⟨S16x16x8x128, .f32⟩
  | 121 => ⟨S8x128, .f32⟩
  | 122 => ⟨S16x16x8x128, .f32⟩
  | 123 => ⟨S_, .f32⟩
  | 124 => ⟨S16x16x8, .f32⟩
  | 125 => ⟨S16x16x8x1, .f32⟩
  | 126 => ⟨S_, .f32⟩
  | 127 => ⟨S16x16x8x1, .f32⟩
  | _ => ⟨S16x16x1024, .f32⟩

abbrev hbmTy0_1 (i : Nat) : BufTy := match i % 128 with
  | 0 => ⟨S16x16x8x1, .f32⟩
  | 1 => ⟨S_, .f32⟩
  | 2 => ⟨S16x16x8x1, .f32⟩
  | 3 => ⟨S16x16x8x1, .f32⟩
  | 4 => ⟨S16x16x8x1, .f32⟩
  | 5 => ⟨S16x16x8x128, .f32⟩
  | 6 => ⟨S16x16x8x128, .f32⟩
  | 7 => ⟨S1x1x8x128, .f32⟩
  | 8 => ⟨S16x16x8x128, .f32⟩
  | 9 => ⟨S16x16x8x128, .f32⟩
  | 10 => ⟨S16x16x1024, .f32⟩
  | 11 => ⟨S16x16x1024, .f32⟩
  | 12 => ⟨S_, .f32⟩
  | 13 => ⟨S16x16x1024, .f32⟩
  | 14 => ⟨S16x16x1024, .f32⟩
  | 15 => ⟨S_, .f32⟩
  | 16 => ⟨S16x16x1024, .f32⟩
  | 17 => ⟨S16x16x1024, .f32⟩
  | 18 => ⟨S16x16x1024, .f32⟩
  | 19 => ⟨S16x16x8x128, .f32⟩
  | 20 => ⟨S16x16x8x128, .f32⟩
  | 21 => ⟨S16x1x8x128, .f32⟩
  | 22 => ⟨S16x8x128, .f32⟩
  | 23 => ⟨S16x8x128, .f32⟩
  | 24 => ⟨S16x8x128x1, .f32⟩
  | 25 => ⟨S16x8x128x128, .f32⟩
  | 26 => ⟨S16x8x128x128, .f32⟩
  | 27 => ⟨S16x1x8x128, .f32⟩
  | 28 => ⟨S16x16x8x128, .f32⟩
  | 29 => ⟨S16x16x8x128, .f32⟩
  | 30 => ⟨S16x16x8x128, .f32⟩
  | 31 => ⟨S16x16x8x128, .f32⟩
  | 32 => ⟨S16x8x128x128, .f32⟩
  | 33 => ⟨S16x8x128x128, .f32⟩
  | 34 => ⟨S16x16x1024, .f32⟩
  | 35 => ⟨S16x16x1024, .bf16⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_call0_cst : Ref sig .tc := ⟨.hbm, 20, rfl⟩
abbrev main_call0_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_call0_cst : Ref sig .tc := ⟨.hbm, 80, rfl⟩
abbrev main_call2_call0_v0 : Ref sig .tc := ⟨.hbm, 81, rfl⟩
abbrev main_v54 : Ref sig .tc := ⟨.hbm, 82, rfl⟩
abbrev main_c : Ref sig .tc := ⟨.hbm, 83, rfl⟩
abbrev main_v55 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_c_0 : Ref sig .tc := ⟨.hbm, 91, rfl⟩
abbrev main_call3_v5 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_9 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_10 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_11 : Ref sig .tc := ⟨.hbm, 123, rfl⟩
abbrev main_v81 : Ref sig .tc := ⟨.hbm, 124, rfl⟩
abbrev main_v82 : Ref sig .tc := ⟨.hbm, 125, rfl⟩
abbrev main_cst_12 : Ref sig .tc := ⟨.hbm, 126, rfl⟩
abbrev main_v83 : Ref sig .tc := ⟨.hbm, 127, rfl⟩
abbrev main_v84 : Ref sig .tc := ⟨.hbm, 128, rfl⟩
abbrev main_cst_13 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_call5_v0 : Ref sig .tc := ⟨.hbm, 138, rfl⟩
abbrev main_call5_v1 : Ref sig .tc := ⟨.hbm, 139, rfl⟩
abbrev main_call5_cst : Ref sig .tc := ⟨.hbm, 140, rfl⟩
abbrev main_call5_v2 : Ref sig .tc := ⟨.hbm, 141, rfl⟩
abbrev main_call5_v3 : Ref sig .tc := ⟨.hbm, 142, rfl⟩
abbrev main_call5_cst_0 : Ref sig .tc := ⟨.hbm, 143, rfl⟩
abbrev main_call5_v4 : Ref sig .tc := ⟨.hbm, 144, rfl⟩
abbrev main_call5_v5 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩

abbrev nD : Nat := 1
abbrev τ : Topo := Topo.v7x

variable {F : FTy → Type} [FloatOps F]
-- ==== Kernel7.lean ====
abbrev S16x16x1024 : Shape := ⟨3, ![16, 16, 1024]⟩
abbrev S16x1024x8x2x64 : Shape := ⟨5, ![16, 1024, 8, 2, 64]⟩
abbrev S16x1024x8x128 : Shape := ⟨4, ![16, 1024, 8, 128]⟩
abbrev S4x64 : Shape := ⟨2, ![4, 64]⟩
abbrev S128 : Shape := ⟨1, ![128]⟩
abbrev S16x1024x1024 : Shape := ⟨3, ![16, 1024, 1024]⟩
abbrev S1x128 : Shape := ⟨2, ![1, 128]⟩
abbrev S1x16x1024 : Shape := ⟨3, ![1, 16, 1024]⟩
abbrev S1x1024x1024 : Shape := ⟨3, ![1, 1024, 1024]⟩
abbrev S1x64 : Shape := ⟨2, ![1, 64]⟩
abbrev S1 : Shape := ⟨1, ![1]⟩
abbrev S1x1 : Shape := ⟨2, ![1, 1]⟩
abbrev S16x1024 : Shape := ⟨2, ![16, 1024]⟩
abbrev S16x128 : Shape := ⟨2, ![16, 128]⟩
abbrev S16x16 : Shape := ⟨2, ![16, 16]⟩
abbrev S1x1024x128 : Shape := ⟨3, ![1, 1024, 128]⟩
abbrev S1024x128 : Shape := ⟨2, ![1024, 128]⟩
abbrev S1x16x128 : Shape := ⟨3, ![1, 16, 128]⟩
abbrev S16 : Shape := ⟨1, ![16]⟩
abbrev S16x1 : Shape := ⟨2, ![16, 1]⟩

abbrev nBuf : Space → Nat
  | .hbm => 13
  | .vmem => 14
  | .smem => 0
  | _ => 0

abbrev bufTy : (tb : Table) → Fin (tcTables nBuf tb) → BufTy
  | .hbm, ⟨0, _⟩ => ⟨S16x16x1024, .f32⟩
  | .hbm, ⟨1, _⟩ => ⟨S16x16x1024, .f32⟩
  | .hbm, ⟨2, _⟩ => ⟨S16x16x1024, .f32⟩
  | .hbm, ⟨3, _⟩ => ⟨S16x1024x8x2x64, .f32⟩
  | .hbm, ⟨4, _⟩ => ⟨S16x1024x8x128, .f32⟩
  | .hbm, ⟨5, _⟩ => ⟨S4x64, .f32⟩
  | .hbm, ⟨6, _⟩ => ⟨S128, .f32⟩
  | .hbm, ⟨7, _⟩ => ⟨S16x16x1024, .bf16⟩
  | .hbm, ⟨8, _⟩ => ⟨S16x16x1024, .bf16⟩
  | .hbm, ⟨9, _⟩ => ⟨S16x1024x1024, .f32⟩
  | .hbm, ⟨10, _⟩ => ⟨S16x1024x1024, .f32⟩
  | .hbm, ⟨11, _⟩ => ⟨S1x128, .f32⟩
  | .hbm, ⟨12, _⟩ => ⟨S16x16x1024, .bf16⟩
  | .local _ .vmem, ⟨0, _⟩ => ⟨S4x64, .f32⟩
  | .local _ .vmem, ⟨1, _⟩ => ⟨S1x16x1024, .f32⟩
  | .local _ .vmem, ⟨2, _⟩ => ⟨S1x16x1024, .f32⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x16x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x128, .f32⟩
  | .local _ .vmem, ⟨12, _⟩ => ⟨S1x16x1024, .bf16⟩
  | .local _ .vmem, ⟨13, _⟩ => ⟨S1x16x1024, .bf16⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel7Ideal.lean ====
variable {F : FTy → Type} [FloatOps F] [Named F]
def κ : String → Option EReal := fun
  | "q_scale" => some ((8⁻¹ * (Real.log 2)⁻¹ : ℝ) : EReal)
  | _ => none
-- ==== Reference7Ideal.lean ====
abbrev S16x16x1024 : Shape := ⟨3, ![16, 16, 1024]⟩
abbrev S16x1024x8x2x64 : Shape := ⟨5, ![16, 1024, 8, 2, 64]⟩
abbrev S16x1024x8x128 : Shape := ⟨4, ![16, 1024, 8, 128]⟩
abbrev S4x64 : Shape := ⟨2, ![4, 64]⟩
abbrev S128 : Shape := ⟨1, ![128]⟩
abbrev S16x16x8x2x64 : Shape := ⟨5, ![16, 16, 8, 2, 64]⟩
abbrev S16x1040x8x2x64 : Shape := ⟨5, ![16, 1040, 8, 2, 64]⟩
abbrev S16x16x8x128 : Shape := ⟨4, ![16, 16, 8, 128]⟩
abbrev S16x1040x8x128 : Shape := ⟨4, ![16, 1040, 8, 128]⟩
abbrev S1x64 : Shape := ⟨2, ![1, 64]⟩
abbrev S64 : Shape := ⟨1, ![64]⟩
abbrev S_ : Shape := ⟨0, ![]⟩
abbrev S16 : Shape := ⟨1, ![16]⟩
abbrev S1040 : Shape := ⟨1, ![1040]⟩
abbrev S1x1040 : Shape := ⟨2, ![1, 1040]⟩
abbrev S16x1 : Shape := ⟨2, ![16, 1]⟩
abbrev S16x1040 : Shape := ⟨2, ![16, 1040]⟩
abbrev S16x8x2x16x1040 : Shape := ⟨5, ![16, 8, 2, 16, 1040]⟩
abbrev S16x8x2x16 : Shape := ⟨4, ![16, 8, 2, 16]⟩
abbrev S16x8x2x16x1 : Shape := ⟨5, ![16, 8, 2, 16, 1]⟩
abbrev S16x8x1x16x1040 : Shape := ⟨5, ![16, 8, 1, 16, 1040]⟩
abbrev S16x8x16x1040 : Shape := ⟨4, ![16, 8, 16, 1040]⟩
abbrev S16x8x128x16 : Shape := ⟨4, ![16, 8, 128, 16]⟩
abbrev S16x16x8 : Shape := ⟨3, ![16, 16, 8]⟩
abbrev S16x16x8x1 : Shape := ⟨4, ![16, 16, 8, 1]⟩
abbrev S1x1x1x128 : Shape := ⟨4, ![1, 1, 1, 128]⟩

abbrev nBuf : Space → Nat
  | .hbm => 130
  | .vmem => 0
  | .smem => 0
  | _ => 0

abbrev hbmTy0_0 (i : Nat) : BufTy := match i % 128 with
  | 0 => ⟨S16x16x1024, .f32⟩
  | 1 => ⟨S16x16x1024, .f32⟩
  | 2 => ⟨S16x16x1024, .f32⟩
  | 3 => ⟨S16x1024x8x2x64, .f32⟩
  | 4 => ⟨S16x1024x8x128, .f32⟩
  | 5 => ⟨S4x64, .f32⟩
  | 6 => ⟨S128, .f32⟩
  | 7 => ⟨S16x16x8x2x64, .f32⟩
  | 8 => ⟨S16x16x8x2x64, .f32⟩
  | 9 => ⟨S16x1040x8x2x64, .f32⟩
  | 10 => ⟨S16x16x8x128, .f32⟩
  | 11 => ⟨S16x1040x8x128, .f32⟩
  | 12 => ⟨S1x64, .f32⟩
  | 13 => ⟨S64, .f32⟩
  | 14 => ⟨S1x64, .f32⟩
  | 15 => ⟨S64, .f32⟩
  | 16 => ⟨S64, .f32⟩
  | 17 => ⟨S_, .f32⟩
  | 18 => ⟨S_, .f32⟩
  | 19 => ⟨S_, .f32⟩
  | 20 => ⟨S1x64, .f32⟩
  | 21 => ⟨S64, .f32⟩
  | 22 => ⟨S1x64, .f32⟩
  | 23 => ⟨S64, .f32⟩
  | 24 => ⟨S64, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S16, .i32⟩
  | 32 => ⟨S_, .i32⟩
  | 33 => ⟨S16, .i32⟩
  | 34 => ⟨S16, .i32⟩
  | 35 => ⟨S1040, .i32⟩
  | 36 => ⟨S1x1040, .i32⟩
  | 37 => ⟨S_, .i32⟩
  | 38 => ⟨S_, .i32⟩
  | 39 => ⟨S1x1040, .i32⟩
  | 40 => ⟨S1x1040, .i32⟩
  | 41 => ⟨S1x1040, .i32⟩
  | 42 => ⟨S_, .i32⟩
  | 43 => ⟨S1x1040, .i32⟩
  | 44 => ⟨S1x1040, .i1⟩
  | 45 => ⟨S1x1040, .i32⟩
  | 46 => ⟨S1x1040, .i32⟩
  | 47 => ⟨S_, .i32⟩
  | 48 => ⟨S1x1040, .i32⟩
  | 49 => ⟨S1x1040, .i1⟩
  | 50 => ⟨S1x1040, .i1⟩
  | 51 => ⟨S_, .i32⟩
  | 52 => ⟨S1x1040, .i32⟩
  | 53 => ⟨S1x1040, .i32⟩
  | 54 => ⟨S1x1040, .i32⟩
  | 55 => ⟨S16x1, .i32⟩
  | 56 => ⟨S_, .i32⟩
  | 57 => ⟨S_, .i32⟩
  | 58 => ⟨S16x1, .i32⟩
  | 59 => ⟨S16x1, .i32⟩
  | 60 => ⟨S16x1, .i32⟩
  | 61 => ⟨S_, .i32⟩
  | 62 => ⟨S16x1, .i32⟩
  | 63 => ⟨S16x1, .i1⟩
  | 64 => ⟨S16x1, .i32⟩
  | 65 => ⟨S16x1, .i32⟩
  | 66 => ⟨S_, .i32⟩
  | 67 => ⟨S16x1, .i32⟩
  | 68 => ⟨S16x1, .i1⟩
  | 69 => ⟨S16x1, .i1⟩
  | 70 => ⟨S_, .i32⟩
  | 71 => ⟨S16x1, .i32⟩
  | 72 => ⟨S16x1, .i32⟩
  | 73 => ⟨S16x1, .i32⟩
  | 74 => ⟨S16x1040, .i32⟩
  | 75 => ⟨S16x1040, .i32⟩
  | 76 => ⟨S16x1040, .i1⟩
  | 77 => ⟨S16x8x2x16x1040, .f32⟩
  | 78 => ⟨S_, .f32⟩
  | 79 => ⟨S16x8x2x16x1040, .f32⟩
  | 80 => ⟨S16x8x2x16x1040, .f32⟩
  | 81 => ⟨S_, .f32⟩
  | 82 => ⟨S_, .f32⟩
  | 83 => ⟨S16x8x2x16x1040, .i1⟩
  | 84 => ⟨S16x8x2x16x1040, .f32⟩
  | 85 => ⟨S16x8x2x16x1040, .f32⟩
  | 86 => ⟨S_, .f32⟩
  | 87 => ⟨S16x8x2x16, .f32⟩
  | 88 => ⟨S_, .f32⟩
  | 89 => ⟨S16x8x2x16, .f32⟩
  | 90 => ⟨S16x8x2x16, .f32⟩
  | 91 => ⟨S16x8x2x16x1, .f32⟩
  | 92 => ⟨S16x8x2x16x1040, .f32⟩
  | 93 => ⟨S16x8x2x16x1040, .f32⟩
  | 94 => ⟨S16x8x2x16x1040, .f32⟩
  | 95 => ⟨S_, .f32⟩
  | 96 => ⟨S16x8x2x16, .f32⟩
  | 97 => ⟨S16x8x2x16x1, .f32⟩
  | 98 => ⟨S16x8x2x16x1040, .f32⟩
  | 99 => ⟨S16x8x2x16x1040, .f32⟩
  | 100 => ⟨S16x8x1x16x1040, .f32⟩
  | 101 => ⟨S16x8x16x1040, .f32⟩
  | 102 => ⟨S16x8x1x16x1040, .f32⟩
  | 103 => ⟨S16x8x16x1040, .f32⟩
  | 104 => ⟨S16x8x16x1040, .f32⟩
  | 105 => ⟨S16x8x16x1040, .f32⟩
  | 106 => ⟨S16x8x16x1040, .f32⟩
  | 107 => ⟨S16x8x128x16, .f32⟩
  | 108 => ⟨S16x16x8x128, .f32⟩
  | 109 => ⟨S16x16x8x128, .f32⟩
  | 110 => ⟨S_, .f32⟩
  | 111 => ⟨S16x16x8, .f32⟩
  | 112 => ⟨S16x16x8x1, .f32⟩
  | 113 => ⟨S_, .f32⟩
  | 114 => ⟨S16x16x8x1, .f32⟩
  | 115 => ⟨S16x16x8x1, .f32⟩
  | 116 => ⟨S_, .f32⟩
  | 117 => ⟨S16x16x8x1, .f32⟩
  | 118 => ⟨S16x16x8x1, .f32⟩
  | 119 => ⟨S16x16x8x1, .f32⟩
  | 120 => ⟨S16x16x8x128, .f32⟩
  | 121 => ⟨S16x16x8x128, .f32⟩
  | 122 => ⟨S1x1x1x128, .f32⟩
  | 123 => ⟨S16x16x8x128, .f32⟩
  | 124 => ⟨S16x16x8x128, .f32⟩
  | 125 => ⟨S_, .f32⟩
  | 126 => ⟨S16x16x8x128, .f32⟩
  | 127 => ⟨S16x16x8x128, .f32⟩
  | _ => ⟨S16x16x1024, .f32⟩

abbrev hbmTy0_1 (i : Nat) : BufTy := match i % 128 with
  | 0 => ⟨S16x16x1024, .f32⟩
  | 1 => ⟨S16x16x1024, .bf16⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v26 : Ref sig .tc := ⟨.hbm, 54, rfl⟩
abbrev main_v27 : Ref sig .tc := ⟨.hbm, 55, rfl⟩
abbrev main_c_3 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_4 : Ref sig .tc := ⟨.hbm, 78, rfl⟩
abbrev main_v33 : Ref sig .tc := ⟨.hbm, 79, rfl⟩
abbrev main_v34 : Ref sig .tc := ⟨.hbm, 80, rfl⟩
abbrev main_cst_5 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v35 : Ref sig .tc := ⟨.hbm, 85, rfl⟩
abbrev main_cst_6 : Ref sig .tc := ⟨.hbm, 86, rfl⟩
abbrev main_v36 : Ref sig .tc := ⟨.hbm, 87, rfl⟩
abbrev main_cst_7 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_8 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_9 : Ref sig .tc := ⟨.hbm, 110, rfl⟩
abbrev main_v57 : Ref sig .tc := ⟨.hbm, 111, rfl⟩
abbrev main_v58 : Ref sig .tc := ⟨.hbm, 112, rfl⟩
abbrev main_cst_10 : Ref sig .tc := ⟨.hbm, 113, rfl⟩
abbrev main_v59 : Ref sig .tc := ⟨.hbm, 114, rfl⟩
abbrev main_v60 : Ref sig .tc := ⟨.hbm, 115, rfl⟩
abbrev main_cst_11 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_cst_12 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩

abbrev nD : Nat := 1
abbrev τ : Topo := Topo.v7x

variable {F : FTy → Type} [FloatOps F]
-- ==== Proof.Ideal.Offsets.lean ====
/-
  Where the attention kernel reads and writes, as arithmetic of the grid coordinates: the key block and the value slot
  of each step, the number of double steps of its loop, and which of its two endings a query block takes.
-/
module

public import proofs.«01_k».proof.Proof.Gen.KernelIdeal.Skeleton
public import Idealize.ShloMosaic.Lib.LoopRemainder
public import Mathlib.Tactic.IntervalCases

@[expose] public section

set_option maxRecDepth 16384

namespace Cert.KernelIdeal.Hand

open Idealize.ShloMosaic Cert.KernelIdeal

/-- The query block's number, read as a number below 16. -/
theorem row_lt (i : grid0.Coords) : (i 2).val < 16 := (i 2).isLt

/-- Query block `i` takes `i / 2` double steps. -/
theorem trips_eq (i : grid0.Coords) : (k0_t2_loop i).trips = (i 2).val / 2 := by
  have h := row_lt i
  unfold Scf.Loop.trips k0_t2_loop
  generalize (i 2).val = n at h ⊢
  interval_cases n <;> decide +kernel

/-- A double step's number is below 8. -/
theorem trip_lt (i : grid0.Coords) (k : Fin (k0_t2_loop i).trips) : 2 * k.val + 1 < (i 2).val + 1 := by
  have h := k.isLt
  have e := trips_eq i
  omega

/-- The first key block a double step scores. -/
theorem off5_eq (i : grid0.Coords) (k : Fin (k0_t2_loop i).trips) : k0_off5 i k = ![0, 512 * (2 * k.val), 0] := by
  have h := row_lt i
  have h' := trip_lt i k
  unfold k0_off5
  generalize k.val = n at h' ⊢
  have : n < 8 := by omega
  clear h h'
  interval_cases n <;> decide +kernel

/-- The second key block a double step scores. -/
theorem off7_eq (i : grid0.Coords) (k : Fin (k0_t2_loop i).trips) : k0_off7 i k = ![0, 512 * (2 * k.val + 1), 0] := by
  have h := row_lt i
  have h' := trip_lt i k
  unfold k0_off7
  generalize k.val = n at h' ⊢
  have : n < 8 := by omega
  clear h h'
  interval_cases n <;> decide +kernel

/-- The value slot of the first block a double step takes in: the diagonal one at the start, else the one before. -/
theorem off6_eq (i : grid0.Coords) (k : Fin (k0_t2_loop i).trips) :
    k0_off6 i k = ![if k.val = 0 then (i 2).val else 2 * k.val - 1, 0, 0] := by
  have h := row_lt i
  have h' := trip_lt i k
  unfold k0_off6
  generalize k.val = n at h' ⊢
  generalize (i 2).val = m at h h' ⊢
  have : n < 8 := by omega
  clear h'
  interval_cases n <;> interval_cases m <;> decide +kernel

/-- The value slot of the second block a double step takes in. -/
theorem off8_eq (i : grid0.Coords) (k : Fin (k0_t2_loop i).trips) : k0_off8 i k = ![2 * k.val, 0, 0] := by
  have h := row_lt i
  have h' := trip_lt i k
  unfold k0_off8
  generalize k.val = n at h' ⊢
  have : n < 8 := by omega
  clear h h'
  interval_cases n <;> decide +kernel

/-- The kernel fills its value scratch at the first query block of each batch row and head. -/
theorem cond1_iff (i : grid0.Coords) : k0_cond1 i = 1#1 ↔ (i 2).val = 0 := by
  have h := row_lt i
  unfold k0_cond1
  generalize (i 2).val = n at h ⊢
  interval_cases n <;> decide +kernel

/-- An odd query block ends with two steps. -/
theorem cond2_iff (i : grid0.Coords) : k0_cond2 i = 1#1 ↔ (i 2).val % 2 = 1 := by
  have h := row_lt i
  unfold k0_cond2
  generalize (i 2).val = n at h ⊢
  interval_cases n <;> decide +kernel

/-- An even query block ends with one step. -/
theorem cond3_iff (i : grid0.Coords) : k0_cond3 i = 1#1 ↔ (i 2).val % 2 = 0 := by
  have h := row_lt i
  unfold k0_cond3
  generalize (i 2).val = n at h ⊢
  interval_cases n <;> decide +kernel

/-- The last key block an odd query block scores. -/
theorem off13_eq (i : grid0.Coords) (ho : (i 2).val % 2 = 1) : k0_off13 i = ![0, 512 * ((i 2).val - 1), 0] := by
  have h := row_lt i
  unfold k0_off13
  generalize (i 2).val = n at h ho ⊢
  interval_cases n <;> revert ho <;> decide +kernel

/-- The value slot of an odd query block's last step but one. -/
theorem off14_eq (i : grid0.Coords) (ho : (i 2).val % 2 = 1) :
    k0_off14 i = ![if (i 2).val = 1 then (i 2).val else (i 2).val - 2, 0, 0] := by
  have h := row_lt i
  unfold k0_off14
  generalize (i 2).val = n at h ho ⊢
  interval_cases n <;> revert ho <;> decide +kernel

/-- The value slot of an odd query block's last step. -/
theorem off15_eq (i : grid0.Coords) (ho : (i 2).val % 2 = 1) : k0_off15 i = ![(i 2).val - 1, 0, 0] := by
  have h := row_lt i
  unfold k0_off15
  generalize (i 2).val = n at h ho ⊢
  interval_cases n <;> revert ho <;> decide +kernel

/-- The value slot of an even query block's last step. -/
theorem off16_eq (i : grid0.Coords) (he : (i 2).val % 2 = 0) : k0_off16 i = ![(i 2).val - 1, 0, 0] := by
  have h := row_lt i
  unfold k0_off16
  generalize (i 2).val = n at h he ⊢
  interval_cases n <;> revert he <;> decide +kernel

end Cert.KernelIdeal.Hand
-- ==== Proof.Ideal.Model.lean ====
/-
  What the attention kernel computes for one query block, as a recursion over key blocks with no memory in it. A key
  block gives a tile of scores per component with its column maxima; taking a tile in updates the running maximum and
  the weighted sum of each component. Query block `i` takes in key block `i` first, masked, then `0, 1, …, i − 1`.
-/
module

public import proofs.«01_k».proof.Proof.Ideal.Offsets
public import Idealize.ShloMosaic.Lib.Pipeline.ReadBack
public import Idealize.ShloMosaic.Lib.Pointwise.Index

@[expose] public section

set_option maxRecDepth 16384

noncomputable section

namespace Cert.KernelIdeal.Hand

open Idealize.ShloMosaic Cert.KernelIdeal Cert.KernelIdeal.Gen

variable {F : FTy → Type} [FloatOps F] [Named F]

/-- The scores of one key block against a query block, one tile per component, with each tile's column maxima. -/
structure Tile (F : FTy → Type) [FloatOps F] where
  /-- the first component's scores -/
  s0 : Vec F S1x1x512x512 .f32
  /-- the second component's scores -/
  s1 : Vec F S1x1x512x512 .f32
  /-- the first component's maxima -/
  x0 : Vec F S1x1x1x512 .f32
  /-- the second component's maxima -/
  x1 : Vec F S1x1x1x512 .f32

/-- The running state of the two components: maxima and weighted sums (128 rows of values, then the weights' sum). -/
structure State (F : FTy → Type) [FloatOps F] where
  /-- the first component's running maximum -/
  m0 : Vec F S1x1x512 .f32
  /-- the second component's running maximum -/
  m1 : Vec F S1x1x512 .f32
  /-- the first component's weighted sums -/
  a0 : Vec F S1x144x512 .f32
  /-- the second component's weighted sums -/
  a1 : Vec F S1x144x512 .f32

/-- Block `n` of 512 rows of a key or value array. -/
def blk (X : Vec F S1x8192x128 .bf16) (n : ℕ) : Vec F S1x512x128 .bf16 := fun x =>
  X (ix3 (0 : Fin 1) (⟨(512 * n + (x 1).val) % 8192, Nat.mod_lt _ (by omega)⟩ : Fin 8192) (x 2 : Fin 128))

/-- A load of the 512 rows from row `512 n` on reads block `n`. -/
theorem ld_blk (X : Vec F S1x8192x128 .bf16) {off : Fin 3 → ℕ}
    (inb : ∀ a, off a + S1x512x128.size a ≤ S1x8192x128.size a) (n : ℕ) (hn : n < 16) (h : off = ![0, 512 * n, 0]) :
    View.ld X (Rect.unit (s := S1x8192x128) off S1x512x128.size inb) = blk X n := by
  subst h
  funext x
  unfold View.ld blk
  congr 1
  funext a
  have h1 : (x 1).val < 512 := (x 1).isLt
  have h0 : (x 0).val < 1 := (x 0).isLt
  fin_cases a
  · apply Fin.ext
    simp [Rect.unit, Rect.emb, ix3] at *
    try omega
  · apply Fin.ext
    simp [Rect.unit, Rect.emb, ix3] at *
    try omega
  · apply Fin.ext
    simp [Rect.unit, Rect.emb, ix3] at *

/-- A block of values as the kernel keeps it: transposed, with rows of ones below. -/
def slot (v : Vec F S1x512x128 .bf16) : Vec F S1x144x512 .bf16 := fun x =>
  if h : (x 1).val < 128 then k0_pay104 v (ix3 (0 : Fin 1) (⟨(x 1).val, h⟩ : Fin 128) (x 2 : Fin 512))
  else
    k0_pay105 (ix3 (0 : Fin 1) (⟨(x 1).val - 128, by have h' : (x 1).val < 144 := (x 1).isLt; omega⟩ : Fin 16)
      (x 2 : Fin 512))

/-- The scores of a key block with no mask. -/
def plain (a b : FVec F S128x512 .bf16) (k : Vec F S1x512x128 .bf16) : Tile F :=
  ⟨k0_pay4 a k, k0_pay7 b k, k0_pay5 a k, k0_pay8 b k⟩

/-- The scores of the diagonal key block, keys of a later chunk masked. -/
def masked (a b : FVec F S128x512 .bf16) (k : Vec F S1x512x128 .bf16) : Tile F :=
  ⟨k0_pay118 a (k0_pay111 k) k0_pay112 k0_pay113 k0_pay114 k0_pay115,
   k0_pay121 b (k0_pay111 k) k0_pay112 k0_pay113 k0_pay114 k0_pay115,
   k0_pay119 a (k0_pay111 k) k0_pay112 k0_pay113 k0_pay114 k0_pay115,
   k0_pay122 b (k0_pay111 k) k0_pay112 k0_pay113 k0_pay114 k0_pay115⟩

/-- Taking a tile in, with the values `vt` of its block. -/
def take (vt : Vec F S1x144x512 .bf16) (q : Tile F) (st : State F) : State F :=
  ⟨k0_pay12 st.m0 q.x0, k0_pay12 st.m1 q.x1, k0_pay13 vt q.s0 st.m0 q.x0 st.a0, k0_pay13 vt q.s1 st.m1 q.x1 st.a1⟩

/-- Nothing taken in yet: the maxima at the kernel's least value, the sums zero. -/
def start : State F :=
  ⟨View.ld k0_pay109 (Rect.unit (s := S2x8x512) ![0, 0, 0] S1x1x512.size inb_S2x8x512_S1x1x512_0_0_0),
   View.ld k0_pay109 (Rect.unit (s := S2x8x512) ![1, 0, 0] S1x1x512.size inb_S2x8x512_S1x1x512_1_0_0),
   View.ld k0_pay110 (Rect.unit (s := S2x144x512) ![0, 0, 0] S1x144x512.size inb_S2x144x512_S1x144x512_0_0_0),
   View.ld k0_pay110 (Rect.unit (s := S2x144x512) ![1, 0, 0] S1x144x512.size inb_S2x144x512_S1x144x512_1_0_0)⟩

/-- The key block taken in at step `n`: the diagonal one first, then those before it in order. -/
def ord (i n : ℕ) : ℕ := if n = 0 then i else n - 1

/-- The tile of step `n`. -/
def tile (a b : FVec F S128x512 .bf16) (K : Vec F S1x8192x128 .bf16) (i n : ℕ) : Tile F :=
  if n = 0 then masked a b (blk K i) else plain a b (blk K (n - 1))

/-- The state after `n` steps. -/
def state (a b : FVec F S128x512 .bf16) (K V : Vec F S1x8192x128 .bf16) (i : ℕ) : ℕ → State F
  | 0 => start
  | n + 1 => take (slot (blk V (ord i n))) (tile a b K i n) (state a b K V i n)

/-- What the kernel stores for a query block, of the final state. -/
def result (lam : Vec F S4x64 .f32) (g : Vec F S1x128 .f32) (st : State F) : FVec F S1x512x128 .bf16 :=
  k0_pay1
    (k0_pay131 (fun x => st.a0 (ix3 (0 : Fin 1) (⟨(x 1).val, (lt_trans (x 1).isLt (by decide : 128 < 144))⟩ : Fin 144) (x 2 : Fin 512)))
      (fun x => st.a0 (ix3 (0 : Fin 1) (128 : Fin 144) (x 2 : Fin 512))))
    (k0_pay132 (fun x => st.a1 (ix3 (0 : Fin 1) (⟨(x 1).val, (lt_trans (x 1).isLt (by decide : 128 < 144))⟩ : Fin 144) (x 2 : Fin 512)))
      (fun x => st.a1 (ix3 (0 : Fin 1) (128 : Fin 144) (x 2 : Fin 512))))
    (k0_pay133 lam) g

end Cert.KernelIdeal.Hand
-- ==== Proof.Ideal.Double.lean ====
/-
  One double step of the attention kernel's loop: it scores two key blocks and takes two tiles in, and leaves the scratch
  as the recursion says. The invariant names the scratch by what a load of each of its slots reads.
-/
module

public import proofs.«01_k».proof.Proof.Ideal.Model
public import Idealize.ShloMosaic.Lib.Exec
public import Idealize.ShloMosaic.Lib.Tactic
public import Idealize.ShloMosaic.Lib.Pipeline.Kit

@[expose] public section

set_option maxRecDepth 16384

noncomputable section

namespace Idealize.ShloMosaic.View

variable {sig : RefSig} {κ : Kind} {sp : Space} {s : Shape} {e : EltTy} {Val : EltTy → Type}

/-- A load through the last store's own rectangle reads its payload. -/
theorem load_last (v : View sig κ sp s e) (f : v.ty.Contents Val) (r : Rect s) (w : r.shape.Idx → Val e)
    (L : List (Piece Val s e)) : v.readAt Val r.toLoadRect (v.writes Val f (⟨r, w⟩ :: L)) = w := by
  funext j
  exact read_writes_cons_emb v f r w L j

/-- A load apart from the last store reads what was there before it. -/
theorem load_before (v : View sig κ sp s e) (f : v.ty.Contents Val) (r : Rect s) (w : r.shape.Idx → Val e)
    (L : List (Piece Val s e)) (B : LoadRect s) (h : LoadRect.disj r B = true) :
    v.readAt Val B (v.writes Val f (⟨r, w⟩ :: L)) = v.readAt Val B (v.writes Val f L) := by
  funext j
  simp only [readAt_apply]
  rw [writes_cons, read_slice_write_of_not_mem r _ _ _ (by rw [Rect.map_emb_univ]; exact LoadRect.idx_not_mem_of_disj h j)]

end Idealize.ShloMosaic.View

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (arg3 : Memref sig .tc .vmem S1x512x128 .f32) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S4x64 .f32) (harg6 : arg6.IsWhole)
  (arg7 : Memref sig .tc .vmem S1x128 .f32) (harg7 : arg7.IsWhole)
  (arg8 : Memref sig .tc .vmem S1x512x128 .bf16) (harg8 : arg8.IsWhole)
  (arg9 : Memref sig .tc .vmem S16x144x512 .bf16) (harg9 : arg9.IsWhole)
  (arg10 : Memref sig .tc .vmem S2x2x512x512 .f32) (harg10 : arg10.IsWhole)
  (arg11 : Memref sig .tc .vmem S2x2x8x512 .f32) (harg11 : arg11.IsWhole)
  (arg12 : Memref sig .tc .vmem S2x8x512 .f32) (harg12 : arg12.IsWhole)
  (arg13 : Memref sig .tc .vmem S2x144x512 .f32) (harg13 : arg13.IsWhole)

/-- Slot 0 of the score scratch holds the tile `q`. -/
structure HoldsTile (f10 : BufTy.Contents (Elt F) arg10.view.ty) (f11 : BufTy.Contents (Elt F) arg11.view.ty)
    (q : Tile F) : Prop where
  s0 : arg10.view.readAt (Elt F) (Rect.unit (s := S2x2x512x512) ![0, 0, 0, 0] S1x1x512x512.size inb_S2x2x512x512_S1x1x512x512_0_0_0_0).toLoadRect f10 = q.s0
  s1 : arg10.view.readAt (Elt F) (Rect.unit (s := S2x2x512x512) ![0, 1, 0, 0] S1x1x512x512.size inb_S2x2x512x512_S1x1x512x512_0_1_0_0).toLoadRect f10 = q.s1
  x0 : arg11.view.readAt (Elt F) (Rect.unit (s := S2x2x8x512) ![0, 0, 0, 0] S1x1x1x512.size inb_S2x2x8x512_S1x1x1x512_0_0_0_0).toLoadRect f11 = q.x0
  x1 : arg11.view.readAt (Elt F) (Rect.unit (s := S2x2x8x512) ![0, 1, 0, 0] S1x1x1x512.size inb_S2x2x8x512_S1x1x1x512_0_1_0_0).toLoadRect f11 = q.x1

/-- The running scratch holds the state `st`. -/
structure HoldsState (f12 : BufTy.Contents (Elt F) arg12.view.ty) (f13 : BufTy.Contents (Elt F) arg13.view.ty)
    (st : State F) : Prop where
  m0 : arg12.view.readAt (Elt F) (Rect.unit (s := S2x8x512) ![0, 0, 0] S1x1x512.size inb_S2x8x512_S1x1x512_0_0_0).toLoadRect f12 = st.m0
  m1 : arg12.view.readAt (Elt F) (Rect.unit (s := S2x8x512) ![1, 0, 0] S1x1x512.size inb_S2x8x512_S1x1x512_1_0_0).toLoadRect f12 = st.m1
  a0 : arg13.view.readAt (Elt F) (Rect.unit (s := S2x144x512) ![0, 0, 0] S1x144x512.size inb_S2x144x512_S1x144x512_0_0_0).toLoadRect f13 = st.a0
  a1 : arg13.view.readAt (Elt F) (Rect.unit (s := S2x144x512) ![1, 0, 0] S1x144x512.size inb_S2x144x512_S1x144x512_1_0_0).toLoadRect f13 = st.a1

/-- The value scratch holds every block of `V`, transposed. -/
def HoldsValues (f9 : BufTy.Contents (Elt F) arg9.view.ty) (V : Vec F S1x8192x128 .bf16) : Prop :=
  ∀ (n : ℕ) (_ : n < 16) (inb : ∀ a, (![n, 0, 0] : Fin 3 → ℕ) a + S1x144x512.size a ≤ S16x144x512.size a),
    arg9.view.readAt (Elt F) (Rect.unit (s := S16x144x512) ![n, 0, 0] S1x144x512.size inb).toLoadRect f9 = slot (blk V n)

/-- What the loop holds: the keys and the values, and scratch with the next tile and the running state. -/
abbrev held (c : Dev nD) (f4 : BufTy.Contents (Elt F) arg4.view.ty) (f9 : BufTy.Contents (Elt F) arg9.view.ty)
    (q : Tile F) (st : State F) : sProp 𝕄 :=
  iprop((arg4.view.loc (c : Thread nD τ) ↦[arg4.view.set]{fullShare} f4) ∗ (arg9.view.loc (c : Thread nD τ) ↦[arg9.view.set]{fullShare} f9) ∗
    (∃ f10, ∃ f11, ∃ f12, ∃ f13, ⌜HoldsTile arg10 arg11 f10 f11 q ∧ HoldsState arg12 arg13 f12 f13 st⌝ ∗
      (arg10.view.loc (c : Thread nD τ) ↦[arg10.view.set]{fullShare} f10) ∗ (arg11.view.loc (c : Thread nD τ) ↦[arg11.view.set]{fullShare} f11) ∗
      (arg12.view.loc (c : Thread nD τ) ↦[arg12.view.set]{fullShare} f12) ∗ (arg13.view.loc (c : Thread nD τ) ↦[arg13.view.set]{fullShare} f13)))

/-- A load of value slot `n`. -/
theorem HoldsValues.load {arg9 : Memref sig .tc .vmem S16x144x512 .bf16} {f9 : BufTy.Contents (Elt F) arg9.view.ty}
    {V : Vec F S1x8192x128 .bf16} (h : HoldsValues arg9 f9 V) {off : Fin 3 → ℕ}
    (inb : ∀ a, off a + S1x144x512.size a ≤ S16x144x512.size a) (n : ℕ) (hn : n < 16) (e : off = ![n, 0, 0]) :
    arg9.view.readAt (Elt F) (Rect.unit (s := S16x144x512) off S1x144x512.size inb).toLoadRect f9 = slot (blk V n) := by
  subst e
  exact h n hn inb

/-- A load of key block `n`. -/
theorem load_blk {arg4 : Memref sig .tc .vmem S1x8192x128 .bf16} {f4 : BufTy.Contents (Elt F) arg4.view.ty}
    {K : Vec F S1x8192x128 .bf16} (h : arg4.view.read (Elt F) f4 = K) {off : Fin 3 → ℕ}
    (inb : ∀ a, off a + S1x512x128.size a ≤ S1x8192x128.size a) (n : ℕ) (hn : n < 16) (e : off = ![0, 512 * n, 0]) :
    arg4.view.readAt (Elt F) (Rect.unit (s := S1x8192x128) off S1x512x128.size inb).toLoadRect f4 = blk K n := by
  subst h
  exact ld_blk _ inb n hn e

/-! The kernel states one computation once per place it stands: the copies are the first. -/

theorem copy17 (m : Vec F S1x1x512 .f32) (x : Vec F S1x1x1x512 .f32) : k0_pay17 m x = k0_pay12 m x := rfl
theorem copy30 (m : Vec F S1x1x512 .f32) (x : Vec F S1x1x1x512 .f32) : k0_pay30 (k0_pay29 m x) = k0_pay12 m x := rfl
theorem copy36 (m : Vec F S1x1x512 .f32) (x : Vec F S1x1x1x512 .f32) : k0_pay36 m x = k0_pay12 m x := rfl
theorem copy18 (vt : Vec F S1x144x512 .bf16) (s : Vec F S1x1x512x512 .f32) (m : Vec F S1x1x512 .f32)
    (x : Vec F S1x1x1x512 .f32) (a : Vec F S1x144x512 .f32) :
    k0_pay18 (k0_pay9 vt) (k0_pay14 s) m x a = k0_pay13 vt s m x a := rfl
theorem copy31 (vt : Vec F S1x144x512 .bf16) (s : Vec F S1x1x512x512 .f32) (m : Vec F S1x1x512 .f32)
    (x : Vec F S1x1x1x512 .f32) (a : Vec F S1x144x512 .f32) :
    k0_pay31 (k0_pay26 vt) (k0_pay27 s) (k0_pay28 m) (k0_pay29 m x) a = k0_pay13 vt s m x a := rfl
theorem copy123 (vt : Vec F S1x144x512 .bf16) (s : Vec F S1x1x512x512 .f32) (m : Vec F S1x1x512 .f32)
    (x : Vec F S1x1x1x512 .f32) (a : Vec F S1x144x512 .f32) :
    k0_pay123 (k0_pay26 vt) (k0_pay34 m x) (k0_pay35 s m x) a = k0_pay13 vt s m x a := rfl
theorem copy21 (q : FVec F S128x512 .bf16) (k : Vec F S1x512x128 .bf16) : k0_pay21 (k0_pay20 q k) = k0_pay4 q k := rfl
theorem copy22 (q : FVec F S128x512 .bf16) (k : Vec F S1x512x128 .bf16) : k0_pay22 (k0_pay20 q k) = k0_pay5 q k := rfl
theorem copy24 (q : FVec F S128x512 .bf16) (k : Vec F S1x512x128 .bf16) : k0_pay24 q (k0_pay19 k) = k0_pay7 q k := rfl
theorem copy25 (q : FVec F S128x512 .bf16) (k : Vec F S1x512x128 .bf16) : k0_pay25 q (k0_pay19 k) = k0_pay8 q k := rfl

/-- Two steps of the recursion, at an even step. -/
theorem state_two (a b : FVec F S128x512 .bf16) (K V : Vec F S1x8192x128 .bf16) (i n : ℕ) :
    state a b K V i (2 * (n + 1)) =
      take (slot (blk V (2 * n))) (plain a b (blk K (2 * n)))
        (take (slot (blk V (if n = 0 then i else 2 * n - 1))) (tile a b K i (2 * n)) (state a b K V i (2 * n))) := by
  have h1 : tile a b K i (2 * n + 1) = plain a b (blk K (2 * n)) := by
    unfold tile; rw [if_neg (by omega)]; rfl
  have h2 : ord i (2 * n) = if n = 0 then i else 2 * n - 1 := by
    unfold ord; exact if_congr (by omega) rfl rfl
  have h3 : ord i (2 * n + 1) = 2 * n := by
    unfold ord; rw [if_neg (by omega)]; rfl
  rw [show 2 * (n + 1) = 2 * n + 1 + 1 by omega, state, state, h1, h2, h3]

/-- The tile after a double step. -/
theorem tile_two (a b : FVec F S128x512 .bf16) (K : Vec F S1x8192x128 .bf16) (i n : ℕ) :
    tile a b K i (2 * (n + 1)) = plain a b (blk K (2 * n + 1)) := by
  unfold tile; rw [if_neg (by omega)]; rfl

/-- One double step. -/
theorem double (𝒱 : Variants) (c : Dev nD) (bd : Option 𝒱.V) (E : Set ℕ) (i : grid0.Coords) (arg2 : BitVec 32)
    (v12 v17 : FVec F S128x512 .bf16) (c2_i32 v104 v109 c0_i32_51 : BitVec 32)
    (f4 : BufTy.Contents (Elt F) arg4.view.ty) (f9 : BufTy.Contents (Elt F) arg9.view.ty)
    (K V : Vec F S1x8192x128 .bf16) (h4 : arg4.view.read (Elt F) f4 = K) (h9 : HoldsValues arg9 f9 V)
    (k : Fin (k0_t2_loop i).trips) :
    held arg4 arg9 arg10 arg11 arg12 arg13 c f4 f9 (tile v12 v17 K (i 2).val (2 * k.val)) (state v12 v17 K V (i 2).val (2 * k.val)) ⊢
      wp frame (wpE (defs₀ (F := F)) 𝒱 (c : Thread nD τ) bd) E
        (k0_t2_body (F := F) i arg3 harg3 arg4 harg4 arg5 harg5 arg6 harg6 arg7 harg7 arg8 harg8 arg9 harg9 arg10 harg10 arg11 harg11 arg12 harg12 arg13 harg13 arg2 v12 v17 c2_i32 v104 v109 c0_i32_51 k PUnit.unit)
        (fun _ => held arg4 arg9 arg10 arg11 arg12 arg13 c f4 f9 (tile v12 v17 K (i 2).val (2 * (k.val + 1))) (state v12 v17 K V (i 2).val (2 * (k.val + 1)))) := by
  unfold k0_t2_body
  simp only [k0_part1_eq_skeleton, k0_part2_eq_skeleton, k0_part3_eq_skeleton, k0_part4_eq_skeleton, k0_part5_eq_skeleton]
  iintro ⟨H4, H9, ⟨%f10, %f11, %f12, %f13, %hh, H10, H11, H12, H13⟩⟩
  sl_exec
  sl_step
  isplitl [H4]; · iexact H4
  isplitl [H9]; · iexact H9
  iexists _, _, _, _
  isplitr [H10 H11 H12 H13]
  rotate_left
  · isplitl [H10]; · iexact H10
    isplitl [H11]; · iexact H11
    isplitl [H12]; · iexact H12
    iexact H13
  ipureintro
  sl_unfold_run_names
  have hk := trip_lt i k
  have hi := row_lt i
  obtain ⟨ht, hs⟩ := hh
  have e5 := load_blk h4 (k0_off5_inb i k) (2 * k.val) (by omega) (off5_eq i k)
  have e7 := load_blk h4 (k0_off7_inb i k) (2 * k.val + 1) (by omega) (off7_eq i k)
  have e6 := h9.load (k0_off6_inb i k) (if k.val = 0 then (i 2).val else 2 * k.val - 1) (by split <;> omega) (off6_eq i k)
  have e8 := h9.load (k0_off8_inb i k) (2 * k.val) (by omega) (off8_eq i k)
  rw [state_two, tile_two]
  refine ⟨⟨?_, ?_, ?_, ?_⟩, ⟨?_, ?_, ?_, ?_⟩⟩
  all_goals
    simp (disch := decide) only [↓ View.load_before, ↓ View.load_last, ↓ View.readCov_skip, ↓ View.readCov_cons_toLoadRect,
      e5, e6, e7, e8, ht.s0, ht.s1, ht.x0, ht.x1, hs.m0, hs.m1, hs.a0, hs.a1, copy17, copy18, copy21, copy22, copy24,
      copy25, copy30, copy31, copy36, copy123, take, plain]

end Cert.KernelIdeal.Hand
-- ==== Proof.Ideal.Fill.lean ====
/-
  Filling the value scratch: one trip stores one block of values, transposed, with its rows of ones; after sixteen the
  scratch holds every block.
-/
module

public import proofs.«01_k».proof.Proof.Ideal.Double

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (arg3 : Memref sig .tc .vmem S1x512x128 .f32) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S4x64 .f32) (harg6 : arg6.IsWhole)
  (arg7 : Memref sig .tc .vmem S1x128 .f32) (harg7 : arg7.IsWhole)
  (arg8 : Memref sig .tc .vmem S1x512x128 .bf16) (harg8 : arg8.IsWhole)
  (arg9 : Memref sig .tc .vmem S16x144x512 .bf16) (harg9 : arg9.IsWhole)
  (arg10 : Memref sig .tc .vmem S2x2x512x512 .f32) (harg10 : arg10.IsWhole)
  (arg11 : Memref sig .tc .vmem S2x2x8x512 .f32) (harg11 : arg11.IsWhole)
  (arg12 : Memref sig .tc .vmem S2x8x512 .f32) (harg12 : arg12.IsWhole)
  (arg13 : Memref sig .tc .vmem S2x144x512 .f32) (harg13 : arg13.IsWhole)

/-- Where a rectangle places an index. -/
theorem emb_unit {s : Shape} (off size : Fin s.rank → ℕ) (inb : ∀ a, off a + size a ≤ s.size a)
    (j : (Rect.unit off size inb).shape.Idx) (a : Fin s.rank) :
    ((Rect.unit off size inb).emb j a).val = off a + (j a).val := by
  rw [Rect.emb_apply]
  show off a + 1 * (j a).val = _
  omega

/-- What the value scratch is to hold, index by index. -/
def slots (V : Vec F S1x8192x128 .bf16) : S16x144x512.Idx → Elt F .bf16 := fun y =>
  slot (blk V (y 0).val) (ix3 (0 : Fin 1) (y 1 : Fin 144) (y 2 : Fin 512))

/-- An index in slot `n` reads that slot. -/
theorem slots_eq (V : Vec F S1x8192x128 .bf16) (y : S16x144x512.Idx) (n : ℕ) (j : S1x144x512.Idx)
    (h0 : (y 0).val = n) (h1 : (y 1).val = (j 1).val) (h2 : (y 2).val = (j 2).val) : slots V y = slot (blk V n) j := by
  unfold slots
  rw [h0]
  congr 1
  funext a
  match a with
  | 0 => exact Fin.ext (by have : (j 0).val < 1 := (j 0).isLt; show 0 = (j 0).val; omega)
  | 1 => exact Fin.ext h1
  | 2 => exact Fin.ext h2

/-- The first `n` slots of the value scratch are filled. -/
def Filled (f9 : BufTy.Contents (Elt F) arg9.view.ty) (V : Vec F S1x8192x128 .bf16) (n : ℕ) : Prop :=
  ∀ y : S16x144x512.Idx, (y 0).val < n → arg9.view.read (Elt F) f9 y = slots V y

/-- Scratch filled throughout holds the values. -/
theorem Filled.holds {arg9 : Memref sig .tc .vmem S16x144x512 .bf16} {f9 : BufTy.Contents (Elt F) arg9.view.ty}
    {V : Vec F S1x8192x128 .bf16} (h : Filled arg9 f9 V 16) : HoldsValues arg9 f9 V := by
  intro n hn inb
  rw [View.readAt_eq_ld]
  funext j
  have h0 : (j 0).val = 0 := by have : (j 0).val < 1 := (j 0).isLt; omega
  have e (a : Fin 3) : ((Rect.unit (s := S16x144x512) ![n, 0, 0] S1x144x512.size inb).emb j a).val =
      (![n, 0, 0] : Fin 3 → ℕ) a + (j a).val := emb_unit _ _ _ _ _
  have e0 := e 0
  have e1 := e 1
  have e2 := e 2
  simp only [Matrix.cons_val, h0] at e0 e1 e2
  refine (h _ ?_).trans (slots_eq V _ n j e0 (e1.trans (Nat.zero_add _)) (e2.trans (Nat.zero_add _)))
  exact lt_of_eq_of_lt e0 hn

/-- Storing block `n` and its rows of ones fills slot `n`. -/
theorem Filled.step {arg9 : Memref sig .tc .vmem S16x144x512 .bf16} {f9 : BufTy.Contents (Elt F) arg9.view.ty}
    {V : Vec F S1x8192x128 .bf16} {n : ℕ} (h : Filled arg9 f9 V n) {o o' : Fin 3 → ℕ}
    (inb : ∀ a, o a + S1x128x512.size a ≤ S16x144x512.size a) (inb' : ∀ a, o' a + S1x16x512.size a ≤ S16x144x512.size a)
    (e : o = ![n, 0, 0]) (e' : o' = ![n, 128, 0]) :
    Filled arg9 (arg9.view.writes (Elt F) f9
      [⟨Rect.unit (s := S16x144x512) o' S1x16x512.size inb', k0_pay105⟩,
       ⟨Rect.unit (s := S16x144x512) o S1x128x512.size inb, k0_pay104 (blk V n)⟩]) V (n + 1) := by
  subst e; subst e'
  intro y hy
  by_cases hn : (y 0).val < n
  · rw [View.read_writes_apply_of_forall_not_mem]
    · exact h y hn
    · intro p hp hm
      simp only [List.mem_cons, List.not_mem_nil, _root_.or_false] at hp
      rcases hp with rfl | rfl
      · exact hn.not_ge (Rect.mem_set_unit (inb := inb') |>.mp hm 0).1
      · exact hn.not_ge (Rect.mem_set_unit (inb := inb) |>.mp hm 0).1
  · have hy0 : (y 0).val = n := by omega
    refine View.read_writes_apply_of_pieces _ _ (slots V) _ ?_ y ?_
    · intro p hp x
      simp only [List.mem_cons, List.not_mem_nil, _root_.or_false] at hp
      rcases hp with rfl | rfl
      · have e (a : Fin 3) : ((Rect.unit (s := S16x144x512) ![n, 128, 0] S1x16x512.size inb').emb x a).val =
            (![n, 128, 0] : Fin 3 → ℕ) a + (x a).val := emb_unit _ _ _ _ _
        have e0 := e 0
        have e1 := e 1
        have e2 := e 2
        have x0 : (x 0).val < 1 := (x 0).isLt
        have x1 : (x 1).val < 16 := (x 1).isLt
        simp only [Matrix.cons_val] at e0 e1 e2
        rw [slots_eq V _ n (ix3 (0 : Fin 1) (⟨128 + (x 1).val, by omega⟩ : Fin 144) (x 2 : Fin 512)) (e0.trans (by rw [Nat.lt_one_iff.mp x0]; rfl)) e1 (e2.trans (Nat.zero_add _))]
        unfold slot
        rw [dif_neg (by show ¬ (128 + (x 1).val < 128); omega)]
        show k0_pay105 x = _
        congr 1
        funext a
        match a with
        | 0 => exact Fin.ext (by show (x 0).val = 0; omega)
        | 1 => exact Fin.ext (by show (x 1).val = 128 + (x 1).val - 128; omega)
        | 2 => rfl
      · have e (a : Fin 3) : ((Rect.unit (s := S16x144x512) ![n, 0, 0] S1x128x512.size inb).emb x a).val =
            (![n, 0, 0] : Fin 3 → ℕ) a + (x a).val := emb_unit _ _ _ _ _
        have e0 := e 0
        have e1 := e 1
        have e2 := e 2
        have x0 : (x 0).val < 1 := (x 0).isLt
        have x1 : (x 1).val < 128 := (x 1).isLt
        simp only [Matrix.cons_val] at e0 e1 e2
        rw [slots_eq V _ n (ix3 (0 : Fin 1) (⟨(x 1).val, by omega⟩ : Fin 144) (x 2 : Fin 512)) (e0.trans (by rw [Nat.lt_one_iff.mp x0]; rfl)) (e1.trans (Nat.zero_add _)) (e2.trans (Nat.zero_add _))]
        unfold slot
        rw [dif_pos (by exact x1)]
        show k0_pay104 (blk V n) x = _
        congr 1
        funext a
        match a with
        | 0 => exact Fin.ext (by show (x 0).val = 0; omega)
        | 1 => rfl
        | 2 => rfl
    · have y1 : (y 1).val < 144 := (y 1).isLt
      have y2 : (y 2).val < 512 := (y 2).isLt
      by_cases h1 : (y 1).val < 128
      · refine ⟨_, List.mem_cons_of_mem _ List.mem_cons_self, (Rect.mem_set_unit (inb := inb)).mpr fun a => ?_⟩
        match a with
        | 0 => exact ⟨hy0.ge, by show (y 0).val < n + 1; omega⟩
        | 1 => exact ⟨Nat.zero_le _, by show (y 1).val < 0 + 128; omega⟩
        | 2 => exact ⟨Nat.zero_le _, by show (y 2).val < 0 + 512; omega⟩
      · refine ⟨_, List.mem_cons_self, (Rect.mem_set_unit (inb := inb')).mpr fun a => ?_⟩
        match a with
        | 0 => exact ⟨hy0.ge, by show (y 0).val < n + 1; omega⟩
        | 1 => exact ⟨by show 128 ≤ (y 1).val; omega, by show (y 1).val < 128 + 16; omega⟩
        | 2 => exact ⟨Nat.zero_le _, by show (y 2).val < 0 + 512; omega⟩

/-- What the filling loop holds: the values, and the scratch with its first `n` slots filled. -/
abbrev filling (c : Dev nD) (f5 : BufTy.Contents (Elt F) arg5.view.ty) (V : Vec F S1x8192x128 .bf16) (n : ℕ) : sProp 𝕄 :=
  iprop((arg5.view.loc (c : Thread nD τ) ↦[arg5.view.set]{fullShare} f5) ∗
    (∃ f9, ⌜Filled arg9 f9 V n⌝ ∗ (arg9.view.loc (c : Thread nD τ) ↦[arg9.view.set]{fullShare} f9)))

/-- One trip of the filling loop. -/
theorem fill_trip (𝒱 : Variants) (c : Dev nD) (bd : Option 𝒱.V) (E : Set ℕ) (i : grid0.Coords) (h1 : k0_cond1 i = 1#1)
    (f5 : BufTy.Contents (Elt F) arg5.view.ty) (V : Vec F S1x8192x128 .bf16) (h5 : arg5.view.read (Elt F) f5 = V)
    (k : Fin k0_t1_loop.trips) :
    filling arg5 arg9 c f5 V k.val ⊢
      wp frame (wpE (defs₀ (F := F)) 𝒱 (c : Thread nD τ) bd) E
        (k0_t1_body (F := F) i arg3 harg3 arg4 harg4 arg5 harg5 arg6 harg6 arg7 harg7 arg8 harg8 arg9 harg9 arg10 harg10 arg11 harg11 arg12 harg12 arg13 harg13 h1 k PUnit.unit)
        (fun _ => filling arg5 arg9 c f5 V (k.val + 1)) := by
  unfold k0_t1_body
  iintro ⟨H5, ⟨%f9, %hf, H9⟩⟩
  sl_exec
  sl_step
  isplitl [H5]; · iexact H5
  iexists _
  isplitr [H9]
  rotate_left
  · iexact H9
  ipureintro
  have hk : k.val < 16 := k.isLt
  have e1 := load_blk h5 (k0_off1_inb i k h1) k.val hk (k0_off1_eq k)
  sl_unfold_run_names
  simp only [e1]
  exact hf.step _ _ (k0_off2_eq k) (k0_off3_eq k)

end Cert.KernelIdeal.Hand
-- ==== Proof.Ideal.Tail.lean ====
/-
  The attention kernel's last one or two steps at a grid point, and the loads of the final sums: the recursion's
  equations there and what the loads read.
-/
module

public import proofs.«01_k».proof.Proof.Ideal.Fill

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A load after a store of the whole array reads the payload. -/
theorem load_whole {s : Shape} {e : EltTy} (v : View sig .tc .vmem s e) (f : v.ty.Contents (Elt F)) (off : Fin s.rank → ℕ)
    (ho : ∀ a, off a = 0) (inb : ∀ a, off a + s.size a ≤ s.size a) (w : s.Idx → Elt F e) (L : List (View.Piece (Elt F) s e))
    (r : Rect s) :
    v.readAt (Elt F) r.toLoadRect (v.writes (Elt F) f (⟨Rect.unit off s.size inb, w⟩ :: L)) = View.ld w r := by
  obtain rfl : off = fun _ => 0 := funext ho
  funext j
  have h : (Rect.unit (fun _ => 0) s.size inb).emb (r.emb j) = r.emb j := by
    funext a
    apply Fin.ext
    rw [emb_unit]
    omega
  have := View.read_writes_cons_emb v f (Rect.unit (fun _ => 0) s.size inb) w L (r.emb j)
  rw [h] at this
  exact this

/-- The contents after a store of the whole array. -/
theorem read_whole {s : Shape} {e : EltTy} (v : View sig .tc .vmem s e) (f : v.ty.Contents (Elt F)) (off : Fin s.rank → ℕ)
    (ho : ∀ a, off a = 0) (inb : ∀ a, off a + s.size a ≤ s.size a) (w : s.Idx → Elt F e) (L : List (View.Piece (Elt F) s e)) :
    v.read (Elt F) (v.writes (Elt F) f (⟨Rect.unit off s.size inb, w⟩ :: L)) = w := by
  obtain rfl : off = fun _ => 0 := funext ho
  funext j
  have h : (Rect.unit (fun _ => 0) s.size inb).emb j = j := by
    funext a
    apply Fin.ext
    rw [emb_unit]
    omega
  have := View.read_writes_cons_emb v f (Rect.unit (fun _ => 0) s.size inb) w L j
  rw [h] at this
  exact this

/-- A load of the whole array. -/
theorem load_all {s : Shape} {e : EltTy} {v : View sig .tc .vmem s e} {f : v.ty.Contents (Elt F)} {X : s.Idx → Elt F e}
    (hX : v.read (Elt F) f = X) (off : Fin s.rank → ℕ) (ho : ∀ a, off a = 0) (inb : ∀ a, off a + s.size a ≤ s.size a) :
    v.readAt (Elt F) (Rect.unit off s.size inb).toLoadRect f = X := by
  subst hX
  obtain rfl : off = fun _ => 0 := funext ho
  rw [View.readAt_eq_ld]
  funext j
  have h : (Rect.unit (fun _ => 0) s.size inb).emb j = j := by
    funext a
    apply Fin.ext
    rw [emb_unit]
    omega
  exact congrArg (v.read (Elt F) f) h

/-- The rows of values of a slot just stored. -/
theorem load_top (v : View sig .tc .vmem S2x144x512 .f32) (s : ℕ)
    (inb : ∀ a, (![s, 0, 0] : Fin 3 → ℕ) a + S1x144x512.size a ≤ S2x144x512.size a)
    (inb' : ∀ a, (![s, 0, 0] : Fin 3 → ℕ) a + S1x128x512.size a ≤ S2x144x512.size a)
    (w : Vec F S1x144x512 .f32) (L : List (View.Piece (Elt F) S2x144x512 .f32)) :
    v.readCov ((⟨Rect.unit (s := S2x144x512) ![s, 0, 0] S1x144x512.size inb, w⟩ : View.Piece (Elt F) S2x144x512 .f32) :: L)
      (Rect.unit (s := S2x144x512) ![s, 0, 0] S1x128x512.size inb').toLoadRect =
    fun x => w (ix3 (0 : Fin 1) (⟨(x 1).val, (lt_trans (x 1).isLt (by decide : 128 < 144))⟩ : Fin 144) (x 2 : Fin 512)) := by
  rw [View.readCov_eq_canon']
  funext x
  rw [← View.canon_cons_emb (Rect.unit (s := S2x144x512) ![s, 0, 0] S1x144x512.size inb) w L]
  congr 1
  funext a
  apply Fin.ext
  rw [emb_unit]
  have h0 : (x 0).val < 1 := (x 0).isLt
  match a with
  | 0 => show s + 1 * (x 0).val = s + 0; omega
  | 1 => show 0 + 1 * (x 1).val = 0 + (x 1).val; omega
  | 2 => show 0 + 1 * (x 2).val = 0 + (x 2).val; omega

/-- The row of weights' sums of a slot just stored. -/
theorem load_ones (v : View sig .tc .vmem S2x144x512 .f32) (s : ℕ)
    (inb : ∀ a, (![s, 0, 0] : Fin 3 → ℕ) a + S1x144x512.size a ≤ S2x144x512.size a)
    (inb' : ∀ a, (![s, 128, 0] : Fin 3 → ℕ) a + S1x1x512.size a ≤ S2x144x512.size a)
    (w : Vec F S1x144x512 .f32) (L : List (View.Piece (Elt F) S2x144x512 .f32)) :
    v.readCov ((⟨Rect.unit (s := S2x144x512) ![s, 0, 0] S1x144x512.size inb, w⟩ : View.Piece (Elt F) S2x144x512 .f32) :: L)
      (Rect.unit (s := S2x144x512) ![s, 128, 0] S1x1x512.size inb').toLoadRect =
    fun x => w (ix3 (0 : Fin 1) (128 : Fin 144) (x 2 : Fin 512)) := by
  rw [View.readCov_eq_canon']
  funext x
  rw [← View.canon_cons_emb (Rect.unit (s := S2x144x512) ![s, 0, 0] S1x144x512.size inb) w L]
  congr 1
  funext a
  apply Fin.ext
  rw [emb_unit]
  have h0 : (x 0).val < 1 := (x 0).isLt
  have h1 : (x 1).val < 1 := (x 1).isLt
  match a with
  | 0 => show s + 1 * (x 0).val = s + 0; omega
  | 1 => show 128 + 1 * (x 1).val = 0 + 128; omega
  | 2 => show 0 + 1 * (x 2).val = 0 + (x 2).val; omega

/-- `load_top` where the stored rectangle's sizes are spelled out. -/
theorem load_top_lit (v : View sig .tc .vmem S2x144x512 .f32) (s : ℕ)
    (inb : ∀ a, (![s, 0, 0] : Fin 3 → ℕ) a + (![1, 144, 512] : Fin 3 → ℕ) a ≤ S2x144x512.size a)
    (inb' : ∀ a, (![s, 0, 0] : Fin 3 → ℕ) a + (![1, 128, 512] : Fin 3 → ℕ) a ≤ S2x144x512.size a)
    (w : (Rect.unit (s := S2x144x512) ![s, 0, 0] ![1, 144, 512] inb).shape.Idx → Elt F .f32)
    (L : List (View.Piece (Elt F) S2x144x512 .f32)) :
    v.readCov ((⟨Rect.unit (s := S2x144x512) ![s, 0, 0] ![1, 144, 512] inb, w⟩ : View.Piece (Elt F) S2x144x512 .f32) :: L)
      (Rect.unit (s := S2x144x512) ![s, 0, 0] ![1, 128, 512] inb').toLoadRect =
    fun x : S1x128x512.Idx => w (ix3 (0 : Fin 1) (⟨(x 1).val, (lt_trans (x 1).isLt (by decide : 128 < 144))⟩ : Fin 144) (x 2 : Fin 512)) :=
  load_top v s inb inb' w L

/-- `load_ones` likewise. -/
theorem load_ones_lit (v : View sig .tc .vmem S2x144x512 .f32) (s : ℕ)
    (inb : ∀ a, (![s, 0, 0] : Fin 3 → ℕ) a + (![1, 144, 512] : Fin 3 → ℕ) a ≤ S2x144x512.size a)
    (inb' : ∀ a, (![s, 128, 0] : Fin 3 → ℕ) a + (![1, 1, 512] : Fin 3 → ℕ) a ≤ S2x144x512.size a)
    (w : (Rect.unit (s := S2x144x512) ![s, 0, 0] ![1, 144, 512] inb).shape.Idx → Elt F .f32)
    (L : List (View.Piece (Elt F) S2x144x512 .f32)) :
    v.readCov ((⟨Rect.unit (s := S2x144x512) ![s, 0, 0] ![1, 144, 512] inb, w⟩ : View.Piece (Elt F) S2x144x512 .f32) :: L)
      (Rect.unit (s := S2x144x512) ![s, 128, 0] ![1, 1, 512] inb').toLoadRect =
    fun x : S1x1x512.Idx => w (ix3 (0 : Fin 1) (128 : Fin 144) (x 2 : Fin 512)) :=
  load_ones v s inb inb' w L

/-- The first tile is the diagonal one. -/
theorem tile_zero (a b : FVec F S128x512 .bf16) (K : Vec F S1x8192x128 .bf16) (i : ℕ) :
    tile a b K i (2 * 0) = masked a b (blk K i) := rfl

/-- The last step at an even query block. -/
theorem state_even (a b : FVec F S128x512 .bf16) (K V : Vec F S1x8192x128 .bf16) (i : ℕ) (h : i % 2 = 0) :
    state a b K V i (i + 1) =
      take (slot (blk V (i - 1))) (tile a b K i (2 * (i / 2))) (state a b K V i (2 * (i / 2))) := by
  have h1 : 2 * (i / 2) = i := by omega
  have h2 : ord i i = i - 1 := by unfold ord; split <;> omega
  rw [h1, state, h2]

/-- The last two steps at an odd query block. -/
theorem state_odd (a b : FVec F S128x512 .bf16) (K V : Vec F S1x8192x128 .bf16) (i : ℕ) (h : i % 2 = 1) :
    state a b K V i (i + 1) =
      take (slot (blk V (i - 1))) (plain a b (blk K (i - 1)))
        (take (slot (blk V (if i = 1 then i else i - 2))) (tile a b K i (2 * (i / 2))) (state a b K V i (2 * (i / 2)))) := by
  have h1 : 2 * (i / 2) = i - 1 := by omega
  have h2 : (if i / 2 = 0 then i else 2 * (i / 2) - 1) = if i = 1 then i else i - 2 := by
    split <;> split <;> omega
  rw [show i + 1 = 2 * (i / 2 + 1) by omega, state_two, h2, h1]

theorem copy82 (m : Vec F S1x1x512 .f32) (x : Vec F S1x1x1x512 .f32) : k0_pay82 m x = k0_pay12 m x := rfl
theorem copy87 (m : Vec F S1x1x512 .f32) (x : Vec F S1x1x1x512 .f32) : k0_pay87 m x = k0_pay12 m x := rfl
theorem copy93 (m : Vec F S1x1x512 .f32) (x : Vec F S1x1x1x512 .f32) : k0_pay93 (k0_pay91 m) x = k0_pay12 m x := rfl
theorem copy125 (m : Vec F S1x1x512 .f32) (x : Vec F S1x1x1x512 .f32) : k0_pay125 (k0_pay96 m x) = k0_pay12 m x := rfl
theorem copy102 (m : Vec F S1x1x512 .f32) (x : Vec F S1x1x1x512 .f32) : k0_pay102 m x = k0_pay12 m x := rfl
theorem copy129 (m : Vec F S1x1x512 .f32) (x : Vec F S1x1x1x512 .f32) : k0_pay129 m x = k0_pay12 m x := rfl
theorem copy83 (vt : Vec F S1x144x512 .bf16) (s : Vec F S1x1x512x512 .f32) (m : Vec F S1x1x512 .f32)
    (x : Vec F S1x1x1x512 .f32) (a : Vec F S1x144x512 .f32) : k0_pay83 vt s m x a = k0_pay13 vt s m x a := rfl
theorem copy88 (vt : Vec F S1x144x512 .bf16) (s : Vec F S1x1x512x512 .f32) (m : Vec F S1x1x512 .f32)
    (x : Vec F S1x1x1x512 .f32) (a : Vec F S1x144x512 .f32) :
    k0_pay88 (k0_pay79 vt) (k0_pay84 s) m x a = k0_pay13 vt s m x a := rfl
theorem copy94 (vt : Vec F S1x144x512 .bf16) (s : Vec F S1x1x512x512 .f32) (m : Vec F S1x1x512 .f32)
    (x : Vec F S1x1x1x512 .f32) (a : Vec F S1x144x512 .f32) :
    k0_pay94 (k0_pay89 vt) (k0_pay90 s) (k0_pay91 m) x a = k0_pay13 vt s m x a := rfl
theorem copy126 (vt : Vec F S1x144x512 .bf16) (s : Vec F S1x1x512x512 .f32) (m : Vec F S1x1x512 .f32)
    (x : Vec F S1x1x1x512 .f32) (a : Vec F S1x144x512 .f32) :
    k0_pay126 (k0_pay89 vt) (k0_pay97 m x) (k0_pay98 s m x) a = k0_pay13 vt s m x a := rfl
theorem copy103 (vt : Vec F S1x144x512 .bf16) (s : Vec F S1x1x512x512 .f32) (m : Vec F S1x1x512 .f32)
    (x : Vec F S1x1x1x512 .f32) (a : Vec F S1x144x512 .f32) : k0_pay103 vt s m x a = k0_pay13 vt s m x a := rfl
theorem copy130 (vt : Vec F S1x144x512 .bf16) (s : Vec F S1x1x512x512 .f32) (m : Vec F S1x1x512 .f32)
    (x : Vec F S1x1x1x512 .f32) (a : Vec F S1x144x512 .f32) :
    k0_pay130 (k0_pay99 vt) s m x a = k0_pay13 vt s m x a := rfl
theorem copy74 (q : FVec F S128x512 .bf16) (k : Vec F S1x512x128 .bf16) : k0_pay74 q k = k0_pay4 q k := rfl
theorem copy75 (q : FVec F S128x512 .bf16) (k : Vec F S1x512x128 .bf16) : k0_pay75 q k = k0_pay5 q k := rfl
theorem copy77 (q : FVec F S128x512 .bf16) (k : Vec F S1x512x128 .bf16) : k0_pay77 q k = k0_pay7 q k := rfl
theorem copy78 (q : FVec F S128x512 .bf16) (k : Vec F S1x512x128 .bf16) : k0_pay78 q k = k0_pay8 q k := rfl

/-- What is stored, of any loads of the final sums that read them. -/
theorem result_eq (lam lam' : Vec F S4x64 .f32) (g g' : Vec F S1x128 .f32) (st : State F)
    (t0 t1 : Vec F S1x128x512 .f32) (o0 o1 : Vec F S1x1x512 .f32) (hl : lam' = lam) (hg : g' = g)
    (h0 : t0 = fun x => st.a0 (ix3 (0 : Fin 1) (⟨(x 1).val, (lt_trans (x 1).isLt (by decide : 128 < 144))⟩ : Fin 144) (x 2 : Fin 512)))
    (h1 : o0 = fun x => st.a0 (ix3 (0 : Fin 1) (128 : Fin 144) (x 2 : Fin 512)))
    (h2 : t1 = fun x => st.a1 (ix3 (0 : Fin 1) (⟨(x 1).val, (lt_trans (x 1).isLt (by decide : 128 < 144))⟩ : Fin 144) (x 2 : Fin 512)))
    (h3 : o1 = fun x => st.a1 (ix3 (0 : Fin 1) (128 : Fin 144) (x 2 : Fin 512))) :
    k0_pay1 (k0_pay131 t0 o0) (k0_pay132 t1 o1) (k0_pay133 lam') g' = result lam g st := by
  subst hl hg h0 h1 h2 h3
  rfl

end Cert.KernelIdeal.Hand
-- ==== Proof.Ideal.Body.lean ====
/-
  The attention kernel's body at one grid point: from the staged blocks and a value scratch already filled (or, at the
  first query block, whatever is there) it stores the result of the recursion and leaves the value scratch filled.
-/
module

public import proofs.«01_k».proof.Proof.Ideal.Tail

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (arg3 : Memref sig .tc .vmem S1x512x128 .f32) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S4x64 .f32) (harg6 : arg6.IsWhole)
  (arg7 : Memref sig .tc .vmem S1x128 .f32) (harg7 : arg7.IsWhole)
  (arg8 : Memref sig .tc .vmem S1x512x128 .bf16) (harg8 : arg8.IsWhole)
  (arg9 : Memref sig .tc .vmem S16x144x512 .bf16) (harg9 : arg9.IsWhole)
  (arg10 : Memref sig .tc .vmem S2x2x512x512 .f32) (harg10 : arg10.IsWhole)
  (arg11 : Memref sig .tc .vmem S2x2x8x512 .f32) (harg11 : arg11.IsWhole)
  (arg12 : Memref sig .tc .vmem S2x8x512 .f32) (harg12 : arg12.IsWhole)
  (arg13 : Memref sig .tc .vmem S2x144x512 .f32) (harg13 : arg13.IsWhole)

/-- What the body finds: the staged blocks, the output's buffer, the value scratch (filled unless this is the first query
    block of its batch row and head) and the other scratch at anything. -/
abbrev before (c : Dev nD) (i : grid0.Coords) (f3 : BufTy.Contents (Elt F) arg3.view.ty)
    (f4 : BufTy.Contents (Elt F) arg4.view.ty) (f5 : BufTy.Contents (Elt F) arg5.view.ty)
    (f6 : BufTy.Contents (Elt F) arg6.view.ty) (f7 : BufTy.Contents (Elt F) arg7.view.ty)
    (V : Vec F S1x8192x128 .bf16) : sProp 𝕄 :=
  iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f8, (arg8.view.loc (c : Thread nD τ) ↦[arg8.view.set]{fullShare} f8)) ∗ (∃ f9, ⌜(i 2).val ≠ 0 → Filled arg9 f9 V 16⌝ ∗ (arg9.view.loc (c : Thread nD τ) ↦[arg9.view.set]{fullShare} f9)) ∗
    (∃ f10, (arg10.view.loc (c : Thread nD τ) ↦[arg10.view.set]{fullShare} f10)) ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)))

/-- What the body leaves. -/
abbrev after (c : Dev nD) (i : grid0.Coords) (f3 : BufTy.Contents (Elt F) arg3.view.ty)
    (f4 : BufTy.Contents (Elt F) arg4.view.ty) (f5 : BufTy.Contents (Elt F) arg5.view.ty)
    (f6 : BufTy.Contents (Elt F) arg6.view.ty) (f7 : BufTy.Contents (Elt F) arg7.view.ty)
    (V : Vec F S1x8192x128 .bf16) (out : Vec F S1x512x128 .bf16) : sProp 𝕄 :=
  iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f8, ⌜arg8.view.read (Elt F) f8 = out⌝ ∗ (arg8.view.loc (c : Thread nD τ) ↦[arg8.view.set]{fullShare} f8)) ∗
    (∃ f9, ⌜Filled arg9 f9 V 16⌝ ∗ (arg9.view.loc (c : Thread nD τ) ↦[arg9.view.set]{fullShare} f9)) ∗
    (∃ f10, (arg10.view.loc (c : Thread nD τ) ↦[arg10.view.set]{fullShare} f10)) ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)))

/-- The body, at one grid point. -/
theorem body (𝒱 : Variants) (c : Dev nD) (bd : Option 𝒱.V) (E : Set ℕ) (i : grid0.Coords)
    (f3 : BufTy.Contents (Elt F) arg3.view.ty)
    (f4 : BufTy.Contents (Elt F) arg4.view.ty) (f5 : BufTy.Contents (Elt F) arg5.view.ty)
    (f6 : BufTy.Contents (Elt F) arg6.view.ty) (f7 : BufTy.Contents (Elt F) arg7.view.ty)
    (Q : Vec F S1x512x128 .f32) (K V : Vec F S1x8192x128 .bf16) (lam : Vec F S4x64 .f32) (g : Vec F S1x128 .f32)
    (h3 : arg3.view.read (Elt F) f3 = Q) (h4 : arg4.view.read (Elt F) f4 = K) (h5 : arg5.view.read (Elt F) f5 = V)
    (h6 : arg6.view.read (Elt F) f6 = lam) (h7 : arg7.view.read (Elt F) f7 = g) :
    before arg3 arg4 arg5 arg6 arg7 arg8 arg9 arg10 arg11 arg12 arg13 c i f3 f4 f5 f6 f7 V ⊢
      wp frame (wpE (defs₀ (F := F)) 𝒱 (c : Thread nD τ) bd) E
        (cc0_diff_attn_prompt (F := F) i arg3 harg3 arg4 harg4 arg5 harg5 arg6 harg6 arg7 harg7 arg8 harg8 arg9 harg9 arg10 harg10 arg11 harg11 arg12 harg12 arg13 harg13)
        (fun _ => after arg3 arg4 arg5 arg6 arg7 arg8 arg9 arg10 arg11 arg12 arg13 c i f3 f4 f5 f6 f7 V
          (result lam g (state (k0_pay107 Q) (k0_pay108 Q) K V (i 2).val ((i 2).val + 1)))) := by
  simp only [cc0_diff_attn_prompt_eq_skeleton]
  unfold cc0_diff_attn_prompt_skel
  simp only [k0_part16_eq_skeleton, k0_part17_eq_skeleton, k0_part18_eq_skeleton, k0_part19_eq_skeleton,
    k0_part20_eq_skeleton]
  unfold k0_part19_skel k0_part20_skel
  simp only [k0_part11_eq_skeleton, k0_part12_eq_skeleton, k0_part13_eq_skeleton, k0_part14_eq_skeleton,
    k0_part15_eq_skeleton, bind_assoc]
  iintro ⟨H3, H4, H5, H6, H7, ⟨%f8, H8⟩, ⟨%f9, %hf, H9⟩, ⟨%f10, H10⟩, ⟨%f11, H11⟩, ⟨%f12, H12⟩, ⟨%f13, H13⟩⟩
  by_cases hc1 : k0_cond1 i = 1#1
  case' pos =>
    sl_exec (disch := sl_exact hc1)
    sl_for (fun n _ => filling arg5 arg9 c f5 V n) $$ [H5 H9]
    case region =>
      intro k acc
      exact fill_trip arg3 harg3 arg4 harg4 arg5 harg5 arg6 harg6 arg7 harg7 arg8 harg8 arg9 harg9 arg10 harg10 arg11 harg11 arg12 harg12 arg13 harg13 𝒱 c bd E i hc1 f5 V h5 k
    · isplitl [H5]; · iexact H5
      iexists f9
      isplitr [H9]
      · ipureintro
        intro y hy
        exact absurd hy (Nat.not_lt_zero _)
      · iexact H9
    iintro %_ ⟨H5, ⟨%f9, %hf, H9⟩⟩
    sl_exec
    have hf9 := hf.holds
  case' neg =>
    have hf := hf (mt (cond1_iff i).mpr hc1)
    sl_exec (disch := sl_exact hc1)
    have hf9 := hf.holds
  all_goals
    sl_for (fun n _ => held arg4 arg9 arg10 arg11 arg12 arg13 c f4 f9
      (tile (body.sl.r arg3 f3) (body.sl.r_1 arg3 f3) K (i 2).val (2 * n))
      (state (body.sl.r arg3 f3) (body.sl.r_1 arg3 f3) K V (i 2).val (2 * n))) $$ [H4 H9 H10 H11 H12 H13]
    case region =>
      intro k acc
      exact double arg3 harg3 arg4 harg4 arg5 harg5 arg6 harg6 arg7 harg7 arg8 harg8 arg9 harg9 arg10 harg10 arg11 harg11 arg12 harg12 arg13 harg13 𝒱 c bd E i _ _ _ _ _ _ _ f4 f9 K V h4 hf9 k
    · isplitl [H4]; · iexact H4
      isplitl [H9]; · iexact H9
      iexists _, _, _, _
      isplitr [H10 H11 H12 H13]
      rotate_left
      · isplitl [H10]; · iexact H10
        isplitl [H11]; · iexact H11
        isplitl [H12]; · iexact H12
        iexact H13
      ipureintro
      sl_unfold_run_names
      have hi := row_lt i
      have e4 := load_blk h4 (k0_off4_inb i) (i 2).val hi (k0_off4_eq i)
      refine ⟨⟨?_, ?_, ?_, ?_⟩, ⟨?_, ?_, ?_, ?_⟩⟩
      iterate 4
        simp (disch := decide) only [↓ View.load_before, ↓ View.load_last, e4, tile_zero, masked]
      all_goals
        rw [load_whole _ _ _ (by decide)]
        rfl
    iintro %_ ⟨H4, H9, ⟨%g10, %g11, %g12, %g13, %hh, H10, H11, H12, H13⟩⟩
    have hr : body.sl.r arg3 f3 = k0_pay107 Q := by
      sl_unfold_run_names
      rw [load_all h3 _ (by decide) _]
    have hr1 : body.sl.r_1 arg3 f3 = k0_pay108 Q := by
      sl_unfold_run_names
      rw [load_all h3 _ (by decide) _]
    have hn : Scf.trips (k0_t2_loop i).lb (k0_t2_loop i).ub (k0_t2_loop i).st = (i 2).val / 2 := trips_eq i
    have hi := row_lt i
    rw [hr, hr1, hn] at hh
    obtain ⟨ht, hs⟩ := hh
    by_cases hc2 : k0_cond2 i = 1#1
    · have ho := (cond2_iff i).mp hc2
      have hc3 : ¬ k0_cond3 i = 1#1 := fun h => by
        have := (cond3_iff i).mp h
        omega
      sl_exec (disch := first | sl_exact hc2 | sl_exact hc3)
      sl_step
      isplitl [H3]; · iexact H3
      isplitl [H4]; · iexact H4
      isplitl [H5]; · iexact H5
      isplitl [H6]; · iexact H6
      isplitl [H7]; · iexact H7
      isplitl [H8]
      · iexists _
        isplitr [H8]
        rotate_left
        · iexact H8
        ipureintro
        sl_unfold_run_names
        rw [read_whole _ _ _ (by decide)]
        dsimp only
        have e3 : arg3.view.readAt (Elt F) (Rect.unit (s := S1x512x128) ![0, 0, 0] ![1, 512, 128]
            inb_S1x512x128_S1x512x128_0_0_0).toLoadRect f3 = Q := load_all h3 _ (by decide) _
        have e13 := load_blk h4 (k0_off13_inb i hc2) ((i 2).val - 1) (by omega) (off13_eq i ho)
        have e14 := hf9.load (k0_off14_inb i hc2) (if (i 2).val = 1 then (i 2).val else (i 2).val - 2) (by split <;> omega) (off14_eq i ho)
        have e15 := hf9.load (k0_off15_inb i hc2) ((i 2).val - 1) (by omega) (off15_eq i ho)
        rw [state_odd _ _ _ _ _ ho]
        refine result_eq _ _ _ _ _ _ _ _ _ (load_all h6 _ (by decide) _) (load_all h7 _ (by decide) _) ?_ ?_ ?_ ?_
        all_goals
          simp (disch := decide) only [↓ load_top, ↓ load_ones, ↓ load_top_lit, ↓ load_ones_lit, ↓ View.load_before, ↓ View.load_last, ↓ View.readCov_skip,
            ↓ View.readCov_cons_toLoadRect, e3, e13, e14, e15, ht.s0, ht.s1, ht.x0, ht.x1, hs.m0, hs.m1, hs.a0, hs.a1, copy74, copy75, copy77, copy78, copy82, copy83, copy87, copy88, copy93, copy94, copy125, copy126, take, plain]
      isplitl [H9]
      · iexists f9
        isplitr [H9]
        · ipureintro
          exact hf
        · iexact H9
      isplitl [H10]; · iexists _; iexact H10
      isplitl [H11]; · iexists _; iexact H11
      isplitl [H12]; · iexists _; iexact H12
      iexists _; iexact H13
    · have he : (i 2).val % 2 = 0 := by
        rcases Nat.mod_two_eq_zero_or_one (i 2).val with h | h
        · exact h
        · exact absurd ((cond2_iff i).mpr h) hc2
      have hc3 : k0_cond3 i = 1#1 := (cond3_iff i).mpr he
      sl_exec (disch := first | sl_exact hc2 | sl_exact hc3)
      sl_step
      isplitl [H3]; · iexact H3
      isplitl [H4]; · iexact H4
      isplitl [H5]; · iexact H5
      isplitl [H6]; · iexact H6
      isplitl [H7]; · iexact H7
      isplitl [H8]
      · iexists _
        isplitr [H8]
        rotate_left
        · iexact H8
        ipureintro
        sl_unfold_run_names
        rw [read_whole _ _ _ (by decide)]
        dsimp only
        have e16 := hf9.load (k0_off16_inb i hc3) ((i 2).val - 1) (by omega) (off16_eq i he)
        rw [state_even _ _ _ _ _ he]
        refine result_eq _ _ _ _ _ _ _ _ _ (load_all h6 _ (by decide) _) (load_all h7 _ (by decide) _) ?_ ?_ ?_ ?_
        all_goals
          simp (disch := decide) only [↓ load_top, ↓ load_ones, ↓ load_top_lit, ↓ load_ones_lit, ↓ View.load_before, ↓ View.load_last, ↓ View.readCov_skip,
            ↓ View.readCov_cons_toLoadRect, e16, ht.s0, ht.s1, ht.x0, ht.x1, hs.m0, hs.m1, hs.a0, hs.a1, copy102, copy103, copy129, copy130, take, plain]
      isplitl [H9]
      · iexists f9
        isplitr [H9]
        · ipureintro
          exact hf
        · iexact H9
      isplitl [H10]; · iexists _; iexact H10
      isplitl [H11]; · iexists _; iexact H11
      isplitl [H12]; · iexists _; iexact H12
      iexists _; iexact H13

end Cert.KernelIdeal.Hand
-- ==== Proof.Ideal.Launch.lean ====
/-
  The launch: which block each window stages at a grid point, the invariant the scratch keeps between points (the value
  scratch holds the values of the current batch row and head from its first query block on), and the run of the whole
  program with the output array named.
-/
module

public import proofs.«01_k».proof.Proof.Ideal.Body
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Pipeline
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid -/

/-- The batch row of a grid point. -/
theorem coord0 (t : Fin cfg0.N) : ((grid0.coords t) 0).val = t.val / 128 % 8 :=
  Grid.coords_val t 0 (by decide) rfl
/-- The head of a grid point. -/
theorem coord1 (t : Fin cfg0.N) : ((grid0.coords t) 1).val = t.val / 16 % 8 :=
  Grid.coords_val t 1 (by decide) rfl
/-- The query block of a grid point. -/
theorem coord2 (t : Fin cfg0.N) : ((grid0.coords t) 2).val = t.val % 16 :=
  (Grid.coords_val t 2 (S := 1) (B := 16) (by decide) rfl).trans (by rw [Nat.div_one])

/-- The query block staged at a point. -/
def queries (c : Dev nD) (t : Fin cfg0.N) : Vec F S1x512x128 .f32 := iblk m c 0 t
/-- The keys staged at a point. -/
def keys (c : Dev nD) (t : Fin cfg0.N) : Vec F S1x8192x128 .bf16 := iblk m c 1 t
/-- The values staged at a point. -/
def vals (c : Dev nD) (t : Fin cfg0.N) : Vec F S1x8192x128 .bf16 := iblk m c 2 t
/-- The rows the mixing weight comes from. -/
def lams (c : Dev nD) (t : Fin cfg0.N) : Vec F S4x64 .f32 := iblk m c 3 t
/-- The gain of the norm. -/
def gain (c : Dev nD) (t : Fin cfg0.N) : Vec F S1x128 .f32 := iblk m c 4 t

/-- What one grid point stores. -/
def stored (c : Dev nD) (t : Fin cfg0.N) : Vec F S1x512x128 .bf16 :=
  result (lams m c t) (gain m c t) (state (k0_pay107 (queries m c t)) (k0_pay108 (queries m c t)) (keys m c t)
    (vals m c t) ((grid0.coords t) 2).val (((grid0.coords t) 2).val + 1))

/-- Two points of one batch row and head stage the same values. -/
theorem vals_congr (c : Dev nD) (t t' : Fin cfg0.N) (h0 : (grid0.coords t) 0 = (grid0.coords t') 0)
    (h1 : (grid0.coords t) 1 = (grid0.coords t') 1) : vals m c t = vals m c t' := by
  have hi : win0_2.index t = win0_2.index t' :=
    show cc0_transform_2 (grid0.coords t) = cc0_transform_2 (grid0.coords t') by unfold cc0_transform_2; rw [h0, h1]
  unfold vals
  funext y
  blk_ext [iblk, V] <;> rw [hi]

/-! ## Between two points -/

/-- What the scratch holds before the point numbered `n`: past the first query block of its batch row and head, the value
    scratch holds the staged values; everything else is whatever it is. -/
def between (c : Dev nD) (n : ℕ) : sProp 𝕄 :=
  iprop((∃ f9 : Buf (Elt F) ((c : Thread nD τ).loc cc0_scratch0),
      ⌜∀ t : Fin cfg0.N, t.val = n → t.val % 16 ≠ 0 → Filled (Memref.whole cc0_scratch0) f9 (vals m c t) 16⌝
        ∗ ((c : Thread nD τ).loc cc0_scratch0) ↦{fullShare} f9)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ ∃ r, prngReg c r)

/-- The proof data: the arrays as the region finds them, the input blocks left in place, the output block `stored`. -/
def dats (_ : Fin 1) (c : Dev nD) : Dat τ (Elt F) Unit ℕ (UR sig nD τ) ℕ cfg0 c where
  A w := V m c (arrRef spec0 w)
  after w t := match w with
    | 0 => iblk m c 0 t
    | 1 => iblk m c 1 t
    | 2 => iblk m c 2 t
    | 3 => iblk m c 3 t
    | 4 => iblk m c 4 t
    | 5 => stored m c t
  Φ t := between m c t.val
  q _ := fullShare
  owed _ := 0

theorem A_eq (c : Dev nD) (w : Fin cfg0.W) : (dats m 0 c).A w = V m c (arrRef spec0 w) := by dsimp only [dats]

/-- What the body is called with at a point. -/
def bodyPre (c : Dev nD) (t : Fin cfg0.N) : sProp 𝕄 :=
  iprop(between m c t.val ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What it returns. -/
def bodyPost (c : Dev nD) (t : Fin cfg0.N) : sProp 𝕄 :=
  iprop(between m c (t.val + 1) ∗ (dats m 0 c).owesAt () t.succ
    ∗ owns (c : Thread nD τ) (win0_0.stage (cfg0.slots t 0)) fullShare (queries m c t)
    ∗ owns (c : Thread nD τ) (win0_1.stage (cfg0.slots t 1)) fullShare (keys m c t)
    ∗ owns (c : Thread nD τ) (win0_2.stage (cfg0.slots t 2)) fullShare (vals m c t)
    ∗ owns (c : Thread nD τ) (win0_3.stage (cfg0.slots t 3)) fullShare (lams m c t)
    ∗ owns (c : Thread nD τ) (win0_4.stage (cfg0.slots t 4)) fullShare (gain m c t)
    ∗ owns (c : Thread nD τ) (win0_5.stage (cfg0.slots t 5)) fullShare (stored m c t))

/-- The values stay from one query block to the next. -/
theorem vals_next (c : Dev nD) (t t' : Fin cfg0.N) (h : t'.val = t.val + 1) (h' : t'.val % 16 ≠ 0) :
    vals m c t' = vals m c t := by
  apply vals_congr
  · apply Fin.ext; rw [coord0, coord0]; omega
  · apply Fin.ext; rw [coord1, coord1]; omega

set_option maxHeartbeats 1000000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 between
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl)]
  rw [show (dats m 0 c).owesAt () t.succ = (dats m 0 c).owesAt () t.castSucc from rfl]
  unfold Dat.owesAt owesWithin
  rw [show (dats m 0 c).owed t.castSucc = 0 from rfl]
  unfold owns
  iintro ⟨⟨⟨%f9, %hf, H9⟩, ⟨%f10, H10⟩, ⟨%f11, H11⟩, ⟨%f12, H12⟩, ⟨%f13, H13⟩, Hg⟩, ⟨%W, %hW, HO⟩,
    ⟨%d0, %f3, %h3, H3⟩, ⟨%d1, %f4, %h4, H4⟩, ⟨%d2, %f5, %h5, H5⟩, ⟨%d3, %f6, %h6, H6⟩, ⟨%d4, %f7, %h7, H7⟩,
    ⟨%d5, %f8, %h8, H8⟩⟩
  iapply (wp_wand_r frame _ Set.univ)
  isplitl [H3 H4 H5 H6 H7 H8 H9 H10 H11 H12 H13]
  · iapply (body _ _ _ _ _ _ _ _ _ _ _ _ _ _ _ _ _ _ _ _ _ _ _ c none Set.univ (grid0.coords t) f3 f4 f5 f6 f7
      (queries m c t) (keys m c t) (vals m c t) (lams m c t) (gain m c t) h3 h4 h5 h6 h7)
    isplitl [H3]; · iexact H3
    isplitl [H4]; · iexact H4
    isplitl [H5]; · iexact H5
    isplitl [H6]; · iexact H6
    isplitl [H7]; · iexact H7
    isplitl [H8]; · iexists _; iexact H8
    simp only [View.set_whole]
    isplitl [H9]
    · iexists f9
      isplitr [H9]
      · ipureintro; rw [coord2]; exact hf t rfl
      · iexact H9
    isplitl [H10]; · iexists _; iexact H10
    isplitl [H11]; · iexists _; iexact H11
    isplitl [H12]; · iexists _; iexact H12
    iexists _; iexact H13
  iintro %_ ⟨H3, H4, H5, H6, H7, ⟨%f8, %h8, H8⟩, ⟨%f9, %hf, H9⟩, ⟨%f10, H10⟩, ⟨%f11, H11⟩, ⟨%f12, H12⟩, ⟨%f13, H13⟩⟩
  simp only [View.set_whole]
  isplitl [H9 H10 H11 H12 H13 Hg]
  · isplitl [H9]
    · iexists f9
      isplitr [H9]
      · ipureintro
        intro t' ht hm
        rw [vals_next m c t t' ht hm]; exact hf
      · iexact H9
    isplitl [H10]; · iexists _; iexact H10
    isplitl [H11]; · iexists _; iexact H11
    isplitl [H12]; · iexists _; iexact H12
    isplitl [H13]; · iexists _; iexact H13
    iexact Hg
  isplitl [HO]
  · iexists W; isplitr; · ipureintro; exact hW
    iexact HO
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  iexists f8; isplitr; · ipureintro; exact h8
  iexact H8

/-- The body table's row at a point. -/
theorem defs₀_row (t : Fin cfg0.N) : defs₀ (F := F) .tc cfg0.body (cfg0.bodyArgs t (cfg0.slots t)) = bodyAt0 t := by
  unfold defs₀; rw [Defs.onTc_tc]

/-- The invariant at a point's start. -/
theorem phi_start (c : Dev nD) (t : Fin cfg0.N) : (dats m 0 c).Φ t.castSucc = between m c t.val := rfl
/-- The invariant at a point's end. -/
theorem phi_end (c : Dev nD) (t : Fin cfg0.N) : (dats m 0 c).Φ t.succ = between m c (t.val + 1) := rfl

/-- The body keeps to the proof data. -/
theorem body_obligation (c : Dev nD) :
    BodyObligation (dats (F := F) m 0 c) (defs₀ (F := F)) Variants.none () Set.univ := fun t => by
  rw [bigSep_W0, bigSep_W0, defs₀_row, phi_start, phi_end]
  exact triple_restated (sound_body m c t) rfl .rfl fun _ => .rfl

/-- The scratch at anything satisfies the invariant before the first point. -/
theorem enter (c : Dev nD) : (ΦA (U := UR sig nD τ) (Val := Elt F) spec0 c : sProp 𝕄) ⊢ between m c 0 := by
  unfold ΦA between
  rw [scopedRest0_eq]
  iintro ⟨⟨⟨%f9, H9⟩, H10, H11, H12, H13⟩, Hg⟩
  isplitl [H9]
  · iexists f9
    isplitr [H9]
    · ipureintro
      intro t ht hm
      exact absurd (by rw [ht]) hm
    · iexact H9
  isplitl [H10]; · iexact H10
  isplitl [H11]; · iexact H11
  isplitl [H12]; · iexact H12
  isplitl [H13]; · iexact H13
  iexact Hg

/-- The invariant gives the scratch back. -/
theorem leave (c : Dev nD) (n : ℕ) : between m c n ⊢ (ΦA (U := UR sig nD τ) (Val := Elt F) spec0 c : sProp 𝕄) := by
  unfold ΦA between
  rw [scopedRest0_eq]
  iintro ⟨⟨%f9, %_, H9⟩, H10, H11, H12, H13, Hg⟩
  isplitr [Hg]
  · isplitl [H9]; · iexists f9; iexact H9
    isplitl [H10]; · iexact H10
    isplitl [H11]; · iexact H11
    isplitl [H12]; · iexact H12
    iexact H13
  iexact Hg

set_option backward.isDefEq.respectTransparency.types false in
/-- The run of the program: every window's array ends as the proof data says, every semaphore at zero. -/
theorem run_main :
    θ_run defs (onTc (τ := τ) (main (F := F))) (s₀ m ρ)
      (fun r => FramePost cfgs (dats m) 0 (V m) r ∧ r.2.sem = fun _ => 0) :=
  θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => enter m c) (hout := fun c => leave m c _)

/-- The run ends, leaves every argument as it found it and every semaphore at zero. -/
theorem quiescent :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).1 0).trans (((dats m 0 c).arrAt_in 0 rfl _).trans ((A_eq m c 0).trans (V_main_arg0 m c))),
      ((h.1 c).2 main_arg1 (mem_restRefs_of main_arg1 (by decide) (by decide))).trans (V_main_arg1 m c),
      ((h.1 c).2 main_arg2 (mem_restRefs_of main_arg2 (by decide) (by decide))).trans (V_main_arg2 m c),
      ((h.1 c).1 3).trans (((dats m 0 c).arrAt_in 3 rfl _).trans ((A_eq m c 3).trans (V_main_arg3 m c))),
      ((h.1 c).2 main_arg4 (mem_restRefs_of main_arg4 (by decide) (by decide))).trans (V_main_arg4 m c)⟩, h.2⟩) (run_main m ρ)

end Cert.KernelIdeal.Hand

end
-- ==== Proof.Value.Common.lean ====
/-
  What both programs share at one element: constants read as extended reals, masks as decided bits, the second component's
  factor, and a head's row divided by the root of its mean square.
-/
module

public import Idealize.ShloMosaic.Lib.Pointwise

@[expose] public section

noncomputable section

namespace Cert.Attention

open Idealize.ShloMosaic

/-- Every element is a real. -/
def Reals {s : Shape} (X : s.Idx → EReal) : Prop := ∀ x, (((X x).toReal : ℝ) : EReal) = X x

/-- The word `0xFF800000` is the least value. -/
theorem ofBits_neg_inf : Ideal.ofBits .f32 0xFF800000#32 = ⊥ := by
  simp [Ideal.ofBits, Ideal.ieee]

/-- The word `0x7F800000` is the greatest value. -/
theorem ofBits_inf : Ideal.ofBits .f32 0x7F800000#32 = ⊤ := by
  simp [Ideal.ofBits, Ideal.ieee]

/-- The word `0x3E000000` is an eighth. -/
theorem ofBits_eighth : Ideal.ofBits .f32 0x3E000000#32 = ((8⁻¹ : ℝ) : EReal) := by
  simp only [Ideal.ofBits, Ideal.ieee]
  rw [if_neg (by decide), if_neg (by decide)]
  congr 1
  simp
  norm_num

/-- The word `0x3EB60549` is a real. -/
theorem ofBits_lam : ∃ r : ℝ, Ideal.ofBits .f32 0x3EB60549#32 = (r : EReal) := by
  simp only [Ideal.ofBits, Ideal.ieee]
  rw [if_neg (by decide), if_neg (by decide)]
  exact ⟨_, rfl⟩

/-- A signed comparison of two small words. -/
theorem sle_ofNat (a b : ℕ) (ha : a < 8192) (hb : b < 8192) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt, BitVec.toInt_eq_toNat_of_lt] <;>
      simp only [BitVec.toNat_ofNat, Nat.mod_eq_of_lt (show a < 2 ^ 32 by omega),
        Nat.mod_eq_of_lt (show b < 2 ^ 32 by omega)]
    · simp
    · omega
    · omega
  simp [IntOp.cmpi, h]
  by_cases hab : a ≤ b <;> simp [hab]

/-- A selection by a decided bit. -/
theorem select_ite {α : Type} (p : Prop) [Decidable p] (x y : α) :
    Scalar.select (if p then 1#1 else 0#1) x y = if p then x else y := by
  by_cases h : p <;> simp [h, Scalar.select]

/-- The factor of the second component, from its four rows of parameters. -/
def lambda (v : Fin 4 → Fin 64 → EReal) : EReal :=
  Ideal.exp (∑ x, v 0 x * v 1 x) - Ideal.exp (∑ x, v 2 x * v 3 x) + Ideal.ofBits .f32 0x3EB60549#32

/-- A row of 128 values divided by the root of its mean square, scaled by a gain and a constant. -/
def normed (o : Fin 128 → EReal) (g : EReal) (d : Fin 128) : EReal :=
  o d * Ideal.rsqrt (Ideal.div (∑ x, o x * o x) (Ideal.ofBits .f32 0x43000000#32) + Ideal.ofBits .f32 0x358637BD#32) * g
    * Ideal.ofBits .f32 0x3F24FD5C#32

end Cert.Attention
-- ==== Proof.Value.Online.lean ====
/-
  The weighted sums of a softmax taken in block by block, over the extended reals: a running maximum and sums rescaled
  whenever it grows. Only that the maximum is a real number matters, since it cancels between the sums in the end.
-/
module

public import Idealize.ShloMosaic.PureOps.Ideal.Laws
public import Mathlib.Analysis.SpecialFunctions.Pow.Real

@[expose] public section

noncomputable section

namespace Cert.Attention

open Idealize.ShloMosaic

/-- `m` and `a` hold the sum `A` of weights `2 ^ s`: with nothing taken in, both are empty; later `a` is `A` scaled down
    by `2 ^ m`. -/
def Holds (m a : EReal) (A : ℝ) : Prop :=
  (m = ⊥ ∧ a = 0 ∧ A = 0) ∨ ∃ M : ℝ, m = (M : EReal) ∧ a = ((A * (2 : ℝ) ^ (-M) : ℝ) : EReal)

/-- A score, or the least value where the key is masked. -/
def score (p : Prop) [Decidable p] (x : ℝ) : EReal := if p then (x : EReal) else ⊥

/-- A key's weight before the shift by the maximum. -/
def weight (p : Prop) [Decidable p] (x : ℝ) : ℝ := if p then (2 : ℝ) ^ x else 0

/-- The greater of two reals, as an extended real. -/
theorem coe_max (x y : ℝ) : ((max x y : ℝ) : EReal) = max (x : EReal) (y : EReal) :=
  EReal.coe_strictMono.monotone.map_max

/-- The greatest of a nonempty family of reals, masked entries beside them, is a real. -/
theorem max_real {ι : Type*} (s : Finset ι) (p : ι → Prop) [DecidablePred p] (x : ι → ℝ) (h : ∃ k ∈ s, p k) :
    ∃ M : ℝ, s.fold max (⊥ : EReal) (fun k => score (p k) (x k)) = (M : EReal) := by
  classical
  induction s using Finset.induction_on with
  | empty => simp at h
  | insert k s hk ih =>
    rw [Finset.fold_insert hk]
    by_cases hs : ∃ j ∈ s, p j
    · obtain ⟨M, hM⟩ := ih hs
      rw [hM]
      by_cases hpk : p k
      · exact ⟨max (x k) M, by rw [score, if_pos hpk]; exact (coe_max _ _).symm⟩
      · exact ⟨M, by rw [score, if_neg hpk]; simp⟩
    · have hpk : p k := by
        obtain ⟨j, hj, hpj⟩ := h
        rcases Finset.mem_insert.1 hj with rfl | hj
        · exact hpj
        · exact absurd ⟨j, hj, hpj⟩ hs
      have hf : s.fold max (⊥ : EReal) (fun k => score (p k) (x k)) = ⊥ := by
        have : ∀ t : Finset ι, (∀ j ∈ t, ¬ p j) → t.fold max (⊥ : EReal) (fun k => score (p k) (x k)) = ⊥ := by
          intro t
          induction t using Finset.induction_on with
          | empty => intro _; simp
          | insert j t hj ih =>
            intro ht
            rw [Finset.fold_insert hj, ih fun a ha => ht a (Finset.mem_insert_of_mem ha), score,
              if_neg (ht j (Finset.mem_insert_self _ _))]
            simp
        exact this s fun j hj hpj => hs ⟨j, hj, hpj⟩
      exact ⟨x k, by rw [hf, score, if_pos hpk]; simp⟩

/-- A weight shifted by a real maximum. -/
theorem exp2_score (p : Prop) [Decidable p] (x M : ℝ) :
    Ideal.exp2 (score p x - (M : EReal)) = ((weight p x * (2 : ℝ) ^ (-M) : ℝ) : EReal) := by
  by_cases h : p
  · rw [score, weight, if_pos h, if_pos h, ← EReal.coe_sub, Ideal.exp2_coe, ← Real.rpow_add (by norm_num)]
    rfl
  · rw [score, weight, if_neg h, if_neg h]
    simp

/-- A finite sum of reals, summed as extended reals. -/
theorem sum_coe {ι : Type*} (s : Finset ι) (f : ι → ℝ) : ∑ k ∈ s, (f k : EReal) = ((∑ k ∈ s, f k : ℝ) : EReal) := by
  classical
  induction s using Finset.induction_on with
  | empty => simp
  | insert k s hk ih => rw [Finset.sum_insert hk, Finset.sum_insert hk, ih, EReal.coe_add]

/-- Taking one block in: the new maximum is real, and the new sum is the old one with the block's weights added. -/
theorem Holds.step {ι : Type*} (s : Finset ι) (p : ι → Prop) [DecidablePred p] (x w : ι → ℝ) (hp : ∃ k ∈ s, p k)
    {m a : EReal} {A : ℝ} (h : Holds m a A) :
    Holds (max m (s.fold max (⊥ : EReal) (fun k => score (p k) (x k))))
      (a * Ideal.exp2 (m - max m (s.fold max (⊥ : EReal) (fun k => score (p k) (x k))))
        + ∑ k ∈ s, (w k : EReal) * Ideal.exp2 (score (p k) (x k) - max m (s.fold max (⊥ : EReal) (fun k => score (p k) (x k)))))
      (A + ∑ k ∈ s, w k * weight (p k) (x k)) := by
  obtain ⟨X, hX⟩ := max_real s p x hp
  rw [hX]
  have hsum : ∀ N : ℝ, ∑ k ∈ s, (w k : EReal) * Ideal.exp2 (score (p k) (x k) - (N : EReal))
      = (((∑ k ∈ s, w k * weight (p k) (x k)) * (2 : ℝ) ^ (-N) : ℝ) : EReal) := by
    intro N
    rw [Finset.sum_mul, ← sum_coe]
    refine Finset.sum_congr rfl fun k _ => ?_
    rw [exp2_score, ← EReal.coe_mul, mul_assoc]
  rcases h with ⟨rfl, rfl, rfl⟩ | ⟨M, rfl, rfl⟩
  · refine Or.inr ⟨X, by simp, ?_⟩
    rw [max_eq_right bot_le, hsum X]
    simp
  · refine Or.inr ⟨max M X, (coe_max _ _).symm, ?_⟩
    rw [← coe_max, hsum, ← EReal.coe_sub, Ideal.exp2_coe, ← EReal.coe_mul, ← EReal.coe_add, add_mul]
    congr 2
    change A * (2 : ℝ) ^ (-M) * (2 : ℝ) ^ (M - max M X) = _
    rw [mul_assoc, ← Real.rpow_add (by norm_num)]
    congr 2
    ring

/-- The quotient of two sums held under one maximum: the scaling cancels. -/
theorem Holds.div {m a z : EReal} {A Z : ℝ} (ha : Holds m a A) (hz : Holds m z Z) (hZ : Z ≠ 0) :
    Ideal.div a z = ((A / Z : ℝ) : EReal) := by
  rcases hz with ⟨_, _, h⟩ | ⟨M, rfl, rfl⟩
  · exact absurd h hZ
  · rcases ha with ⟨h, _, _⟩ | ⟨N, h, rfl⟩
    · exact absurd h (EReal.coe_ne_bot M)
    · obtain rfl : M = N := by exact_mod_cast h
      have h2 : (2 : ℝ) ^ (-M) ≠ 0 := (Real.rpow_pos_of_pos (by norm_num) _).ne'
      rw [Ideal.div_coe (mul_ne_zero hZ h2), ← EReal.coe_mul]
      congr 1
      field_simp

/-- A key's weight in a softmax of scores scaled by an eighth, before any shift. -/
def soft (p : Prop) [Decidable p] (s : ℝ) : ℝ := if p then Real.exp (s * 8⁻¹) else 0

/-- A power of two of a score in units of `log 2` is its exponential. -/
theorem weight_eq (p : Prop) [Decidable p] (s : ℝ) : weight p (s * (8⁻¹ * (Real.log 2)⁻¹)) = soft p s := by
  rw [weight, soft, Real.rpow_def_of_pos (by norm_num)]
  have h : Real.log 2 ≠ 0 := (Real.log_pos (by norm_num)).ne'
  congr 2
  field_simp

/-- The mean of `w` under the softmax of `s` over the keys that show. -/
def mean {N : ℕ} (p : Fin N → Prop) [DecidablePred p] (s w : Fin N → ℝ) : ℝ :=
  (∑ n, w n * soft (p n) (s n)) / ∑ n, soft (p n) (s n)

/-- An exponential shifted by a real. -/
theorem exp_score (p : Prop) [Decidable p] (s M : ℝ) :
    Ideal.exp (score p (s * 8⁻¹) - (M : EReal)) = ((soft p s * Real.exp (-M) : ℝ) : EReal) := by
  by_cases h : p
  · rw [score, soft, if_pos h, if_pos h, ← EReal.coe_sub, Ideal.exp_coe, ← Real.exp_add]
    rfl
  · rw [score, soft, if_neg h, if_neg h]
    simp

/-- A softmax's entry: the shift by the maximum cancels. -/
theorem softmax_eq {N : ℕ} (p : Fin N → Prop) [DecidablePred p] (s : Fin N → ℝ) (hp : ∃ n, p n) (M : EReal)
    (hM : M = Finset.univ.fold max (⊥ : EReal) fun n => score (p n) (s n * 8⁻¹)) (n : Fin N) :
    Ideal.div (Ideal.exp (score (p n) (s n * 8⁻¹) - M)) (∑ k, Ideal.exp (score (p k) (s k * 8⁻¹) - M))
      = ((soft (p n) (s n) / ∑ k, soft (p k) (s k) : ℝ) : EReal) := by
  obtain ⟨k, hk⟩ := hp
  obtain ⟨X, hX⟩ := max_real Finset.univ p (fun n => s n * 8⁻¹) ⟨k, Finset.mem_univ _, hk⟩
  rw [hX] at hM
  subst hM
  have hpos : 0 < ∑ k, soft (p k) (s k) := by
    refine Finset.sum_pos' (fun n _ => ?_) ⟨k, Finset.mem_univ _, ?_⟩
    · rw [soft]
      split
      · exact (Real.exp_pos _).le
      · exact le_rfl
    · rw [soft, if_pos hk]
      exact Real.exp_pos _
  simp only [exp_score]
  rw [sum_coe, ← Finset.sum_mul, Ideal.div_coe (mul_ne_zero hpos.ne' (Real.exp_pos _).ne'), ← EReal.coe_mul]
  congr 1
  have := (Real.exp_pos (-X)).ne'
  field_simp

/-- The values under the difference of two softmaxes: the difference of the two means. -/
theorem difference {N : ℕ} (P R w : Fin N → ℝ) (a z L : ℝ) :
    ∑ n, (w n : EReal) * (((P n / a : ℝ) : EReal) - (L : EReal) * ((R n / z : ℝ) : EReal))
      = (((∑ n, w n * P n) / a - L * ((∑ n, w n * R n) / z) : ℝ) : EReal) := by
  simp only [← EReal.coe_mul, ← EReal.coe_sub]
  rw [sum_coe]
  congr 1
  rw [Finset.sum_div, Finset.sum_div, Finset.mul_sum, ← Finset.sum_sub_distrib]
  refine Finset.sum_congr rfl fun n _ => ?_
  ring

end Cert.Attention
-- ==== Proof.Value.Target.lean ====
/-
  What one element of the attention is, over the reals: for each component, the softmax of a query's products with the keys
  it may see, the average of the values under those weights, the difference of the two averages, and the norm.
-/
module

public import proofs.«01_k».proof.Proof.Value.Common
public import proofs.«01_k».proof.Proof.Value.Online

@[expose] public section

noncomputable section

namespace Cert.Attention

open Idealize.ShloMosaic

/-- Column `d` of component `c` of head `h`. -/
def column (h : Fin 8) (c : Fin 2) (d : Fin 64) : Fin 1024 := ⟨128 * h.val + (64 * c.val + d.val), by omega⟩

/-- Column `x` of head `h`. -/
def wide (h : Fin 8) (x : Fin 128) : Fin 1024 := ⟨128 * h.val + x.val, by omega⟩

/-- The product of a query with a key in one component of one head. -/
def product (q k : Fin 1024 → EReal) (h : Fin 8) (c : Fin 2) : ℝ :=
  ∑ d : Fin 64, (q (column h c d)).toReal * (k (column h c d)).toReal

/-- A query sees the keys of its own chunk of 64 rows and of the chunks before. -/
def Sees (t n : Fin 8192) : Prop := n.val / 64 ≤ t.val / 64

instance (t n : Fin 8192) : Decidable (Sees t n) := inferInstanceAs (Decidable (_ ≤ _))

/-- The average of a column of values under the weights of component `c`. -/
def average (q k v : Fin 8192 → Fin 1024 → EReal) (t : Fin 8192) (h : Fin 8) (c : Fin 2) (x : Fin 128) : ℝ :=
  mean (Sees t) (fun n => product (q t) (k n) h c) fun n => (v n (wide h x)).toReal

/-- One element of the result: the two averages' difference, normed over the head's columns. -/
def attended (q k v : Fin 8192 → Fin 1024 → EReal) (lam : Fin 4 → Fin 64 → EReal) (g : Fin 128 → EReal)
    (t : Fin 8192) (h : Fin 8) (d : Fin 128) : EReal :=
  normed (fun x => ((average q k v t h 0 x - (lambda lam).toReal * average q k v t h 1 x : ℝ) : EReal)) (g d) d

/-- The factor of the second component is a real when its rows are. -/
theorem lambda_real {L : (⟨2, ![4, 64]⟩ : Shape).Idx → EReal} (hL : Reals L) :
    (((lambda fun a x => L (ix2 a x)).toReal : ℝ) : EReal) = lambda fun a x => L (ix2 a x) := by
  obtain ⟨r, hr⟩ := ofBits_lam
  have h : ∃ y : ℝ, (lambda fun a x => L (ix2 a x)) = (y : EReal) := by
    obtain ⟨f, hf⟩ : ∃ f : Fin 4 → Fin 64 → ℝ, ∀ a x, L (ix2 a x) = (f a x : EReal) :=
      ⟨fun a x => (L (ix2 a x)).toReal, fun a x => (hL _).symm⟩
    unfold lambda
    simp only [hf, ← EReal.coe_mul]
    rw [sum_coe, sum_coe, Ideal.exp_coe, Ideal.exp_coe, hr, ← EReal.coe_sub, ← EReal.coe_add]
    exact ⟨_, rfl⟩
  obtain ⟨y, hy⟩ := h
  rw [hy, EReal.toReal_coe]

/-- The attention's element of a batch row, over whole arrays. -/
def target (Q K V : (⟨3, ![8, 8192, 1024]⟩ : Shape).Idx → EReal) (L : (⟨2, ![4, 64]⟩ : Shape).Idx → EReal)
    (G : (⟨1, ![128]⟩ : Shape).Idx → EReal) (b : Fin 8) (t : Fin 8192) (h : Fin 8) (d : Fin 128) : EReal :=
  attended (fun n e => Q (ix3 b n e)) (fun n e => K (ix3 b n e)) (fun n e => V (ix3 b n e)) (fun a x => L (ix2 a x))
    (fun d => G (ix1 d)) t h d

/-- The whole array of the attention. -/
def attention (Q K V : (⟨3, ![8, 8192, 1024]⟩ : Shape).Idx → EReal) (L : (⟨2, ![4, 64]⟩ : Shape).Idx → EReal)
    (G : (⟨1, ![128]⟩ : Shape).Idx → EReal) (i : (⟨3, ![8, 8192, 1024]⟩ : Shape).Idx) : EReal :=
  target Q K V L G ⟨(i 0).val, (i 0).isLt⟩ ⟨(i 1).val, (i 1).isLt⟩
    ⟨(i 2).val / 128, by have : (i 2).val < 1024 := (i 2).isLt; omega⟩ ⟨(i 2).val % 128, Nat.mod_lt _ (by omega)⟩

/-- The array at an element. -/
theorem attention_apply (Q K V : (⟨3, ![8, 8192, 1024]⟩ : Shape).Idx → EReal) (L : (⟨2, ![4, 64]⟩ : Shape).Idx → EReal)
    (G : (⟨1, ![128]⟩ : Shape).Idx → EReal) (b : Fin 8) (t : Fin 8192) (e : Fin 1024) :
    attention Q K V L G (ix3 b t e) = target Q K V L G b t ⟨e.val / 128, by omega⟩ ⟨e.val % 128, Nat.mod_lt _ (by omega)⟩ := rfl

/-- The array at a head's column. -/
theorem attention_wide (Q K V : (⟨3, ![8, 8192, 1024]⟩ : Shape).Idx → EReal) (L : (⟨2, ![4, 64]⟩ : Shape).Idx → EReal)
    (G : (⟨1, ![128]⟩ : Shape).Idx → EReal) (b : Fin 8) (t : Fin 8192) (h : Fin 8) (d : Fin 128) :
    attention Q K V L G (ix3 b t (wide h d)) = target Q K V L G b t h d := by
  rw [attention_apply]
  congr 1 <;> apply Fin.ext <;> simp only [wide] <;> omega

end Cert.Attention

end
-- ==== Proof.Ideal.Read.lean ====
/-
  The attention kernel's steps read at one index, over the extended reals.
-/
module

public import proofs.«01_k».proof.Proof.Ideal.Model
public import proofs.«01_k».proof.Proof.Value.Online
public import proofs.«01_k».proof.Proof.Value.Common

@[expose] public section

set_option maxRecDepth 16384

noncomputable section

namespace Cert.KernelIdeal.Hand

open Idealize.ShloMosaic Cert.KernelIdeal Cert.KernelIdeal.Gen Cert.Attention

/-- The mask's least value is `⊥`. -/
theorem neg_inf_eq : Named.named (F := Ideal) (φ := .f32) κ "neg_inf" 0xF149F2CA#32 = (⊥ : EReal) := by
  rfl

/-- The scale of the queries: an eighth, in units of `log 2`. -/
theorem q_scale_eq : Named.named (F := Ideal) (φ := .f32) κ "q_scale" 0x3E38AA3B#32
    = ((8⁻¹ * (Real.log 2)⁻¹ : ℝ) : EReal) := by
  rfl

/-- The new maximum of a query. -/
theorem max_apply (m : Vec Ideal S1x1x512 .f32) (x : Vec Ideal S1x1x1x512 .f32) (j : Fin 512) :
    k0_pay12 m x (ix3 0 0 j) = max (m (ix3 0 0 j)) (x (ix4 0 0 0 j)) := by
  pointwise [k0_pay12, k0_pay11, k0_pay10]

/-- The new weighted sum in row `r` of a query. -/
theorem sum_apply (vt : Vec Ideal S1x144x512 .bf16) (s : Vec Ideal S1x1x512x512 .f32) (m : Vec Ideal S1x1x512 .f32)
    (x : Vec Ideal S1x1x1x512 .f32) (a : Vec Ideal S1x144x512 .f32) (r : Fin 144) (j : Fin 512) :
    k0_pay13 vt s m x a (ix3 0 r j)
      = a (ix3 0 r j) * Ideal.exp2 (m (ix3 0 0 j) - max (m (ix3 0 0 j)) (x (ix4 0 0 0 j)))
        + ∑ k, vt (ix3 0 r k) * Ideal.exp2 (s (ix4 0 0 k j) - max (m (ix3 0 0 j)) (x (ix4 0 0 0 j))) := by
  pointwise [k0_pay13, k0_pay11, k0_pay10, k0_pay9]
  rfl

/-- The first component's score of key `i` against query `j`. -/
theorem score0_apply (a : Vec Ideal S128x512 .bf16) (k : Vec Ideal S1x512x128 .bf16) (i j : Fin 512) :
    k0_pay4 a k (ix4 0 0 i j) = ∑ x, k (ix3 0 i x) * a (ix2 x j) := by
  pointwise [k0_pay4, k0_pay3, k0_pay2]

/-- The second component's score of key `i` against query `j`. -/
theorem score1_apply (a : Vec Ideal S128x512 .bf16) (k : Vec Ideal S1x512x128 .bf16) (i j : Fin 512) :
    k0_pay7 a k (ix4 0 0 i j) = ∑ x, k (ix3 0 i x) * a (ix2 x j) := by
  pointwise [k0_pay7, k0_pay6, k0_pay2]

/-- A tile's maxima in the first component. -/
theorem top0_apply (a : Vec Ideal S128x512 .bf16) (k : Vec Ideal S1x512x128 .bf16) (j : Fin 512) :
    k0_pay5 a k (ix4 0 0 0 j) = Finset.univ.fold max ⊥ fun i => ∑ x, k (ix3 0 i x) * a (ix2 x j) := by
  pointwise [k0_pay5, k0_pay3, k0_pay2]
  rw [ofBits_neg_inf]

/-- A tile's maxima in the second component. -/
theorem top1_apply (a : Vec Ideal S128x512 .bf16) (k : Vec Ideal S1x512x128 .bf16) (j : Fin 512) :
    k0_pay8 a k (ix4 0 0 0 j) = Finset.univ.fold max ⊥ fun i => ∑ x, k (ix3 0 i x) * a (ix2 x j) := by
  pointwise [k0_pay8, k0_pay6, k0_pay2]
  rw [ofBits_neg_inf]

/-- A row or column number divided by 64 and rounded down, as the kernel computes it. -/
theorem chunk_eq : ∀ i : Fin 512, Scalar.select
        (IntOp.andi
          (IntOp.cmpi CmpIPredicate.ne
            (IntOp.subi (BitVec.setWidth 32 (IntOp.cmpi CmpIPredicate.sgt (BitVec.ofNat 32 ↑i) 0#32))
              (BitVec.setWidth 32 (IntOp.cmpi CmpIPredicate.slt (BitVec.ofNat 32 ↑i) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 ↑i) 64#32) 0#32))
        (IntOp.subi (IntOp.divsi ArithUnit.vector (BitVec.ofNat 32 ↑i) 64#32) 1#32)
        (IntOp.divsi ArithUnit.vector (BitVec.ofNat 32 ↑i) 64#32) = BitVec.ofNat 32 (i.val / 64) := by
  decide +kernel

/-- The diagonal tile's mask: key `i` shows to query `j` when its chunk is no later. -/
theorem mask_apply (i j : Fin 512) :
    k0_pay116 k0_pay112 k0_pay113 k0_pay114 k0_pay115 (ix2 i j)
      = if i.val / 64 ≤ j.val / 64 then 1#1 else 0#1 := by
  pointwise [k0_pay116, k0_pay112, k0_pay113, k0_pay114, k0_pay115]
  rw [chunk_eq i, chunk_eq j, sle_ofNat _ _ (by omega) (by omega)]

/-- The first component's masked score. -/
theorem masked0_apply (a : Vec Ideal S128x512 .bf16) (k : Vec Ideal S1x512x128 .bf16) (i j : Fin 512) :
    k0_pay118 a (k0_pay111 k) k0_pay112 k0_pay113 k0_pay114 k0_pay115 (ix4 0 0 i j)
      = if i.val / 64 ≤ j.val / 64 then ∑ x, k (ix3 0 i x) * a (ix2 x j) else ⊥ := by
  pointwise [k0_pay118, k0_pay117, k0_pay111]
  rw [mask_apply, select_ite, neg_inf_eq]

/-- The second component's masked score. -/
theorem masked1_apply (a : Vec Ideal S128x512 .bf16) (k : Vec Ideal S1x512x128 .bf16) (i j : Fin 512) :
    k0_pay121 a (k0_pay111 k) k0_pay112 k0_pay113 k0_pay114 k0_pay115 (ix4 0 0 i j)
      = if i.val / 64 ≤ j.val / 64 then ∑ x, k (ix3 0 i x) * a (ix2 x j) else ⊥ := by
  pointwise [k0_pay121, k0_pay120, k0_pay111]
  rw [mask_apply, select_ite, neg_inf_eq]

/-- The diagonal tile's maxima in the first component. -/
theorem maskedTop0_apply (a : Vec Ideal S128x512 .bf16) (k : Vec Ideal S1x512x128 .bf16) (j : Fin 512) :
    k0_pay119 a (k0_pay111 k) k0_pay112 k0_pay113 k0_pay114 k0_pay115 (ix4 0 0 0 j)
      = Finset.univ.fold max ⊥ fun i : Fin 512 =>
        if i.val / 64 ≤ j.val / 64 then ∑ x, k (ix3 0 i x) * a (ix2 x j) else ⊥ := by
  pointwise [k0_pay119, k0_pay117, k0_pay111]
  rw [ofBits_neg_inf]
  congr 1
  funext i
  rw [mask_apply, select_ite, neg_inf_eq]

/-- The diagonal tile's maxima in the second component. -/
theorem maskedTop1_apply (a : Vec Ideal S128x512 .bf16) (k : Vec Ideal S1x512x128 .bf16) (j : Fin 512) :
    k0_pay122 a (k0_pay111 k) k0_pay112 k0_pay113 k0_pay114 k0_pay115 (ix4 0 0 0 j)
      = Finset.univ.fold max ⊥ fun i : Fin 512 =>
        if i.val / 64 ≤ j.val / 64 then ∑ x, k (ix3 0 i x) * a (ix2 x j) else ⊥ := by
  pointwise [k0_pay122, k0_pay120, k0_pay111]
  rw [ofBits_neg_inf]
  congr 1
  funext i
  rw [mask_apply, select_ite, neg_inf_eq]

/-- The first component's queries: scaled, transposed, the lower 64 rows kept. -/
theorem query0_apply (q : Vec Ideal S1x512x128 .f32) (d : Fin 128) (j : Fin 512) :
    k0_pay107 q (ix2 d j) = if d.val < 64 then q (ix3 0 j d) * ((8⁻¹ * (Real.log 2)⁻¹ : ℝ) : EReal) else 0 := by
  pointwise [k0_pay107, k0_pay106]
  have h : ∀ d : Fin 128, IntOp.cmpi CmpIPredicate.slt (BitVec.ofNat 32 d.val) 64#32
      = if d.val < 64 then 1#1 else 0#1 := by decide +kernel
  rw [h, select_ite, q_scale_eq]

/-- The second component's queries: scaled, transposed, the upper 64 rows kept. -/
theorem query1_apply (q : Vec Ideal S1x512x128 .f32) (d : Fin 128) (j : Fin 512) :
    k0_pay108 q (ix2 d j) = if d.val < 64 then 0 else q (ix3 0 j d) * ((8⁻¹ * (Real.log 2)⁻¹ : ℝ) : EReal) := by
  pointwise [k0_pay108, k0_pay106]
  have h : ∀ d : Fin 128, IntOp.cmpi CmpIPredicate.sge (BitVec.ofNat 32 d.val) 64#32
      = if 64 ≤ d.val then 1#1 else 0#1 := by decide +kernel
  rw [h, select_ite, q_scale_eq]
  by_cases hd : d.val < 64
  · rw [if_pos hd, if_neg (by omega)]
  · rw [if_neg hd, if_pos (by omega)]

/-- The transposed values with ones below. -/
theorem slot_apply (v : Vec Ideal S1x512x128 .bf16) (r : Fin 144) (j : Fin 512) :
    slot v (ix3 0 r j) = if h : r.val < 128 then v (ix3 0 j ⟨r.val, h⟩) else 1 := by
  pointwise [slot, k0_pay104, k0_pay105]

/-- The second component's factor, the same at every element. -/
theorem lambda_apply (v : Vec Ideal S4x64 .f32) (d : Fin 128) (j : Fin 512) :
    k0_pay133 v (ix2 d j) = lambda fun a x => v (ix2 a x) := by
  pointwise [k0_pay133, lambda]

/-- What is stored, of the two components' quotients. -/
theorem normed_apply (x y z : Vec Ideal S128x512 .f32) (g : Vec Ideal S1x128 .f32) (d : Fin 128) (j : Fin 512) :
    k0_pay1 x y z g (ix3 0 j d)
      = normed (fun e => x (ix2 e j) - z (ix2 e j) * y (ix2 e j)) (g (ix2 0 d)) d := by
  pointwise [k0_pay1, normed]

/-- The first component's quotient. -/
theorem quot0_apply (x : Vec Ideal S1x128x512 .f32) (y : Vec Ideal S1x1x512 .f32) (d : Fin 128) (j : Fin 512) :
    k0_pay131 x y (ix2 d j) = Ideal.div (x (ix3 0 d j)) (y (ix3 0 0 j)) := by
  pointwise [k0_pay131]

/-- The second component's quotient. -/
theorem quot1_apply (x : Vec Ideal S1x128x512 .f32) (y : Vec Ideal S1x1x512 .f32) (d : Fin 128) (j : Fin 512) :
    k0_pay132 x y (ix2 d j) = Ideal.div (x (ix3 0 d j)) (y (ix3 0 0 j)) := by
  pointwise [k0_pay132]

/-- Nothing taken in: the maxima are `⊥`, the sums zero. -/
theorem start_apply (r : Fin 144) (j : Fin 512) :
    ((start (F := Ideal)).m0 (ix3 0 0 j) = (⊥ : EReal) ∧ (start (F := Ideal)).a0 (ix3 0 r j) = (0 : EReal))
      ∧ (start (F := Ideal)).m1 (ix3 0 0 j) = (⊥ : EReal) ∧ (start (F := Ideal)).a1 (ix3 0 r j) = (0 : EReal) := by
  pointwise [start, k0_pay109, k0_pay110]
  simp [neg_inf_eq]

end Cert.KernelIdeal.Hand
-- ==== Proof.Ideal.Sums.lean ====
/-
  What the running state of a query block holds after its steps: each row of a component is the sum, over the keys taken
  in, of `2 ^ score` times the row's value. After the last step those keys are all that the mask shows to the query.
-/
module

public import proofs.«01_k».proof.Proof.Ideal.Read

@[expose] public section

set_option maxRecDepth 16384

noncomputable section

namespace Cert.KernelIdeal.Hand

open Idealize.ShloMosaic Cert.KernelIdeal Cert.KernelIdeal.Gen Cert.Attention

/-- Column `d` of component `c` of a head's 128 columns. -/
def half (c : Fin 2) (d : Fin 64) : Fin 128 := ⟨64 * c.val + d.val, by omega⟩

/-- The row of an array that a row number names. -/
def row (j : ℕ) : Fin 8192 := ⟨j % 8192, Nat.mod_lt _ (by omega)⟩

/-- The product of query `j` with key `n` in component `c`. -/
def prod (Q : Vec Ideal S1x512x128 .f32) (K : Vec Ideal S1x8192x128 .bf16) (c : Fin 2) (j : Fin 512) (n : ℕ) : ℝ :=
  ∑ d : Fin 64, (Q (ix3 0 j (half c d)) : EReal).toReal * (K (ix3 0 (row n) (half c d)) : EReal).toReal

/-- The value of key `n` in row `r`: a column of the values, or one. -/
def value (V : Vec Ideal S1x8192x128 .bf16) (r : Fin 144) (n : ℕ) : ℝ :=
  if h : r.val < 128 then (V (ix3 0 (row n) ⟨r.val, h⟩) : EReal).toReal else 1

/-- The scale of the scores. -/
def scale : ℝ := 8⁻¹ * (Real.log 2)⁻¹

/-- A key block's entry is the array's. -/
theorem blk_apply (X : Vec Ideal S1x8192x128 .bf16) (n : ℕ) (k : Fin 512) (d : Fin 128) :
    blk X n (ix3 0 k d) = X (ix3 0 (row (512 * n + k.val)) d) := rfl

/-- A sum over a head's columns, by halves. -/
theorem sum_halves (f : Fin 128 → EReal) : ∑ x, f x = ∑ d, f (half 0 d) + ∑ d, f (half 1 d) := by
  rw [show (∑ x, f x) = ∑ x : Fin (64 + 64), f x from rfl, Fin.sum_univ_add]
  refine congrArg₂ (· + ·) ?_ ?_
  · refine Finset.sum_congr rfl fun d _ => congrArg f (Fin.ext ?_)
    simp [half]
  · refine Finset.sum_congr rfl fun d _ => congrArg f (Fin.ext ?_)
    simp [half, add_comm]

variable {Q : Vec Ideal S1x512x128 .f32} {K V : Vec Ideal S1x8192x128 .bf16}

/-- The first component's score of a key. -/
theorem dot0 (hQ : Reals Q) (hK : Reals K) (n : ℕ) (k j : Fin 512) :
    ∑ x, blk K n (ix3 0 k x) * k0_pay107 Q (ix2 x j) = ((prod Q K 0 j (512 * n + k.val) * scale : ℝ) : EReal) := by
  rw [sum_halves, Finset.sum_eq_zero (s := Finset.univ) (f := fun d => blk K n (ix3 0 k (half 1 d)) * _), add_zero, prod,
    Finset.sum_mul, ← sum_coe]
  · refine Finset.sum_congr rfl fun d _ => ?_
    rw [query0_apply, if_pos (by simp [half]), blk_apply, ← hQ, ← hK, ← EReal.coe_mul, ← EReal.coe_mul]
    simp only [EReal.toReal_coe, scale]
    congr 1
    ring
  · intro d _
    rw [query0_apply, if_neg (by simp [half]), mul_zero]

/-- The second component's score of a key. -/
theorem dot1 (hQ : Reals Q) (hK : Reals K) (n : ℕ) (k j : Fin 512) :
    ∑ x, blk K n (ix3 0 k x) * k0_pay108 Q (ix2 x j) = ((prod Q K 1 j (512 * n + k.val) * scale : ℝ) : EReal) := by
  rw [sum_halves, Finset.sum_eq_zero (s := Finset.univ) (f := fun d => blk K n (ix3 0 k (half 0 d)) * _), zero_add, prod,
    Finset.sum_mul, ← sum_coe]
  · refine Finset.sum_congr rfl fun d _ => ?_
    rw [query1_apply, if_neg (by simp [half]), blk_apply, ← hQ, ← hK, ← EReal.coe_mul, ← EReal.coe_mul]
    simp only [EReal.toReal_coe, scale]
    congr 1
    ring
  · intro d _
    rw [query1_apply, if_pos (by simp [half]), mul_zero]

/-- Key `n` shows to query `j` of block `i`: its chunk of 64 is no later. -/
abbrev Shows (i : ℕ) (j : Fin 512) (n : ℕ) : Prop := n / 64 ≤ (512 * i + j.val) / 64

/-- One step's tile in one component: its scores, and their maximum. -/
def TileIs (s : Vec Ideal S1x1x512x512 .f32) (x : Vec Ideal S1x1x1x512 .f32) (i b : ℕ) (j : Fin 512) (p : ℕ → ℝ) : Prop :=
  (∀ k : Fin 512, s (ix4 0 0 k j) = score (Shows i j (512 * b + k.val)) (p (512 * b + k.val) * scale))
    ∧ x (ix4 0 0 0 j) = Finset.univ.fold max (⊥ : EReal)
        fun k : Fin 512 => score (Shows i j (512 * b + k.val)) (p (512 * b + k.val) * scale)

/-- The tile of step `n`. -/
theorem tile_is (hQ : Reals Q) (hK : Reals K) (i n : ℕ) (hn : n ≤ i) (j : Fin 512) :
    TileIs (tile (k0_pay107 Q) (k0_pay108 Q) K i n).s0 (tile (k0_pay107 Q) (k0_pay108 Q) K i n).x0 i (ord i n) j (prod Q K 0 j)
      ∧ TileIs (tile (k0_pay107 Q) (k0_pay108 Q) K i n).s1 (tile (k0_pay107 Q) (k0_pay108 Q) K i n).x1 i (ord i n) j
          (prod Q K 1 j) := by
  by_cases h0 : n = 0
  · have hs : ∀ k : Fin 512, (Shows i j (512 * i + k.val)) = (k.val / 64 ≤ j.val / 64) := by
      intro k
      apply propext
      unfold Shows
      omega
    simp only [tile, ord, if_pos h0, masked, TileIs, score, hs]
    refine ⟨⟨fun k => ?_, ?_⟩, fun k => ?_, ?_⟩
    · rw [masked0_apply, dot0 hQ hK]
    · rw [maskedTop0_apply]
      simp only [dot0 hQ hK]
    · rw [masked1_apply, dot1 hQ hK]
    · rw [maskedTop1_apply]
      simp only [dot1 hQ hK]
  · have hs : ∀ k : Fin 512, Shows i j (512 * (n - 1) + k.val) := by
      intro k
      unfold Shows
      omega
    simp only [tile, ord, if_neg h0, plain, TileIs, score, if_pos (hs _)]
    refine ⟨⟨fun k => ?_, ?_⟩, fun k => ?_, ?_⟩
    · rw [score0_apply, dot0 hQ hK]
    · rw [top0_apply]
      simp only [dot0 hQ hK]
    · rw [score1_apply, dot1 hQ hK]
    · rw [top1_apply]
      simp only [dot1 hQ hK]

/-- The values of a block as the kernel keeps them. -/
theorem slot_value (hV : Reals V) (n : ℕ) (r : Fin 144) (k : Fin 512) :
    slot (blk V n) (ix3 0 r k) = ((value V r (512 * n + k.val) : ℝ) : EReal) := by
  rw [slot_apply, value]
  by_cases h : r.val < 128
  · rw [dif_pos h, dif_pos h, blk_apply, hV]
  · rw [dif_neg h, dif_neg h, EReal.coe_one]

/-- A key's share of a sum. -/
def share (i : ℕ) (j : Fin 512) (p w : ℕ → ℝ) (n : ℕ) : ℝ := w n * weight (Shows i j n) (p n * scale)

/-- One component's step. -/
theorem step_holds {vt : Vec Ideal S1x144x512 .bf16} {s : Vec Ideal S1x1x512x512 .f32} {x : Vec Ideal S1x1x1x512 .f32}
    {m : Vec Ideal S1x1x512 .f32} {a : Vec Ideal S1x144x512 .f32} {i b : ℕ} {j : Fin 512} {r : Fin 144} {p w : ℕ → ℝ} {A : ℝ}
    (hb : b ≤ i) (ht : TileIs s x i b j p) (hv : ∀ k : Fin 512, vt (ix3 0 r k) = ((w (512 * b + k.val) : ℝ) : EReal))
    (h : Holds (m (ix3 0 0 j)) (a (ix3 0 r j)) A) :
    Holds (k0_pay12 m x (ix3 0 0 j)) (k0_pay13 vt s m x a (ix3 0 r j))
      (A + ∑ k : Fin 512, share i j p w (512 * b + k.val)) := by
  rw [max_apply, sum_apply]
  simp only [ht.1, ht.2, hv]
  refine Holds.step Finset.univ (fun k : Fin 512 => Shows i j (512 * b + k.val)) (fun k => p (512 * b + k.val) * scale)
    (fun k => w (512 * b + k.val)) ⟨0, Finset.mem_univ _, ?_⟩ h
  unfold Shows
  simp only [Fin.val_zero]
  omega

/-- The sum of the first `n` steps. -/
def upto (i : ℕ) (j : Fin 512) (p w : ℕ → ℝ) (n : ℕ) : ℝ :=
  ∑ s ∈ Finset.range n, ∑ k : Fin 512, share i j p w (512 * ord i s + k.val)

/-- The state after `n` steps. -/
theorem state_holds (hQ : Reals Q) (hK : Reals K) (hV : Reals V) (i : ℕ) (j : Fin 512) (r : Fin 144) (n : ℕ) (hn : n ≤ i + 1) :
    Holds ((state (k0_pay107 Q) (k0_pay108 Q) K V i n).m0 (ix3 0 0 j)) ((state (k0_pay107 Q) (k0_pay108 Q) K V i n).a0 (ix3 0 r j))
        (upto i j (prod Q K 0 j) (value V r) n)
      ∧ Holds ((state (k0_pay107 Q) (k0_pay108 Q) K V i n).m1 (ix3 0 0 j))
          ((state (k0_pay107 Q) (k0_pay108 Q) K V i n).a1 (ix3 0 r j)) (upto i j (prod Q K 1 j) (value V r) n) := by
  induction n with
  | zero =>
    obtain ⟨⟨h1, h2⟩, h3, h4⟩ := start_apply r j
    exact ⟨Or.inl ⟨h1, h2, by simp [upto]⟩, Or.inl ⟨h3, h4, by simp [upto]⟩⟩
  | succ n ih =>
    obtain ⟨h0, h1⟩ := ih (by omega)
    obtain ⟨t0, t1⟩ := tile_is hQ hK i n (by omega) j
    have hb : ord i n ≤ i := by unfold ord; split <;> omega
    have hv : ∀ k, slot (blk V (ord i n)) (ix3 0 r k) = ((value V r (512 * ord i n + k.val) : ℝ) : EReal) :=
      slot_value hV _ r
    unfold upto at h0 h1 ⊢
    rw [Finset.sum_range_succ, Finset.sum_range_succ]
    exact ⟨step_holds hb t0 hv h0, step_holds hb t1 hv h1⟩

/-- The steps of a query block take in its own key block and all before it. -/
theorem sum_ord (i : ℕ) (f : ℕ → ℝ) : ∑ s ∈ Finset.range (i + 1), f (ord i s) = ∑ b ∈ Finset.range (i + 1), f b := by
  rw [Finset.sum_range_succ', Finset.sum_range_succ]
  simp [ord]

/-- A sum over all keys, block by block. -/
theorem sum_blocks (f : ℕ → ℝ) (n : ℕ) :
    ∑ j ∈ Finset.range (512 * n), f j = ∑ b ∈ Finset.range n, ∑ k : Fin 512, f (512 * b + k.val) := by
  induction n with
  | zero => simp
  | succ n ih => rw [Nat.mul_succ, Finset.sum_range_add, ih, Finset.sum_range (fun x => f (512 * n + x)),
      Finset.sum_range_succ fun b => ∑ k : Fin 512, f (512 * b + k.val)]

/-- After the last step the sum is over every key that shows. -/
theorem upto_last (i : ℕ) (hi : i < 16) (j : Fin 512) (p w : ℕ → ℝ) :
    upto i j p w (i + 1) = ∑ n : Fin 8192, share i j p w n.val := by
  unfold upto
  rw [sum_ord i fun b => ∑ k : Fin 512, share i j p w (512 * b + k.val), ← sum_blocks, ← Finset.sum_range]
  refine Finset.sum_subset (fun n hn => ?_) fun n hn hn' => ?_
  · simp only [Finset.mem_range] at hn ⊢
    omega
  · simp only [Finset.mem_range] at hn hn'
    rw [share, weight, if_neg (by unfold Shows; omega), mul_zero]

/-- The weights' own sum is positive: a query's own key always shows. -/
theorem total_pos (i : ℕ) (hi : i < 16) (j : Fin 512) (p : ℕ → ℝ) : 0 < ∑ n : Fin 8192, share i j p (fun _ => 1) n.val := by
  have hpos : ∀ x : ℝ, 0 < (2 : ℝ) ^ x := fun x => Real.rpow_pos_of_pos (by norm_num) x
  refine Finset.sum_pos' (fun n _ => ?_) ⟨⟨512 * i + j.val, by omega⟩, Finset.mem_univ _, ?_⟩
  · rw [share, weight, one_mul]
    split
    · exact (hpos _).le
    · exact le_rfl
  · rw [share, weight, one_mul, if_pos (le_refl _)]
    exact hpos _

/-- A component's quotient is the mean of the values under the softmax of its scores. -/
theorem quotient {m a z : EReal} (i : ℕ) (hi : i < 16) (j : Fin 512) (p w : ℕ → ℝ)
    (ha : Holds m a (upto i j p w (i + 1))) (hz : Holds m z (upto i j p (fun _ => 1) (i + 1))) :
    Ideal.div a z
      = ((mean (fun n : Fin 8192 => Shows i j n.val) (fun n => p n.val) (fun n => w n.val) : ℝ) : EReal) := by
  rw [upto_last i hi] at ha hz
  rw [ha.div hz (total_pos i hi j p).ne', mean]
  simp only [share, scale, weight_eq, one_mul]

/-- What is stored for a query block, at one element. -/
theorem result_apply (hQ : Reals Q) (hK : Reals K) (hV : Reals V) (lam : Vec Ideal S4x64 .f32) (L : ℝ)
    (hL : lambda (fun a x => lam (ix2 a x)) = (L : EReal)) (g : Vec Ideal S1x128 .f32) (i : ℕ) (hi : i < 16)
    (j : Fin 512) (d : Fin 128) :
    result lam g (state (k0_pay107 Q) (k0_pay108 Q) K V i (i + 1)) (ix3 0 j d)
      = normed (fun e : Fin 128 =>
          ((mean (fun n : Fin 8192 => Shows i j n.val) (fun n => prod Q K 0 j n.val)
              (fun n => (V (ix3 0 n e) : EReal).toReal)
            - L * mean (fun n : Fin 8192 => Shows i j n.val) (fun n => prod Q K 1 j n.val)
              (fun n => (V (ix3 0 n e) : EReal).toReal) : ℝ) : EReal)) (g (ix2 0 d)) d := by
  rw [result, normed_apply]
  congr 1
  funext e
  have hv : (fun n : Fin 8192 => value V ⟨e.val, by omega⟩ n.val) = fun n => (V (ix3 0 n e) : EReal).toReal := by
    funext n
    rw [value, dif_pos e.isLt]
    have hn : row n.val = n := Fin.ext (Nat.mod_eq_of_lt n.isLt)
    rw [hn]
  have hz : value V 128 = fun _ => 1 := by
    funext n
    rw [value, dif_neg (by decide)]
  obtain ⟨n0, n1⟩ := state_holds hQ hK hV i j ⟨e.val, by omega⟩ (i + 1) le_rfl
  obtain ⟨z0, z1⟩ := state_holds hQ hK hV i j 128 (i + 1) le_rfl
  rw [hz] at z0 z1
  rw [quot0_apply, quot1_apply, lambda_apply, hL, EReal.coe_sub, EReal.coe_mul, ← hv]
  exact congrArg₂ (· - ·) (quotient i hi j _ _ n0 z0) (congrArg ((L : EReal) * ·) (quotient i hi j _ _ n1 z1))

end Cert.KernelIdeal.Hand
-- ==== Proof.Ideal.Array.lean ====
/-
  The whole output array: the element at batch row `b`, row `t` and column `e` is the attention's element of that batch
  row, read from the program's arguments.
-/
module

public import proofs.«01_k».proof.Proof.Value.Target
public import proofs.«01_k».proof.Proof.Ideal.Sums
public import proofs.«01_k».proof.Proof.Ideal.Launch
public import Idealize.ShloMosaic.Lib.Pipeline.Covers
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.Pipeline
open Cert.KernelIdeal Cert.KernelIdeal.Gen Cert.Attention

variable (m : (ℓ : Loc nD τ sig) → Buf (Elt Ideal) ℓ) (c : Dev nD)

/-! ## The arguments -/

/-- The queries as given. -/
def argQ : Vec Ideal S8x8192x1024 .f32 := m ((c : Thread nD τ).loc main_arg0)
/-- The keys as given. -/
def argK : Vec Ideal S8x8192x1024 .f32 := m ((c : Thread nD τ).loc main_arg1)
/-- The values as given. -/
def argV : Vec Ideal S8x8192x1024 .f32 := m ((c : Thread nD τ).loc main_arg2)
/-- The rows the mixing weight comes from, as given. -/
def argL : Vec Ideal S4x64 .f32 := m ((c : Thread nD τ).loc main_arg3)
/-- The gain as given. -/
def argG : Vec Ideal S128 .f32 := m ((c : Thread nD τ).loc main_arg4)

/-! ## Where the blocks lie -/

variable (t : Fin cfg0.N)

/-- The batch row of a grid point. -/
def batch : Fin 8 := ⟨((grid0.coords t) 0).val, ((grid0.coords t) 0).isLt⟩
/-- The head of a grid point. -/
def head : Fin 8 := ⟨((grid0.coords t) 1).val, ((grid0.coords t) 1).isLt⟩
/-- The query block of a grid point. -/
def block : Fin 16 := ⟨((grid0.coords t) 2).val, ((grid0.coords t) 2).isLt⟩

/-- The row of a query in its block. -/
def at_ (j : Fin 512) : Fin 8192 := ⟨512 * (block t).val + j.val, by have := (block t).isLt; omega⟩

theorem index0 : win0_0.index t = ![(batch t).val, (block t).val, (head t).val] := by
  show cc0_transform_0 (grid0.coords t) = _
  unfold cc0_transform_0
  have := (batch t).isLt; have := (block t).isLt; have := (head t).isLt
  simp only [batch, head, block, BitVec.toNat_ofNat] at *
  rw [Nat.mod_eq_of_lt (by omega), Nat.mod_eq_of_lt (by omega), Nat.mod_eq_of_lt (by omega)]

theorem index1 : win0_1.index t = ![(batch t).val, 0, (head t).val] := by
  show cc0_transform_1 (grid0.coords t) = _
  unfold cc0_transform_1
  have := (batch t).isLt; have := (head t).isLt
  simp only [batch, head, BitVec.toNat_ofNat] at *
  rw [Nat.mod_eq_of_lt (by omega), Nat.mod_eq_of_lt (by omega), Nat.mod_eq_of_lt (by omega)]

theorem index2 : win0_2.index t = ![(batch t).val, 0, (head t).val] := by
  show cc0_transform_2 (grid0.coords t) = _
  unfold cc0_transform_2
  have := (batch t).isLt; have := (head t).isLt
  simp only [batch, head, BitVec.toNat_ofNat] at *
  rw [Nat.mod_eq_of_lt (by omega), Nat.mod_eq_of_lt (by omega), Nat.mod_eq_of_lt (by omega)]

theorem index3 : win0_3.index t = ![0, 0] := rfl

theorem index4 : win0_4.index t = ![0, 0] := rfl

/-- The output block of a point, by the point's coordinates. -/
theorem transform5 (i : grid0.Coords) : cc0_transform_5 i = ![(i 0).val, (i 2).val, (i 1).val] := by
  unfold cc0_transform_5
  have h0 : (i 0).val < 8 := (i 0).isLt
  have h1 : (i 1).val < 8 := (i 1).isLt
  have h2 : (i 2).val < 16 := (i 2).isLt
  simp only [BitVec.toNat_ofNat]
  rw [Nat.mod_eq_of_lt (by omega), Nat.mod_eq_of_lt (by omega), Nat.mod_eq_of_lt (by omega)]

theorem index5 : win0_5.index t = ![(batch t).val, (block t).val, (head t).val] := transform5 (grid0.coords t)

/-! ## What the blocks hold -/

theorem queries_apply (j : Fin 512) (x : Fin 128) :
    queries m c t (ix3 0 j x) = argQ m c (ix3 (batch t) (at_ t j) (wide (head t) x)) := by
  unfold queries argQ
  blk_ext [iblk, V, index0 t, at_, wide]

theorem keys_apply (n : Fin 8192) (x : Fin 128) :
    keys m c t (ix3 0 n x) = argK m c (ix3 (batch t) n (wide (head t) x)) := by
  unfold keys argK
  blk_ext [iblk, V, index1 t, wide]

theorem vals_apply (n : Fin 8192) (x : Fin 128) :
    vals m c t (ix3 0 n x) = argV m c (ix3 (batch t) n (wide (head t) x)) := by
  unfold vals argV
  blk_ext [iblk, V, index2 t, wide]

theorem lams_apply (a : Fin 4) (x : Fin 64) : lams m c t (ix2 a x) = argL m c (ix2 a x) := by
  unfold lams argL
  blk_ext [iblk, V, index3 t]

theorem gain_apply (x : Fin 128) : gain m c t (ix2 0 x) = argG m c (ix1 x) := by
  have h : (win0_4.blk t).view.emb (ix2 0 x) = ix2 0 x := by blk_ext [index4 t]
  show V m c main_v2 ((win0_4.blk t).view.emb (ix2 0 x)) = argG m c (ix1 x)
  rw [h]
  entry_read
  pointwise
  rfl

/-! ## One stored element -/

variable (hQ : Reals (argQ m c)) (hK : Reals (argK m c)) (hV : Reals (argV m c)) (hL : Reals (argL m c))

/-- A block's averages are those of its batch row and head. -/
theorem average_eq (u : Fin 2) (j : Fin 512) (x : Fin 128) :
    mean (fun n : Fin 8192 => Shows (block t).val j n.val) (fun n => prod (queries m c t) (keys m c t) u j n.val)
        (fun n => (vals m c t (ix3 0 n x) : EReal).toReal)
      = average (fun n e => argQ m c (ix3 (batch t) n e)) (fun n e => argK m c (ix3 (batch t) n e))
          (fun n e => argV m c (ix3 (batch t) n e)) (at_ t j) (head t) u x := by
  have hs : (fun n : Fin 8192 => prod (queries m c t) (keys m c t) u j n.val)
      = fun n => product (fun e => argQ m c (ix3 (batch t) (at_ t j) e)) (fun e => argK m c (ix3 (batch t) n e)) (head t) u := by
    funext n
    have hn : row n.val = n := Fin.ext (Nat.mod_eq_of_lt n.isLt)
    unfold prod product
    refine Finset.sum_congr rfl fun d _ => ?_
    rw [hn, queries_apply, keys_apply]
    rfl
  have hw : (fun n : Fin 8192 => (vals m c t (ix3 0 n x) : EReal).toReal)
      = fun n => (argV m c (ix3 (batch t) n (wide (head t) x)) : EReal).toReal := by
    funext n
    rw [vals_apply]
  rw [hs, hw]
  rfl

include hQ hK hV hL in
/-- A grid point stores its block of the attention. -/
theorem stored_apply (j : Fin 512) (d : Fin 128) :
    stored m c t (ix3 0 j d)
      = target (argQ m c) (argK m c) (argV m c) (argL m c) (argG m c) (batch t) (at_ t j) (head t) d := by
  have hq : Reals (queries m c t) := fun x => by
    idx_vars x
    obtain rfl : x0 = 0 := Subsingleton.elim _ _
    rw [queries_apply]
    exact hQ _
  have hk : Reals (keys m c t) := fun x => by
    idx_vars x
    obtain rfl : x0 = 0 := Subsingleton.elim _ _
    rw [keys_apply]
    exact hK _
  have hv : Reals (vals m c t) := fun x => by
    idx_vars x
    obtain rfl : x0 = 0 := Subsingleton.elim _ _
    rw [vals_apply]
    exact hV _
  have hl : lambda (fun a x => lams m c t (ix2 a x)) = lambda fun a x => argL m c (ix2 a x) := by
    congr 1
    funext a x
    exact lams_apply m c t a x
  show result (lams m c t) (gain m c t) (state (k0_pay107 (queries m c t)) (k0_pay108 (queries m c t)) (keys m c t)
    (vals m c t) (block t).val ((block t).val + 1)) (ix3 0 j d) = _
  rw [result_apply hq hk hv _ (lambda fun a x => argL m c (ix2 a x)).toReal (hl.trans (lambda_real hL).symm) _
    (block t).val (block t).isLt j d, gain_apply]
  simp only [average_eq m c t]
  rfl

/-! ## The array -/

/-- The grid's coordinates of a batch row, a head and a query block. -/
def point (b h : Fin 8) (i : Fin 16) : grid0.Coords := fun | 0 => b | 1 => h | 2 => i

/-- The blocks lie side by side: every element of the array is in the block of one grid point. -/
theorem covered : (cfg0.win 5).Covers :=
  (cfg0.win 5).covers_of_indexMap_surj rfl (by decide) fun β =>
    ⟨point ⟨(β 0).val, (β 0).isLt⟩ ⟨(β 2).val, (β 2).isLt⟩ ⟨(β 1).val, (β 1).isLt⟩, fun a => by
      refine (congrFun (transform5 (point ⟨(β 0).val, (β 0).isLt⟩ ⟨(β 2).val, (β 2).isLt⟩ ⟨(β 1).val, (β 1).isLt⟩)) a).trans ?_
      match a with
      | 0 => rfl
      | 1 => rfl
      | 2 => rfl⟩

include hQ hK hV hL in
/-- What the run leaves in the output array. -/
theorem array_eq : (dats m 0 c).arrAt 5 cfg0.N = attention (argQ m c) (argK m c) (argV m c) (argL m c) (argG m c) := by
  refine (dats m 0 c).arrAt_eq_of_covers 5 _ covered fun t hf y => ?_
  idx_vars y
  obtain rfl : y0 = 0 := Subsingleton.elim _ _
  have he : (win0_5.blk t).view.emb (ix3 0 y1 y2) = ix3 (batch t) (at_ t y1) (wide (head t) y2) := by
    blk_ext [index5 t, at_, wide]
  blk_simp
  rw [he]
  show stored m c t (ix3 0 y1 y2) = _
  rw [stored_apply m c t hQ hK hV hL, attention_wide]

/-- The whole program: the result is the attention of the arguments, and the arguments stay. -/
theorem result_run (ρ : Dev nD → PrngReg) (hfin : ∀ c : Dev nD, Reals (argQ m c) ∧ Reals (argK m c) ∧ Reals (argV m c) ∧ Reals (argL m c)) :
    θ_run defs (onTc (τ := τ) (main (F := Ideal))) ⟨m, fun _ => 0, ρ⟩ (fun r => ∀ c : Dev nD,
      r.2.mem ((c : Thread nD τ).loc main_v3) = attention (argQ m c) (argK m c) (argV m c) (argL m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨
      ((h.1 c).1 5).trans (array_eq m c (hfin c).1 (hfin c).2.1 (hfin c).2.2.1 (hfin c).2.2.2),
      ((h.1 c).1 0).trans (((dats m 0 c).arrAt_in 0 rfl _).trans ((A_eq m c 0).trans (V_main_arg0 m c))),
      ((h.1 c).2 main_arg1 (mem_restRefs_of main_arg1 (by decide) (by decide))).trans (V_main_arg1 m c),
      ((h.1 c).2 main_arg2 (mem_restRefs_of main_arg2 (by decide) (by decide))).trans (V_main_arg2 m c),
      ((h.1 c).1 3).trans (((dats m 0 c).arrAt_in 3 rfl _).trans ((A_eq m c 3).trans (V_main_arg3 m c))),
      ((h.1 c).2 main_arg4 (mem_restRefs_of main_arg4 (by decide) (by decide))).trans (V_main_arg4 m c)⟩) (run_main m ρ)

end Cert.KernelIdeal.Hand

end
-- ==== Proof.Ref.Terms.lean ====
/-
  The reference in named steps: the mask, the scaled and masked products, their softmax, the difference of the two
  components, the averages of the values, and the norm.
-/
module

public import proofs.«01_k».proof.Proof.Gen.ReferenceIdeal.Run
public import Idealize.ShloMosaic.Lib.Pointwise

@[expose] public section

set_option maxRecDepth 16384

noncomputable section

namespace Cert.ReferenceIdeal.Hand

open Idealize.ShloMosaic Idealize.ShloMosaic.TcCoe Cert.ReferenceIdeal Cert.ReferenceIdeal.Gen

/-- The chunk of 64 rows each row of a key lies in, along a row. -/
def chunks {s : Shape} (x : IVec s 32) (h : S_.BroadcastsInDim s (![] : Fin 0 → Fin s.rank)) : IVec s 32 :=
  select (andi (cmpi .ne (signi x) (broadcastInDim s ![] h (signi (id (constantI S_ 32 64#32)))))
      (cmpi .ne (Host.remsi x (broadcastInDim s ![] h (id (constantI S_ 32 64#32))))
        (broadcastInDim s ![] h (constantI S_ 32 0#32))))
    (subi (Host.divsi x (broadcastInDim s ![] h (id (constantI S_ 32 64#32)))) (broadcastInDim s ![] h (constantI S_ 32 1#32)))
    (Host.divsi x (broadcastInDim s ![] h (id (constantI S_ 32 64#32))))

/-- Which keys (second axis) each query (first axis) sees. -/
def sees : IVec S8192x8192 1 :=
  cmpi .sle
    (broadcastInDim S8192x8192 ![0, 1] bcast_S1x8192_S8192x8192_0_1
      (chunks (broadcastInDim S1x8192 ![1] bcast_S8192_S1x8192_1 (iotaInDim S8192 32 0)) bcast_S_S1x8192))
    (broadcastInDim S8192x8192 ![0, 1] bcast_S8192x1_S8192x8192_0_1
      (chunks (broadcastInDim S8192x1 ![0] bcast_S8192_S8192x1_0 (iotaInDim S8192 32 0)) bcast_S_S8192x1))

/-- The products of queries and keys over a component's 64 columns, scaled. -/
def products (Q K : FVec Ideal S8x8192x1024 .f32) : FVec Ideal S8x8x2x8192x8192 .f32 :=
  mulf (Host.dotGeneral dot_S8x8192x8x2x64_S8x8192x8x2x64_S8x8x2x8192x8192_4_4_1_1_023_023 none
      (shapeCast _ Q shapeCasts_S8x8192x1024_S8x8192x8x2x64) (shapeCast _ K shapeCasts_S8x8192x1024_S8x8192x8x2x64))
    (broadcastInDim S8x8x2x8192x8192 ![] bcast_S_S8x8x2x8192x8192 (constant S_ .f32 0x3E000000#32))

/-- The scores: the products where the query sees the key, the least value elsewhere. -/
def scores (Q K : FVec Ideal S8x8192x1024 .f32) : FVec Ideal S8x8x2x8192x8192 .f32 :=
  select (broadcastInDim S8x8x2x8192x8192 ![3, 4] bcast_S8192x8192_S8x8x2x8192x8192_3_4 sees) (products Q K)
    (broadcastInDim S8x8x2x8192x8192 ![] bcast_S_S8x8x2x8192x8192 (id (constant S_ .f32 0xFF800000#32)))

/-- The greatest score of each query. -/
def tops (S : FVec Ideal S8x8x2x8192x8192 .f32) : FVec Ideal S8x8x2x8192 .f32 :=
  maximumf (broadcastInDim S8x8x2x8192 ![] bcast_S_S8x8x2x8192 (constant S_ .f32 0xFF800000#32))
    (Host.reduce FloatOps.maximumf S (constant S_ .f32 0xFF800000#32) reducesTo_S8x8x2x8192x8192_S8x8x2x8192_d4 h_S_)

/-- A row's number along the keys. -/
def along (X : FVec Ideal S8x8x2x8192 .f32) : FVec Ideal S8x8x2x8192x8192 .f32 :=
  broadcastInDim S8x8x2x8192x8192 ![0, 1, 2, 3, 4] bcast_S8x8x2x8192x1_S8x8x2x8192x8192_0_1_2_3_4
    (broadcastInDim S8x8x2x8192x1 ![0, 1, 2, 3] bcast_S8x8x2x8192_S8x8x2x8192x1_0_1_2_3 X)

/-- The exponentials of the scores, shifted by the greatest. -/
def exps (S : FVec Ideal S8x8x2x8192x8192 .f32) : FVec Ideal S8x8x2x8192x8192 .f32 := Host.exp (subf S (along (tops S)))

/-- Each row's sum. -/
def totals (E : FVec Ideal S8x8x2x8192x8192 .f32) : FVec Ideal S8x8x2x8192 .f32 :=
  Host.reduceAdd E (constant S_ .f32 0x00000000#32) reducesTo_S8x8x2x8192x8192_S8x8x2x8192_d4 h_S_

/-- The softmax. -/
def softmax (S : FVec Ideal S8x8x2x8192x8192 .f32) : FVec Ideal S8x8x2x8192x8192 .f32 :=
  Host.divf (exps S) (along (totals (exps S)))

/-- The factor of the second component. -/
def factor (L : FVec Ideal S4x64 .f32) : FVec Ideal S_ .f32 :=
  addf (subf
      (Host.exp (Host.reduceAdd (mulf
          (shapeCast _ (extractStridedSlice S1x64 ![0, 0] L slices_S4x64_S1x64_0_0) shapeCasts_S1x64_S64)
          (shapeCast _ (extractStridedSlice S1x64 ![1, 0] L slices_S4x64_S1x64_1_0) shapeCasts_S1x64_S64))
        (constant S_ .f32 0x00000000#32) reducesTo_S64_S_d0 h_S_))
      (Host.exp (Host.reduceAdd (mulf
          (shapeCast _ (extractStridedSlice S1x64 ![2, 0] L slices_S4x64_S1x64_2_0) shapeCasts_S1x64_S64)
          (shapeCast _ (extractStridedSlice S1x64 ![3, 0] L slices_S4x64_S1x64_3_0) shapeCasts_S1x64_S64))
        (constant S_ .f32 0x00000000#32) reducesTo_S64_S_d0 h_S_)))
    (constant S_ .f32 0x3EB60549#32)

/-- The difference of the two components' softmaxes. -/
def weights (A : FVec Ideal S8x8x2x8192x8192 .f32) (f : FVec Ideal S_ .f32) : FVec Ideal S8x8x8192x8192 .f32 :=
  subf (shapeCast _ (extractStridedSlice S8x8x1x8192x8192 ![0, 0, 0, 0, 0] A slices_S8x8x2x8192x8192_S8x8x1x8192x8192_0_0_0_0_0)
      shapeCasts_S8x8x1x8192x8192_S8x8x8192x8192)
    (mulf (broadcastInDim S8x8x8192x8192 ![] bcast_S_S8x8x8192x8192 f)
      (shapeCast _ (extractStridedSlice S8x8x1x8192x8192 ![0, 0, 1, 0, 0] A slices_S8x8x2x8192x8192_S8x8x1x8192x8192_0_0_1_0_0)
        shapeCasts_S8x8x1x8192x8192_S8x8x8192x8192))

/-- The values averaged under the weights. -/
def mixed (V : FVec Ideal S8x8192x1024 .f32) (W : FVec Ideal S8x8x8192x8192 .f32) : FVec Ideal S8x8192x8x128 .f32 :=
  transpose S8x8192x8x128 [0, 3, 1, 2]
    (Host.dotGeneral dot_S8x8192x8x128_S8x8x8192x8192_S8x8x128x8192_1_3_3_2_02_01 none
      (shapeCast _ V shapeCasts_S8x8192x1024_S8x8192x8x128) W)
    transposes_S8x8x128x8192_S8x8192x8x128_0_3_1_2

/-- The norm over a head's columns, its gain and its constant. -/
def finished (O : FVec Ideal S8x8192x8x128 .f32) (G : FVec Ideal S128 .f32) : FVec Ideal S8x8192x1024 .bf16 :=
  truncf .bf16 (shapeCast _ (mulf (mulf (mulf O
      (broadcastInDim S8x8192x8x128 ![0, 1, 2, 3] bcast_S8x8192x8x1_S8x8192x8x128_0_1_2_3
        (Host.rsqrt (addf
          (Host.divf
            (broadcastInDim S8x8192x8x1 ![0, 1, 2] bcast_S8x8192x8_S8x8192x8x1_0_1_2
              (Host.reduceAdd (mulf O O) (constant S_ .f32 0x00000000#32) reducesTo_S8x8192x8x128_S8x8192x8_d3 h_S_))
            (broadcastInDim S8x8192x8x1 ![] bcast_S_S8x8192x8x1 (constant S_ .f32 0x43000000#32)))
          (broadcastInDim S8x8192x8x1 ![] bcast_S_S8x8192x8x1 (constant S_ .f32 0x358637BD#32))))))
      (broadcastInDim S8x8192x8x128 ![0, 1, 2, 3] bcast_S1x1x1x128_S8x8192x8x128_0_1_2_3
        (broadcastInDim S1x1x1x128 ![3] bcast_S128_S1x1x1x128_3 G)))
    (broadcastInDim S8x8192x8x128 ![] bcast_S_S8x8192x8x128 (constant S_ .f32 0x3F24FD5C#32)))
    shapeCasts_S8x8192x8x128_S8x8192x1024) bitsLt_bf16_f32

/-- The reference's result. -/
def answer (Q K V : FVec Ideal S8x8192x1024 .f32) (L : FVec Ideal S4x64 .f32) (G : FVec Ideal S128 .f32) :
    FVec Ideal S8x8192x1024 .bf16 :=
  finished (mixed V (weights (softmax (scores Q K)) (factor L))) G

/-- The reference's run leaves these steps' result. -/
theorem res_eq (m : (ℓ : Loc nD τ sig) → Buf (Elt Ideal) ℓ) (c : Dev nD) :
    Value.res_main_v67 m c = answer (m ((c : Thread nD τ).loc main_arg0)) (m ((c : Thread nD τ).loc main_arg1))
      (m ((c : Thread nD τ).loc main_arg2)) (m ((c : Thread nD τ).loc main_arg3)) (m ((c : Thread nD τ).loc main_arg4)) := by
  unfold Value.res_main_v67
  rfl

end Cert.ReferenceIdeal.Hand

end
-- ==== Proof.Ref.Read.lean ====
/-
  The reference's steps read at one element.
-/
module

public import proofs.«01_k».proof.Proof.Ref.Terms
public import proofs.«01_k».proof.Proof.Value.Target

@[expose] public section

set_option maxRecDepth 16384

noncomputable section

namespace Cert.ReferenceIdeal.Hand

open Idealize.ShloMosaic Cert.ReferenceIdeal Cert.ReferenceIdeal.Gen Cert.Attention

/-- The words of a floor division by 64: a row's chunk. -/
theorem chunk_word : ∀ n : Fin 8192,
    Scalar.select
      (IntOp.andi
        (IntOp.cmpi CmpIPredicate.ne
          (if BitVec.ofNat 32 n.val = 0 then (0 : BitVec 32) else if (BitVec.ofNat 32 n.val).msb = true then -1 else 1)
          (if (64#32 : BitVec 32) = 0 then (0 : BitVec 32) else if (64#32 : BitVec 32).msb = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32)
    = BitVec.ofNat 32 (n.val / 64) := by
  decide +kernel

/-- A query sees the keys up to its own chunk. -/
theorem sees_apply (t n : Fin 8192) : sees (ix2 t n) = if Sees t n then 1#1 else 0#1 := by
  unfold sees chunks
  pointwise
  refine (congrArg₂ (IntOp.cmpi CmpIPredicate.sle) (chunk_word n) (chunk_word t)).trans ?_
  exact sle_ofNat _ _ (by omega) (by omega)

/-- A score. -/
theorem scores_apply (Q K : FVec Ideal S8x8192x1024 .f32) (hQ : Reals Q) (hK : Reals K) (b h : Fin 8) (u : Fin 2)
    (t n : Fin 8192) :
    scores Q K (ix5 b h u t n)
      = score (Sees t n) (product (fun e => Q (ix3 b t e)) (fun e => K (ix3 b n e)) h u * 8⁻¹) := by
  have hs : ∑ x : Fin 64, (Q (ix3 b t (column h u x)) * K (ix3 b n (column h u x)) : EReal)
      = ((product (fun e => Q (ix3 b t e)) (fun e => K (ix3 b n e)) h u : ℝ) : EReal) := by
    unfold product
    rw [← sum_coe]
    refine Finset.sum_congr rfl fun x _ => ?_
    rw [EReal.coe_mul, hQ, hK]
  have hc : ∀ x : Fin 64, (⟨h.val * 128 + u.val * 64 + x.val, by omega⟩ : Fin 1024) = column h u x :=
    fun x => Fin.ext (by simp only [column]; omega)
  unfold scores products
  pointwise
  simp only [hc]
  rw [hs, ofBits_eighth, ← EReal.coe_mul, sees_apply, select_ite, score]
  congr 1

/-- A reduction by the maximum along the keys. -/
theorem fold_apply (S : FVec Ideal S8x8x2x8192x8192 .f32) (i : FVec Ideal S_ .f32) (e : EReal) (hi : ∀ x, i x = e)
    (b h : Fin 8) (u : Fin 2) (t : Fin 8192) :
    Host.reduce FloatOps.maximumf S i reducesTo_S8x8x2x8192x8192_S8x8x2x8192_d4 h_S_ (ix4 b h u t)
      = Finset.univ.fold max e fun n : Fin 8192 => S (ix5 b h u t n) := by
  pointwise
  rw [hi]

theorem max_apply (x y : FVec Ideal S8x8x2x8192 .f32) (j : S8x8x2x8192.Idx) : maximumf x y j = max (x j) (y j) := rfl

theorem least_apply (j : S8x8x2x8192.Idx) :
    broadcastInDim S8x8x2x8192 ![] bcast_S_S8x8x2x8192 (constant (F := Ideal) S_ .f32 0xFF800000#32) j = (⊥ : EReal) :=
  ofBits_neg_inf

/-- A query's greatest score. -/
theorem tops_apply (S : FVec Ideal S8x8x2x8192x8192 .f32) (b h : Fin 8) (u : Fin 2) (t : Fin 8192) :
    tops S (ix4 b h u t) = Finset.univ.fold max (⊥ : EReal) fun n => S (ix5 b h u t n) := by
  unfold tops
  rw [max_apply, least_apply, fold_apply S (constant S_ .f32 0xFF800000#32) ⊥ (fun _ => ofBits_neg_inf), max_bot_left]

/-- An exponential. -/
theorem exps_apply (S : FVec Ideal S8x8x2x8192x8192 .f32) (b h : Fin 8) (u : Fin 2) (t n : Fin 8192) :
    exps S (ix5 b h u t n) = Ideal.exp (S (ix5 b h u t n) - tops S (ix4 b h u t)) := by
  unfold exps along
  pointwise

/-- An entry of the softmax. -/
theorem softmax_apply (S : FVec Ideal S8x8x2x8192x8192 .f32) (b h : Fin 8) (u : Fin 2) (t n : Fin 8192) :
    softmax S (ix5 b h u t n) = Ideal.div (exps S (ix5 b h u t n)) (∑ k, exps S (ix5 b h u t k)) := by
  unfold softmax along totals
  pointwise

/-- The factor of the second component. -/
theorem factor_apply (L : FVec Ideal S4x64 .f32) : factor L ix0 = lambda fun a x => L (ix2 a x) := by
  unfold factor lambda
  pointwise

/-- The difference of two entries. -/
theorem weights_apply (A : FVec Ideal S8x8x2x8192x8192 .f32) (f : FVec Ideal S_ .f32) (b h : Fin 8) (t n : Fin 8192) :
    weights A f (ix4 b h t n) = A (ix5 b h 0 t n) - f ix0 * A (ix5 b h 1 t n) := by
  unfold weights
  pointwise

/-- The sum of a column of values. -/
theorem mixed_apply (V : FVec Ideal S8x8192x1024 .f32) (W : FVec Ideal S8x8x8192x8192 .f32) (b : Fin 8) (t : Fin 8192)
    (h : Fin 8) (x : Fin 128) :
    mixed V W (ix4 b t h x) = ∑ n : Fin 8192, V (ix3 b n (wide h x)) * W (ix4 b h t n) := by
  have hc : (⟨h.val * 128 + x.val, by omega⟩ : Fin 1024) = wide h x := Fin.ext (by simp only [wide]; omega)
  unfold mixed
  pointwise
  exact Finset.sum_congr rfl fun n _ => congrArg (fun e => (V (ix3 b n e) * W (ix4 b h t n) : EReal)) hc

/-- The normed row. -/
theorem finished_apply (O : FVec Ideal S8x8192x8x128 .f32) (G : FVec Ideal S128 .f32) (b : Fin 8) (t : Fin 8192)
    (e : Fin 1024) :
    finished O G (ix3 b t e) = normed (fun x => O (ix4 b t ⟨e.val / 128, by omega⟩ x))
      (G (ix1 ⟨e.val % 128, Nat.mod_lt _ (by omega)⟩)) ⟨e.val % 128, Nat.mod_lt _ (by omega)⟩ := by
  unfold finished normed
  pointwise

/-- The softmax of the scores, over the reals. -/
theorem attention_weight (Q K : FVec Ideal S8x8192x1024 .f32) (hQ : Reals Q) (hK : Reals K) (b h : Fin 8) (u : Fin 2)
    (t n : Fin 8192) :
    softmax (scores Q K) (ix5 b h u t n)
      = ((soft (Sees t n) (product (fun e => Q (ix3 b t e)) (fun e => K (ix3 b n e)) h u)
          / ∑ k, soft (Sees t k) (product (fun e => Q (ix3 b t e)) (fun e => K (ix3 b k e)) h u) : ℝ) : EReal) := by
  rw [softmax_apply]
  simp only [exps_apply, tops_apply, scores_apply Q K hQ hK]
  exact softmax_eq (Sees t) (fun n => product (fun e => Q (ix3 b t e)) (fun e => K (ix3 b n e)) h u) ⟨t, le_refl _⟩ _ rfl n

/-- The reference's result is the attention. -/
theorem answer_eq (Q K V : FVec Ideal S8x8192x1024 .f32) (L : FVec Ideal S4x64 .f32) (G : FVec Ideal S128 .f32)
    (hQ : Reals Q) (hK : Reals K) (hV : Reals V) (hL : Reals L) : answer Q K V L G = attention Q K V L G := by
  funext i
  idx_vars i
  unfold answer
  rw [finished_apply, attention_apply]
  unfold target attended
  congr 1
  funext x
  rw [mixed_apply]
  refine (Finset.sum_congr rfl fun n _ => ?_).trans (difference
    (fun n => soft (Sees i1 n) (product (fun e => Q (ix3 i0 i1 e)) (fun e => K (ix3 i0 n e)) ⟨i2.val / 128, by omega⟩ 0))
    (fun n => soft (Sees i1 n) (product (fun e => Q (ix3 i0 i1 e)) (fun e => K (ix3 i0 n e)) ⟨i2.val / 128, by omega⟩ 1))
    (fun n => (V (ix3 i0 n (wide ⟨i2.val / 128, by omega⟩ x)) : EReal).toReal) _ _ (lambda fun a x => L (ix2 a x)).toReal)
  rw [weights_apply, attention_weight Q K hQ hK, attention_weight Q K hQ hK, factor_apply, hV, lambda_real hL]

end Cert.ReferenceIdeal.Hand

end
-- ==== Proof.Value.Finite.lean ====
/-
  What the precondition says: every element of the queries, the keys, the values and the rows of the mixing weight is a
  real.
-/
module

public import proofs.«01_k».proof.Pre_finite_inputs
public import proofs.«01_k».proof.Proof.Value.Common
public import Idealize.ShloMosaic.Lib.ReduceAll
public import Idealize.ShloMosaic.Lib.Affine

@[expose] public section

set_option maxRecDepth 16384

noncomputable section

namespace Cert.Attention

open Idealize.ShloMosaic Cert.Pre_finite_inputs

/-- The shapes of the precondition's operations fit together. -/
theorem finite_facts : Cert.Pre_finite_inputs.Facts :=
  ⟨by decide, by decide, by decide, by decide, by decide⟩

/-- A magnitude below the greatest value is that of a real. -/
theorem real_of_abs (x : EReal) (h : max x (-x) < ⊤) : ((x.toReal : ℝ) : EReal) = x := by
  refine EReal.coe_toReal (fun hx => ?_) fun hx => ?_ <;> subst hx <;> simp at h

/-- An element whose magnitude compares below the greatest value is a real. -/
theorem reals_of_all {s : Shape} (X : FVec Ideal s .f32) (b : FVec Ideal s .f32)
    (hb : ∀ i, (b i : EReal) = ⊤) (h : ∀ i, cmpf .olt (Host.absf X) b i = 1#1) : Reals X := by
  intro i
  refine real_of_abs _ ?_
  have := h i
  have hc : cmpf .olt (Host.absf X) b i = BitVec.ofBool (decide (max (X i : EReal) (-(X i : EReal)) < b i)) := rfl
  rw [hc, hb] at this
  by_contra hn
  rw [decide_eq_false hn] at this
  exact absurd this (by decide)

/-- The precondition, read. -/
theorem reals_of_finite [Cert.Pre_finite_inputs.Facts] (Q K V : FVec Ideal S8x8192x1024 .f32) (L : FVec Ideal S4x64 .f32)
    (G : FVec Ideal S128 .f32) (h : fn Q K V L G = fun _ => 1#1) : Reals Q ∧ Reals K ∧ Reals V ∧ Reals L := by
  have h0 := congrFun h ix0
  dsimp only [fn, fn_part1] at h0
  obtain ⟨h1, hL⟩ := IntOp.andi_eq_one.1 h0
  obtain ⟨h2, hV⟩ := IntOp.andi_eq_one.1 h1
  obtain ⟨hQ, hK⟩ := IntOp.andi_eq_one.1 h2
  exact ⟨reals_of_all Q _ (fun _ => ofBits_inf) fun i => Host.reduce_andi_all _ _ _ _ _ hQ i,
    reals_of_all K _ (fun _ => ofBits_inf) fun i => Host.reduce_andi_all _ _ _ _ _ hK i,
    reals_of_all V _ (fun _ => ofBits_inf) fun i => Host.reduce_andi_all _ _ _ _ _ hV i,
    reals_of_all L _ (fun _ => ofBits_inf) fun i => Host.reduce_andi_all _ _ _ _ _ hL i⟩

end Cert.Attention

end
-- ==== Proof.Mlp.Target.lean ====
/-
  What one element of the output projection and feed-forward part is: a row of mixed values times the projection, normed
  and added to the row of the residual stream; that row normed, times the upward matrix, its positive part squared, times
  the downward matrix, normed and added.
-/
module

public import Idealize.ShloMosaic.Lib.Pointwise

@[expose] public section

noncomputable section

namespace Cert.Mlp

open Idealize.ShloMosaic

/-- The reciprocal of the root of a row's mean square. -/
def shrink (x : Fin 1024 → EReal) : EReal :=
  Ideal.rsqrt (Ideal.div (∑ e, x e * x e) (Ideal.ofBits .f32 0x44800000#32) + Ideal.ofBits .f32 0x358637BD#32)

/-- A row divided by the root of its mean square, scaled by a gain. -/
def normed (x g : Fin 1024 → EReal) (d : Fin 1024) : EReal := x d * shrink x * g d

/-- A row times a matrix. -/
def times {n k : ℕ} (x : Fin n → EReal) (W : Fin n → Fin k → EReal) (d : Fin k) : EReal := ∑ e, x e * W e d

/-- A row's positive part, squared. -/
def squared {n : ℕ} (x : Fin n → EReal) (d : Fin n) : EReal := max (x d) 0 * max (x d) 0

/-- The residual row after the projection. -/
def middle (o h : Fin 1024 → EReal) (W : Fin 1024 → Fin 1024 → EReal) (g : Fin 1024 → EReal) (d : Fin 1024) : EReal :=
  h d + normed (times o W) g d

/-- The feed-forward part of a normed row. -/
def feed (a : Fin 1024 → EReal) (U : Fin 1024 → Fin 4096 → EReal) (D : Fin 4096 → Fin 1024 → EReal) : Fin 1024 → EReal :=
  times (squared (times a U)) D

/-- The whole row. -/
def row (o h : Fin 1024 → EReal) (W : Fin 1024 → Fin 1024 → EReal) (g1 g2 : Fin 1024 → EReal)
    (U : Fin 1024 → Fin 4096 → EReal) (D : Fin 4096 → Fin 1024 → EReal) (g3 : Fin 1024 → EReal) (d : Fin 1024) : EReal :=
  middle o h W g1 d + normed (feed (normed (middle o h W g1) g2) U D) g3 d

/-- The whole array, from the arguments: `B` batch rows of `T` places. -/
def result {B T : ℕ} (O H : (⟨3, ![B, T, 1024]⟩ : Shape).Idx → EReal) (W : (⟨2, ![1024, 1024]⟩ : Shape).Idx → EReal)
    (g1 g2 : (⟨1, ![1024]⟩ : Shape).Idx → EReal) (U : (⟨2, ![1024, 4096]⟩ : Shape).Idx → EReal)
    (D : (⟨2, ![4096, 1024]⟩ : Shape).Idx → EReal) (g3 : (⟨1, ![1024]⟩ : Shape).Idx → EReal)
    (b : Fin B) (t : Fin T) (d : Fin 1024) : EReal :=
  row (fun e => O (ix3 b t e)) (fun e => H (ix3 b t e)) (fun e d => W (ix2 e d)) (fun e => g1 (ix1 e)) (fun e => g2 (ix1 e))
    (fun e d => U (ix2 e d)) (fun e d => D (ix2 e d)) (fun e => g3 (ix1 e)) d

/-- Column `x` of tile `c` of the hidden columns. -/
def hidden (c : Fin 8) (x : Fin 512) : Fin 4096 := ⟨512 * c.val + x.val, by omega⟩

/-- A sum over the hidden columns, tile by tile. -/
theorem sum_tiles (f : Fin 4096 → EReal) : ∑ j, f j
    = (∑ x, f (hidden 0 x)) + (∑ x, f (hidden 1 x)) + (∑ x, f (hidden 2 x)) + (∑ x, f (hidden 3 x))
      + (∑ x, f (hidden 4 x)) + (∑ x, f (hidden 5 x)) + (∑ x, f (hidden 6 x)) + ∑ x, f (hidden 7 x) := by
  have h : ∑ j, f j = ∑ c : Fin 8, ∑ x : Fin 512, f (hidden c x) := by
    rw [← Fintype.sum_prod_type' (f := fun c x => f (hidden c x))]
    exact (Fintype.sum_equiv (finProdFinEquiv (m := 8) (n := 512)) (fun p => f (hidden p.1 p.2)) f fun p =>
      congrArg f (Fin.ext (by simp only [hidden, finProdFinEquiv_apply_val]; omega))).symm
  rw [h, Fin.sum_univ_eight]

end Cert.Mlp

end
-- ==== Proof.Mlp.Body.lean ====
/-
  What one grid point of the output projection and feed-forward call stores, read at one element.
-/
module

public import proofs.«01_k».proof.Proof.Mlp.Target
public import proofs.«01_k».proof.Proof.Gen.Kernel2Ideal.Frame
public import Idealize.ShloMosaic.Lib.Pipeline.ValueKit

@[expose] public section

set_option maxRecDepth 16384

noncomputable section

namespace Cert.Kernel2Ideal.Hand

open Idealize.ShloMosaic Idealize.ShloMosaic.TcCoe Cert.Kernel2Ideal Cert.Kernel2Ideal.Gen Cert.Mlp

/-- The residual rows after the projection. -/
theorem middle_apply (o : Vec Ideal S1024x1024 .bf16) (w : Vec Ideal S1024x1024 .bf16) (h : Vec Ideal S1024x1024 .f32)
    (g : Vec Ideal S1x1024 .f32) (i d : Fin 1024) :
    k0_pay2 o w h g (ix2 i d)
      = middle (fun e => o (ix2 i e)) (fun e => h (ix2 i e)) (fun e d => w (ix2 e d)) (fun e => g (ix2 0 e)) d := by
  unfold k0_pay2
  pointwise
  rfl

/-- Those rows normed. -/
theorem normed_apply (o : Vec Ideal S1024x1024 .bf16) (w : Vec Ideal S1024x1024 .bf16) (h : Vec Ideal S1024x1024 .f32)
    (g g' : Vec Ideal S1x1024 .f32) (i d : Fin 1024) :
    k0_pay3 o w h g g' (ix2 i d)
      = normed (fun e => k0_pay2 o w h g (ix2 i e)) (fun e => g' (ix2 0 e)) d := by
  unfold k0_pay3
  pointwise
  rfl

/-- One tile of the feed-forward part: 512 hidden columns. -/
def tile (a : FVec Ideal S1024x1024 .bf16) (u : Vec Ideal S1024x512 .bf16) (w : Vec Ideal S512x1024 .bf16) (i d : Fin 1024) :
    EReal :=
  ∑ x : Fin 512, squared (times (fun e => a (ix2 i e)) fun e x => u (ix2 e x)) x * w (ix2 x d)

/-- The first three tiles. -/
theorem pay5_apply (a : FVec Ideal S1024x1024 .bf16) (u0 u1 u2 : Vec Ideal S1024x512 .bf16) (w0 w1 w2 : Vec Ideal S512x1024 .bf16)
    (i d : Fin 1024) :
    k0_pay5 a (k0_pay4 u0) (constant S1024x512 .f32 0x00000000#32) w0 u1 w1 u2 w2 (ix2 i d)
      = tile a u0 w0 i d + tile a u1 w1 i d + tile a u2 w2 i d := by
  unfold k0_pay5 k0_pay4
  pointwise
  rfl

/-- The first seven tiles. -/
theorem pay7_apply (a : FVec Ideal S1024x1024 .bf16) (s : FVec Ideal S1024x1024 .f32)
    (u3 u4 u5 u6 : Vec Ideal S1024x512 .bf16) (w3 w4 w5 w6 : Vec Ideal S512x1024 .bf16) (i d : Fin 1024) :
    k0_pay7 a s (k0_pay6 a u3) w3 u4 w4 u5 w5 u6 w6 (ix2 i d)
      = s (ix2 i d) + tile a u3 w3 i d + tile a u4 w4 i d + tile a u5 w5 i d + tile a u6 w6 i d := by
  unfold k0_pay7 k0_pay6
  pointwise
  rfl

/-- The stored rows, from the first seven tiles. -/
theorem pay1_apply (h : FVec Ideal S1024x1024 .f32) (a : FVec Ideal S1024x1024 .bf16) (s : FVec Ideal S1024x1024 .f32)
    (u : Vec Ideal S1024x512 .bf16) (w : Vec Ideal S512x1024 .bf16) (g : Vec Ideal S1x1024 .f32) (i d : Fin 1024) :
    k0_pay1 h a s u w g (ix2 i d)
      = h (ix2 i d) + normed (fun e => s (ix2 i e) + tile a u w i e) (fun e => g (ix2 0 e)) d := by
  unfold k0_pay1
  pointwise
  rfl

/-- A tile read from the whole matrices: its hidden columns are 512 of the 4096. -/
theorem tile_at (a : FVec Ideal S1024x1024 .bf16) (U : Vec Ideal S1024x4096 .bf16) (D : Vec Ideal S4096x1024 .bf16) (i d : Fin 1024)
    (c : Fin 8) (o : ℕ) (ho : o = 512 * c.val) (p : ∀ k, (![0, o] : Fin 2 → ℕ) k + S1024x512.size k ≤ S1024x4096.size k)
    (q : ∀ k, (![o, 0] : Fin 2 → ℕ) k + S512x1024.size k ≤ S4096x1024.size k) :
    tile a (View.ld U (Rect.unit (s := S1024x4096) ![0, o] S1024x512.size p))
        (View.ld D (Rect.unit (s := S4096x1024) ![o, 0] S512x1024.size q)) i d
      = ∑ x : Fin 512, squared (times (fun e => a (ix2 i e)) fun e x => U (ix2 e x)) (hidden c x) * D (ix2 (hidden c x) d) := by
  subst ho
  have hu : ∀ e x, View.ld U (Rect.unit (s := S1024x4096) ![0, 512 * c.val] S1024x512.size p) (ix2 e x)
      = U (ix2 e (hidden c x)) := fun e x => View.ld_unit_apply_of _ _ _ _ _ _ fun a => by
    match a with
    | 0 => exact (Nat.zero_add _).symm
    | 1 => rfl
  have hd : ∀ x d, View.ld D (Rect.unit (s := S4096x1024) ![512 * c.val, 0] S512x1024.size q) (ix2 x d)
      = D (ix2 (hidden c x) d) := fun x d => View.ld_unit_apply_of _ _ _ _ _ _ fun a => by
    match a with
    | 0 => rfl
    | 1 => exact (Nat.zero_add _).symm
  unfold tile squared times
  refine Finset.sum_congr rfl fun x _ => ?_
  rw [hd]
  simp only [hu]

/-- The corner of a block. -/
theorem corner : (![0, 0] : Fin 2 → ℕ) = fun _ => 0 := by
  funext a
  match a with
  | 0 => rfl
  | 1 => rfl

variable (x0 : Vec Ideal S1024x1024 .bf16) (x1 : Vec Ideal S1024x1024 .f32) (x2 : Vec Ideal S1024x1024 .bf16)
  (x3 x4 : Vec Ideal S1x1024 .f32) (x5 : Vec Ideal S1024x4096 .bf16) (x6 : Vec Ideal S4096x1024 .bf16) (x7 : Vec Ideal S1x1024 .f32)

/-- The stored block at an element: a row of the whole computation. -/
theorem out_apply (i d : Fin 1024) :
    out0_8 x0 x1 x2 x3 x4 x5 x6 x7 (ix2 i d)
      = row (fun e => x0 (ix2 i e)) (fun e => x1 (ix2 i e)) (fun e d => x2 (ix2 e d)) (fun e => x3 (ix2 0 e))
          (fun e => x4 (ix2 0 e)) (fun e x => x5 (ix2 e x)) (fun x d => x6 (ix2 x d)) (fun e => x7 (ix2 0 e)) d := by
  have ha : ∀ e, k0_pay8 x0 x1 x2 x3 x4 x5 x6 x7 (ix2 i e)
      = normed (middle (fun e => x0 (ix2 i e)) (fun e => x1 (ix2 i e)) (fun e d => x2 (ix2 e d)) fun e => x3 (ix2 0 e))
          (fun e => x4 (ix2 0 e)) e := fun e => by
    unfold k0_pay8
    rw [View.ld_unit_zero corner, View.ld_unit_zero corner, View.ld_unit_zero corner, View.ld_unit_zero corner,
      View.ld_unit_zero corner, normed_apply]
    simp only [middle_apply]
  unfold out0_8
  rw [View.canon_unit_zero corner, pay1_apply, View.ld_unit_zero corner, View.ld_unit_zero corner, View.ld_unit_zero corner,
    View.ld_unit_zero corner, View.ld_unit_zero corner, middle_apply]
  unfold row
  congr 2
  funext e
  rw [pay7_apply, pay5_apply]
  rw [tile_at _ x5 x6 i e 0 0 rfl, tile_at _ x5 x6 i e 1 512 rfl, tile_at _ x5 x6 i e 2 1024 rfl,
    tile_at _ x5 x6 i e 3 1536 rfl, tile_at _ x5 x6 i e 4 2048 rfl, tile_at _ x5 x6 i e 5 2560 rfl,
    tile_at _ x5 x6 i e 6 3072 rfl, tile_at _ x5 x6 i e 7 3584 rfl]
  simp only [ha]
  exact (sum_tiles fun j => squared (times (normed (middle (fun e => x0 (ix2 i e)) (fun e => x1 (ix2 i e)) (fun e d => x2 (ix2 e d))
    fun e => x3 (ix2 0 e)) fun e => x4 (ix2 0 e)) fun e x => x5 (ix2 e x)) j * x6 (ix2 j e)).symm

end Cert.Kernel2Ideal.Hand

end
-- ==== Proof.Mlp.Array.lean ====
/-
  The whole result of the output projection and feed-forward call: row `t` of batch row `b` is the computation of
  `Proof/Mlp/Target.lean` on the arguments' rows.
-/
module

public import proofs.«01_k».proof.Proof.Mlp.Body
public import Idealize.ShloMosaic.Lib.Pipeline.Covers
public import Idealize.ShloMosaic.Lib.Claim

@[expose] public section

set_option maxRecDepth 16384

noncomputable section

namespace Cert.Kernel2Ideal.Hand

open Idealize.ShloMosaic Idealize.ShloMosaic.TcCoe Idealize.ShloMosaic.Tactic
open Idealize.SL Idealize.SL.Sem
open Idealize.ShloMosaic.Pipeline (Dat Cfg Window)
open Idealize.ShloMosaic.Pipeline
open Cert.Kernel2Ideal Cert.Kernel2Ideal.Gen Cert.Mlp

variable (m : (ℓ : Loc nD τ sig) → Buf (Elt Ideal) ℓ) (c : Dev nD)

/-! ## The arguments -/

/-- The mixed rows as given. -/
def argO : Vec Ideal S8x8192x1024 .bf16 := m ((c : Thread nD τ).loc main_arg0)
/-- The residual rows as given. -/
def argH : Vec Ideal S8x8192x1024 .f32 := m ((c : Thread nD τ).loc main_arg1)
/-- The projection as given. -/
def argW : Vec Ideal S1024x1024 .f32 := m ((c : Thread nD τ).loc main_arg2)
/-- The first gain as given. -/
def argG1 : Vec Ideal S1024 .f32 := m ((c : Thread nD τ).loc main_arg3)
/-- The second gain as given. -/
def argG2 : Vec Ideal S1024 .f32 := m ((c : Thread nD τ).loc main_arg4)
/-- The upward matrix as given. -/
def argU : Vec Ideal S1024x4096 .f32 := m ((c : Thread nD τ).loc main_arg5)
/-- The downward matrix as given. -/
def argD : Vec Ideal S4096x1024 .f32 := m ((c : Thread nD τ).loc main_arg6)
/-- The third gain as given. -/
def argG3 : Vec Ideal S1024 .f32 := m ((c : Thread nD τ).loc main_arg7)

/-! ## The operands as the lines before the call leave them -/

theorem entry_v0 : V m c main_v0 = shapeCast S65536x1024 (argO m c) shapeCasts_S8x8192x1024_S65536x1024 := by
  unfold V V0
  simp only [hostOps0, List.flatten_cons, List.flatten_nil, List.append_nil, List.cons_append, List.nil_append]
  after_results
  rfl

theorem entry_v1 : V m c main_v1 = shapeCast S65536x1024 (argH m c) shapeCasts_S8x8192x1024_S65536x1024 := by
  unfold V V0
  simp only [hostOps0, List.flatten_cons, List.flatten_nil, List.append_nil, List.cons_append, List.nil_append]
  after_results
  rfl

theorem entry_v5 : V m c main_v5 = shapeCast S1x1024 (argG1 m c) shapeCasts_S1024_S1x1024 := by
  unfold V V0
  simp only [hostOps0, List.flatten_cons, List.flatten_nil, List.append_nil, List.cons_append, List.nil_append]
  after_results
  rfl

theorem entry_v6 : V m c main_v6 = shapeCast S1x1024 (argG2 m c) shapeCasts_S1024_S1x1024 := by
  unfold V V0
  simp only [hostOps0, List.flatten_cons, List.flatten_nil, List.append_nil, List.cons_append, List.nil_append]
  after_results
  rfl

theorem entry_v7 : V m c main_v7 = shapeCast S1x1024 (argG3 m c) shapeCasts_S1024_S1x1024 := by
  unfold V V0
  simp only [hostOps0, List.flatten_cons, List.flatten_nil, List.append_nil, List.cons_append, List.nil_append]
  after_results
  rfl

/-! ## Where the blocks lie -/

variable (t : Fin cfg0.N)

/-- The block of 1024 rows of a grid point. -/
def block : Fin 64 := ⟨((grid0.coords t) 0).val, ((grid0.coords t) 0).isLt⟩

/-- A row of the block among all rows. -/
def at_ (j : Fin 1024) : Fin 65536 := ⟨1024 * (block t).val + j.val, by have := (block t).isLt; omega⟩

/-- The batch row of one of all rows. -/
def batch (n : Fin 65536) : Fin 8 := ⟨n.val / 8192, by omega⟩
/-- The place of one of all rows in its batch row. -/
def place (n : Fin 65536) : Fin 8192 := ⟨n.val % 8192, Nat.mod_lt _ (by omega)⟩

theorem index0 : win0_0.index t = ![(block t).val, 0] := by
  show cc0_transform_0 (grid0.coords t) = _
  unfold cc0_transform_0
  have := (block t).isLt
  simp only [block, BitVec.toNat_ofNat] at *
  rw [Nat.mod_eq_of_lt (by omega), Nat.mod_eq_of_lt (by omega)]

theorem index1 : win0_1.index t = ![(block t).val, 0] := by
  show cc0_transform_1 (grid0.coords t) = _
  unfold cc0_transform_1
  have := (block t).isLt
  simp only [block, BitVec.toNat_ofNat] at *
  rw [Nat.mod_eq_of_lt (by omega), Nat.mod_eq_of_lt (by omega)]

theorem index2 : win0_2.index t = ![0, 0] := rfl
theorem index3 : win0_3.index t = ![0, 0] := rfl
theorem index4 : win0_4.index t = ![0, 0] := rfl
theorem index5 : win0_5.index t = ![0, 0] := rfl
theorem index6 : win0_6.index t = ![0, 0] := rfl
theorem index7 : win0_7.index t = ![0, 0] := rfl

/-- The output block of a point, by the point's coordinate. -/
theorem transform8 (i : grid0.Coords) : cc0_transform_8 i = ![(i 0).val, 0] := by
  unfold cc0_transform_8
  have h0 : (i 0).val < 64 := (i 0).isLt
  simp only [BitVec.toNat_ofNat]
  rw [Nat.mod_eq_of_lt (by omega), Nat.mod_eq_of_lt (by omega)]

theorem index8 : win0_8.index t = ![(block t).val, 0] := transform8 (grid0.coords t)

/-! ## What the blocks hold -/

theorem mixed_apply (j e : Fin 1024) :
    (iblk m c 0 t : Vec Ideal S1024x1024 .bf16) (ix2 j e) = argO m c (ix3 (batch (at_ t j)) (place (at_ t j)) e) := by
  have h : (win0_0.blk t).view.emb (ix2 j e) = ix2 (at_ t j) e := by blk_ext [index0 t, at_]
  show V m c main_v0 ((win0_0.blk t).view.emb (ix2 j e)) = _
  rw [h]
  refine (congrFun (entry_v0 m c) _).trans ?_
  pointwise
  rfl

theorem residual_apply (j e : Fin 1024) :
    (iblk m c 1 t : Vec Ideal S1024x1024 .f32) (ix2 j e) = argH m c (ix3 (batch (at_ t j)) (place (at_ t j)) e) := by
  have h : (win0_1.blk t).view.emb (ix2 j e) = ix2 (at_ t j) e := by blk_ext [index1 t, at_]
  show V m c main_v1 ((win0_1.blk t).view.emb (ix2 j e)) = _
  rw [h]
  refine (congrFun (entry_v1 m c) _).trans ?_
  pointwise
  rfl

theorem out_matrix_apply (e d : Fin 1024) : (iblk m c 2 t : Vec Ideal S1024x1024 .bf16) (ix2 e d) = argW m c (ix2 e d) := by
  have h : (win0_2.blk t).view.emb (ix2 e d) = ix2 e d := by blk_ext [index2 t]
  show V m c main_v2 ((win0_2.blk t).view.emb (ix2 e d)) = _
  rw [h]
  entry_read
  pointwise
  rfl

theorem gain1_apply (e : Fin 1024) : (iblk m c 3 t : Vec Ideal S1x1024 .f32) (ix2 0 e) = argG1 m c (ix1 e) := by
  have h : (win0_3.blk t).view.emb (ix2 0 e) = ix2 0 e := by blk_ext [index3 t]
  show V m c main_v5 ((win0_3.blk t).view.emb (ix2 0 e)) = _
  rw [h]
  refine (congrFun (entry_v5 m c) _).trans ?_
  pointwise

theorem gain2_apply (e : Fin 1024) : (iblk m c 4 t : Vec Ideal S1x1024 .f32) (ix2 0 e) = argG2 m c (ix1 e) := by
  have h : (win0_4.blk t).view.emb (ix2 0 e) = ix2 0 e := by blk_ext [index4 t]
  show V m c main_v6 ((win0_4.blk t).view.emb (ix2 0 e)) = _
  rw [h]
  refine (congrFun (entry_v6 m c) _).trans ?_
  pointwise

theorem up_matrix_apply (e : Fin 1024) (x : Fin 4096) :
    (iblk m c 5 t : Vec Ideal S1024x4096 .bf16) (ix2 e x) = argU m c (ix2 e x) := by
  have h : (win0_5.blk t).view.emb (ix2 e x) = ix2 e x := by blk_ext [index5 t]
  show V m c main_v3 ((win0_5.blk t).view.emb (ix2 e x)) = _
  rw [h]
  entry_read
  pointwise
  rfl

theorem down_matrix_apply (x : Fin 4096) (d : Fin 1024) :
    (iblk m c 6 t : Vec Ideal S4096x1024 .bf16) (ix2 x d) = argD m c (ix2 x d) := by
  have h : (win0_6.blk t).view.emb (ix2 x d) = ix2 x d := by blk_ext [index6 t]
  show V m c main_v4 ((win0_6.blk t).view.emb (ix2 x d)) = _
  rw [h]
  entry_read
  pointwise
  rfl

theorem gain3_apply (e : Fin 1024) : (iblk m c 7 t : Vec Ideal S1x1024 .f32) (ix2 0 e) = argG3 m c (ix1 e) := by
  have h : (win0_7.blk t).view.emb (ix2 0 e) = ix2 0 e := by blk_ext [index7 t]
  show V m c main_v7 ((win0_7.blk t).view.emb (ix2 0 e)) = _
  rw [h]
  refine (congrFun (entry_v7 m c) _).trans ?_
  pointwise

/-! ## The array -/

/-- The result's element, from the arguments. -/
def element (b : Fin 8) (n : Fin 8192) (d : Fin 1024) : EReal :=
  result (argO m c) (argH m c) (argW m c) (argG1 m c) (argG2 m c) (argU m c) (argD m c) (argG3 m c) b n d

/-- What a grid point leaves in its block. -/
def stored : Vec Ideal S1024x1024 .f32 :=
  out0_8 (F := Ideal) (iblk m c 0 t) (iblk m c 1 t) (iblk m c 2 t) (iblk m c 3 t) (iblk m c 4 t) (iblk m c 5 t) (iblk m c 6 t)
    (iblk m c 7 t)

theorem after_eq : (dats m 0 c).after 8 t = stored m c t := by
  simp only [dats, stored]

/-- A grid point stores its block of the result. -/
theorem stored_apply (j d : Fin 1024) :
    stored m c t (ix2 j d)
      = element m c (batch (at_ t j)) (place (at_ t j)) d := by
  unfold stored
  rw [out_apply]
  simp only [mixed_apply, residual_apply, out_matrix_apply, gain1_apply, gain2_apply, up_matrix_apply, down_matrix_apply,
    gain3_apply]
  rfl

/-- The grid's coordinate of a block. -/
def point (b : Fin 64) : grid0.Coords := fun | 0 => b

/-- The blocks lie side by side: every element of the array is in the block of one grid point. -/
theorem covered : (cfg0.win 8).Covers :=
  (cfg0.win 8).covers_of_indexMap_surj rfl (by decide) fun β =>
    ⟨point ⟨(β 0).val, (β 0).isLt⟩, fun a => by
      refine (congrFun (transform8 (point ⟨(β 0).val, (β 0).isLt⟩)) a).trans ?_
      match a with
      | 0 => rfl
      | 1 => exact (Nat.lt_one_iff.mp (lt_of_lt_of_eq (β 1).isLt (by decide : (cfg0.win 8).nblk 1 = 1))).symm⟩

/-- The result's rows, one batch row after another. -/
def rows : Vec Ideal S65536x1024 .f32 := fun i => element m c (batch (i 0)) (place (i 0)) (i 1)

theorem rows_apply (n : Fin 65536) (d : Fin 1024) : rows m c (ix2 n d) = element m c (batch n) (place n) d := rfl

/-- What the run leaves in the output array: all rows, one batch row after another. -/
theorem array_eq : (dats m 0 c).arrAt 8 cfg0.N = rows m c := by
  refine (dats m 0 c).arrAt_eq_of_covers 8 _ covered fun t hf y => ?_
  idx_vars y
  have he : (win0_8.blk t).view.emb (ix2 y0 y1) = ix2 (at_ t y0) y1 := by
    blk_ext [index8 t, at_]
  blk_simp
  rw [he]
  rw [after_eq, stored_apply, rows_apply]

/-- The whole result, in three axes. -/
def whole : Vec Ideal S8x8192x1024 .f32 := fun i => element m c (i 0) (i 1) (i 2)

/-- The line after the call gives the array its three axes. -/
theorem tail_eq : afterTail₀ cfgs (dats m) 0 (V0 m) [hostOps1] c main_v9 = whole m c := by
  have hv : withArrays (cfgs 0).spec c (V0 m c) (fun w => (dats m 0 c).arrAt w (cfgs 0).N) (Proc.devRef .tc main_v8)
      = (dats m 0 c).arrAt 8 cfg0.N :=
    withArrays_arr spec0 (by decide) c (V0 m c) (fun w => (dats m 0 c).arrAt w cfg0.N) 8
  unfold afterTail₀
  simp only [hostOps1, List.flatten_cons, List.flatten_nil, List.append_nil, List.cons_append, List.nil_append]
  after_results
  rw [hv, array_eq]
  funext i
  idx_vars i
  pointwise
  rw [rows_apply]
  have hb : batch ⟨i0.val * 8192 + i1.val, by omega⟩ = i0 := Fin.ext (by simp only [batch]; omega)
  have hp : place ⟨i0.val * 8192 + i1.val, by omega⟩ = i1 := Fin.ext (by simp only [place]; omega)
  rw [hb, hp]
  rfl

/-- The whole program: the result is that array, and the arguments stay. -/
theorem result_run (ρ : Dev nD → PrngReg) :
    θ_run defs (onTc (τ := τ) (main (F := Ideal))) ⟨m, fun _ => 0, ρ⟩ (fun r => ∀ c : Dev nD,
      r.2.mem ((c : Thread nD τ).loc main_v9) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c => ⟨
      ((h c).2 main_v9 (mem_restRefs_of main_v9 (by decide) (by decide))).trans (tail_eq m c),
      ((h c).2 main_arg0 (mem_restRefs_of main_arg0 (by decide) (by decide))).trans (W_main_arg0 m (dats m) c),
      ((h c).2 main_arg1 (mem_restRefs_of main_arg1 (by decide) (by decide))).trans (W_main_arg1 m (dats m) c),
      ((h c).2 main_arg2 (mem_restRefs_of main_arg2 (by decide) (by decide))).trans (W_main_arg2 m (dats m) c),
      ((h c).2 main_arg3 (mem_restRefs_of main_arg3 (by decide) (by decide))).trans (W_main_arg3 m (dats m) c),
      ((h c).2 main_arg4 (mem_restRefs_of main_arg4 (by decide) (by decide))).trans (W_main_arg4 m (dats m) c),
      ((h c).2 main_arg5 (mem_restRefs_of main_arg5 (by decide) (by decide))).trans (W_main_arg5 m (dats m) c),
      ((h c).2 main_arg6 (mem_restRefs_of main_arg6 (by decide) (by decide))).trans (W_main_arg6 m (dats m) c),
      ((h c).2 main_arg7 (mem_restRefs_of main_arg7 (by decide) (by decide))).trans (W_main_arg7 m (dats m) c)⟩) (run_main m ρ)

end Cert.Kernel2Ideal.Hand

end
-- ==== Proof.Mlp.Ref.lean ====
/-
  The reference of the output projection and feed-forward call in named steps, and its result's elements: the computation
  of `Proof/Mlp/Target.lean` on the arguments' rows.
-/
module

public import proofs.«01_k».proof.Proof.Gen.Reference2Ideal.Run
public import proofs.«01_k».proof.Proof.Mlp.Target

@[expose] public section

set_option maxRecDepth 16384

noncomputable section

namespace Cert.Reference2Ideal.Hand

open Idealize.ShloMosaic Idealize.ShloMosaic.TcCoe Idealize.ShloMosaic.Tactic Cert.Reference2Ideal Cert.Reference2Ideal.Gen
open Cert.Mlp

/-- The rows divided by the roots of their mean squares, scaled by a gain. -/
def norms (X : FVec Ideal S8x8192x1024 .f32) (g : FVec Ideal S1024 .f32) : FVec Ideal S8x8192x1024 .f32 :=
  mulf (mulf X (broadcastInDim S8x8192x1024 ![0, 1, 2] bcast_S8x8192x1_S8x8192x1024_0_1_2
      (Host.rsqrt (addf
        (Host.divf
          (broadcastInDim S8x8192x1 ![0, 1] bcast_S8x8192_S8x8192x1_0_1
            (Host.reduceAdd (mulf X X) (constant S_ .f32 0x00000000#32) reducesTo_S8x8192x1024_S8x8192_d2 h_S_))
          (broadcastInDim S8x8192x1 ![] bcast_S_S8x8192x1 (constant S_ .f32 0x44800000#32)))
        (broadcastInDim S8x8192x1 ![] bcast_S_S8x8192x1 (constant S_ .f32 0x358637BD#32))))))
    (broadcastInDim S8x8192x1024 ![0, 1, 2] bcast_S1x1x1024_S8x8192x1024_0_1_2
      (broadcastInDim S1x1x1024 ![2] bcast_S1024_S1x1x1024_2 g))

/-- The residual rows after the projection. -/
def middles (O : FVec Ideal S8x8192x1024 .bf16) (H : FVec Ideal S8x8192x1024 .f32) (W : FVec Ideal S1024x1024 .f32)
    (g : FVec Ideal S1024 .f32) : FVec Ideal S8x8192x1024 .f32 :=
  addf H (norms (Host.dotGeneral dot_S8x8192x1024_S1024x1024_S8x8192x1024_2_0_01_1_n_n none
    (extf .f32 O bitsLt_bf16_f32) W) g)

/-- The positive parts. -/
def positive (X : FVec Ideal S8x8192x4096 .f32) : FVec Ideal S8x8192x4096 .f32 :=
  maximumf X (broadcastInDim S8x8192x4096 ![] bcast_S_S8x8192x4096 (constant S_ .f32 0x00000000#32))

/-- The feed-forward part of the normed rows. -/
def feeds (A : FVec Ideal S8x8192x1024 .f32) (U : FVec Ideal S1024x4096 .f32) (D : FVec Ideal S4096x1024 .f32) :
    FVec Ideal S8x8192x1024 .f32 :=
  Host.dotGeneral dot_S8x8192x4096_S4096x1024_S8x8192x1024_2_0_01_1_n_n none
    (mulf (positive (Host.dotGeneral dot_S8x8192x1024_S1024x4096_S8x8192x4096_2_0_01_1_n_n none A U))
      (positive (Host.dotGeneral dot_S8x8192x1024_S1024x4096_S8x8192x4096_2_0_01_1_n_n none A U))) D

/-- The reference's result. -/
def answer (O : FVec Ideal S8x8192x1024 .bf16) (H : FVec Ideal S8x8192x1024 .f32) (W : FVec Ideal S1024x1024 .f32)
    (g1 g2 : FVec Ideal S1024 .f32) (U : FVec Ideal S1024x4096 .f32) (D : FVec Ideal S4096x1024 .f32)
    (g3 : FVec Ideal S1024 .f32) : FVec Ideal S8x8192x1024 .f32 :=
  addf (middles O H W g1) (norms (feeds (norms (middles O H W g1) g2) U D) g3)

/-- The reference's run leaves these steps' result. -/
theorem res_eq (m : (ℓ : Loc nD τ sig) → Buf (Elt Ideal) ℓ) (c : Dev nD) :
    Value.res_main_v46 m c = answer (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  unfold Value.res_main_v46
  rfl

/-- A normed row's element. -/
theorem norms_apply (X : FVec Ideal S8x8192x1024 .f32) (g : FVec Ideal S1024 .f32) (b : Fin 8) (t : Fin 8192) (d : Fin 1024) :
    norms X g (ix3 b t d) = normed (fun e => X (ix3 b t e)) (fun e => g (ix1 e)) d := by
  unfold norms
  pointwise
  rfl

/-- An element of the residual rows after the projection. -/
theorem middles_apply (O : FVec Ideal S8x8192x1024 .bf16) (H : FVec Ideal S8x8192x1024 .f32) (W : FVec Ideal S1024x1024 .f32)
    (g : FVec Ideal S1024 .f32) (b : Fin 8) (t : Fin 8192) (d : Fin 1024) :
    middles O H W g (ix3 b t d) = middle (fun e => O (ix3 b t e)) (fun e => H (ix3 b t e)) (fun e d => W (ix2 e d))
      (fun e => g (ix1 e)) d := by
  unfold middles
  refine congrArg (H (ix3 b t d) + ·) ((norms_apply _ g b t d).trans (congrArg (fun x => normed x _ d) (funext fun e => ?_)))
  pointwise
  rfl

/-- An element of the feed-forward part. -/
theorem feeds_apply (A : FVec Ideal S8x8192x1024 .f32) (U : FVec Ideal S1024x4096 .f32) (D : FVec Ideal S4096x1024 .f32)
    (b : Fin 8) (t : Fin 8192) (d : Fin 1024) :
    feeds A U D (ix3 b t d) = feed (fun e => A (ix3 b t e)) (fun e x => U (ix2 e x)) (fun x d => D (ix2 x d)) d := by
  unfold feeds positive
  pointwise
  rfl

/-- The reference's result, element by element. -/
theorem answer_apply (O : FVec Ideal S8x8192x1024 .bf16) (H : FVec Ideal S8x8192x1024 .f32) (W : FVec Ideal S1024x1024 .f32)
    (g1 g2 : FVec Ideal S1024 .f32) (U : FVec Ideal S1024x4096 .f32) (D : FVec Ideal S4096x1024 .f32)
    (g3 : FVec Ideal S1024 .f32) (b : Fin 8) (t : Fin 8192) (d : Fin 1024) :
    answer O H W g1 g2 U D g3 (ix3 b t d) = result O H W g1 g2 U D g3 b t d := by
  unfold answer
  refine congrArg₂ (· + ·) (middles_apply O H W g1 b t d)
    ((norms_apply _ g3 b t d).trans (congrArg (fun x => normed x _ d) (funext fun e => ?_)))
  refine (feeds_apply _ U D b t e).trans (congrArg (fun x => feed x _ _ e) (funext fun e => ?_))
  refine (norms_apply _ g2 b t e).trans (congrArg (fun x => normed x _ e) (funext fun e => ?_))
  exact middles_apply O H W g1 b t e

end Cert.Reference2Ideal.Hand

end
-- ==== Proof.Kvq.Target.lean ====
/-
  What the elements of the keys, values and queries are: a row of the residual stream normed by one gain, times the left
  or right half of one matrix; the same row normed by another gain, times another matrix.
-/
module

public import proofs.«01_k».proof.Proof.Mlp.Target

@[expose] public section

noncomputable section

namespace Cert.Kvq

open Idealize.ShloMosaic Cert.Mlp

/-- A column of the left half. -/
def left (d : Fin 1024) : Fin 2048 := ⟨d.val, by omega⟩

/-- A column of the right half. -/
def right (d : Fin 1024) : Fin 2048 := ⟨1024 + d.val, by omega⟩

/-- A normed row of the residual stream times a matrix. -/
def projected {B T k : ℕ} (H : (⟨3, ![B, T, 1024]⟩ : Shape).Idx → EReal) (g : (⟨1, ![1024]⟩ : Shape).Idx → EReal)
    (W : (⟨2, ![1024, k]⟩ : Shape).Idx → EReal) (b : Fin B) (t : Fin T) (d : Fin k) : EReal :=
  times (normed (fun e => H (ix3 b t e)) fun e => g (ix1 e)) (fun e d => W (ix2 e d)) d

/-- Column `d` of component `p` of head `h` of the keys. -/
def keyCol (h : Fin 8) (p : Fin 2) (d : Fin 64) : Fin 1024 := ⟨h.val * 128 + p.val * 64 + d.val, by omega⟩

/-- Column `d` of head `h` of the values. -/
def valueCol (h : Fin 8) (d : Fin 128) : Fin 1024 := ⟨h.val * 128 + d.val, by omega⟩

end Cert.Kvq

end
-- ==== Proof.Kvq.Body.lean ====
/-
  What one grid point of the key, value and query call stores, read at one element of each of its five blocks.
-/
module

public import proofs.«01_k».proof.Proof.Kvq.Target
public import proofs.«01_k».proof.Proof.Gen.Kernel3Ideal.Frame
public import Idealize.ShloMosaic.Lib.Pipeline.ValueKit

@[expose] public section

set_option maxRecDepth 16384

noncomputable section

namespace Cert.Kernel3Ideal.Hand

open Idealize.ShloMosaic Idealize.ShloMosaic.TcCoe Cert.Kernel3Ideal Cert.Kernel3Ideal.Gen Cert.Mlp Cert.Kvq

/-- The corner of a block of two axes. -/
theorem corner2 : (![0, 0] : Fin 2 → ℕ) = fun _ => 0 := by
  funext a
  match a with
  | 0 => rfl
  | 1 => rfl

/-- The corner of a block of three axes. -/
theorem corner3 : (![0, 0, 0] : Fin 3 → ℕ) = fun _ => 0 := by
  funext a
  match a with
  | 0 => rfl
  | 1 => rfl
  | 2 => rfl

variable (x0 : Vec Ideal S1x1024x1024 .f32) (x1 x2 : Vec Ideal S1x1024 .f32) (x3 : Vec Ideal S1024x2048 .bf16)
  (x4 : Vec Ideal S1024x1024 .bf16)

/-- A row of the block, normed and times a matrix. -/
def line {k : ℕ} (g : Vec Ideal S1x1024 .f32) (w : (⟨2, ![1024, k]⟩ : Shape).Idx → EReal) (i : Fin 1024) (d : Fin k) : EReal :=
  times (normed (fun e => x0 (ix3 0 i e)) fun e => g (ix2 0 e)) (fun e d => w (ix2 e d)) d

/-- Keys and values side by side. -/
theorem pay4_apply (i : Fin 1024) (d : Fin 2048) : k0_pay4 x0 x1 x3 (ix2 i d) = line x0 x1 x3 i d := by
  unfold k0_pay4 k0_pay3
  pointwise
  rfl

/-- The left half. -/
theorem pay5_apply (i d : Fin 1024) : k0_pay5 x0 x1 x3 (ix2 i d) = line x0 x1 x3 i (left d) := by
  unfold k0_pay5
  pointwise
  exact pay4_apply x0 x1 x3 i (left d)

/-- The right half. -/
theorem pay6_apply (i d : Fin 1024) : k0_pay6 x0 x1 x3 (ix2 i d) = line x0 x1 x3 i (right d) := by
  unfold k0_pay6
  pointwise
  exact pay4_apply x0 x1 x3 i (right d)

/-- The keys, a column of the array a row of the block. -/
theorem out5_apply (d i : Fin 1024) : out0_5 x0 x1 x2 x3 x4 (ix3 0 d i) = line x0 x1 x3 i (left d) := by
  unfold out0_5
  rw [View.canon_unit_zero corner3, View.ld_unit_zero corner3, View.ld_unit_zero corner2, View.ld_unit_zero corner2]
  unfold k0_pay7
  pointwise
  exact pay5_apply x0 x1 x3 i d

/-- The values. -/
theorem out6_apply (i d : Fin 1024) : out0_6 x0 x1 x2 x3 x4 (ix3 0 i d) = line x0 x1 x3 i (right d) := by
  unfold out0_6
  rw [View.canon_unit_zero corner3, View.ld_unit_zero corner3, View.ld_unit_zero corner2, View.ld_unit_zero corner2]
  unfold k0_pay8
  pointwise
  exact pay6_apply x0 x1 x3 i d

/-- The keys once more. -/
theorem out7_apply (i d : Fin 1024) : out0_7 x0 x1 x2 x3 x4 (ix3 0 i d) = line x0 x1 x3 i (left d) := by
  unfold out0_7
  rw [View.canon_unit_zero corner3, View.ld_unit_zero corner3, View.ld_unit_zero corner2, View.ld_unit_zero corner2]
  unfold k0_pay9
  pointwise
  exact pay5_apply x0 x1 x3 i d

/-- The values once more. -/
theorem out8_apply (i d : Fin 1024) : out0_8 x0 x1 x2 x3 x4 (ix3 0 i d) = line x0 x1 x3 i (right d) := by
  unfold out0_8
  rw [View.canon_unit_zero corner3, View.ld_unit_zero corner3, View.ld_unit_zero corner2, View.ld_unit_zero corner2]
  unfold k0_pay1 k0_pay10
  pointwise
  exact pay6_apply x0 x1 x3 i d

/-- The queries. -/
theorem out9_apply (i d : Fin 1024) : out0_9 x0 x1 x2 x3 x4 (ix3 0 i d) = line x0 x2 x4 i d := by
  unfold out0_9
  rw [View.canon_unit_zero corner3, View.ld_unit_zero corner3, View.ld_unit_zero corner2, View.ld_unit_zero corner2]
  unfold k0_pay2 k0_pay3
  pointwise
  rfl

end Cert.Kernel3Ideal.Hand

end
-- ==== Proof.Kvq.Array.lean ====
/-
  The whole results of the key, value and query call: the elements of `Proof/Kvq/Target.lean`, from the arguments.
-/
module

public import proofs.«01_k».proof.Proof.Kvq.Body
public import Idealize.ShloMosaic.Lib.Pipeline.Covers
public import Idealize.ShloMosaic.Lib.Claim

@[expose] public section

set_option maxRecDepth 16384

noncomputable section

namespace Cert.Kernel3Ideal.Hand

open Idealize.ShloMosaic Idealize.ShloMosaic.TcCoe Idealize.ShloMosaic.Tactic
open Idealize.SL Idealize.SL.Sem
open Idealize.ShloMosaic.Pipeline (Dat Cfg Window)
open Idealize.ShloMosaic.Pipeline
open Cert.Kernel3Ideal Cert.Kernel3Ideal.Gen Cert.Mlp Cert.Kvq

variable (m : (ℓ : Loc nD τ sig) → Buf (Elt Ideal) ℓ) (c : Dev nD)

/-! ## The arguments -/

/-- The residual rows as given. -/
def argH : Vec Ideal S8x8192x1024 .f32 := m ((c : Thread nD τ).loc main_arg0)
/-- The gain of keys and values as given. -/
def argG : Vec Ideal S1024 .f32 := m ((c : Thread nD τ).loc main_arg1)
/-- The gain of the queries as given. -/
def argGq : Vec Ideal S1024 .f32 := m ((c : Thread nD τ).loc main_arg2)
/-- The matrix of keys and values as given. -/
def argW : Vec Ideal S1024x2048 .f32 := m ((c : Thread nD τ).loc main_arg3)
/-- The matrix of the queries as given. -/
def argWq : Vec Ideal S1024x1024 .f32 := m ((c : Thread nD τ).loc main_arg4)

/-! ## The gains as the lines before the call leave them -/

theorem entry_v2 : V m c main_v2 = shapeCast S1x1024 (argG m c) shapeCasts_S1024_S1x1024 := by
  unfold V V0
  simp only [hostOps0, List.flatten_cons, List.flatten_nil, List.append_nil, List.cons_append, List.nil_append]
  after_results
  rfl

theorem entry_v3 : V m c main_v3 = shapeCast S1x1024 (argGq m c) shapeCasts_S1024_S1x1024 := by
  unfold V V0
  simp only [hostOps0, List.flatten_cons, List.flatten_nil, List.append_nil, List.cons_append, List.nil_append]
  after_results
  rfl

/-! ## Where the blocks lie -/

variable (t : Fin cfg0.N)

/-- The batch row of a grid point. -/
def batch : Fin 8 := ⟨((grid0.coords t) 0).val, ((grid0.coords t) 0).isLt⟩

/-- The block of 1024 rows of a grid point. -/
def block : Fin 8 := ⟨((grid0.coords t) 1).val, ((grid0.coords t) 1).isLt⟩

/-- A row of the block among the batch row's. -/
def at_ (j : Fin 1024) : Fin 8192 := ⟨1024 * (block t).val + j.val, by have := (block t).isLt; omega⟩

/-- Blocks of rows, by the point's coordinates. -/
theorem transform0 (i : grid0.Coords) : cc0_transform_0 i = ![(i 0).val, (i 1).val, 0] := by
  unfold cc0_transform_0
  have h0 : (i 0).val < 8 := (i 0).isLt
  have h1 : (i 1).val < 8 := (i 1).isLt
  simp only [BitVec.toNat_ofNat]
  rw [Nat.mod_eq_of_lt (by omega), Nat.mod_eq_of_lt (by omega), Nat.mod_eq_of_lt (by omega)]

/-- Blocks of columns, by the point's coordinates. -/
theorem transform5 (i : grid0.Coords) : cc0_transform_5 i = ![(i 0).val, 0, (i 1).val] := by
  unfold cc0_transform_5
  have h0 : (i 0).val < 8 := (i 0).isLt
  have h1 : (i 1).val < 8 := (i 1).isLt
  simp only [BitVec.toNat_ofNat]
  rw [Nat.mod_eq_of_lt (by omega), Nat.mod_eq_of_lt (by omega), Nat.mod_eq_of_lt (by omega)]

theorem index0 : win0_0.index t = ![(batch t).val, (block t).val, 0] := transform0 (grid0.coords t)
theorem index1 : win0_1.index t = ![0, 0] := rfl
theorem index2 : win0_2.index t = ![0, 0] := rfl
theorem index3 : win0_3.index t = ![0, 0] := rfl
theorem index4 : win0_4.index t = ![0, 0] := rfl
theorem index5 : win0_5.index t = ![(batch t).val, 0, (block t).val] := transform5 (grid0.coords t)
theorem index6 : win0_6.index t = ![(batch t).val, (block t).val, 0] := transform0 (grid0.coords t)
theorem index7 : win0_7.index t = ![(batch t).val, (block t).val, 0] := transform0 (grid0.coords t)
theorem index8 : win0_8.index t = ![(batch t).val, (block t).val, 0] := transform0 (grid0.coords t)
theorem index9 : win0_9.index t = ![(batch t).val, (block t).val, 0] := transform0 (grid0.coords t)

/-! ## What the blocks hold -/

theorem residual_apply (j e : Fin 1024) :
    (iblk m c 0 t : Vec Ideal S1x1024x1024 .f32) (ix3 0 j e) = argH m c (ix3 (batch t) (at_ t j) e) := by
  have h : (win0_0.blk t).view.emb (ix3 0 j e) = ix3 (batch t) (at_ t j) e := by blk_ext [index0 t, at_]
  show V m c main_arg0 ((win0_0.blk t).view.emb (ix3 0 j e)) = _
  rw [h, V_main_arg0]
  rfl

theorem gain_apply (e : Fin 1024) : (iblk m c 1 t : Vec Ideal S1x1024 .f32) (ix2 0 e) = argG m c (ix1 e) := by
  have h : (win0_1.blk t).view.emb (ix2 0 e) = ix2 0 e := by blk_ext [index1 t]
  show V m c main_v2 ((win0_1.blk t).view.emb (ix2 0 e)) = _
  rw [h]
  refine (congrFun (entry_v2 m c) _).trans ?_
  pointwise

theorem query_gain_apply (e : Fin 1024) : (iblk m c 2 t : Vec Ideal S1x1024 .f32) (ix2 0 e) = argGq m c (ix1 e) := by
  have h : (win0_2.blk t).view.emb (ix2 0 e) = ix2 0 e := by blk_ext [index2 t]
  show V m c main_v3 ((win0_2.blk t).view.emb (ix2 0 e)) = _
  rw [h]
  refine (congrFun (entry_v3 m c) _).trans ?_
  pointwise

theorem matrix_apply (e : Fin 1024) (d : Fin 2048) :
    (iblk m c 3 t : Vec Ideal S1024x2048 .bf16) (ix2 e d) = argW m c (ix2 e d) := by
  have h : (win0_3.blk t).view.emb (ix2 e d) = ix2 e d := by blk_ext [index3 t]
  show V m c main_v0 ((win0_3.blk t).view.emb (ix2 e d)) = _
  rw [h]
  entry_read
  pointwise
  rfl

theorem query_matrix_apply (e d : Fin 1024) :
    (iblk m c 4 t : Vec Ideal S1024x1024 .bf16) (ix2 e d) = argWq m c (ix2 e d) := by
  have h : (win0_4.blk t).view.emb (ix2 e d) = ix2 e d := by blk_ext [index4 t]
  show V m c main_v1 ((win0_4.blk t).view.emb (ix2 e d)) = _
  rw [h]
  entry_read
  pointwise
  rfl

/-! ## What a grid point stores -/

/-- Keys and values side by side, from the arguments. -/
def pairs (b : Fin 8) (n : Fin 8192) (d : Fin 2048) : EReal := projected (argH m c) (argG m c) (argW m c) b n d

/-- The queries, from the arguments. -/
def queries (b : Fin 8) (n : Fin 8192) (d : Fin 1024) : EReal := projected (argH m c) (argGq m c) (argWq m c) b n d

/-- A row of a block of keys and values. -/
theorem line_pairs (j : Fin 1024) (d : Fin 2048) :
    line (iblk m c 0 t) (iblk m c 1 t) (iblk m c 3 t : Vec Ideal S1024x2048 .bf16) j d = pairs m c (batch t) (at_ t j) d := by
  unfold line
  simp only [residual_apply, gain_apply, matrix_apply]
  rfl

/-- A row of a block of queries. -/
theorem line_queries (j d : Fin 1024) :
    line (iblk m c 0 t) (iblk m c 2 t) (iblk m c 4 t : Vec Ideal S1024x1024 .bf16) j d = queries m c (batch t) (at_ t j) d := by
  unfold line
  simp only [residual_apply, query_gain_apply, query_matrix_apply]
  rfl

/-- The grid's coordinates of a batch row and a block. -/
def point (b i : Fin 8) : grid0.Coords := fun | 0 => b | 1 => i

/-- An array of rows of 1024 columns. -/
def rows (f : Fin 8 → Fin 8192 → Fin 1024 → EReal) : S8x8192x1024.Idx → EReal := fun i => f (i 0) (i 1) (i 2)

theorem rows_apply (f : Fin 8 → Fin 8192 → Fin 1024 → EReal) (b : Fin 8) (n : Fin 8192) (d : Fin 1024) :
    rows f (ix3 b n d) = f b n d := rfl

/-- The same with a row's columns along the second axis. -/
def columns (f : Fin 8 → Fin 8192 → Fin 1024 → EReal) : S8x1024x8192.Idx → EReal := fun i => f (i 0) (i 2) (i 1)

theorem columns_apply (f : Fin 8 → Fin 8192 → Fin 1024 → EReal) (b : Fin 8) (n : Fin 8192) (d : Fin 1024) :
    columns f (ix3 b d n) = f b n d := rfl

/-! ## The arrays -/

/-- The blocks of the transposed keys cover their array. -/
theorem covered5 : (cfg0.win 5).Covers :=
  (cfg0.win 5).covers_of_indexMap_surj rfl (by decide) fun β =>
    ⟨point ⟨(β 0).val, (β 0).isLt⟩ ⟨(β 2).val, (β 2).isLt⟩, fun a => by
      refine (congrFun (transform5 (point ⟨(β 0).val, (β 0).isLt⟩ ⟨(β 2).val, (β 2).isLt⟩)) a).trans ?_
      match a with
      | 0 => rfl
      | 2 => rfl
      | 1 => exact (Nat.lt_one_iff.mp (lt_of_lt_of_eq (β 1).isLt (by decide : (cfg0.win 5).nblk 1 = 1))).symm⟩

theorem after5 : (dats m 0 c).after 5 t
    = out0_5 (F := Ideal) (iblk m c 0 t) (iblk m c 1 t) (iblk m c 2 t) (iblk m c 3 t) (iblk m c 4 t) := by
  simp only [dats]

/-- What the run leaves in the array of the transposed keys. -/
theorem array5 : (dats m 0 c).arrAt 5 cfg0.N = columns (fun b n d => pairs m c b n (left d)) := by
  refine (dats m 0 c).arrAt_eq_of_covers 5 _ covered5 fun t hf y => ?_
  idx_vars y
  obtain rfl : y0 = 0 := Subsingleton.elim _ _
  have he : (win0_5.blk t).view.emb (ix3 0 y1 y2) = ix3 (batch t) y1 (at_ t y2) := by
    blk_ext [index5 t, at_]
  blk_simp
  rw [he, after5]
  exact (out5_apply _ _ _ _ _ y1 y2).trans (line_pairs m c t y2 (left y1))

/-- The blocks of the values cover their array. -/
theorem covered6 : (cfg0.win 6).Covers :=
  (cfg0.win 6).covers_of_indexMap_surj rfl (by decide) fun β =>
    ⟨point ⟨(β 0).val, (β 0).isLt⟩ ⟨(β 1).val, (β 1).isLt⟩, fun a => by
      refine (congrFun (transform0 (point ⟨(β 0).val, (β 0).isLt⟩ ⟨(β 1).val, (β 1).isLt⟩)) a).trans ?_
      match a with
      | 0 => rfl
      | 1 => rfl
      | 2 => exact (Nat.lt_one_iff.mp (lt_of_lt_of_eq (β 2).isLt (by decide : (cfg0.win 6).nblk 2 = 1))).symm⟩

theorem after6 : (dats m 0 c).after 6 t
    = out0_6 (F := Ideal) (iblk m c 0 t) (iblk m c 1 t) (iblk m c 2 t) (iblk m c 3 t) (iblk m c 4 t) := by
  simp only [dats]

/-- What the run leaves in the array of the values. -/
theorem array6 : (dats m 0 c).arrAt 6 cfg0.N = rows (fun b n d => pairs m c b n (right d)) := by
  refine (dats m 0 c).arrAt_eq_of_covers 6 _ covered6 fun t hf y => ?_
  idx_vars y
  obtain rfl : y0 = 0 := Subsingleton.elim _ _
  have he : (win0_6.blk t).view.emb (ix3 0 y1 y2) = ix3 (batch t) (at_ t y1) y2 := by
    blk_ext [index6 t, at_]
  blk_simp
  rw [he, after6]
  exact (out6_apply _ _ _ _ _ y1 y2).trans (line_pairs m c t y1 (right y2))

/-- The blocks of the keys in half precision cover their array. -/
theorem covered7 : (cfg0.win 7).Covers :=
  (cfg0.win 7).covers_of_indexMap_surj rfl (by decide) fun β =>
    ⟨point ⟨(β 0).val, (β 0).isLt⟩ ⟨(β 1).val, (β 1).isLt⟩, fun a => by
      refine (congrFun (transform0 (point ⟨(β 0).val, (β 0).isLt⟩ ⟨(β 1).val, (β 1).isLt⟩)) a).trans ?_
      match a with
      | 0 => rfl
      | 1 => rfl
      | 2 => exact (Nat.lt_one_iff.mp (lt_of_lt_of_eq (β 2).isLt (by decide : (cfg0.win 7).nblk 2 = 1))).symm⟩

theorem after7 : (dats m 0 c).after 7 t
    = out0_7 (F := Ideal) (iblk m c 0 t) (iblk m c 1 t) (iblk m c 2 t) (iblk m c 3 t) (iblk m c 4 t) := by
  simp only [dats]

/-- What the run leaves in the array of the keys in half precision. -/
theorem array7 : (dats m 0 c).arrAt 7 cfg0.N = rows (fun b n d => pairs m c b n (left d)) := by
  refine (dats m 0 c).arrAt_eq_of_covers 7 _ covered7 fun t hf y => ?_
  idx_vars y
  obtain rfl : y0 = 0 := Subsingleton.elim _ _
  have he : (win0_7.blk t).view.emb (ix3 0 y1 y2) = ix3 (batch t) (at_ t y1) y2 := by
    blk_ext [index7 t, at_]
  blk_simp
  rw [he, after7]
  exact (out7_apply _ _ _ _ _ y1 y2).trans (line_pairs m c t y1 (left y2))

/-- The blocks of the values in half precision cover their array. -/
theorem covered8 : (cfg0.win 8).Covers :=
  (cfg0.win 8).covers_of_indexMap_surj rfl (by decide) fun β =>
    ⟨point ⟨(β 0).val, (β 0).isLt⟩ ⟨(β 1).val, (β 1).isLt⟩, fun a => by
      refine (congrFun (transform0 (point ⟨(β 0).val, (β 0).isLt⟩ ⟨(β 1).val, (β 1).isLt⟩)) a).trans ?_
      match a with
      | 0 => rfl
      | 1 => rfl
      | 2 => exact (Nat.lt_one_iff.mp (lt_of_lt_of_eq (β 2).isLt (by decide : (cfg0.win 8).nblk 2 = 1))).symm⟩

theorem after8 : (dats m 0 c).after 8 t
    = out0_8 (F := Ideal) (iblk m c 0 t) (iblk m c 1 t) (iblk m c 2 t) (iblk m c 3 t) (iblk m c 4 t) := by
  simp only [dats]

/-- What the run leaves in the array of the values in half precision. -/
theorem array8 : (dats m 0 c).arrAt 8 cfg0.N = rows (fun b n d => pairs m c b n (right d)) := by
  refine (dats m 0 c).arrAt_eq_of_covers 8 _ covered8 fun t hf y => ?_
  idx_vars y
  obtain rfl : y0 = 0 := Subsingleton.elim _ _
  have he : (win0_8.blk t).view.emb (ix3 0 y1 y2) = ix3 (batch t) (at_ t y1) y2 := by
    blk_ext [index8 t, at_]
  blk_simp
  rw [he, after8]
  exact (out8_apply _ _ _ _ _ y1 y2).trans (line_pairs m c t y1 (right y2))

/-- The blocks of the queries cover their array. -/
theorem covered9 : (cfg0.win 9).Covers :=
  (cfg0.win 9).covers_of_indexMap_surj rfl (by decide) fun β =>
    ⟨point ⟨(β 0).val, (β 0).isLt⟩ ⟨(β 1).val, (β 1).isLt⟩, fun a => by
      refine (congrFun (transform0 (point ⟨(β 0).val, (β 0).isLt⟩ ⟨(β 1).val, (β 1).isLt⟩)) a).trans ?_
      match a with
      | 0 => rfl
      | 1 => rfl
      | 2 => exact (Nat.lt_one_iff.mp (lt_of_lt_of_eq (β 2).isLt (by decide : (cfg0.win 9).nblk 2 = 1))).symm⟩

theorem after9 : (dats m 0 c).after 9 t
    = out0_9 (F := Ideal) (iblk m c 0 t) (iblk m c 1 t) (iblk m c 2 t) (iblk m c 3 t) (iblk m c 4 t) := by
  simp only [dats]

/-- What the run leaves in the array of the queries. -/
theorem array9 : (dats m 0 c).arrAt 9 cfg0.N = rows (queries m c) := by
  refine (dats m 0 c).arrAt_eq_of_covers 9 _ covered9 fun t hf y => ?_
  idx_vars y
  obtain rfl : y0 = 0 := Subsingleton.elim _ _
  have he : (win0_9.blk t).view.emb (ix3 0 y1 y2) = ix3 (batch t) (at_ t y1) y2 := by
    blk_ext [index9 t, at_]
  blk_simp
  rw [he, after9]
  exact (out9_apply _ _ _ _ _ y1 y2).trans (line_queries m c t y1 y2)

/-! ## The lines after the call -/

/-- The keys by head and component. -/
def keys : S8x8192x8x2x64.Idx → EReal := fun i => pairs m c (i 0) (i 1) (left (keyCol (i 2) (i 3) (i 4)))

/-- The values by head. -/
def values : S8x8192x8x128.Idx → EReal := fun i => pairs m c (i 0) (i 1) (right (valueCol (i 2) (i 3)))

theorem tail_keys : afterTail₀ cfgs (dats m) 0 (V0 m) [hostOps1] c main_v6 = keys m c := by
  have hv : withArrays (cfgs 0).spec c (V0 m c) (fun w => (dats m 0 c).arrAt w (cfgs 0).N) (Proc.devRef .tc main_v4_0)
      = (dats m 0 c).arrAt 5 cfg0.N :=
    withArrays_arr spec0 (by decide) c (V0 m c) (fun w => (dats m 0 c).arrAt w cfg0.N) 5
  unfold afterTail₀
  simp only [hostOps1, List.flatten_cons, List.flatten_nil, List.append_nil, List.cons_append, List.nil_append]
  after_results
  rw [hv, array5]
  funext i
  idx_vars i
  pointwise
  rfl

theorem tail_values : afterTail₀ cfgs (dats m) 0 (V0 m) [hostOps1] c main_v7 = values m c := by
  have hv : withArrays (cfgs 0).spec c (V0 m c) (fun w => (dats m 0 c).arrAt w (cfgs 0).N) (Proc.devRef .tc main_v4_1)
      = (dats m 0 c).arrAt 6 cfg0.N :=
    withArrays_arr spec0 (by decide) c (V0 m c) (fun w => (dats m 0 c).arrAt w cfg0.N) 6
  unfold afterTail₀
  simp only [hostOps1, List.flatten_cons, List.flatten_nil, List.append_nil, List.cons_append, List.nil_append]
  after_results
  rw [hv, array6]
  funext i
  idx_vars i
  pointwise
  rfl

/-- The whole program: the five results, and the arguments stay. -/
theorem result_run (ρ : Dev nD → PrngReg) :
    θ_run defs (onTc (τ := τ) (main (F := Ideal))) ⟨m, fun _ => 0, ρ⟩ (fun r => ∀ c : Dev nD,
      r.2.mem ((c : Thread nD τ).loc main_v6) = keys m c
      ∧ r.2.mem ((c : Thread nD τ).loc main_v7) = values m c
      ∧ r.2.mem ((c : Thread nD τ).loc main_v4_2) = rows (fun b n d => pairs m c b n (left d))
      ∧ r.2.mem ((c : Thread nD τ).loc main_v4_3) = rows (fun b n d => pairs m c b n (right d))
      ∧ r.2.mem ((c : Thread nD τ).loc main_v4_4) = rows (queries m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨
      ((h c).2 main_v6 (mem_restRefs_of main_v6 (by decide) (by decide))).trans (tail_keys m c),
      ((h c).2 main_v7 (mem_restRefs_of main_v7 (by decide) (by decide))).trans (tail_values m c),
      ((h c).1 7).trans (array7 m c), ((h c).1 8).trans (array8 m c), ((h c).1 9).trans (array9 m c),
      ((h c).1 0).trans (((dats m 0 c).arrAt_in 0 rfl _).trans ((A_eq m c 0).trans (V_main_arg0 m c))),
      ((h c).2 main_arg1 (mem_restRefs_of main_arg1 (by decide) (by decide))).trans (W_main_arg1 m (dats m) c),
      ((h c).2 main_arg2 (mem_restRefs_of main_arg2 (by decide) (by decide))).trans (W_main_arg2 m (dats m) c),
      ((h c).2 main_arg3 (mem_restRefs_of main_arg3 (by decide) (by decide))).trans (W_main_arg3 m (dats m) c),
      ((h c).2 main_arg4 (mem_restRefs_of main_arg4 (by decide) (by decide))).trans (W_main_arg4 m (dats m) c)⟩) (run_main m ρ)

end Cert.Kernel3Ideal.Hand

end
-- ==== Proof.Kvq.Ref.lean ====
/-
  The reference of the key, value and query call in named steps, and its results' elements: those of
  `Proof/Kvq/Target.lean`.
-/
module

public import proofs.«01_k».proof.Proof.Gen.Reference3Ideal.Run
public import proofs.«01_k».proof.Proof.Kvq.Target

@[expose] public section

set_option maxRecDepth 16384

noncomputable section

namespace Cert.Reference3Ideal.Hand

open Idealize.ShloMosaic Idealize.ShloMosaic.TcCoe Idealize.ShloMosaic.Tactic Idealize.SL.Sem
open Cert.Reference3Ideal Cert.Reference3Ideal.Gen Cert.Mlp Cert.Kvq

/-- The rows divided by the roots of their mean squares, scaled by a gain. -/
def scaled (X : FVec Ideal S8x8192x1024 .f32) (g : FVec Ideal S1024 .f32) : FVec Ideal S8x8192x1024 .f32 :=
  mulf (mulf X (broadcastInDim S8x8192x1024 ![0, 1, 2] bcast_S8x8192x1_S8x8192x1024_0_1_2
      (Host.rsqrt (addf
        (Host.divf
          (broadcastInDim S8x8192x1 ![0, 1] bcast_S8x8192_S8x8192x1_0_1
            (Host.reduceAdd (mulf X X) (constant S_ .f32 0x00000000#32) reducesTo_S8x8192x1024_S8x8192_d2 h_S_))
          (broadcastInDim S8x8192x1 ![] bcast_S_S8x8192x1 (constant S_ .f32 0x44800000#32)))
        (broadcastInDim S8x8192x1 ![] bcast_S_S8x8192x1 (constant S_ .f32 0x358637BD#32))))))
    (broadcastInDim S8x8192x1024 ![0, 1, 2] bcast_S1x1x1024_S8x8192x1024_0_1_2
      (broadcastInDim S1x1x1024 ![2] bcast_S1024_S1x1x1024_2 g))

/-- Keys and values side by side. -/
def table (H : FVec Ideal S8x8192x1024 .f32) (g : FVec Ideal S1024 .f32) (W : FVec Ideal S1024x2048 .f32) :
    FVec Ideal S8x8192x2048 .f32 :=
  Host.dotGeneral dot_S8x8192x1024_S1024x2048_S8x8192x2048_2_0_01_1_n_n none (scaled H g) W

/-- The table's left half. -/
def leftHalf (X : FVec Ideal S8x8192x2048 .f32) : FVec Ideal S8x8192x1024 .f32 :=
  extractStridedSlice S8x8192x1024 ![0, 0, 0] X slices_S8x8192x2048_S8x8192x1024_0_0_0

/-- The table's right half. -/
def rightHalf (X : FVec Ideal S8x8192x2048 .f32) : FVec Ideal S8x8192x1024 .f32 :=
  extractStridedSlice S8x8192x1024 ![0, 0, 1024] X slices_S8x8192x2048_S8x8192x1024_0_0_1024

/-- The queries. -/
def asked (H : FVec Ideal S8x8192x1024 .f32) (g : FVec Ideal S1024 .f32) (W : FVec Ideal S1024x1024 .f32) :
    FVec Ideal S8x8192x1024 .f32 :=
  Host.dotGeneral dot_S8x8192x1024_S1024x1024_S8x8192x1024_2_0_01_1_n_n none (scaled H g) W

variable (m : (ℓ : Loc nD τ sig) → Buf (Elt Ideal) ℓ) (c : Dev nD)

/-- The residual rows as given. -/
def argH : FVec Ideal S8x8192x1024 .f32 := m ((c : Thread nD τ).loc main_arg0)
/-- The gain of keys and values as given. -/
def argG : FVec Ideal S1024 .f32 := m ((c : Thread nD τ).loc main_arg1)
/-- The gain of the queries as given. -/
def argGq : FVec Ideal S1024 .f32 := m ((c : Thread nD τ).loc main_arg2)
/-- The matrix of keys and values as given. -/
def argW : FVec Ideal S1024x2048 .f32 := m ((c : Thread nD τ).loc main_arg3)
/-- The matrix of the queries as given. -/
def argWq : FVec Ideal S1024x1024 .f32 := m ((c : Thread nD τ).loc main_arg4)

/-- The reference's run leaves these steps' results, and its arguments stay. -/
theorem run_steps (ρ : Dev nD → PrngReg) :
    θ_run defs (onTc (τ := τ) (main (F := Ideal))) ⟨m, fun _ => 0, ρ⟩ (fun r => ∀ c : Dev nD,
      r.2.mem ((c : Thread nD τ).loc main_v15)
        = shapeCast _ (leftHalf (table (argH m c) (argG m c) (argW m c))) shapeCasts_S8x8192x1024_S8x8192x8x2x64
      ∧ r.2.mem ((c : Thread nD τ).loc main_v17)
        = shapeCast _ (rightHalf (table (argH m c) (argG m c) (argW m c))) shapeCasts_S8x8192x1024_S8x8192x8x128
      ∧ r.2.mem ((c : Thread nD τ).loc main_v33)
        = truncf .bf16 (leftHalf (table (argH m c) (argG m c) (argW m c))) bitsLt_bf16_f32
      ∧ r.2.mem ((c : Thread nD τ).loc main_v35)
        = truncf .bf16 (rightHalf (table (argH m c) (argG m c) (argW m c))) bitsLt_bf16_f32
      ∧ r.2.mem ((c : Thread nD τ).loc main_v31) = asked (argH m c) (argGq m c) (argWq m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  Value.run m ρ

variable (H : FVec Ideal S8x8192x1024 .f32) (g : FVec Ideal S1024 .f32) (W : FVec Ideal S1024x2048 .f32)
  (W' : FVec Ideal S1024x1024 .f32) (b : Fin 8) (t : Fin 8192)

/-- A normed row's element. -/
theorem scaled_apply (d : Fin 1024) :
    scaled H g (ix3 b t d) = normed (fun e => H (ix3 b t e)) (fun e => g (ix1 e)) d := by
  unfold scaled
  pointwise
  rfl

/-- An element of keys and values side by side. -/
theorem table_apply (d : Fin 2048) : table H g W (ix3 b t d) = projected H g W b t d := by
  unfold table
  pointwise
  simp only [scaled_apply]
  rfl

/-- A query's element. -/
theorem asked_apply (d : Fin 1024) : asked H g W' (ix3 b t d) = projected H g W' b t d := by
  unfold asked
  pointwise
  simp only [scaled_apply]
  rfl

/-- The keys by head and component. -/
theorem keys_apply (h : Fin 8) (p : Fin 2) (d : Fin 64) :
    shapeCast S8x8192x8x2x64 (leftHalf (table H g W)) shapeCasts_S8x8192x1024_S8x8192x8x2x64 (ix5 b t h p d)
      = projected H g W b t (left (keyCol h p d)) := by
  unfold leftHalf
  pointwise
  exact table_apply H g W b t (left (keyCol h p d))

/-- The values by head. -/
theorem values_apply (h : Fin 8) (d : Fin 128) :
    shapeCast S8x8192x8x128 (rightHalf (table H g W)) shapeCasts_S8x8192x1024_S8x8192x8x128 (ix4 b t h d)
      = projected H g W b t (right (valueCol h d)) := by
  unfold rightHalf
  pointwise
  exact table_apply H g W b t (right (valueCol h d))

/-- The keys in half precision. -/
theorem half_keys_apply (d : Fin 1024) :
    (truncf .bf16 (leftHalf (table H g W)) bitsLt_bf16_f32 : FVec Ideal S8x8192x1024 .bf16) (ix3 b t d)
      = projected H g W b t (left d) := by
  unfold leftHalf
  pointwise
  exact table_apply H g W b t (left d)

/-- The values in half precision. -/
theorem half_values_apply (d : Fin 1024) :
    (truncf .bf16 (rightHalf (table H g W)) bitsLt_bf16_f32 : FVec Ideal S8x8192x1024 .bf16) (ix3 b t d)
      = projected H g W b t (right d) := by
  unfold rightHalf
  pointwise
  exact table_apply H g W b t (right d)

end Cert.Reference3Ideal.Hand

end
-- ==== Proof.MlpSample.Body.lean ====
/-
  What one grid point of the output projection and feed-forward call of the sample stores, read at one element.
-/
module

public import proofs.«01_k».proof.Proof.Mlp.Target
public import proofs.«01_k».proof.Proof.Gen.Kernel4Ideal.Frame
public import Idealize.ShloMosaic.Lib.Pipeline.ValueKit

@[expose] public section

set_option maxRecDepth 16384

noncomputable section

namespace Cert.Kernel4Ideal.Hand

open Idealize.ShloMosaic Idealize.ShloMosaic.TcCoe Cert.Kernel4Ideal Cert.Kernel4Ideal.Gen Cert.Mlp

/-- The residual rows after the projection. -/
theorem middle_apply (o : Vec Ideal S256x1024 .bf16) (w : Vec Ideal S1024x1024 .bf16) (h : Vec Ideal S256x1024 .f32)
    (g : Vec Ideal S1x1024 .f32) (i : Fin 256) (d : Fin 1024) :
    k0_pay2 o w h g (ix2 i d)
      = middle (fun e => o (ix2 i e)) (fun e => h (ix2 i e)) (fun e d => w (ix2 e d)) (fun e => g (ix2 0 e)) d := by
  unfold k0_pay2
  pointwise
  rfl

/-- Those rows normed. -/
theorem normed_apply (o : Vec Ideal S256x1024 .bf16) (w : Vec Ideal S1024x1024 .bf16) (h : Vec Ideal S256x1024 .f32)
    (g g' : Vec Ideal S1x1024 .f32) (i : Fin 256) (d : Fin 1024) :
    k0_pay3 o w h g g' (ix2 i d)
      = normed (fun e => k0_pay2 o w h g (ix2 i e)) (fun e => g' (ix2 0 e)) d := by
  unfold k0_pay3
  pointwise
  rfl

/-- One tile of the feed-forward part: 512 hidden columns. -/
def tile (a : FVec Ideal S256x1024 .bf16) (u : Vec Ideal S1024x512 .bf16) (w : Vec Ideal S512x1024 .bf16) (i : Fin 256) (d : Fin 1024) :
    EReal :=
  ∑ x : Fin 512, squared (times (fun e => a (ix2 i e)) fun e x => u (ix2 e x)) x * w (ix2 x d)

/-- The first three tiles. -/
theorem pay5_apply (a : FVec Ideal S256x1024 .bf16) (u0 u1 u2 : Vec Ideal S1024x512 .bf16) (w0 w1 w2 : Vec Ideal S512x1024 .bf16)
    (i : Fin 256) (d : Fin 1024) :
    k0_pay5 a (k0_pay4 u0) (constant S256x512 .f32 0x00000000#32) w0 u1 w1 u2 w2 (ix2 i d)
      = tile a u0 w0 i d + tile a u1 w1 i d + tile a u2 w2 i d := by
  unfold k0_pay5 k0_pay4
  pointwise
  rfl

/-- The first seven tiles. -/
theorem pay7_apply (a : FVec Ideal S256x1024 .bf16) (s : FVec Ideal S256x1024 .f32)
    (u3 u4 u5 u6 : Vec Ideal S1024x512 .bf16) (w3 w4 w5 w6 : Vec Ideal S512x1024 .bf16) (i : Fin 256) (d : Fin 1024) :
    k0_pay7 a s (k0_pay6 a u3) w3 u4 w4 u5 w5 u6 w6 (ix2 i d)
      = s (ix2 i d) + tile a u3 w3 i d + tile a u4 w4 i d + tile a u5 w5 i d + tile a u6 w6 i d := by
  unfold k0_pay7 k0_pay6
  pointwise
  rfl

/-- The stored rows, from the first seven tiles. -/
theorem pay1_apply (h : FVec Ideal S256x1024 .f32) (a : FVec Ideal S256x1024 .bf16) (s : FVec Ideal S256x1024 .f32)
    (u : Vec Ideal S1024x512 .bf16) (w : Vec Ideal S512x1024 .bf16) (g : Vec Ideal S1x1024 .f32) (i : Fin 256) (d : Fin 1024) :
    k0_pay1 h a s u w g (ix2 i d)
      = h (ix2 i d) + normed (fun e => s (ix2 i e) + tile a u w i e) (fun e => g (ix2 0 e)) d := by
  unfold k0_pay1
  pointwise
  rfl

/-- A tile read from the whole matrices: its hidden columns are 512 of the 4096. -/
theorem tile_at (a : FVec Ideal S256x1024 .bf16) (U : Vec Ideal S1024x4096 .bf16) (D : Vec Ideal S4096x1024 .bf16) (i : Fin 256) (d : Fin 1024)
    (c : Fin 8) (o : ℕ) (ho : o = 512 * c.val) (p : ∀ k, (![0, o] : Fin 2 → ℕ) k + S1024x512.size k ≤ S1024x4096.size k)
    (q : ∀ k, (![o, 0] : Fin 2 → ℕ) k + S512x1024.size k ≤ S4096x1024.size k) :
    tile a (View.ld U (Rect.unit (s := S1024x4096) ![0, o] S1024x512.size p))
        (View.ld D (Rect.unit (s := S4096x1024) ![o, 0] S512x1024.size q)) i d
      = ∑ x : Fin 512, squared (times (fun e => a (ix2 i e)) fun e x => U (ix2 e x)) (hidden c x) * D (ix2 (hidden c x) d) := by
  subst ho
  have hu : ∀ e x, View.ld U (Rect.unit (s := S1024x4096) ![0, 512 * c.val] S1024x512.size p) (ix2 e x)
      = U (ix2 e (hidden c x)) := fun e x => View.ld_unit_apply_of _ _ _ _ _ _ fun a => by
    match a with
    | 0 => exact (Nat.zero_add _).symm
    | 1 => rfl
  have hd : ∀ x d, View.ld D (Rect.unit (s := S4096x1024) ![512 * c.val, 0] S512x1024.size q) (ix2 x d)
      = D (ix2 (hidden c x) d) := fun x d => View.ld_unit_apply_of _ _ _ _ _ _ fun a => by
    match a with
    | 0 => rfl
    | 1 => exact (Nat.zero_add _).symm
  unfold tile squared times
  refine Finset.sum_congr rfl fun x _ => ?_
  rw [hd]
  simp only [hu]

/-- The corner of a block. -/
theorem corner : (![0, 0] : Fin 2 → ℕ) = fun _ => 0 := by
  funext a
  match a with
  | 0 => rfl
  | 1 => rfl

variable (x0 : Vec Ideal S256x1024 .bf16) (x1 : Vec Ideal S256x1024 .f32) (x2 : Vec Ideal S1024x1024 .bf16)
  (x3 x4 : Vec Ideal S1x1024 .f32) (x5 : Vec Ideal S1024x4096 .bf16) (x6 : Vec Ideal S4096x1024 .bf16) (x7 : Vec Ideal S1x1024 .f32)

/-- The stored block at an element: a row of the whole computation. -/
theorem out_apply (i : Fin 256) (d : Fin 1024) :
    out0_8 x0 x1 x2 x3 x4 x5 x6 x7 (ix2 i d)
      = row (fun e => x0 (ix2 i e)) (fun e => x1 (ix2 i e)) (fun e d => x2 (ix2 e d)) (fun e => x3 (ix2 0 e))
          (fun e => x4 (ix2 0 e)) (fun e x => x5 (ix2 e x)) (fun x d => x6 (ix2 x d)) (fun e => x7 (ix2 0 e)) d := by
  have ha : ∀ e, k0_pay8 x0 x1 x2 x3 x4 x5 x6 x7 (ix2 i e)
      = normed (middle (fun e => x0 (ix2 i e)) (fun e => x1 (ix2 i e)) (fun e d => x2 (ix2 e d)) fun e => x3 (ix2 0 e))
          (fun e => x4 (ix2 0 e)) e := fun e => by
    unfold k0_pay8
    rw [View.ld_unit_zero corner, View.ld_unit_zero corner, View.ld_unit_zero corner, View.ld_unit_zero corner,
      View.ld_unit_zero corner, normed_apply]
    simp only [middle_apply]
  unfold out0_8
  rw [View.canon_unit_zero corner, pay1_apply, View.ld_unit_zero corner, View.ld_unit_zero corner, View.ld_unit_zero corner,
    View.ld_unit_zero corner, View.ld_unit_zero corner, middle_apply]
  unfold row
  congr 2
  funext e
  rw [pay7_apply, pay5_apply]
  rw [tile_at _ x5 x6 i e 0 0 rfl, tile_at _ x5 x6 i e 1 512 rfl, tile_at _ x5 x6 i e 2 1024 rfl,
    tile_at _ x5 x6 i e 3 1536 rfl, tile_at _ x5 x6 i e 4 2048 rfl, tile_at _ x5 x6 i e 5 2560 rfl,
    tile_at _ x5 x6 i e 6 3072 rfl, tile_at _ x5 x6 i e 7 3584 rfl]
  simp only [ha]
  exact (sum_tiles fun j => squared (times (normed (middle (fun e => x0 (ix2 i e)) (fun e => x1 (ix2 i e)) (fun e d => x2 (ix2 e d))
    fun e => x3 (ix2 0 e)) fun e => x4 (ix2 0 e)) fun e x => x5 (ix2 e x)) j * x6 (ix2 j e)).symm

end Cert.Kernel4Ideal.Hand

end
-- ==== Proof.MlpSample.Array.lean ====
/-
  The whole result of the output projection and feed-forward call of the sample: row `t` of batch row `b` is the computation of
  `Proof/Mlp/Target.lean` on the arguments' rows.
-/
module

public import proofs.«01_k».proof.Proof.MlpSample.Body
public import Idealize.ShloMosaic.Lib.Pipeline.Covers
public import Idealize.ShloMosaic.Lib.Claim

@[expose] public section

set_option maxRecDepth 16384

noncomputable section

namespace Cert.Kernel4Ideal.Hand

open Idealize.ShloMosaic Idealize.ShloMosaic.TcCoe Idealize.ShloMosaic.Tactic
open Idealize.SL Idealize.SL.Sem
open Idealize.ShloMosaic.Pipeline (Dat Cfg Window)
open Idealize.ShloMosaic.Pipeline
open Cert.Kernel4Ideal Cert.Kernel4Ideal.Gen Cert.Mlp

variable (m : (ℓ : Loc nD τ sig) → Buf (Elt Ideal) ℓ) (c : Dev nD)

/-! ## The arguments -/

/-- The mixed rows as given. -/
def argO : Vec Ideal S16x16x1024 .bf16 := m ((c : Thread nD τ).loc main_arg0)
/-- The residual rows as given. -/
def argH : Vec Ideal S16x16x1024 .f32 := m ((c : Thread nD τ).loc main_arg1)
/-- The projection as given. -/
def argW : Vec Ideal S1024x1024 .f32 := m ((c : Thread nD τ).loc main_arg2)
/-- The first gain as given. -/
def argG1 : Vec Ideal S1024 .f32 := m ((c : Thread nD τ).loc main_arg3)
/-- The second gain as given. -/
def argG2 : Vec Ideal S1024 .f32 := m ((c : Thread nD τ).loc main_arg4)
/-- The upward matrix as given. -/
def argU : Vec Ideal S1024x4096 .f32 := m ((c : Thread nD τ).loc main_arg5)
/-- The downward matrix as given. -/
def argD : Vec Ideal S4096x1024 .f32 := m ((c : Thread nD τ).loc main_arg6)
/-- The third gain as given. -/
def argG3 : Vec Ideal S1024 .f32 := m ((c : Thread nD τ).loc main_arg7)

/-! ## The operands as the lines before the call leave them -/

theorem entry_v0 : V m c main_v0 = shapeCast S256x1024 (argO m c) shapeCasts_S16x16x1024_S256x1024 := by
  unfold V V0
  simp only [hostOps0, List.flatten_cons, List.flatten_nil, List.append_nil, List.cons_append, List.nil_append]
  after_results
  rfl

theorem entry_v1 : V m c main_v1 = shapeCast S256x1024 (argH m c) shapeCasts_S16x16x1024_S256x1024 := by
  unfold V V0
  simp only [hostOps0, List.flatten_cons, List.flatten_nil, List.append_nil, List.cons_append, List.nil_append]
  after_results
  rfl

theorem entry_v5 : V m c main_v5 = shapeCast S1x1024 (argG1 m c) shapeCasts_S1024_S1x1024 := by
  unfold V V0
  simp only [hostOps0, List.flatten_cons, List.flatten_nil, List.append_nil, List.cons_append, List.nil_append]
  after_results
  rfl

theorem entry_v6 : V m c main_v6 = shapeCast S1x1024 (argG2 m c) shapeCasts_S1024_S1x1024 := by
  unfold V V0
  simp only [hostOps0, List.flatten_cons, List.flatten_nil, List.append_nil, List.cons_append, List.nil_append]
  after_results
  rfl

theorem entry_v7 : V m c main_v7 = shapeCast S1x1024 (argG3 m c) shapeCasts_S1024_S1x1024 := by
  unfold V V0
  simp only [hostOps0, List.flatten_cons, List.flatten_nil, List.append_nil, List.cons_append, List.nil_append]
  after_results
  rfl

/-! ## Where the blocks lie -/

variable (t : Fin cfg0.N)

/-- The grid's only coordinate. -/
def only : grid0.Coords := fun | 0 => (0 : Fin 1)

theorem coords_only : grid0.coords t = only := by
  funext a
  match a with
  | 0 => exact Subsingleton.elim (α := Fin 1) _ _

/-- The batch row of one of all rows. -/
def batch (n : Fin 256) : Fin 16 := ⟨n.val / 16, by omega⟩
/-- The place of one of all rows in its batch row. -/
def place (n : Fin 256) : Fin 16 := ⟨n.val % 16, Nat.mod_lt _ (by omega)⟩

theorem index0 : win0_0.index t = ![0, 0] := by
  show cc0_transform_0 (grid0.coords t) = _
  rw [show grid0.coords t = only from coords_only t]
  rfl

theorem index1 : win0_1.index t = ![0, 0] := by
  show cc0_transform_1 (grid0.coords t) = _
  rw [show grid0.coords t = only from coords_only t]
  rfl

theorem index2 : win0_2.index t = ![0, 0] := rfl
theorem index3 : win0_3.index t = ![0, 0] := rfl
theorem index4 : win0_4.index t = ![0, 0] := rfl
theorem index5 : win0_5.index t = ![0, 0] := rfl
theorem index6 : win0_6.index t = ![0, 0] := rfl
theorem index7 : win0_7.index t = ![0, 0] := rfl

theorem index8 : win0_8.index t = ![0, 0] := by
  show cc0_transform_8 (grid0.coords t) = _
  rw [show grid0.coords t = only from coords_only t]
  rfl

/-! ## What the blocks hold -/

theorem mixed_apply (j : Fin 256) (e : Fin 1024) :
    (iblk m c 0 t : Vec Ideal S256x1024 .bf16) (ix2 j e) = argO m c (ix3 (batch j) (place j) e) := by
  have h : (win0_0.blk t).view.emb (ix2 j e) = ix2 j e := by blk_ext [index0 t]
  show V m c main_v0 ((win0_0.blk t).view.emb (ix2 j e)) = _
  rw [h]
  refine (congrFun (entry_v0 m c) _).trans ?_
  pointwise
  rfl

theorem residual_apply (j : Fin 256) (e : Fin 1024) :
    (iblk m c 1 t : Vec Ideal S256x1024 .f32) (ix2 j e) = argH m c (ix3 (batch j) (place j) e) := by
  have h : (win0_1.blk t).view.emb (ix2 j e) = ix2 j e := by blk_ext [index1 t]
  show V m c main_v1 ((win0_1.blk t).view.emb (ix2 j e)) = _
  rw [h]
  refine (congrFun (entry_v1 m c) _).trans ?_
  pointwise
  rfl

theorem out_matrix_apply (e d : Fin 1024) : (iblk m c 2 t : Vec Ideal S1024x1024 .bf16) (ix2 e d) = argW m c (ix2 e d) := by
  have h : (win0_2.blk t).view.emb (ix2 e d) = ix2 e d := by blk_ext [index2 t]
  show V m c main_v2 ((win0_2.blk t).view.emb (ix2 e d)) = _
  rw [h]
  entry_read
  pointwise
  rfl

theorem gain1_apply (e : Fin 1024) : (iblk m c 3 t : Vec Ideal S1x1024 .f32) (ix2 0 e) = argG1 m c (ix1 e) := by
  have h : (win0_3.blk t).view.emb (ix2 0 e) = ix2 0 e := by blk_ext [index3 t]
  show V m c main_v5 ((win0_3.blk t).view.emb (ix2 0 e)) = _
  rw [h]
  refine (congrFun (entry_v5 m c) _).trans ?_
  pointwise

theorem gain2_apply (e : Fin 1024) : (iblk m c 4 t : Vec Ideal S1x1024 .f32) (ix2 0 e) = argG2 m c (ix1 e) := by
  have h : (win0_4.blk t).view.emb (ix2 0 e) = ix2 0 e := by blk_ext [index4 t]
  show V m c main_v6 ((win0_4.blk t).view.emb (ix2 0 e)) = _
  rw [h]
  refine (congrFun (entry_v6 m c) _).trans ?_
  pointwise

theorem up_matrix_apply (e : Fin 1024) (x : Fin 4096) :
    (iblk m c 5 t : Vec Ideal S1024x4096 .bf16) (ix2 e x) = argU m c (ix2 e x) := by
  have h : (win0_5.blk t).view.emb (ix2 e x) = ix2 e x := by blk_ext [index5 t]
  show V m c main_v3 ((win0_5.blk t).view.emb (ix2 e x)) = _
  rw [h]
  entry_read
  pointwise
  rfl

theorem down_matrix_apply (x : Fin 4096) (d : Fin 1024) :
    (iblk m c 6 t : Vec Ideal S4096x1024 .bf16) (ix2 x d) = argD m c (ix2 x d) := by
  have h : (win0_6.blk t).view.emb (ix2 x d) = ix2 x d := by blk_ext [index6 t]
  show V m c main_v4 ((win0_6.blk t).view.emb (ix2 x d)) = _
  rw [h]
  entry_read
  pointwise
  rfl

theorem gain3_apply (e : Fin 1024) : (iblk m c 7 t : Vec Ideal S1x1024 .f32) (ix2 0 e) = argG3 m c (ix1 e) := by
  have h : (win0_7.blk t).view.emb (ix2 0 e) = ix2 0 e := by blk_ext [index7 t]
  show V m c main_v7 ((win0_7.blk t).view.emb (ix2 0 e)) = _
  rw [h]
  refine (congrFun (entry_v7 m c) _).trans ?_
  pointwise

/-! ## The array -/

/-- The result's element, from the arguments. -/
def element (b n : Fin 16) (d : Fin 1024) : EReal :=
  result (argO m c) (argH m c) (argW m c) (argG1 m c) (argG2 m c) (argU m c) (argD m c) (argG3 m c) b n d

/-- What a grid point leaves in its block. -/
def stored : Vec Ideal S256x1024 .f32 :=
  out0_8 (F := Ideal) (iblk m c 0 t) (iblk m c 1 t) (iblk m c 2 t) (iblk m c 3 t) (iblk m c 4 t) (iblk m c 5 t) (iblk m c 6 t)
    (iblk m c 7 t)

theorem after_eq : (dats m 0 c).after 8 t = stored m c t := by
  simp only [dats, stored]

/-- A grid point stores its block of the result. -/
theorem stored_apply (j : Fin 256) (d : Fin 1024) :
    stored m c t (ix2 j d)
      = element m c (batch j) (place j) d := by
  unfold stored
  rw [out_apply]
  simp only [mixed_apply, residual_apply, out_matrix_apply, gain1_apply, gain2_apply, up_matrix_apply, down_matrix_apply,
    gain3_apply]
  rfl

/-- The one block is the whole array. -/
theorem covered : (cfg0.win 8).Covers :=
  (cfg0.win 8).covers_of_indexMap_surj rfl (by decide) fun β =>
    ⟨only, fun a => by
      match a with
      | 0 => exact (Nat.lt_one_iff.mp (lt_of_lt_of_eq (β 0).isLt (by decide : (cfg0.win 8).nblk 0 = 1))).symm
      | 1 => exact (Nat.lt_one_iff.mp (lt_of_lt_of_eq (β 1).isLt (by decide : (cfg0.win 8).nblk 1 = 1))).symm⟩

/-- The result's rows, one batch row after another. -/
def rows : Vec Ideal S256x1024 .f32 := fun i => element m c (batch (i 0)) (place (i 0)) (i 1)

theorem rows_apply (n : Fin 256) (d : Fin 1024) : rows m c (ix2 n d) = element m c (batch n) (place n) d := rfl

/-- What the run leaves in the output array: all rows, one batch row after another. -/
theorem array_eq : (dats m 0 c).arrAt 8 cfg0.N = rows m c := by
  refine (dats m 0 c).arrAt_eq_of_covers 8 _ covered fun t hf y => ?_
  idx_vars y
  have he : (win0_8.blk t).view.emb (ix2 y0 y1) = ix2 y0 y1 := by
    blk_ext [index8 t]
  blk_simp
  rw [he]
  rw [after_eq, stored_apply, rows_apply]

/-- The whole result, in three axes. -/
def whole : Vec Ideal S16x16x1024 .f32 := fun i => element m c (i 0) (i 1) (i 2)

/-- The line after the call gives the array its three axes. -/
theorem tail_eq : afterTail₀ cfgs (dats m) 0 (V0 m) [hostOps1] c main_v9 = whole m c := by
  have hv : withArrays (cfgs 0).spec c (V0 m c) (fun w => (dats m 0 c).arrAt w (cfgs 0).N) (Proc.devRef .tc main_v8)
      = (dats m 0 c).arrAt 8 cfg0.N :=
    withArrays_arr spec0 (by decide) c (V0 m c) (fun w => (dats m 0 c).arrAt w cfg0.N) 8
  unfold afterTail₀
  simp only [hostOps1, List.flatten_cons, List.flatten_nil, List.append_nil, List.cons_append, List.nil_append]
  after_results
  rw [hv, array_eq]
  funext i
  idx_vars i
  pointwise
  rw [rows_apply]
  have hb : batch ⟨i0.val * 16 + i1.val, by omega⟩ = i0 := Fin.ext (by simp only [batch]; omega)
  have hp : place ⟨i0.val * 16 + i1.val, by omega⟩ = i1 := Fin.ext (by simp only [place]; omega)
  rw [hb, hp]
  rfl

/-- The whole program: the result is that array, and the arguments stay. -/
theorem result_run (ρ : Dev nD → PrngReg) :
    θ_run defs (onTc (τ := τ) (main (F := Ideal))) ⟨m, fun _ => 0, ρ⟩ (fun r => ∀ c : Dev nD,
      r.2.mem ((c : Thread nD τ).loc main_v9) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c => ⟨
      ((h c).2 main_v9 (mem_restRefs_of main_v9 (by decide) (by decide))).trans (tail_eq m c),
      ((h c).2 main_arg0 (mem_restRefs_of main_arg0 (by decide) (by decide))).trans (W_main_arg0 m (dats m) c),
      ((h c).2 main_arg1 (mem_restRefs_of main_arg1 (by decide) (by decide))).trans (W_main_arg1 m (dats m) c),
      ((h c).2 main_arg2 (mem_restRefs_of main_arg2 (by decide) (by decide))).trans (W_main_arg2 m (dats m) c),
      ((h c).2 main_arg3 (mem_restRefs_of main_arg3 (by decide) (by decide))).trans (W_main_arg3 m (dats m) c),
      ((h c).2 main_arg4 (mem_restRefs_of main_arg4 (by decide) (by decide))).trans (W_main_arg4 m (dats m) c),
      ((h c).2 main_arg5 (mem_restRefs_of main_arg5 (by decide) (by decide))).trans (W_main_arg5 m (dats m) c),
      ((h c).2 main_arg6 (mem_restRefs_of main_arg6 (by decide) (by decide))).trans (W_main_arg6 m (dats m) c),
      ((h c).2 main_arg7 (mem_restRefs_of main_arg7 (by decide) (by decide))).trans (W_main_arg7 m (dats m) c)⟩) (run_main m ρ)

end Cert.Kernel4Ideal.Hand

end
-- ==== Proof.MlpSample.Ref.lean ====
/-
  The reference of the output projection and feed-forward call of the sample in named steps, and its result's elements: the computation
  of `Proof/Mlp/Target.lean` on the arguments' rows.
-/
module

public import proofs.«01_k».proof.Proof.Gen.Reference4Ideal.Run
public import proofs.«01_k».proof.Proof.Mlp.Target

@[expose] public section

set_option maxRecDepth 16384

noncomputable section

namespace Cert.Reference4Ideal.Hand

open Idealize.ShloMosaic Idealize.ShloMosaic.TcCoe Idealize.ShloMosaic.Tactic Cert.Reference4Ideal Cert.Reference4Ideal.Gen
open Cert.Mlp

/-- The rows divided by the roots of their mean squares, scaled by a gain. -/
def norms (X : FVec Ideal S16x16x1024 .f32) (g : FVec Ideal S1024 .f32) : FVec Ideal S16x16x1024 .f32 :=
  mulf (mulf X (broadcastInDim S16x16x1024 ![0, 1, 2] bcast_S16x16x1_S16x16x1024_0_1_2
      (Host.rsqrt (addf
        (Host.divf
          (broadcastInDim S16x16x1 ![0, 1] bcast_S16x16_S16x16x1_0_1
            (Host.reduceAdd (mulf X X) (constant S_ .f32 0x00000000#32) reducesTo_S16x16x1024_S16x16_d2 h_S_))
          (broadcastInDim S16x16x1 ![] bcast_S_S16x16x1 (constant S_ .f32 0x44800000#32)))
        (broadcastInDim S16x16x1 ![] bcast_S_S16x16x1 (constant S_ .f32 0x358637BD#32))))))
    (broadcastInDim S16x16x1024 ![0, 1, 2] bcast_S1x1x1024_S16x16x1024_0_1_2
      (broadcastInDim S1x1x1024 ![2] bcast_S1024_S1x1x1024_2 g))

/-- The residual rows after the projection. -/
def middles (O : FVec Ideal S16x16x1024 .bf16) (H : FVec Ideal S16x16x1024 .f32) (W : FVec Ideal S1024x1024 .f32)
    (g : FVec Ideal S1024 .f32) : FVec Ideal S16x16x1024 .f32 :=
  addf H (norms (Host.dotGeneral dot_S16x16x1024_S1024x1024_S16x16x1024_2_0_01_1_n_n none
    (extf .f32 O bitsLt_bf16_f32) W) g)

/-- The positive parts. -/
def positive (X : FVec Ideal S16x16x4096 .f32) : FVec Ideal S16x16x4096 .f32 :=
  maximumf X (broadcastInDim S16x16x4096 ![] bcast_S_S16x16x4096 (constant S_ .f32 0x00000000#32))

/-- The feed-forward part of the normed rows. -/
def feeds (A : FVec Ideal S16x16x1024 .f32) (U : FVec Ideal S1024x4096 .f32) (D : FVec Ideal S4096x1024 .f32) :
    FVec Ideal S16x16x1024 .f32 :=
  Host.dotGeneral dot_S16x16x4096_S4096x1024_S16x16x1024_2_0_01_1_n_n none
    (mulf (positive (Host.dotGeneral dot_S16x16x1024_S1024x4096_S16x16x4096_2_0_01_1_n_n none A U))
      (positive (Host.dotGeneral dot_S16x16x1024_S1024x4096_S16x16x4096_2_0_01_1_n_n none A U))) D

/-- The reference's result. -/
def answer (O : FVec Ideal S16x16x1024 .bf16) (H : FVec Ideal S16x16x1024 .f32) (W : FVec Ideal S1024x1024 .f32)
    (g1 g2 : FVec Ideal S1024 .f32) (U : FVec Ideal S1024x4096 .f32) (D : FVec Ideal S4096x1024 .f32)
    (g3 : FVec Ideal S1024 .f32) : FVec Ideal S16x16x1024 .f32 :=
  addf (middles O H W g1) (norms (feeds (norms (middles O H W g1) g2) U D) g3)

/-- The reference's run leaves these steps' result. -/
theorem res_eq (m : (ℓ : Loc nD τ sig) → Buf (Elt Ideal) ℓ) (c : Dev nD) :
    Value.res_main_v46 m c = answer (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  unfold Value.res_main_v46
  rfl

/-- A normed row's element. -/
theorem norms_apply (X : FVec Ideal S16x16x1024 .f32) (g : FVec Ideal S1024 .f32) (b t : Fin 16) (d : Fin 1024) :
    norms X g (ix3 b t d) = normed (fun e => X (ix3 b t e)) (fun e => g (ix1 e)) d := by
  unfold norms
  pointwise
  rfl

/-- An element of the residual rows after the projection. -/
theorem middles_apply (O : FVec Ideal S16x16x1024 .bf16) (H : FVec Ideal S16x16x1024 .f32) (W : FVec Ideal S1024x1024 .f32)
    (g : FVec Ideal S1024 .f32) (b t : Fin 16) (d : Fin 1024) :
    middles O H W g (ix3 b t d) = middle (fun e => O (ix3 b t e)) (fun e => H (ix3 b t e)) (fun e d => W (ix2 e d))
      (fun e => g (ix1 e)) d := by
  unfold middles
  refine congrArg (H (ix3 b t d) + ·) ((norms_apply _ g b t d).trans (congrArg (fun x => normed x _ d) (funext fun e => ?_)))
  pointwise
  rfl

/-- An element of the feed-forward part. -/
theorem feeds_apply (A : FVec Ideal S16x16x1024 .f32) (U : FVec Ideal S1024x4096 .f32) (D : FVec Ideal S4096x1024 .f32)
    (b t : Fin 16) (d : Fin 1024) :
    feeds A U D (ix3 b t d) = feed (fun e => A (ix3 b t e)) (fun e x => U (ix2 e x)) (fun x d => D (ix2 x d)) d := by
  unfold feeds positive
  pointwise
  rfl

/-- The reference's result, element by element. -/
theorem answer_apply (O : FVec Ideal S16x16x1024 .bf16) (H : FVec Ideal S16x16x1024 .f32) (W : FVec Ideal S1024x1024 .f32)
    (g1 g2 : FVec Ideal S1024 .f32) (U : FVec Ideal S1024x4096 .f32) (D : FVec Ideal S4096x1024 .f32)
    (g3 : FVec Ideal S1024 .f32) (b t : Fin 16) (d : Fin 1024) :
    answer O H W g1 g2 U D g3 (ix3 b t d) = result O H W g1 g2 U D g3 b t d := by
  unfold answer
  refine congrArg₂ (· + ·) (middles_apply O H W g1 b t d)
    ((norms_apply _ g3 b t d).trans (congrArg (fun x => normed x _ d) (funext fun e => ?_)))
  refine (feeds_apply _ U D b t e).trans (congrArg (fun x => feed x _ _ e) (funext fun e => ?_))
  refine (norms_apply _ g2 b t e).trans (congrArg (fun x => normed x _ e) (funext fun e => ?_))
  exact middles_apply O H W g1 b t e

end Cert.Reference4Ideal.Hand

end
-- ==== Proof.KvqSample.Body.lean ====
/-
  What one grid point of the key, value and query call of the sample stores, read at one element of each of its five blocks.
-/
module

public import proofs.«01_k».proof.Proof.Kvq.Target
public import proofs.«01_k».proof.Proof.Gen.Kernel5Ideal.Frame
public import Idealize.ShloMosaic.Lib.Pipeline.ValueKit

@[expose] public section

set_option maxRecDepth 16384

noncomputable section

namespace Cert.Kernel5Ideal.Hand

open Idealize.ShloMosaic Idealize.ShloMosaic.TcCoe Cert.Kernel5Ideal Cert.Kernel5Ideal.Gen Cert.Mlp Cert.Kvq

/-- The corner of a block of two axes. -/
theorem corner2 : (![0, 0] : Fin 2 → ℕ) = fun _ => 0 := by
  funext a
  match a with
  | 0 => rfl
  | 1 => rfl

/-- The corner of a block of three axes. -/
theorem corner3 : (![0, 0, 0] : Fin 3 → ℕ) = fun _ => 0 := by
  funext a
  match a with
  | 0 => rfl
  | 1 => rfl
  | 2 => rfl

variable (x0 : Vec Ideal S1x16x1024 .f32) (x1 x2 : Vec Ideal S1x1024 .f32) (x3 : Vec Ideal S1024x2048 .bf16)
  (x4 : Vec Ideal S1024x1024 .bf16)

/-- A row of the block, normed and times a matrix. -/
def line {k : ℕ} (g : Vec Ideal S1x1024 .f32) (w : (⟨2, ![1024, k]⟩ : Shape).Idx → EReal) (i : Fin 16) (d : Fin k) : EReal :=
  times (normed (fun e => x0 (ix3 0 i e)) fun e => g (ix2 0 e)) (fun e d => w (ix2 e d)) d

/-- Keys and values side by side. -/
theorem pay4_apply (i : Fin 16) (d : Fin 2048) : k0_pay4 x0 x1 x3 (ix2 i d) = line x0 x1 x3 i d := by
  unfold k0_pay4 k0_pay3
  pointwise
  rfl

/-- The left half. -/
theorem pay5_apply (i : Fin 16) (d : Fin 1024) : k0_pay5 x0 x1 x3 (ix2 i d) = line x0 x1 x3 i (left d) := by
  unfold k0_pay5
  pointwise
  exact pay4_apply x0 x1 x3 i (left d)

/-- The right half. -/
theorem pay6_apply (i : Fin 16) (d : Fin 1024) : k0_pay6 x0 x1 x3 (ix2 i d) = line x0 x1 x3 i (right d) := by
  unfold k0_pay6
  pointwise
  exact pay4_apply x0 x1 x3 i (right d)

/-- The keys. -/
theorem out5_apply (i : Fin 16) (d : Fin 1024) : out0_5 x0 x1 x2 x3 x4 (ix3 0 i d) = line x0 x1 x3 i (left d) := by
  unfold out0_5
  rw [View.canon_unit_zero corner3, View.ld_unit_zero corner3, View.ld_unit_zero corner2, View.ld_unit_zero corner2]
  unfold k0_pay7
  pointwise
  exact pay5_apply x0 x1 x3 i d

/-- The values. -/
theorem out6_apply (i : Fin 16) (d : Fin 1024) : out0_6 x0 x1 x2 x3 x4 (ix3 0 i d) = line x0 x1 x3 i (right d) := by
  unfold out0_6
  rw [View.canon_unit_zero corner3, View.ld_unit_zero corner3, View.ld_unit_zero corner2, View.ld_unit_zero corner2]
  unfold k0_pay8
  pointwise
  exact pay6_apply x0 x1 x3 i d

/-- The keys once more. -/
theorem out7_apply (i : Fin 16) (d : Fin 1024) : out0_7 x0 x1 x2 x3 x4 (ix3 0 i d) = line x0 x1 x3 i (left d) := by
  unfold out0_7
  rw [View.canon_unit_zero corner3, View.ld_unit_zero corner3, View.ld_unit_zero corner2, View.ld_unit_zero corner2]
  unfold k0_pay9
  pointwise
  exact pay5_apply x0 x1 x3 i d

/-- The values once more. -/
theorem out8_apply (i : Fin 16) (d : Fin 1024) : out0_8 x0 x1 x2 x3 x4 (ix3 0 i d) = line x0 x1 x3 i (right d) := by
  unfold out0_8
  rw [View.canon_unit_zero corner3, View.ld_unit_zero corner3, View.ld_unit_zero corner2, View.ld_unit_zero corner2]
  unfold k0_pay1 k0_pay10
  pointwise
  exact pay6_apply x0 x1 x3 i d

/-- The queries. -/
theorem out9_apply (i : Fin 16) (d : Fin 1024) : out0_9 x0 x1 x2 x3 x4 (ix3 0 i d) = line x0 x2 x4 i d := by
  unfold out0_9
  rw [View.canon_unit_zero corner3, View.ld_unit_zero corner3, View.ld_unit_zero corner2, View.ld_unit_zero corner2]
  unfold k0_pay2 k0_pay3
  pointwise
  rfl

end Cert.Kernel5Ideal.Hand

end
-- ==== Proof.KvqSample.Array.lean ====
/-
  The whole results of the key, value and query call of the sample: the elements of `Proof/Kvq/Target.lean`, from the arguments.
-/
module

public import proofs.«01_k».proof.Proof.KvqSample.Body
public import Idealize.ShloMosaic.Lib.Pipeline.Covers
public import Idealize.ShloMosaic.Lib.Claim

@[expose] public section

set_option maxRecDepth 16384

noncomputable section

namespace Cert.Kernel5Ideal.Hand

open Idealize.ShloMosaic Idealize.ShloMosaic.TcCoe Idealize.ShloMosaic.Tactic
open Idealize.SL Idealize.SL.Sem
open Idealize.ShloMosaic.Pipeline (Dat Cfg Window)
open Idealize.ShloMosaic.Pipeline
open Cert.Kernel5Ideal Cert.Kernel5Ideal.Gen Cert.Mlp Cert.Kvq

variable (m : (ℓ : Loc nD τ sig) → Buf (Elt Ideal) ℓ) (c : Dev nD)

/-! ## The arguments -/

/-- The residual rows as given. -/
def argH : Vec Ideal S16x16x1024 .f32 := m ((c : Thread nD τ).loc main_arg0)
/-- The gain of keys and values as given. -/
def argG : Vec Ideal S1024 .f32 := m ((c : Thread nD τ).loc main_arg1)
/-- The gain of the queries as given. -/
def argGq : Vec Ideal S1024 .f32 := m ((c : Thread nD τ).loc main_arg2)
/-- The matrix of keys and values as given. -/
def argW : Vec Ideal S1024x2048 .f32 := m ((c : Thread nD τ).loc main_arg3)
/-- The matrix of the queries as given. -/
def argWq : Vec Ideal S1024x1024 .f32 := m ((c : Thread nD τ).loc main_arg4)

/-! ## The gains as the lines before the call leave them -/

theorem entry_v2 : V m c main_v2 = shapeCast S1x1024 (argG m c) shapeCasts_S1024_S1x1024 := by
  unfold V V0
  simp only [hostOps0, List.flatten_cons, List.flatten_nil, List.append_nil, List.cons_append, List.nil_append]
  after_results
  rfl

theorem entry_v3 : V m c main_v3 = shapeCast S1x1024 (argGq m c) shapeCasts_S1024_S1x1024 := by
  unfold V V0
  simp only [hostOps0, List.flatten_cons, List.flatten_nil, List.append_nil, List.cons_append, List.nil_append]
  after_results
  rfl

/-! ## Where the blocks lie -/

variable (t : Fin cfg0.N)

/-- The batch row of a grid point. -/
def batch : Fin 16 := ⟨((grid0.coords t) 0).val, ((grid0.coords t) 0).isLt⟩

/-- Blocks of rows, by the point's coordinates. -/
theorem transform0 (i : grid0.Coords) : cc0_transform_0 i = ![(i 0).val, 0, 0] := by
  unfold cc0_transform_0
  have h0 : (i 0).val < 16 := (i 0).isLt
  have h1 : (i 1).val = 0 := Nat.lt_one_iff.mp (i 1).isLt
  simp only [BitVec.toNat_ofNat, h1]
  rw [Nat.mod_eq_of_lt (by omega), Nat.mod_eq_of_lt (by omega)]

theorem index0 : win0_0.index t = ![(batch t).val, 0, 0] := transform0 (grid0.coords t)
theorem index1 : win0_1.index t = ![0, 0] := rfl
theorem index2 : win0_2.index t = ![0, 0] := rfl
theorem index3 : win0_3.index t = ![0, 0] := rfl
theorem index4 : win0_4.index t = ![0, 0] := rfl
theorem index5 : win0_5.index t = ![(batch t).val, 0, 0] := transform0 (grid0.coords t)
theorem index6 : win0_6.index t = ![(batch t).val, 0, 0] := transform0 (grid0.coords t)
theorem index7 : win0_7.index t = ![(batch t).val, 0, 0] := transform0 (grid0.coords t)
theorem index8 : win0_8.index t = ![(batch t).val, 0, 0] := transform0 (grid0.coords t)
theorem index9 : win0_9.index t = ![(batch t).val, 0, 0] := transform0 (grid0.coords t)

/-! ## What the blocks hold -/

theorem residual_apply (j : Fin 16) (e : Fin 1024) :
    (iblk m c 0 t : Vec Ideal S1x16x1024 .f32) (ix3 0 j e) = argH m c (ix3 (batch t) j e) := by
  have h : (win0_0.blk t).view.emb (ix3 0 j e) = ix3 (batch t) j e := by blk_ext [index0 t]
  show V m c main_arg0 ((win0_0.blk t).view.emb (ix3 0 j e)) = _
  rw [h, V_main_arg0]
  rfl

theorem gain_apply (e : Fin 1024) : (iblk m c 1 t : Vec Ideal S1x1024 .f32) (ix2 0 e) = argG m c (ix1 e) := by
  have h : (win0_1.blk t).view.emb (ix2 0 e) = ix2 0 e := by blk_ext [index1 t]
  show V m c main_v2 ((win0_1.blk t).view.emb (ix2 0 e)) = _
  rw [h]
  refine (congrFun (entry_v2 m c) _).trans ?_
  pointwise

theorem query_gain_apply (e : Fin 1024) : (iblk m c 2 t : Vec Ideal S1x1024 .f32) (ix2 0 e) = argGq m c (ix1 e) := by
  have h : (win0_2.blk t).view.emb (ix2 0 e) = ix2 0 e := by blk_ext [index2 t]
  show V m c main_v3 ((win0_2.blk t).view.emb (ix2 0 e)) = _
  rw [h]
  refine (congrFun (entry_v3 m c) _).trans ?_
  pointwise

theorem matrix_apply (e : Fin 1024) (d : Fin 2048) :
    (iblk m c 3 t : Vec Ideal S1024x2048 .bf16) (ix2 e d) = argW m c (ix2 e d) := by
  have h : (win0_3.blk t).view.emb (ix2 e d) = ix2 e d := by blk_ext [index3 t]
  show V m c main_v0 ((win0_3.blk t).view.emb (ix2 e d)) = _
  rw [h]
  entry_read
  pointwise
  rfl

theorem query_matrix_apply (e d : Fin 1024) :
    (iblk m c 4 t : Vec Ideal S1024x1024 .bf16) (ix2 e d) = argWq m c (ix2 e d) := by
  have h : (win0_4.blk t).view.emb (ix2 e d) = ix2 e d := by blk_ext [index4 t]
  show V m c main_v1 ((win0_4.blk t).view.emb (ix2 e d)) = _
  rw [h]
  entry_read
  pointwise
  rfl

/-! ## What a grid point stores -/

/-- Keys and values side by side, from the arguments. -/
def pairs (b n : Fin 16) (d : Fin 2048) : EReal := projected (argH m c) (argG m c) (argW m c) b n d

/-- The queries, from the arguments. -/
def queries (b n : Fin 16) (d : Fin 1024) : EReal := projected (argH m c) (argGq m c) (argWq m c) b n d

/-- A row of a block of keys and values. -/
theorem line_pairs (j : Fin 16) (d : Fin 2048) :
    line (iblk m c 0 t) (iblk m c 1 t) (iblk m c 3 t : Vec Ideal S1024x2048 .bf16) j d = pairs m c (batch t) j d := by
  unfold line
  simp only [residual_apply, gain_apply, matrix_apply]
  rfl

/-- A row of a block of queries. -/
theorem line_queries (j : Fin 16) (d : Fin 1024) :
    line (iblk m c 0 t) (iblk m c 2 t) (iblk m c 4 t : Vec Ideal S1024x1024 .bf16) j d = queries m c (batch t) j d := by
  unfold line
  simp only [residual_apply, query_gain_apply, query_matrix_apply]
  rfl

/-- The grid's coordinates of a batch row. -/
def point (b : Fin 16) : grid0.Coords := fun | 0 => b | 1 => (0 : Fin 1)

/-- An array of rows of 1024 columns. -/
def rows (f : Fin 16 → Fin 16 → Fin 1024 → EReal) : S16x16x1024.Idx → EReal := fun i => f (i 0) (i 1) (i 2)

theorem rows_apply (f : Fin 16 → Fin 16 → Fin 1024 → EReal) (b n : Fin 16) (d : Fin 1024) :
    rows f (ix3 b n d) = f b n d := rfl

/-! ## The arrays -/

/-- The blocks of the keys cover their array. -/
theorem covered5 : (cfg0.win 5).Covers :=
  (cfg0.win 5).covers_of_indexMap_surj rfl (by decide) fun β =>
    ⟨point ⟨(β 0).val, (β 0).isLt⟩, fun a => by
      refine (congrFun (transform0 (point ⟨(β 0).val, (β 0).isLt⟩)) a).trans ?_
      match a with
      | 0 => rfl
      | 1 => exact (Nat.lt_one_iff.mp (lt_of_lt_of_eq (β 1).isLt (by decide : (cfg0.win 5).nblk 1 = 1))).symm
      | 2 => exact (Nat.lt_one_iff.mp (lt_of_lt_of_eq (β 2).isLt (by decide : (cfg0.win 5).nblk 2 = 1))).symm⟩

theorem after5 : (dats m 0 c).after 5 t
    = out0_5 (F := Ideal) (iblk m c 0 t) (iblk m c 1 t) (iblk m c 2 t) (iblk m c 3 t) (iblk m c 4 t) := by
  simp only [dats]

/-- What the run leaves in the array of the keys. -/
theorem array5 : (dats m 0 c).arrAt 5 cfg0.N = rows (fun b n d => pairs m c b n (left d)) := by
  refine (dats m 0 c).arrAt_eq_of_covers 5 _ covered5 fun t hf y => ?_
  idx_vars y
  obtain rfl : y0 = 0 := Subsingleton.elim _ _
  have he : (win0_5.blk t).view.emb (ix3 0 y1 y2) = ix3 (batch t) y1 y2 := by
    blk_ext [index5 t]
  blk_simp
  rw [he, after5]
  exact (out5_apply _ _ _ _ _ y1 y2).trans (line_pairs m c t y1 (left y2))

/-- The blocks of the values cover their array. -/
theorem covered6 : (cfg0.win 6).Covers :=
  (cfg0.win 6).covers_of_indexMap_surj rfl (by decide) fun β =>
    ⟨point ⟨(β 0).val, (β 0).isLt⟩, fun a => by
      refine (congrFun (transform0 (point ⟨(β 0).val, (β 0).isLt⟩)) a).trans ?_
      match a with
      | 0 => rfl
      | 1 => exact (Nat.lt_one_iff.mp (lt_of_lt_of_eq (β 1).isLt (by decide : (cfg0.win 6).nblk 1 = 1))).symm
      | 2 => exact (Nat.lt_one_iff.mp (lt_of_lt_of_eq (β 2).isLt (by decide : (cfg0.win 6).nblk 2 = 1))).symm⟩

theorem after6 : (dats m 0 c).after 6 t
    = out0_6 (F := Ideal) (iblk m c 0 t) (iblk m c 1 t) (iblk m c 2 t) (iblk m c 3 t) (iblk m c 4 t) := by
  simp only [dats]

/-- What the run leaves in the array of the values. -/
theorem array6 : (dats m 0 c).arrAt 6 cfg0.N = rows (fun b n d => pairs m c b n (right d)) := by
  refine (dats m 0 c).arrAt_eq_of_covers 6 _ covered6 fun t hf y => ?_
  idx_vars y
  obtain rfl : y0 = 0 := Subsingleton.elim _ _
  have he : (win0_6.blk t).view.emb (ix3 0 y1 y2) = ix3 (batch t) y1 y2 := by
    blk_ext [index6 t]
  blk_simp
  rw [he, after6]
  exact (out6_apply _ _ _ _ _ y1 y2).trans (line_pairs m c t y1 (right y2))

/-- The blocks of the keys in half precision cover their array. -/
theorem covered7 : (cfg0.win 7).Covers :=
  (cfg0.win 7).covers_of_indexMap_surj rfl (by decide) fun β =>
    ⟨point ⟨(β 0).val, (β 0).isLt⟩, fun a => by
      refine (congrFun (transform0 (point ⟨(β 0).val, (β 0).isLt⟩)) a).trans ?_
      match a with
      | 0 => rfl
      | 1 => exact (Nat.lt_one_iff.mp (lt_of_lt_of_eq (β 1).isLt (by decide : (cfg0.win 7).nblk 1 = 1))).symm
      | 2 => exact (Nat.lt_one_iff.mp (lt_of_lt_of_eq (β 2).isLt (by decide : (cfg0.win 7).nblk 2 = 1))).symm⟩

theorem after7 : (dats m 0 c).after 7 t
    = out0_7 (F := Ideal) (iblk m c 0 t) (iblk m c 1 t) (iblk m c 2 t) (iblk m c 3 t) (iblk m c 4 t) := by
  simp only [dats]

/-- What the run leaves in the array of the keys in half precision. -/
theorem array7 : (dats m 0 c).arrAt 7 cfg0.N = rows (fun b n d => pairs m c b n (left d)) := by
  refine (dats m 0 c).arrAt_eq_of_covers 7 _ covered7 fun t hf y => ?_
  idx_vars y
  obtain rfl : y0 = 0 := Subsingleton.elim _ _
  have he : (win0_7.blk t).view.emb (ix3 0 y1 y2) = ix3 (batch t) y1 y2 := by
    blk_ext [index7 t]
  blk_simp
  rw [he, after7]
  exact (out7_apply _ _ _ _ _ y1 y2).trans (line_pairs m c t y1 (left y2))

/-- The blocks of the values in half precision cover their array. -/
theorem covered8 : (cfg0.win 8).Covers :=
  (cfg0.win 8).covers_of_indexMap_surj rfl (by decide) fun β =>
    ⟨point ⟨(β 0).val, (β 0).isLt⟩, fun a => by
      refine (congrFun (transform0 (point ⟨(β 0).val, (β 0).isLt⟩)) a).trans ?_
      match a with
      | 0 => rfl
      | 1 => exact (Nat.lt_one_iff.mp (lt_of_lt_of_eq (β 1).isLt (by decide : (cfg0.win 8).nblk 1 = 1))).symm
      | 2 => exact (Nat.lt_one_iff.mp (lt_of_lt_of_eq (β 2).isLt (by decide : (cfg0.win 8).nblk 2 = 1))).symm⟩

theorem after8 : (dats m 0 c).after 8 t
    = out0_8 (F := Ideal) (iblk m c 0 t) (iblk m c 1 t) (iblk m c 2 t) (iblk m c 3 t) (iblk m c 4 t) := by
  simp only [dats]

/-- What the run leaves in the array of the values in half precision. -/
theorem array8 : (dats m 0 c).arrAt 8 cfg0.N = rows (fun b n d => pairs m c b n (right d)) := by
  refine (dats m 0 c).arrAt_eq_of_covers 8 _ covered8 fun t hf y => ?_
  idx_vars y
  obtain rfl : y0 = 0 := Subsingleton.elim _ _
  have he : (win0_8.blk t).view.emb (ix3 0 y1 y2) = ix3 (batch t) y1 y2 := by
    blk_ext [index8 t]
  blk_simp
  rw [he, after8]
  exact (out8_apply _ _ _ _ _ y1 y2).trans (line_pairs m c t y1 (right y2))

/-- The blocks of the queries cover their array. -/
theorem covered9 : (cfg0.win 9).Covers :=
  (cfg0.win 9).covers_of_indexMap_surj rfl (by decide) fun β =>
    ⟨point ⟨(β 0).val, (β 0).isLt⟩, fun a => by
      refine (congrFun (transform0 (point ⟨(β 0).val, (β 0).isLt⟩)) a).trans ?_
      match a with
      | 0 => rfl
      | 1 => exact (Nat.lt_one_iff.mp (lt_of_lt_of_eq (β 1).isLt (by decide : (cfg0.win 9).nblk 1 = 1))).symm
      | 2 => exact (Nat.lt_one_iff.mp (lt_of_lt_of_eq (β 2).isLt (by decide : (cfg0.win 9).nblk 2 = 1))).symm⟩

theorem after9 : (dats m 0 c).after 9 t
    = out0_9 (F := Ideal) (iblk m c 0 t) (iblk m c 1 t) (iblk m c 2 t) (iblk m c 3 t) (iblk m c 4 t) := by
  simp only [dats]

/-- What the run leaves in the array of the queries. -/
theorem array9 : (dats m 0 c).arrAt 9 cfg0.N = rows (queries m c) := by
  refine (dats m 0 c).arrAt_eq_of_covers 9 _ covered9 fun t hf y => ?_
  idx_vars y
  obtain rfl : y0 = 0 := Subsingleton.elim _ _
  have he : (win0_9.blk t).view.emb (ix3 0 y1 y2) = ix3 (batch t) y1 y2 := by
    blk_ext [index9 t]
  blk_simp
  rw [he, after9]
  exact (out9_apply _ _ _ _ _ y1 y2).trans (line_queries m c t y1 y2)

/-! ## The lines after the call -/

/-- The keys by head and component. -/
def keys : S16x16x8x2x64.Idx → EReal := fun i => pairs m c (i 0) (i 1) (left (keyCol (i 2) (i 3) (i 4)))

/-- The values by head. -/
def values : S16x16x8x128.Idx → EReal := fun i => pairs m c (i 0) (i 1) (right (valueCol (i 2) (i 3)))

theorem tail_keys : afterTail₀ cfgs (dats m) 0 (V0 m) [hostOps1] c main_v5 = keys m c := by
  have hv : withArrays (cfgs 0).spec c (V0 m c) (fun w => (dats m 0 c).arrAt w (cfgs 0).N) (Proc.devRef .tc main_v4_0)
      = (dats m 0 c).arrAt 5 cfg0.N :=
    withArrays_arr spec0 (by decide) c (V0 m c) (fun w => (dats m 0 c).arrAt w cfg0.N) 5
  unfold afterTail₀
  simp only [hostOps1, List.flatten_cons, List.flatten_nil, List.append_nil, List.cons_append, List.nil_append]
  after_results
  rw [hv, array5]
  funext i
  idx_vars i
  pointwise
  rfl

theorem tail_values : afterTail₀ cfgs (dats m) 0 (V0 m) [hostOps1] c main_v6 = values m c := by
  have hv : withArrays (cfgs 0).spec c (V0 m c) (fun w => (dats m 0 c).arrAt w (cfgs 0).N) (Proc.devRef .tc main_v4_1)
      = (dats m 0 c).arrAt 6 cfg0.N :=
    withArrays_arr spec0 (by decide) c (V0 m c) (fun w => (dats m 0 c).arrAt w cfg0.N) 6
  unfold afterTail₀
  simp only [hostOps1, List.flatten_cons, List.flatten_nil, List.append_nil, List.cons_append, List.nil_append]
  after_results
  rw [hv, array6]
  funext i
  idx_vars i
  pointwise
  rfl

/-- The whole program: the five results, and the arguments stay. -/
theorem result_run (ρ : Dev nD → PrngReg) :
    θ_run defs (onTc (τ := τ) (main (F := Ideal))) ⟨m, fun _ => 0, ρ⟩ (fun r => ∀ c : Dev nD,
      r.2.mem ((c : Thread nD τ).loc main_v5) = keys m c
      ∧ r.2.mem ((c : Thread nD τ).loc main_v6) = values m c
      ∧ r.2.mem ((c : Thread nD τ).loc main_v4_2) = rows (fun b n d => pairs m c b n (left d))
      ∧ r.2.mem ((c : Thread nD τ).loc main_v4_3) = rows (fun b n d => pairs m c b n (right d))
      ∧ r.2.mem ((c : Thread nD τ).loc main_v4_4) = rows (queries m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨
      ((h c).2 main_v5 (mem_restRefs_of main_v5 (by decide) (by decide))).trans (tail_keys m c),
      ((h c).2 main_v6 (mem_restRefs_of main_v6 (by decide) (by decide))).trans (tail_values m c),
      ((h c).1 7).trans (array7 m c), ((h c).1 8).trans (array8 m c), ((h c).1 9).trans (array9 m c),
      ((h c).1 0).trans (((dats m 0 c).arrAt_in 0 rfl _).trans ((A_eq m c 0).trans (V_main_arg0 m c))),
      ((h c).2 main_arg1 (mem_restRefs_of main_arg1 (by decide) (by decide))).trans (W_main_arg1 m (dats m) c),
      ((h c).2 main_arg2 (mem_restRefs_of main_arg2 (by decide) (by decide))).trans (W_main_arg2 m (dats m) c),
      ((h c).2 main_arg3 (mem_restRefs_of main_arg3 (by decide) (by decide))).trans (W_main_arg3 m (dats m) c),
      ((h c).2 main_arg4 (mem_restRefs_of main_arg4 (by decide) (by decide))).trans (W_main_arg4 m (dats m) c)⟩) (run_main m ρ)

end Cert.Kernel5Ideal.Hand

end
-- ==== Proof.KvqSample.Ref.lean ====
/-
  The reference of the key, value and query call of the sample in named steps, and its results' elements: those of
  `Proof/Kvq/Target.lean`.
-/
module

public import proofs.«01_k».proof.Proof.Gen.Reference5Ideal.Run
public import proofs.«01_k».proof.Proof.Kvq.Target

@[expose] public section

set_option maxRecDepth 16384

noncomputable section

namespace Cert.Reference5Ideal.Hand

open Idealize.ShloMosaic Idealize.ShloMosaic.TcCoe Idealize.ShloMosaic.Tactic Idealize.SL.Sem
open Cert.Reference5Ideal Cert.Reference5Ideal.Gen Cert.Mlp Cert.Kvq

/-- The rows divided by the roots of their mean squares, scaled by a gain. -/
def scaled (X : FVec Ideal S16x16x1024 .f32) (g : FVec Ideal S1024 .f32) : FVec Ideal S16x16x1024 .f32 :=
  mulf (mulf X (broadcastInDim S16x16x1024 ![0, 1, 2] bcast_S16x16x1_S16x16x1024_0_1_2
      (Host.rsqrt (addf
        (Host.divf
          (broadcastInDim S16x16x1 ![0, 1] bcast_S16x16_S16x16x1_0_1
            (Host.reduceAdd (mulf X X) (constant S_ .f32 0x00000000#32) reducesTo_S16x16x1024_S16x16_d2 h_S_))
          (broadcastInDim S16x16x1 ![] bcast_S_S16x16x1 (constant S_ .f32 0x44800000#32)))
        (broadcastInDim S16x16x1 ![] bcast_S_S16x16x1 (constant S_ .f32 0x358637BD#32))))))
    (broadcastInDim S16x16x1024 ![0, 1, 2] bcast_S1x1x1024_S16x16x1024_0_1_2
      (broadcastInDim S1x1x1024 ![2] bcast_S1024_S1x1x1024_2 g))

/-- Keys and values side by side. -/
def table (H : FVec Ideal S16x16x1024 .f32) (g : FVec Ideal S1024 .f32) (W : FVec Ideal S1024x2048 .f32) :
    FVec Ideal S16x16x2048 .f32 :=
  Host.dotGeneral dot_S16x16x1024_S1024x2048_S16x16x2048_2_0_01_1_n_n none (scaled H g) W

/-- The table's left half. -/
def leftHalf (X : FVec Ideal S16x16x2048 .f32) : FVec Ideal S16x16x1024 .f32 :=
  extractStridedSlice S16x16x1024 ![0, 0, 0] X slices_S16x16x2048_S16x16x1024_0_0_0

/-- The table's right half. -/
def rightHalf (X : FVec Ideal S16x16x2048 .f32) : FVec Ideal S16x16x1024 .f32 :=
  extractStridedSlice S16x16x1024 ![0, 0, 1024] X slices_S16x16x2048_S16x16x1024_0_0_1024

/-- The queries. -/
def asked (H : FVec Ideal S16x16x1024 .f32) (g : FVec Ideal S1024 .f32) (W : FVec Ideal S1024x1024 .f32) :
    FVec Ideal S16x16x1024 .f32 :=
  Host.dotGeneral dot_S16x16x1024_S1024x1024_S16x16x1024_2_0_01_1_n_n none (scaled H g) W

variable (m : (ℓ : Loc nD τ sig) → Buf (Elt Ideal) ℓ) (c : Dev nD)

/-- The residual rows as given. -/
def argH : FVec Ideal S16x16x1024 .f32 := m ((c : Thread nD τ).loc main_arg0)
/-- The gain of keys and values as given. -/
def argG : FVec Ideal S1024 .f32 := m ((c : Thread nD τ).loc main_arg1)
/-- The gain of the queries as given. -/
def argGq : FVec Ideal S1024 .f32 := m ((c : Thread nD τ).loc main_arg2)
/-- The matrix of keys and values as given. -/
def argW : FVec Ideal S1024x2048 .f32 := m ((c : Thread nD τ).loc main_arg3)
/-- The matrix of the queries as given. -/
def argWq : FVec Ideal S1024x1024 .f32 := m ((c : Thread nD τ).loc main_arg4)

/-- The reference's run leaves these steps' results, and its arguments stay. -/
theorem run_steps (ρ : Dev nD → PrngReg) :
    θ_run defs (onTc (τ := τ) (main (F := Ideal))) ⟨m, fun _ => 0, ρ⟩ (fun r => ∀ c : Dev nD,
      r.2.mem ((c : Thread nD τ).loc main_v15)
        = shapeCast _ (leftHalf (table (argH m c) (argG m c) (argW m c))) shapeCasts_S16x16x1024_S16x16x8x2x64
      ∧ r.2.mem ((c : Thread nD τ).loc main_v17)
        = shapeCast _ (rightHalf (table (argH m c) (argG m c) (argW m c))) shapeCasts_S16x16x1024_S16x16x8x128
      ∧ r.2.mem ((c : Thread nD τ).loc main_v33)
        = truncf .bf16 (leftHalf (table (argH m c) (argG m c) (argW m c))) bitsLt_bf16_f32
      ∧ r.2.mem ((c : Thread nD τ).loc main_v35)
        = truncf .bf16 (rightHalf (table (argH m c) (argG m c) (argW m c))) bitsLt_bf16_f32
      ∧ r.2.mem ((c : Thread nD τ).loc main_v31) = asked (argH m c) (argGq m c) (argWq m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  Value.run m ρ

variable (H : FVec Ideal S16x16x1024 .f32) (g : FVec Ideal S1024 .f32) (W : FVec Ideal S1024x2048 .f32)
  (W' : FVec Ideal S1024x1024 .f32) (b t : Fin 16)

/-- A normed row's element. -/
theorem scaled_apply (d : Fin 1024) :
    scaled H g (ix3 b t d) = normed (fun e => H (ix3 b t e)) (fun e => g (ix1 e)) d := by
  unfold scaled
  pointwise
  rfl

/-- An element of keys and values side by side. -/
theorem table_apply (d : Fin 2048) : table H g W (ix3 b t d) = projected H g W b t d := by
  unfold table
  pointwise
  simp only [scaled_apply]
  rfl

/-- A query's element. -/
theorem asked_apply (d : Fin 1024) : asked H g W' (ix3 b t d) = projected H g W' b t d := by
  unfold asked
  pointwise
  simp only [scaled_apply]
  rfl

/-- The keys by head and component. -/
theorem keys_apply (h : Fin 8) (p : Fin 2) (d : Fin 64) :
    shapeCast S16x16x8x2x64 (leftHalf (table H g W)) shapeCasts_S16x16x1024_S16x16x8x2x64 (ix5 b t h p d)
      = projected H g W b t (left (keyCol h p d)) := by
  unfold leftHalf
  pointwise
  exact table_apply H g W b t (left (keyCol h p d))

/-- The values by head. -/
theorem values_apply (h : Fin 8) (d : Fin 128) :
    shapeCast S16x16x8x128 (rightHalf (table H g W)) shapeCasts_S16x16x1024_S16x16x8x128 (ix4 b t h d)
      = projected H g W b t (right (valueCol h d)) := by
  unfold rightHalf
  pointwise
  exact table_apply H g W b t (right (valueCol h d))

/-- The keys in half precision. -/
theorem half_keys_apply (d : Fin 1024) :
    (truncf .bf16 (leftHalf (table H g W)) bitsLt_bf16_f32 : FVec Ideal S16x16x1024 .bf16) (ix3 b t d)
      = projected H g W b t (left d) := by
  unfold leftHalf
  pointwise
  exact table_apply H g W b t (left d)

/-- The values in half precision. -/
theorem half_values_apply (d : Fin 1024) :
    (truncf .bf16 (rightHalf (table H g W)) bitsLt_bf16_f32 : FVec Ideal S16x16x1024 .bf16) (ix3 b t d)
      = projected H g W b t (right d) := by
  unfold rightHalf
  pointwise
  exact table_apply H g W b t (right d)

end Cert.Reference5Ideal.Hand

end
-- ==== Proof.Hgrn.Target.lean ====
/-
  What one element of the recurrent part's last state is: every place of a row closes a gate, a number between the layer's
  floor and one that the normed row times a matrix gives; the state as given fades by the gates of all places, and each
  place adds its key times its value, faded by the gates of the places after it.
-/
module

public import proofs.«01_k».proof.Proof.Kvq.Target
public import proofs.«01_k».proof.Proof.Value.Common

@[expose] public section

noncomputable section

namespace Cert.Hgrn

open Idealize.ShloMosaic Cert.Mlp Cert.Kvq

/-- The larger of a column's two numbers. -/
def crest (l : Fin 2 → EReal) : EReal := Finset.univ.fold max ⊥ l

/-- The first number's share among the two, by exponentials. -/
def floor (l : Fin 2 → EReal) : EReal := Ideal.div (Ideal.exp (l 0 - crest l)) (∑ i, Ideal.exp (l i - crest l))

/-- A gate: between its floor and one, by a sigmoid. -/
def gate (b f : EReal) : EReal := b + (1 - b) * Ideal.div 1 (1 + Ideal.exp (0 - f))

/-- A sum up to a place. -/
def upto {n : ℕ} (g : Fin n → EReal) (t : Fin n) : EReal := ∑ s, if s ≤ t then g s else 0

/-- The logarithm of how far the gates up to a place let a number fade. -/
def faded (u : Fin 16 → EReal) (t : Fin 16) : EReal := upto (fun s => Ideal.log (u s)) t

/-- One element of the last state, from that of the state given, its key's gates and its values. -/
def stored (s : EReal) (u v : Fin 16 → EReal) : EReal :=
  Ideal.exp (faded u 15) * s + ∑ t, (1 - u t) * Ideal.exp (faded u 15 - faded u t) * v t

/-- The part of a row before the matrix's columns are told apart. -/
def slab (k : Fin 4) (d : Fin 1024) : Fin 4096 := ⟨k.val * 1024 + d.val, by omega⟩

/-- The gate of column `d` at a place of a batch row, from the arguments. -/
def gates (H : (⟨3, ![16, 16, 1024]⟩ : Shape).Idx → EReal) (g : (⟨1, ![1024]⟩ : Shape).Idx → EReal)
    (W : (⟨2, ![1024, 4096]⟩ : Shape).Idx → EReal) (L : (⟨2, ![2, 1024]⟩ : Shape).Idx → EReal) (b : Fin 16) (d : Fin 1024)
    (t : Fin 16) : EReal :=
  gate (floor fun i => L (ix2 i d)) (projected H g W b t (slab 1 d))

/-- The last state, from the arguments: batch row `b`, head `h`, key `p`, value `q`. -/
def last (H : (⟨3, ![16, 16, 1024]⟩ : Shape).Idx → EReal) (g : (⟨1, ![1024]⟩ : Shape).Idx → EReal)
    (W : (⟨2, ![1024, 4096]⟩ : Shape).Idx → EReal) (L : (⟨2, ![2, 1024]⟩ : Shape).Idx → EReal)
    (S : (⟨4, ![16, 8, 128, 128]⟩ : Shape).Idx → EReal) (b : Fin 16) (h : Fin 8) (p q : Fin 128) : EReal :=
  stored (S (ix4 b h p q)) (gates H g W L b (valueCol h p)) fun t => projected H g W b t (slab 2 (valueCol h q))

/-! ## The gates' logarithms are not the greatest value -/

/-- The exponential of a number less one that is not smaller is a real number, not negative. -/
theorem exp_sub_real {x M : EReal} (h : x ≤ M) : ∃ r : ℝ, 0 ≤ r ∧ Ideal.exp (x - M) = (r : EReal) := by
  induction M using EReal.rec with
  | bot =>
    obtain rfl := le_bot_iff.mp h
    exact ⟨0, le_rfl, rfl⟩
  | top =>
    refine ⟨0, le_rfl, ?_⟩
    rw [EReal.sub_top]
    rfl
  | coe M =>
    induction x using EReal.rec with
    | bot =>
      refine ⟨0, le_rfl, ?_⟩
      rw [EReal.bot_sub]
      rfl
    | top => exact absurd h (not_le_of_gt (EReal.coe_lt_top M))
    | coe x => exact ⟨Real.exp (x - M), (Real.exp_pos _).le, rfl⟩

theorem le_crest (l : Fin 2 → EReal) (i : Fin 2) : l i ≤ crest l :=
  (Finset.le_fold_max _).mpr (Or.inr ⟨i, Finset.mem_univ i, le_rfl⟩)

/-- A floor is a real number or the least value. -/
theorem floor_real (l : Fin 2 → EReal) : floor l = ⊥ ∨ ∃ r : ℝ, floor l = (r : EReal) := by
  obtain ⟨a, ha, ea⟩ := exp_sub_real (le_crest l 0)
  obtain ⟨b, hb, eb⟩ := exp_sub_real (le_crest l 1)
  unfold floor
  rw [Fin.sum_univ_two, ea, eb, ← EReal.coe_add]
  unfold Ideal.div
  by_cases h : a + b = 0
  · left
    obtain rfl : a = 0 := by linarith
    rw [if_pos (by rw [h]; rfl), EReal.coe_zero, if_neg (lt_irrefl _)]
  · right
    refine ⟨a * (a + b)⁻¹, ?_⟩
    rw [if_neg fun e => h (EReal.coe_eq_zero.mp e), ← EReal.coe_inv, ← EReal.coe_mul]

/-- A sigmoid is a real number between zero and one. -/
theorem sigmoid_real (f : EReal) : ∃ r : ℝ, 0 ≤ r ∧ r ≤ 1 ∧ Ideal.div 1 (1 + Ideal.exp (0 - f)) = (r : EReal) := by
  have key : ∀ x : EReal, ∃ r : ℝ, 0 ≤ r ∧ r ≤ 1 ∧ Ideal.div 1 (1 + Ideal.exp x) = (r : EReal) := fun x => by
    unfold Ideal.div
    induction x using EReal.rec with
    | bot =>
      refine ⟨1, zero_le_one, le_rfl, ?_⟩
      show (if (1 : EReal) + 0 = 0 then _ else 1 * (1 + 0 : EReal)⁻¹) = _
      rw [add_zero, if_neg one_ne_zero, one_mul, ← EReal.coe_one, ← EReal.coe_inv, inv_one]
    | top =>
      refine ⟨0, le_rfl, zero_le_one, ?_⟩
      show (if (1 : EReal) + ⊤ = 0 then _ else 1 * (1 + ⊤ : EReal)⁻¹) = _
      have e : (1 : EReal) + ⊤ = ⊤ := EReal.coe_add_top 1
      rw [e, if_neg (by decide), one_mul, EReal.inv_top]
      rfl
    | coe x =>
      have hx : (1 : ℝ) + Real.exp x ≠ 0 := by positivity
      refine ⟨(1 + Real.exp x)⁻¹, by positivity, inv_le_one_of_one_le₀ (by linarith [Real.exp_pos x]), ?_⟩
      show (if (1 : EReal) + (Real.exp x : EReal) = 0 then _ else 1 * (1 + (Real.exp x : EReal))⁻¹) = _
      rw [← EReal.coe_one, ← EReal.coe_add, if_neg fun e => hx (EReal.coe_eq_zero.mp e), ← EReal.coe_inv, EReal.coe_one, one_mul]
  exact key _

/-- The logarithm of a gate over a floor. -/
theorem log_gate (l : Fin 2 → EReal) (f : EReal) : Ideal.log (gate (floor l) f) ≠ ⊤ := by
  unfold gate
  obtain ⟨s, -, -, hs⟩ := sigmoid_real f
  rw [hs]
  rcases floor_real l with h | ⟨r, h⟩
  · rw [h, EReal.bot_add]
    exact bot_ne_top
  · rw [h, ← EReal.coe_one, ← EReal.coe_sub, ← EReal.coe_mul, ← EReal.coe_add]
    show (if _ then (⊥ : EReal) else _) ≠ ⊤
    split
    · exact bot_ne_top
    · exact EReal.coe_ne_top _

/-! ## A number and what its roundings leave -/

/-- A number, what it leaves of itself, and what that leaves of itself. -/
theorem leftovers {x : EReal} (h : x ≠ ⊤) : x + (x - x) + (x - x - (x - x)) = x := by
  induction x using EReal.rec with
  | bot => rw [EReal.bot_add, EReal.bot_add]
  | top => exact absurd rfl h
  | coe x =>
    rw [← EReal.coe_sub, ← EReal.coe_sub, ← EReal.coe_add, ← EReal.coe_add]
    exact congrArg _ (by ring)

/-- The sum up to a place as three products with a triangle of ones. -/
theorem triangle (T g : Fin 16 → EReal) (t : Fin 16) (hT : ∀ s, T s = if s ≤ t then 1 else 0) (hg : ∀ s, g s ≠ ⊤) :
    ∑ s, T s * g s + ∑ s, T s * (g s - g s) + ∑ s, T s * (g s - g s - (g s - g s)) = upto g t := by
  rw [← Finset.sum_add_distrib, ← Finset.sum_add_distrib]
  refine Finset.sum_congr rfl fun s _ => ?_
  rw [hT]
  split
  · rw [one_mul, one_mul, one_mul, leftovers (hg s)]
  · rw [zero_mul, zero_mul, zero_mul, add_zero, add_zero]

/-- The sum over a window that reaches back from a place, of a column padded before its first place. -/
theorem sum_back {n : ℕ} (g : Fin (n + 1) → EReal) (t : Fin (n + 1)) :
    (∑ w : Fin (n + 1), if h : n ≤ t.val + w.val ∧ t.val + w.val - n < n + 1 then g ⟨t.val + w.val - n, h.2⟩ else 0) = upto g t := by
  refine Fintype.sum_equiv (Equiv.addRight (t + 1)) _ _ fun w => ?_
  have ht := t.isLt
  have hw := w.isLt
  have e : (w + (t + 1)).val = (w.val + (t.val + 1)) % (n + 1) := by
    rw [Fin.val_add, Fin.val_add, Fin.val_one', Nat.add_mod_mod, ← Nat.add_assoc, Nat.add_mod_mod, Nat.add_assoc]
  show _ = if w + (t + 1) ≤ t then g (w + (t + 1)) else 0
  by_cases h : n ≤ t.val + w.val
  · have e' : (w + (t + 1)).val = t.val + w.val - n := by
      rw [e, Nat.mod_eq_sub_mod (by omega), Nat.mod_eq_of_lt (by omega)]
      omega
    rw [dif_pos ⟨h, by omega⟩, if_pos (Fin.le_def.mpr (by omega))]
    exact congrArg g (Fin.ext e'.symm)
  · rw [Nat.mod_eq_of_lt (by omega)] at e
    rw [dif_neg fun h' => h h'.1, if_neg fun h' => absurd (Fin.le_def.mp h') (by omega)]

end Cert.Hgrn

end
-- ==== Proof.Hgrn.Body.lean ====
/-
  What one grid point of the recurrent part stores of the state: the heads' new states, kept transposed in the scratch while
  the point works, read at one element.
-/
module

public import proofs.«01_k».proof.Proof.Hgrn.Target
public import proofs.«01_k».proof.Proof.Gen.Kernel6Ideal.Frame
public import Idealize.ShloMosaic.Lib.Pipeline.ValueKit
public import Idealize.ShloMosaic.Lib.Pipeline.ReadBack
public import Idealize.ShloMosaic.Lib.WholeRead
public import Idealize.ShloMosaic.Lib.KernelVsHost

@[expose] public section

set_option maxRecDepth 16384

noncomputable section

namespace Cert.Kernel6Ideal.Hand

open Idealize.ShloMosaic Idealize.ShloMosaic.TcCoe Cert.Kernel6Ideal Cert.Kernel6Ideal.Gen Cert.Mlp Cert.Kvq Cert.Hgrn

/-- The corner of a block of two axes. -/
theorem corner2 : (![0, 0] : Fin 2 → ℕ) = fun _ => 0 := by
  funext a
  match a with
  | 0 => rfl
  | 1 => rfl

/-- The corner of a block of three axes. -/
theorem corner3 : (![0, 0, 0] : Fin 3 → ℕ) = fun _ => 0 := by
  funext a
  match a with
  | 0 => rfl
  | 1 => rfl
  | 2 => rfl

variable (x0 : Vec Ideal S1x16x1024 .f32) (x1 : Vec Ideal S1x1024 .f32) (x2 : Vec Ideal S1024x4096 .bf16)
  (x3 : Vec Ideal S2x1024 .f32) (x5 : Vec Ideal S1x8x128x128 .f32)

/-! ## Gates, keys and values -/

/-- A row of the block, normed and times the matrix. -/
def line (i : Fin 16) (d : Fin 4096) : EReal :=
  times (normed (fun e => x0 (ix3 0 i e)) fun e => x1 (ix2 0 e)) (fun e d => x2 (ix2 e d)) d

/-- The gates of a column. -/
def openings (d : Fin 1024) (t : Fin 16) : EReal := gate (floor fun i => x3 (ix2 i d)) (line x0 x1 x2 t (slab 1 d))

/-- The product with the matrix. -/
theorem pay18_apply (i : Fin 16) (d : Fin 4096) : k0_pay18 x0 x1 x2 (ix2 i d) = line x0 x1 x2 i d := by
  unfold k0_pay18
  pointwise
  rfl

/-- A column's floor. -/
theorem pay17_apply (d : Fin 1024) : k0_pay17 x3 (ix2 0 d) = floor fun i => x3 (ix2 i d) := by
  unfold k0_pay17
  pointwise
  rw [Cert.Attention.ofBits_neg_inf, Fin.sum_univ_one]
  rfl

/-- The triangle of ones. -/
theorem pay20_apply (i j : Fin 16) : k0_pay20 (F := Ideal) (ix2 i j) = if j ≤ i then (1 : EReal) else 0 := by
  unfold k0_pay20
  pointwise
  rw [Cert.Attention.sle_ofNat _ _ (by omega) (by omega)]
  by_cases h : j.val ≤ i.val
  · rw [if_pos h, if_pos (Fin.le_def.mpr h)]
    show ((((BitVec.setWidth 32 1#1).toInt : ℤ) : ℝ) : EReal) = 1
    rw [show (BitVec.setWidth 32 1#1).toInt = 1 by decide, Int.cast_one, EReal.coe_one]
  · rw [if_neg h, if_neg fun h' => h (Fin.le_def.mp h')]
    exact sitofp_zero

/-- One less a floor. -/
def rest : FVec Ideal S1x1024 .f32 := k0_pay32 (k0_pay17 x3)

/-- One and the exponentials of the gates' columns. -/
def powers : FVec Ideal S16x1024 .f32 := k0_pay33 (k0_pay18 x0 x1 x2)

/-- A gate. -/
theorem pay34_apply (t : Fin 16) (d : Fin 1024) :
    k0_pay34 (k0_pay17 x3) (rest x3) (powers x0 x1 x2) (ix2 t d) = openings x0 x1 x2 x3 d t := by
  unfold k0_pay34 rest powers k0_pay32 k0_pay33
  pointwise
  rw [pay17_apply, pay18_apply]
  rfl

/-- The sum of a column's logarithms up to a place. -/
theorem pay35_apply (t : Fin 16) (d : Fin 1024) :
    k0_pay35 (k0_pay17 x3) k0_pay20 (rest x3) (powers x0 x1 x2) (ix2 t d) = faded (openings x0 x1 x2 x3 d) t := by
  unfold k0_pay35
  pointwise
  simp only [pay34_apply]
  exact triangle _ _ t (fun s => pay20_apply t s) fun s => log_gate _ _

/-- The keys, faded by the gates after them. -/
def keyed : FVec Ideal S16x1024 .bf16 := k0_pay41 (k0_pay17 x3) k0_pay20 (rest x3) (powers x0 x1 x2)

/-- What the gates of all places leave. -/
def ends : FVec Ideal S1x1024 .f32 := k0_pay42 (k0_pay17 x3) k0_pay20 (rest x3) (powers x0 x1 x2)

/-- The values. -/
def valued : FVec Ideal S16x1024 .bf16 := k0_pay38 (k0_pay30 (k0_pay18 x0 x1 x2))

theorem keyed_apply (t : Fin 16) (d : Fin 1024) : keyed x0 x1 x2 x3 (ix2 t d)
    = (1 - openings x0 x1 x2 x3 d t) * Ideal.exp (faded (openings x0 x1 x2 x3 d) 15 - faded (openings x0 x1 x2 x3 d) t) := by
  unfold keyed k0_pay41 k0_pay39 k0_pay37
  pointwise
  rw [pay34_apply, pay35_apply, pay35_apply]

theorem ends_apply (d : Fin 1024) : ends x0 x1 x2 x3 (ix2 0 d) = Ideal.exp (faded (openings x0 x1 x2 x3 d) 15) := by
  unfold ends k0_pay42 k0_pay39
  pointwise
  rw [pay35_apply]

theorem valued_apply (t : Fin 16) (d : Fin 1024) : valued x0 x1 x2 (ix2 t d) = line x0 x1 x2 t (slab 2 d) := by
  unfold valued k0_pay38 k0_pay30
  pointwise
  exact pay18_apply x0 x1 x2 t (slab 2 d)

/-! ## One head -/

/-- What a head whose columns begin at `o` stores, from its state as given. -/
def piece (o : ℕ) (h16 : S16x1024.Slices ![0, o] S16x128) (h1 : S1x1024.Slices ![0, o] S1x128) (x : Vec Ideal S1x1x128x128 .f32)
    (e : FVec Ideal S1x1024 .f32) (v k : FVec Ideal S16x1024 .bf16) : FVec Ideal S1x1x128x128 .f32 :=
  k0_pay9 (k0_pay93 (addf (mulf (k0_pay21 (k0_pay16 x)) (broadcastTo S128x128 (extractStridedSlice S1x128 ![0, o] e h1) broadcasts_S1x128_S128x128))
    (matmul dot_S16x128_S16x128_S128x128_0_0_1_1_n_n none (extractStridedSlice S16x128 ![0, o] v h16) (extractStridedSlice S16x128 ![0, o] k h16)
      (constant S128x128 .f32 0x00000000#32))))

theorem piece_apply (o : ℕ) (h16 : S16x1024.Slices ![0, o] S16x128) (h1 : S1x1024.Slices ![0, o] S1x128) (x : Vec Ideal S1x1x128x128 .f32)
    (e : FVec Ideal S1x1024 .f32) (v k : FVec Ideal S16x1024 .bf16) (p q : Fin 128) (ho : o + 128 ≤ 1024) :
    piece o h16 h1 x e v k (ix4 0 0 p q) = x (ix4 0 0 p q) * e (ix2 0 ⟨o + p.val, by omega⟩)
      + ∑ t, v (ix2 t ⟨o + q.val, by omega⟩) * k (ix2 t ⟨o + p.val, by omega⟩) := by
  unfold piece k0_pay9 k0_pay93 k0_pay21 k0_pay16
  pointwise

/-- The block's new states. -/
def states : Vec Ideal S1x8x128x128 .f32 := fun y =>
  stored (x5 y) (openings x0 x1 x2 x3 (valueCol (y 1) (y 2))) fun t => line x0 x1 x2 t (slab 2 (valueCol (y 1) (y 3)))

/-- A head's part of the block. -/
theorem piece_eq (n o : ℕ) (ho : o = n * 128) (h16 : S16x1024.Slices ![0, o] S16x128) (h1 : S1x1024.Slices ![0, o] S1x128)
    (inb : ∀ a, (![0, n, 0, 0] : Fin 4 → ℕ) a + S1x1x128x128.size a ≤ S1x8x128x128.size a) (y : S1x1x128x128.Idx) :
    piece o h16 h1 (View.ld x5 (Rect.unit (s := S1x8x128x128) ![0, n, 0, 0] S1x1x128x128.size inb)) (ends x0 x1 x2 x3) (valued x0 x1 x2) (keyed x0 x1 x2 x3) y
      = states x0 x1 x2 x3 x5 ((Rect.unit (s := S1x8x128x128) ![0, n, 0, 0] S1x1x128x128.size inb).emb y) := by
  subst ho
  have hn : n < 8 := inb 1
  idx_vars y
  obtain rfl : y0 = 0 := Subsingleton.elim _ _
  obtain rfl : y1 = 0 := Subsingleton.elim _ _
  have he : (Rect.unit (s := S1x8x128x128) ![0, n, 0, 0] S1x1x128x128.size inb).emb (ix4 0 0 y2 y3) = ix4 0 ⟨n, hn⟩ y2 y3 := by
    funext a
    apply Fin.ext
    match a with
    | 0 => rfl
    | 1 => exact Nat.add_zero n
    | 2 =>
      show 0 + 1 * y2.val = y2.val
      omega
    | 3 =>
      show 0 + 1 * y3.val = y3.val
      omega
  have hx : View.ld x5 (Rect.unit (s := S1x8x128x128) ![0, n, 0, 0] S1x1x128x128.size inb) (ix4 0 0 y2 y3) = x5 (ix4 0 ⟨n, hn⟩ y2 y3) :=
    congrArg x5 he
  rw [he, piece_apply _ _ _ _ _ _ _ _ _ (by omega), hx, ends_apply, mul_comm]
  simp only [valued_apply, keyed_apply, mul_comm (line _ _ _ _ _)]
  rfl

/-- A load of a whole memref that holds `X`. -/
theorem load_held {κ : Kind} {sp : Space} {s : Shape} {e : EltTy} {r : Memref sig κ sp s e} (h : r.IsWhole) (X : Vec Ideal s e)
    (R : Rect s) : View.readAt (Elt Ideal) r.view R.toLoadRect (h.unread X) = View.ld X R :=
  funext fun y => h.readAt_unread X R.toLoadRect y

/-- The floors as the point computes them. -/
theorem run_floor (c : Dev nD) (a5) (h5 : a5.IsWhole) : kernelRun0_A.sl.r (F := Ideal) c a5 h5 x3 = k0_pay17 x3 := by
  unfold kernelRun0_A.sl.r
  rw [load_held, View.ld_unit_zero corner2]

/-- The product as the point computes it. -/
theorem run_product (c : Dev nD) (a2) (h2 : a2.IsWhole) (a3) (h3 : a3.IsWhole) (a4) (h4 : a4.IsWhole) :
    kernelRun0_A.sl.r_1 (F := Ideal) c a2 h2 a3 h3 a4 h4 x0 x1 x2 = k0_pay18 x0 x1 x2 := by
  unfold kernelRun0_A.sl.r_1
  rw [load_held, load_held, load_held, View.ld_unit_zero corner3, View.ld_unit_zero corner2, View.ld_unit_zero corner2]

/-- The keys as the point computes them. -/
theorem run_keyed (c : Dev nD) (a2) (h2 : a2.IsWhole) (a3) (h3 : a3.IsWhole) (a4) (h4 : a4.IsWhole) (a5) (h5 : a5.IsWhole) :
    kernelRun0_A.sl.r_19 (F := Ideal) c a2 h2 a3 h3 a4 h4 a5 h5 x0 x1 x2 x3 = keyed x0 x1 x2 x3 := by
  unfold kernelRun0_A.sl.r_19 kernelRun0_A.sl.r_14 kernelRun0_A.sl.r_15
  rw [run_floor, run_product]
  rfl

/-- What is left at the end as the point computes it. -/
theorem run_ends (c : Dev nD) (a2) (h2 : a2.IsWhole) (a3) (h3 : a3.IsWhole) (a4) (h4 : a4.IsWhole) (a5) (h5 : a5.IsWhole) :
    kernelRun0_A.sl.r_20 (F := Ideal) c a2 h2 a3 h3 a4 h4 a5 h5 x0 x1 x2 x3 = ends x0 x1 x2 x3 := by
  unfold kernelRun0_A.sl.r_20 kernelRun0_A.sl.r_14 kernelRun0_A.sl.r_15
  rw [run_floor, run_product]
  rfl

/-- The values as the point computes them. -/
theorem run_valued (c : Dev nD) (a2) (h2 : a2.IsWhole) (a3) (h3 : a3.IsWhole) (a4) (h4 : a4.IsWhole) :
    kernelRun0_A.sl.r_17 (F := Ideal) c a2 h2 a3 h3 a4 h4 x0 x1 x2 = valued x0 x1 x2 := by
  unfold kernelRun0_A.sl.r_17 kernelRun0_A.sl.r_12
  rw [run_product]
  rfl

variable (m : (ℓ : Loc nD τ sig) → Buf (Elt Ideal) ℓ) (c : Dev nD) (t : Fin cfg0.N)

set_option maxHeartbeats 4000000 in
/-- What a grid point leaves in its block of the states. -/
theorem outs_states : (outsAt0 m c t).2 = states (iblk m c 0 t) (iblk m c 1 t) (iblk m c 2 t) (iblk m c 3 t) (iblk m c 5 t) := by
  unfold outsAt0
  dsimp only
  unfold out0_A_7 kernelRun0_A
  dsimp only
  rw [View.read_writes_junk_eq_canon]
  unfold kernelRun0_A.sl.v477 kernelRun0_A.sl.v483 kernelRun0_A.sl.v489 kernelRun0_A.sl.v495 kernelRun0_A.sl.v kernelRun0_A.sl.v507
    kernelRun0_A.sl.v513 kernelRun0_A.sl.v519 kernelRun0_A.sl.HS0_16 kernelRun0_A.sl.HS0_9
  simp (disch := decide) only [↓ View.readCov_skip, ↓ View.readCov_cons_toLoadRect]
  unfold kernelRun0_A.sl.r_43 kernelRun0_A.sl.r_47 kernelRun0_A.sl.r_50 kernelRun0_A.sl.r_54 kernelRun0_A.sl.r_57 kernelRun0_A.sl.r_61
    kernelRun0_A.sl.r_64 kernelRun0_A.sl.r_67 kernelRun0_A.sl.r_3 kernelRun0_A.sl.r_4 kernelRun0_A.sl.r_5 kernelRun0_A.sl.r_6
    kernelRun0_A.sl.r_7 kernelRun0_A.sl.r_8 kernelRun0_A.sl.r_9 kernelRun0_A.sl.r_10 kernelRun0_A.sl.v43 kernelRun0_A.sl.v45
    kernelRun0_A.sl.v47 kernelRun0_A.sl.v49 kernelRun0_A.sl.v51 kernelRun0_A.sl.v53 kernelRun0_A.sl.v55 kernelRun0_A.sl.v57
    kernelRun0_A.sl.HS0_8
  simp (disch := decide) only [↓ View.readCov_skip, ↓ View.readCov_cons_toLoadRect]
  simp only [kernelRun0_A.sl.v482, kernelRun0_A.sl.v479, kernelRun0_A.sl.v478, kernelRun0_A.sl.v488, kernelRun0_A.sl.v485,
    kernelRun0_A.sl.v484, kernelRun0_A.sl.v494, kernelRun0_A.sl.v491, kernelRun0_A.sl.v490, kernelRun0_A.sl.v500, kernelRun0_A.sl.v497,
    kernelRun0_A.sl.v496, kernelRun0_A.sl.r_26, kernelRun0_A.sl.r_28, kernelRun0_A.sl.r_31, kernelRun0_A.sl.r_33,
    kernelRun0_A.sl.r_35, kernelRun0_A.sl.r_37, kernelRun0_A.sl.r_39, kernelRun0_A.sl.r_41, run_keyed, run_ends, run_valued, load_held]
  funext y
  refine View.canon_append_of_piecesOf _ [] [_, _, _, _, _, _, _, _] ⟨?_, ?_, ?_, ?_, ?_, ?_, ?_, ?_, trivial⟩ y ?_
  · exact fun x => piece_eq _ _ _ _ _ 7 896 rfl slices_S16x1024_o0_896_S16x128 slices_S1x1024_o0_896_S1x128 inb_S1x8x128x128_S1x1x128x128_0_7_0_0 x
  · exact fun x => piece_eq _ _ _ _ _ 6 768 rfl slices_S16x1024_o0_768_S16x128 slices_S1x1024_o0_768_S1x128 inb_S1x8x128x128_S1x1x128x128_0_6_0_0 x
  · exact fun x => piece_eq _ _ _ _ _ 5 640 rfl slices_S16x1024_o0_640_S16x128 slices_S1x1024_o0_640_S1x128 inb_S1x8x128x128_S1x1x128x128_0_5_0_0 x
  · exact fun x => piece_eq _ _ _ _ _ 4 512 rfl slices_S16x1024_o0_512_S16x128 slices_S1x1024_o0_512_S1x128 inb_S1x8x128x128_S1x1x128x128_0_4_0_0 x
  · exact fun x => piece_eq _ _ _ _ _ 3 384 rfl slices_S16x1024_o0_384_S16x128 slices_S1x1024_o0_384_S1x128 inb_S1x8x128x128_S1x1x128x128_0_3_0_0 x
  · exact fun x => piece_eq _ _ _ _ _ 2 256 rfl slices_S16x1024_o0_256_S16x128 slices_S1x1024_o0_256_S1x128 inb_S1x8x128x128_S1x1x128x128_0_2_0_0 x
  · exact fun x => piece_eq _ _ _ _ _ 1 128 rfl slices_S16x1024_o0_128_S16x128 slices_S1x1024_o0_128_S1x128 inb_S1x8x128x128_S1x1x128x128_0_1_0_0 x
  · exact fun x => piece_eq _ _ _ _ _ 0 0 rfl slices_S16x1024_o0_0_S16x128 slices_S1x1024_o0_0_S1x128 inb_S1x8x128x128_S1x1x128x128_0_0_0_0 x
  exact View.cover_of_tiledL (s := S1x8x128x128) _ S1x1x128x128.size (by sl_kernel_rfl) y

end Cert.Kernel6Ideal.Hand

end
-- ==== Proof.Hgrn.Mixed.lean ====
/-
  What one element of the recurrent part's mixed rows is: a query weighs the state as given, faded by the gates up to its
  place, and the values of the places up to its own, faded by the gates in between; the head's row of these is divided by
  the root of its mean square, scaled by the gain and by another part of the row times its sigmoid.  And why a fading taken
  in two parts, each held below eighty, is the fading, as long as the floors of the gates are not too small.
-/
module

public import proofs.«01_k».proof.Proof.Hgrn.Target

@[expose] public section

noncomputable section

namespace Cert.Hgrn

open Idealize.ShloMosaic Cert.Mlp Cert.Kvq

/-- A number times its sigmoid. -/
def swish (x : EReal) : EReal := x * Ideal.div 1 (1 + Ideal.exp (0 - x))

/-- What a place weighs at another, from the queries and the gates of a head. -/
def weight (q u : Fin 128 → Fin 16 → EReal) (t s : Fin 16) : EReal :=
  if s ≤ t then ∑ p, q p t * (1 - u p s) * Ideal.exp (faded (u p) t - faded (u p) s) else 0

/-- What a query finds: in the state as given, and in the values of the places up to its own. -/
def found (q u : Fin 128 → Fin 16 → EReal) (S : Fin 128 → EReal) (v : Fin 16 → EReal) (t : Fin 16) : EReal :=
  ∑ s, weight q u t s * v s + ∑ p, q p t * Ideal.exp (faded (u p) t) * S p

/-- A head's row, divided by the root of its mean square, scaled by the gain and by the gating part. -/
def evened (x : Fin 128 → EReal) (g z : EReal) (d : Fin 128) : EReal :=
  x d * Ideal.rsqrt (Ideal.div (∑ e, x e * x e) (Ideal.ofBits .f32 0x43000000#32) + Ideal.ofBits .f32 0x358637BD#32) * g * z

/-- The mixed rows, from the arguments: batch row `b`, place `t`, head `h`, value `d`. -/
def mixed (H : (⟨3, ![16, 16, 1024]⟩ : Shape).Idx → EReal) (g : (⟨1, ![1024]⟩ : Shape).Idx → EReal)
    (W : (⟨2, ![1024, 4096]⟩ : Shape).Idx → EReal) (L : (⟨2, ![2, 1024]⟩ : Shape).Idx → EReal)
    (N : (⟨1, ![1024]⟩ : Shape).Idx → EReal) (S : (⟨4, ![16, 8, 128, 128]⟩ : Shape).Idx → EReal) (b t : Fin 16) (h : Fin 8)
    (d : Fin 128) : EReal :=
  evened (fun e => found (fun p s => swish (projected H g W b s (slab 0 (valueCol h p)))) (fun p => gates H g W L b (valueCol h p))
      (fun p => S (ix4 b h p e)) (fun s => projected H g W b s (slab 2 (valueCol h e))) t)
    (N (ix1 (valueCol h d))) (swish (projected H g W b t (slab 3 (valueCol h d)))) d

/-- The head of a column. -/
def headOf (d : Fin 1024) : Fin 8 := ⟨d.val / 128, Nat.div_lt_of_lt_mul d.isLt⟩

/-- The place of a column in its head. -/
def withinOf (d : Fin 1024) : Fin 128 := ⟨d.val % 128, Nat.mod_lt _ (by decide)⟩

theorem headOf_valueCol (h : Fin 8) (d : Fin 128) : headOf (valueCol h d) = h :=
  Fin.ext (show (h.val * 128 + d.val) / 128 = h.val by omega)

theorem withinOf_valueCol (h : Fin 8) (d : Fin 128) : withinOf (valueCol h d) = d :=
  Fin.ext (show (h.val * 128 + d.val) % 128 = d.val by omega)

theorem valueCol_of (d : Fin 1024) : valueCol (headOf d) (withinOf d) = d :=
  Fin.ext (Nat.div_add_mod' d.val 128)

/-! ## Floors that are not too small -/

/-- A column's two numbers are real, the second at most nine more than the first. -/
def Moderate (l : Fin 2 → EReal) : Prop := ∃ a c : ℝ, l 0 = (a : EReal) ∧ l 1 = (c : EReal) ∧ c - a ≤ 9

/-- The first share is a real between a bound and one. -/
theorem floor_moderate {l : Fin 2 → EReal} (h : Moderate l) : ∃ r : ℝ, Real.exp (-10) ≤ r ∧ r ≤ 1 ∧ floor l = (r : EReal) := by
  obtain ⟨a, c, h0, h1, hac⟩ := h
  have hc : crest l = ((max a c : ℝ) : EReal) := by
    refine le_antisymm ?_ ?_
    · refine (Finset.fold_max_le _).mpr ⟨bot_le, fun i _ => ?_⟩
      match i with
      | 0 => rw [h0]; exact EReal.coe_le_coe_iff.mpr (le_max_left a c)
      | 1 => rw [h1]; exact EReal.coe_le_coe_iff.mpr (le_max_right a c)
    · rcases max_choice a c with e | e
      · rw [e, ← h0]; exact le_crest l 0
      · rw [e, ← h1]; exact le_crest l 1
  set M : ℝ := max a c
  have e0 : Ideal.exp (l 0 - crest l) = ((Real.exp (a - M) : ℝ) : EReal) := by rw [h0, hc, ← EReal.coe_sub]; rfl
  have e1 : Ideal.exp (l 1 - crest l) = ((Real.exp (c - M) : ℝ) : EReal) := by rw [h1, hc, ← EReal.coe_sub]; rfl
  have p0 := Real.exp_pos (a - M)
  have p1 := Real.exp_pos (c - M)
  refine ⟨Real.exp (a - M) * (Real.exp (a - M) + Real.exp (c - M))⁻¹, ?_, ?_, ?_⟩
  · rw [← div_eq_mul_inv, le_div_iff₀ (by positivity)]
    have hle : Real.exp (c - M) ≤ Real.exp 9 * Real.exp (a - M) := by
      rw [← Real.exp_add]
      exact Real.exp_le_exp.mpr (by linarith)
    have h9 : 1 + Real.exp 9 ≤ Real.exp 10 := by
      have t1 : (1 : ℝ) + 1 ≤ Real.exp 1 := Real.add_one_le_exp 1
      have t9 : (1 : ℝ) ≤ Real.exp 9 := Real.one_le_exp (by norm_num)
      have : Real.exp 10 = Real.exp 1 * Real.exp 9 := by
        rw [← Real.exp_add]
        norm_num
      rw [this]
      nlinarith
    have hinv : Real.exp (-10) * Real.exp 10 = 1 := by
      rw [← Real.exp_add]
      norm_num
    have pm := Real.exp_pos (-10)
    calc Real.exp (-10) * (Real.exp (a - M) + Real.exp (c - M))
        ≤ Real.exp (-10) * ((1 + Real.exp 9) * Real.exp (a - M)) := mul_le_mul_of_nonneg_left (by linarith) pm.le
      _ ≤ Real.exp (-10) * (Real.exp 10 * Real.exp (a - M)) :=
          mul_le_mul_of_nonneg_left (mul_le_mul_of_nonneg_right h9 p0.le) pm.le
      _ = Real.exp (a - M) := by rw [← mul_assoc, hinv, one_mul]
  · rw [← div_eq_mul_inv, div_le_one (by positivity)]
    linarith
  · unfold floor
    rw [Fin.sum_univ_two, e0, e1, ← EReal.coe_add]
    unfold Ideal.div
    rw [if_neg fun e => (ne_of_gt (add_pos p0 p1)) (EReal.coe_eq_zero.mp e), ← EReal.coe_inv, ← EReal.coe_mul]

/-- A gate's logarithm is then a real between minus ten and zero. -/
theorem log_moderate {l : Fin 2 → EReal} (h : Moderate l) (f : EReal) :
    ∃ r : ℝ, -10 ≤ r ∧ r ≤ 0 ∧ Ideal.log (gate (floor l) f) = (r : EReal) := by
  obtain ⟨r, hr, hr1, e⟩ := floor_moderate h
  obtain ⟨s, hs, hs1, es⟩ := sigmoid_real f
  have pm := Real.exp_pos (-10)
  have hlow : Real.exp (-10) ≤ r + (1 - r) * s := hr.trans (by nlinarith)
  have hup : r + (1 - r) * s ≤ 1 := by nlinarith
  refine ⟨Real.log (r + (1 - r) * s), ?_, Real.log_nonpos (by linarith) hup, ?_⟩
  · rw [← Real.log_exp (-10)]
    exact Real.log_le_log pm hlow
  · unfold gate
    rw [es, e, ← EReal.coe_one, ← EReal.coe_sub, ← EReal.coe_mul, ← EReal.coe_add]
    show (if r + (1 - r) * s ≤ 0 then (⊥ : EReal) else _) = _
    rw [if_neg (by linarith)]

/-- A finite sum of reals, as an extended one. -/
theorem sum_real {n : ℕ} (f : Fin n → ℝ) : ((∑ k, f k : ℝ) : EReal) = ∑ k, (f k : EReal) := by
  induction n with
  | zero => simp
  | succ n ih => rw [Fin.sum_univ_castSucc, Fin.sum_univ_castSucc, EReal.coe_add, ih]

/-- The sums of such logarithms are reals, within eighty of the one up to the eighth place. -/
theorem faded_moderate {u : Fin 16 → EReal} (h : ∀ t, ∃ r : ℝ, -10 ≤ r ∧ r ≤ 0 ∧ Ideal.log (u t) = (r : EReal)) :
    ∃ f : Fin 16 → ℝ, (∀ t, faded u t = (f t : EReal)) ∧ ∀ t, f t - f 7 ≤ 80 ∧ f 7 - f t ≤ 80 := by
  choose r hlow hup e using h
  refine ⟨fun t => ∑ s, if s ≤ t then r s else 0, fun t => ?_, fun t => ⟨?_, ?_⟩⟩
  · unfold faded upto
    rw [sum_real]
    refine Finset.sum_congr rfl fun s _ => ?_
    split
    · exact e s
    · exact EReal.coe_zero.symm
  · rw [← Finset.sum_sub_distrib]
    calc _ ≤ ∑ s : Fin 16, (if s ≤ 7 then (10 : ℝ) else 0) := Finset.sum_le_sum fun s _ => by
          have h1 := hlow s
          have h2 := hup s
          by_cases a : s ≤ t <;> by_cases b : s ≤ 7 <;> simp only [a, b, if_true, if_false] <;> linarith
      _ = 80 := by
          rw [Finset.sum_ite, Finset.sum_const, Finset.sum_const_zero, show (Finset.univ.filter fun s : Fin 16 => s ≤ 7).card = 8 by decide]
          norm_num
  · rw [← Finset.sum_sub_distrib]
    calc _ ≤ ∑ s : Fin 16, (if s ≤ 7 then (0 : ℝ) else 10) := Finset.sum_le_sum fun s _ => by
          have h1 := hlow s
          have h2 := hup s
          by_cases a : s ≤ t <;> by_cases b : s ≤ 7 <;> simp only [a, b, if_true, if_false] <;> linarith
      _ = 80 := by
          rw [Finset.sum_ite, Finset.sum_const_zero, Finset.sum_const, show (Finset.univ.filter fun s : Fin 16 => ¬ s ≤ 7).card = 8 by decide]
          norm_num

/-- The word `0x42A00000` is eighty. -/
theorem ofBits_eighty : Ideal.ofBits .f32 0x42A00000#32 = ((80 : ℝ) : EReal) := by
  simp [Ideal.ofBits, Ideal.ieee, -EReal.coe_mul]; norm_num

/-- The word `0x41100000` is nine. -/
theorem ofBits_nine : Ideal.ofBits .f32 0x41100000#32 = ((9 : ℝ) : EReal) := by
  simp [Ideal.ofBits, Ideal.ieee, -EReal.coe_mul]; norm_num

/-- The fading between two places, in two parts held below eighty. -/
theorem fading {u : Fin 16 → EReal} (h : ∀ t, ∃ r : ℝ, -10 ≤ r ∧ r ≤ 0 ∧ Ideal.log (u t) = (r : EReal)) (t s : Fin 16) :
    Ideal.exp (min (faded u t - faded u 7) (Ideal.ofBits .f32 0x42A00000#32))
        * Ideal.exp (min (faded u 7 - faded u s) (Ideal.ofBits .f32 0x42A00000#32))
      = Ideal.exp (faded u t - faded u s) := by
  obtain ⟨f, e, hf⟩ := faded_moderate h
  rw [ofBits_eighty, e, e, e, ← EReal.coe_sub, ← EReal.coe_sub, ← EReal.coe_sub,
    min_eq_left (EReal.coe_le_coe_iff.mpr (hf t).1), min_eq_left (EReal.coe_le_coe_iff.mpr (hf s).2)]
  show ((Real.exp (f t - f 7) : ℝ) : EReal) * ((Real.exp (f 7 - f s) : ℝ) : EReal) = ((Real.exp (f t - f s) : ℝ) : EReal)
  rw [← EReal.coe_mul, ← Real.exp_add]
  exact congrArg (fun x : ℝ => ((Real.exp x : ℝ) : EReal)) (by ring)

end Cert.Hgrn

end
-- ==== Proof.Hgrn.Rows.lean ====
/-
  What one grid point of the recurrent part stores of the mixed rows, read at one element.
-/
module

public import proofs.«01_k».proof.Proof.Hgrn.Body
public import proofs.«01_k».proof.Proof.Hgrn.Mixed

@[expose] public section

set_option maxRecDepth 16384

noncomputable section

namespace Cert.Kernel6Ideal.Hand

open Idealize.ShloMosaic Idealize.ShloMosaic.TcCoe Cert.Kernel6Ideal Cert.Kernel6Ideal.Gen Cert.Mlp Cert.Kvq Cert.Hgrn

variable (x0 : Vec Ideal S1x16x1024 .f32) (x1 : Vec Ideal S1x1024 .f32) (x2 : Vec Ideal S1024x4096 .bf16)
  (x3 : Vec Ideal S2x1024 .f32) (x4 : Vec Ideal S1x1024 .f32) (x5 : Vec Ideal S1x8x128x128 .f32)

/-! ## Queries, keys and the gating part -/

/-- The queries' numbers, before their sigmoids. -/
def asked : FVec Ideal S16x1024 .f32 := k0_pay29 (k0_pay18 x0 x1 x2)

/-- The queries, faded by the gates up to their places. -/
def reaching : FVec Ideal S16x1024 .bf16 := k0_pay40 (k0_pay17 x3) k0_pay20 (asked x0 x1 x2) (rest x3) (powers x0 x1 x2)

/-- The queries, faded from the eighth place, the fading held. -/
def early : FVec Ideal S16x1024 .bf16 := k0_pay44 (k0_pay17 x3) k0_pay20 (asked x0 x1 x2) (rest x3) (powers x0 x1 x2)

/-- The keys, faded to the eighth place, the fading held. -/
def late : FVec Ideal S16x1024 .bf16 :=
  k0_pay46 (k0_pay37 (k0_pay17 x3) (rest x3) (powers x0 x1 x2)) (k0_pay45 (k0_pay17 x3) k0_pay20 (rest x3) (powers x0 x1 x2))
    (Scalar.ofBits .f32 0x42A00000#32)

/-- The gating part. -/
def gating : FVec Ideal S16x1024 .f32 := k0_pay47 (k0_pay31 (k0_pay18 x0 x1 x2))

/-- A query. -/
theorem pay36_apply (t : Fin 16) (d : Fin 1024) : k0_pay36 (asked x0 x1 x2) (ix2 t d) = swish (line x0 x1 x2 t (slab 0 d)) := by
  have e : k0_pay18 x0 x1 x2 (ix2 t ⟨d.val, by omega⟩) = line x0 x1 x2 t (slab 0 d) :=
    (congrArg (fun e => k0_pay18 x0 x1 x2 (ix2 t e)) (Fin.ext (by simp [slab]))).trans (pay18_apply x0 x1 x2 t (slab 0 d))
  unfold asked k0_pay36 k0_pay29
  pointwise
  rw [e]
  rfl

theorem reaching_apply (t : Fin 16) (d : Fin 1024) : reaching x0 x1 x2 x3 (ix2 t d)
    = swish (line x0 x1 x2 t (slab 0 d)) * Ideal.exp (faded (openings x0 x1 x2 x3 d) t) := by
  unfold reaching k0_pay40
  pointwise
  rw [pay36_apply, pay35_apply]

theorem early_apply (t : Fin 16) (d : Fin 1024) : early x0 x1 x2 x3 (ix2 t d) = swish (line x0 x1 x2 t (slab 0 d))
    * Ideal.exp (min (faded (openings x0 x1 x2 x3 d) t - faded (openings x0 x1 x2 x3 d) 7) (Ideal.ofBits .f32 0x42A00000#32)) := by
  unfold early k0_pay44 k0_pay43
  pointwise
  rw [pay36_apply, pay35_apply, pay35_apply]

theorem late_apply (s : Fin 16) (d : Fin 1024) : late x0 x1 x2 x3 (ix2 s d) = (1 - openings x0 x1 x2 x3 d s)
    * Ideal.exp (min (faded (openings x0 x1 x2 x3 d) 7 - faded (openings x0 x1 x2 x3 d) s) (Ideal.ofBits .f32 0x42A00000#32)) := by
  unfold late k0_pay46 k0_pay45 k0_pay37 k0_pay43
  pointwise
  rw [pay34_apply, pay35_apply, pay35_apply]

theorem gating_apply (t : Fin 16) (d : Fin 1024) : gating x0 x1 x2 (ix2 t d) = swish (line x0 x1 x2 t (slab 3 d)) := by
  have e : k0_pay18 x0 x1 x2 (ix2 t ⟨3072 + d.val, by omega⟩) = line x0 x1 x2 t (slab 3 d) := pay18_apply x0 x1 x2 t (slab 3 d)
  unfold gating k0_pay47 k0_pay31
  pointwise
  rw [e]
  rfl

/-! ## One head -/

/-- The weights between places of a head whose columns begin at `o`. -/
def scores (o : ℕ) (h16 : S16x1024.Slices ![0, o] S16x128) (q k : FVec Ideal S16x1024 .bf16) : FVec Ideal S16x16 .bf16 :=
  truncf .bf16 (select (cmpi .sle (iota .tc S16x16 32 [1] iota_S16x16_d1_w32) (addi (iota .tc S16x16 32 [0] iota_S16x16_d0_w32) (broadcast S16x16 0#32)))
    (matmul dot_S16x128_S16x128_S16x16_1_1_0_0_n_n none (extractStridedSlice S16x128 ![0, o] q h16) (extractStridedSlice S16x128 ![0, o] k h16)
      (constant S16x16 .f32 0x00000000#32)) (broadcast S16x16 (Scalar.ofBits .f32 0x00000000#32))) bitsLt_bf16_f32

/-- What the queries of such a head find. -/
def finding (o : ℕ) (h16 : S16x1024.Slices ![0, o] S16x128) (x : Vec Ideal S1x1x128x128 .f32) (v r : FVec Ideal S16x1024 .bf16)
    (a : FVec Ideal S16x16 .bf16) : FVec Ideal S16x128 .f32 :=
  addf (matmul dot_S16x128_S128x128_S16x128_1_1_0_0_n_n none (extractStridedSlice S16x128 ![0, o] r h16)
      (truncf .bf16 (k0_pay21 (k0_pay16 x)) bitsLt_bf16_f32) (constant S16x128 .f32 0x00000000#32))
    (matmul dot_S16x16_S16x128_S16x128_1_0_0_1_n_n none a (extractStridedSlice S16x128 ![0, o] v h16) (constant S16x128 .f32 0x00000000#32))

/-- Such a head's rows, divided by the roots of their mean squares, scaled by the gain and the gating part. -/
def smoothed (o : ℕ) (h16 : S16x1024.Slices ![0, o] S16x128) (h1 : S1x1024.Slices ![0, o] S1x128) (X : FVec Ideal S16x128 .f32)
    (n : FVec Ideal S1x1024 .f32) (z : FVec Ideal S16x1024 .f32) : FVec Ideal S16x128 .f32 :=
  mulf (mulf (mulf X (broadcastTo S16x128 (rsqrt (addf (divf
      (shapeCast S16x1 (multiReduction .add [1] S16 (mulf X X) 0x00000000#32 reduces_S16x128_S16 (.inl rfl) rfl) shapeCasts_S16_S16x1)
      (broadcast S16x1 (Scalar.ofBits .f32 0x43000000#32))) (broadcast S16x1 (Scalar.ofBits .f32 0x358637BD#32)))) broadcasts_S16x1_S16x128))
    (broadcastTo S16x128 (extractStridedSlice S1x128 ![0, o] n h1) broadcasts_S1x128_S16x128))
    (extractStridedSlice S16x128 ![0, o] z h16)

theorem scores_apply (o : ℕ) (h16 : S16x1024.Slices ![0, o] S16x128) (ho : o + 128 ≤ 1024) (q k : FVec Ideal S16x1024 .bf16) (t s : Fin 16) :
    scores o h16 q k (ix2 t s) = if s ≤ t then ∑ p : Fin 128, q (ix2 t ⟨o + p.val, by omega⟩) * k (ix2 s ⟨o + p.val, by omega⟩) else 0 := by
  unfold scores
  pointwise
  show Scalar.select (IntOp.cmpi CmpIPredicate.sle (BitVec.ofNat 32 s.val) (BitVec.ofNat 32 t.val + 0#32)) _ _ = _
  rw [BitVec.add_zero, Cert.Attention.sle_ofNat _ _ (by omega) (by omega)]
  by_cases h : s ≤ t
  · rw [if_pos (show s.val ≤ t.val from h), if_pos h]
    rfl
  · rw [if_neg (show ¬ s.val ≤ t.val from h), if_neg h]
    rfl

theorem finding_apply (o : ℕ) (h16 : S16x1024.Slices ![0, o] S16x128) (ho : o + 128 ≤ 1024) (x : Vec Ideal S1x1x128x128 .f32)
    (v r : FVec Ideal S16x1024 .bf16) (a : FVec Ideal S16x16 .bf16) (t : Fin 16) (e : Fin 128) :
    finding o h16 x v r a (ix2 t e) = ∑ p : Fin 128, r (ix2 t ⟨o + p.val, by omega⟩) * x (ix4 0 0 p e)
      + ∑ s, a (ix2 t s) * v (ix2 s ⟨o + e.val, by omega⟩) := by
  unfold finding k0_pay21 k0_pay16
  pointwise

theorem smoothed_apply (o : ℕ) (h16 : S16x1024.Slices ![0, o] S16x128) (h1 : S1x1024.Slices ![0, o] S1x128) (ho : o + 128 ≤ 1024)
    (X : FVec Ideal S16x128 .f32) (n : FVec Ideal S1x1024 .f32) (z : FVec Ideal S16x1024 .f32) (t : Fin 16) (d : Fin 128) :
    smoothed o h16 h1 X n z (ix2 t d)
      = evened (fun e => X (ix2 t e)) (n (ix2 0 ⟨o + d.val, by omega⟩)) (z (ix2 t ⟨o + d.val, by omega⟩)) d := by
  unfold smoothed evened
  pointwise

/-! ## The eight heads -/

/-- A head's columns in a row of columns. -/
theorem head_columns (n : Fin 8) : S16x1024.Slices ![0, n.val * 128] S16x128 := by
  revert n
  decide

/-- A head's columns in the gain. -/
theorem head_gains (n : Fin 8) : S1x1024.Slices ![0, n.val * 128] S1x128 := by
  revert n
  decide

/-- A head's state lies in the block. -/
theorem head_state (n : Fin 8) : ∀ a, (![0, n.val, 0, 0] : Fin 4 → ℕ) a + S1x1x128x128.size a ≤ S1x8x128x128.size a := by
  revert n
  decide

/-- A head's rows as the point computes them. -/
def headRows (n : Fin 8) : FVec Ideal S16x128 .f32 :=
  smoothed (n.val * 128) (head_columns n) (head_gains n)
    (finding (n.val * 128) (head_columns n)
      (View.ld x5 (Rect.unit (s := S1x8x128x128) ![0, n.val, 0, 0] S1x1x128x128.size (head_state n)))
      (valued x0 x1 x2) (reaching x0 x1 x2 x3) (scores (n.val * 128) (head_columns n) (early x0 x1 x2 x3) (late x0 x1 x2 x3)))
    (k0_pay19 x4) (gating x0 x1 x2)

/-- Eight heads' rows side by side. -/
def joined (f : Fin 8 → FVec Ideal S16x128 .f32) : Vec Ideal S1x16x1024 .bf16 :=
  shapeCast S1x16x1024 (truncf .bf16 (concatenate S16x1024 1 [⟨S16x128, f 0⟩, ⟨S16x128, f 1⟩, ⟨S16x128, f 2⟩, ⟨S16x128, f 3⟩, ⟨S16x128, f 4⟩,
    ⟨S16x128, f 5⟩, ⟨S16x128, f 6⟩, ⟨S16x128, f 7⟩]
    concatenates_S16x128_S16x128_S16x128_S16x128_S16x128_S16x128_S16x128_S16x128_S16x1024_d1) bitsLt_bf16_f32) shapeCasts_S16x1024_S1x16x1024

theorem joined_apply (f : Fin 8 → FVec Ideal S16x128 .f32) (t : Fin 16) (d : Fin 1024) :
    joined f (ix3 0 t d) = f (headOf d) (ix2 t (withinOf d)) := by
  have g (X : FVec Ideal S16x1024 .f32) :
      shapeCast S1x16x1024 (truncf .bf16 X bitsLt_bf16_f32) shapeCasts_S16x1024_S1x16x1024 (ix3 0 t d) = X (ix2 t d) := by
    pointwise
  have e : joined f (ix3 0 t d) = concatenate S16x1024 1 (List.ofFn fun n => ⟨S16x128, f n⟩)
      concatenates_S16x128_S16x128_S16x128_S16x128_S16x128_S16x128_S16x128_S16x128_S16x1024_d1 (ix2 t d) := g _
  rw [e]
  refine concatenate_ofFn_apply (t := S16x1024) (s₁ := S16x128) 1 f _ rfl 128 rfl (ix2 t d) (headOf d) rfl (ix2 t (withinOf d)) rfl fun b hb => ?_
  match b with
  | 0 => rfl
  | 1 => exact absurd rfl hb

/-- The block's mixed rows. -/
def blended : Vec Ideal S1x16x1024 .bf16 := fun y =>
  evened (fun e => found (fun p s => swish (line x0 x1 x2 s (slab 0 (valueCol (headOf (y 2)) p))))
      (fun p => openings x0 x1 x2 x3 (valueCol (headOf (y 2)) p)) (fun p => x5 (ix4 0 (headOf (y 2)) p e))
      (fun s => line x0 x1 x2 s (slab 2 (valueCol (headOf (y 2)) e))) (y 1))
    (x4 (ix2 0 (y 2))) (swish (line x0 x1 x2 (y 1) (slab 3 (y 2)))) (withinOf (y 2))

variable {x3} in
/-- A head's rows, where the gates' floors are not too small. -/
theorem headRows_apply (hm : ∀ d, Moderate fun i => x3 (ix2 i d)) (h : Fin 8) (t : Fin 16) (d : Fin 128) :
    headRows x0 x1 x2 x3 x4 x5 h (ix2 t d) = evened (fun e => found (fun p s => swish (line x0 x1 x2 s (slab 0 (valueCol h p))))
      (fun p => openings x0 x1 x2 x3 (valueCol h p)) (fun p => x5 (ix4 0 h p e)) (fun s => line x0 x1 x2 s (slab 2 (valueCol h e))) t)
    (x4 (ix2 0 (valueCol h d))) (swish (line x0 x1 x2 t (slab 3 (valueCol h d)))) d := by
  have hg : k0_pay19 x4 (ix2 0 (valueCol h d)) = x4 (ix2 0 (valueCol h d)) := by
    unfold k0_pay19
    pointwise
  have hs (s : Fin 16) : scores (h.val * 128) (head_columns h) (early x0 x1 x2 x3) (late x0 x1 x2 x3) (ix2 t s)
      = weight (fun p s => swish (line x0 x1 x2 s (slab 0 (valueCol h p)))) (fun p => openings x0 x1 x2 x3 (valueCol h p)) t s := by
    rw [scores_apply _ _ (by omega)]
    unfold weight
    split
    · refine Finset.sum_congr rfl fun p _ => ?_
      refine (congrArg₂ (· * ·) (early_apply x0 x1 x2 x3 t (valueCol h p)) (late_apply x0 x1 x2 x3 s (valueCol h p))).trans ?_
      rw [mul_mul_mul_comm, fading (u := openings x0 x1 x2 x3 (valueCol h p)) fun j => log_moderate (hm (valueCol h p)) _]
    · rfl
  have hx (e : Fin 128) : finding (h.val * 128) (head_columns h)
      (View.ld x5 (Rect.unit (s := S1x8x128x128) ![0, h.val, 0, 0] S1x1x128x128.size (head_state h)))
      (valued x0 x1 x2) (reaching x0 x1 x2 x3) (scores (h.val * 128) (head_columns h) (early x0 x1 x2 x3) (late x0 x1 x2 x3)) (ix2 t e)
      = found (fun p s => swish (line x0 x1 x2 s (slab 0 (valueCol h p))))
      (fun p => openings x0 x1 x2 x3 (valueCol h p)) (fun p => x5 (ix4 0 h p e)) (fun s => line x0 x1 x2 s (slab 2 (valueCol h e))) t := by
    rw [finding_apply _ _ (by omega), add_comm]
    refine congrArg₂ (· + ·) (Finset.sum_congr rfl fun s _ => congrArg₂ (· * ·) (hs s) (valued_apply x0 x1 x2 s (valueCol h e)))
      (Finset.sum_congr rfl fun p _ => congrArg₂ (· * ·) (reaching_apply x0 x1 x2 x3 t (valueCol h p)) (congrArg x5 ?_))
    funext a
    apply Fin.ext
    match a with
    | 0 => rfl
    | 1 => exact Nat.add_zero h.val
    | 2 =>
      show 0 + 1 * p.val = p.val
      omega
    | 3 =>
      show 0 + 1 * e.val = e.val
      omega
  unfold headRows
  rw [smoothed_apply _ _ _ (by omega)]
  simp only [hx]
  exact congrArg₂ (fun g z => evened _ g z d) hg (gating_apply x0 x1 x2 t (valueCol h d))

variable {x3} in
/-- The eight heads' rows are the block's mixed rows. -/
theorem joined_eq (hm : ∀ d, Moderate fun i => x3 (ix2 i d)) : joined (headRows x0 x1 x2 x3 x4 x5) = blended x0 x1 x2 x3 x4 x5 := by
  funext y
  idx_vars y
  obtain rfl : y0 = 0 := Subsingleton.elim _ _
  rw [joined_apply, headRows_apply x0 x1 x2 x4 x5 hm, valueCol_of]
  rfl

/-! ## The point's own steps -/

/-- The gain as the point loads it. -/
theorem run_gain (c : Dev nD) (a6) (h6 : a6.IsWhole) : kernelRun0_A.sl.r_2 (F := Ideal) c a6 h6 x4 = k0_pay19 x4 := by
  unfold kernelRun0_A.sl.r_2
  rw [load_held, View.ld_unit_zero corner2]

/-- The faded queries as the point computes them. -/
theorem run_reaching (c : Dev nD) (a2) (h2 : a2.IsWhole) (a3) (h3 : a3.IsWhole) (a4) (h4 : a4.IsWhole) (a5) (h5 : a5.IsWhole) :
    kernelRun0_A.sl.r_18 (F := Ideal) c a2 h2 a3 h3 a4 h4 a5 h5 x0 x1 x2 x3 = reaching x0 x1 x2 x3 := by
  unfold kernelRun0_A.sl.r_18 kernelRun0_A.sl.r_11 kernelRun0_A.sl.r_14 kernelRun0_A.sl.r_15
  rw [run_floor, run_product]
  rfl

/-- The queries faded from the eighth place. -/
theorem run_early (c : Dev nD) (a2) (h2 : a2.IsWhole) (a3) (h3 : a3.IsWhole) (a4) (h4 : a4.IsWhole) (a5) (h5 : a5.IsWhole) :
    kernelRun0_A.sl.r_21 (F := Ideal) c a2 h2 a3 h3 a4 h4 a5 h5 x0 x1 x2 x3 = early x0 x1 x2 x3 := by
  unfold kernelRun0_A.sl.r_21 kernelRun0_A.sl.r_11 kernelRun0_A.sl.r_14 kernelRun0_A.sl.r_15
  rw [run_floor, run_product]
  rfl

/-- The gates' complements. -/
theorem run_closings (c : Dev nD) (a2) (h2 : a2.IsWhole) (a3) (h3 : a3.IsWhole) (a4) (h4 : a4.IsWhole) (a5) (h5 : a5.IsWhole) :
    kernelRun0_A.sl.r_16 (F := Ideal) c a2 h2 a3 h3 a4 h4 a5 h5 x0 x1 x2 x3 = k0_pay37 (k0_pay17 x3) (rest x3) (powers x0 x1 x2) := by
  unfold kernelRun0_A.sl.r_16 kernelRun0_A.sl.r_14 kernelRun0_A.sl.r_15
  rw [run_floor, run_product]
  rfl

/-- The sums from a place to the eighth. -/
theorem run_between (c : Dev nD) (a2) (h2 : a2.IsWhole) (a3) (h3 : a3.IsWhole) (a4) (h4 : a4.IsWhole) (a5) (h5 : a5.IsWhole) :
    kernelRun0_A.sl.r_22 (F := Ideal) c a2 h2 a3 h3 a4 h4 a5 h5 x0 x1 x2 x3
      = k0_pay45 (k0_pay17 x3) k0_pay20 (rest x3) (powers x0 x1 x2) := by
  unfold kernelRun0_A.sl.r_22 kernelRun0_A.sl.r_14 kernelRun0_A.sl.r_15
  rw [run_floor, run_product]
  rfl

/-- The keys faded to the eighth place. -/
theorem run_late (c : Dev nD) (a2) (h2 : a2.IsWhole) (a3) (h3 : a3.IsWhole) (a4) (h4 : a4.IsWhole) (a5) (h5 : a5.IsWhole) :
    kernelRun0_A.sl.r_23 (F := Ideal) c a2 h2 a3 h3 a4 h4 a5 h5 x0 x1 x2 x3 = late x0 x1 x2 x3 := by
  unfold kernelRun0_A.sl.r_23
  rw [run_closings, run_between]
  rfl

/-- The gating part as the point computes it. -/
theorem run_gating (c : Dev nD) (a2) (h2 : a2.IsWhole) (a3) (h3 : a3.IsWhole) (a4) (h4 : a4.IsWhole) :
    kernelRun0_A.sl.r_24 (F := Ideal) c a2 h2 a3 h3 a4 h4 x0 x1 x2 = gating x0 x1 x2 := by
  unfold kernelRun0_A.sl.r_24 kernelRun0_A.sl.r_13
  rw [run_product]
  rfl

variable (m : (ℓ : Loc nD τ sig) → Buf (Elt Ideal) ℓ) (c : Dev nD) (t : Fin cfg0.N)

set_option maxHeartbeats 4000000 in
/-- What a grid point leaves in its block of the mixed rows. -/
theorem outs_mixed (hm : ∀ d, Moderate fun i => (iblk m c 3 t : Vec Ideal S2x1024 .f32) (ix2 i d)) :
    (outsAt0 m c t).1 = blended (iblk m c 0 t) (iblk m c 1 t) (iblk m c 2 t) (iblk m c 3 t) (iblk m c 4 t) (iblk m c 5 t) := by
  rw [← joined_eq _ _ _ _ _ hm]
  unfold outsAt0
  dsimp only
  unfold out0_A_6 kernelRun0_A
  dsimp only
  rw [View.read_writes_junk_eq_canon]
  unfold kernelRun0_A.sl.r_66 kernelRun0_A.sl.r_65 kernelRun0_A.sl.r_63 kernelRun0_A.sl.r_62 kernelRun0_A.sl.r_60 kernelRun0_A.sl.r_59
    kernelRun0_A.sl.r_58 kernelRun0_A.sl.r_56 kernelRun0_A.sl.r_55 kernelRun0_A.sl.r_53 kernelRun0_A.sl.r_52 kernelRun0_A.sl.r_51
    kernelRun0_A.sl.r_49 kernelRun0_A.sl.r_48 kernelRun0_A.sl.r_46 kernelRun0_A.sl.r_45 kernelRun0_A.sl.r_44 kernelRun0_A.sl.r_42
    kernelRun0_A.sl.r_40 kernelRun0_A.sl.r_38 kernelRun0_A.sl.r_36 kernelRun0_A.sl.r_34 kernelRun0_A.sl.r_32 kernelRun0_A.sl.r_30
    kernelRun0_A.sl.r_29 kernelRun0_A.sl.r_27 kernelRun0_A.sl.r_25 kernelRun0_A.sl.r_10 kernelRun0_A.sl.r_9 kernelRun0_A.sl.r_8
    kernelRun0_A.sl.r_7 kernelRun0_A.sl.r_6 kernelRun0_A.sl.r_5 kernelRun0_A.sl.r_4 kernelRun0_A.sl.r_3 kernelRun0_A.sl.v43
    kernelRun0_A.sl.v45 kernelRun0_A.sl.v47 kernelRun0_A.sl.v49 kernelRun0_A.sl.v51 kernelRun0_A.sl.v53 kernelRun0_A.sl.v55
    kernelRun0_A.sl.v57 kernelRun0_A.sl.HS0_8
  simp (disch := decide) only [↓ View.readCov_skip, ↓ View.readCov_cons_toLoadRect]
  simp only [kernelRun0_A.sl.v482, kernelRun0_A.sl.v479, kernelRun0_A.sl.v478, kernelRun0_A.sl.v488, kernelRun0_A.sl.v485,
    kernelRun0_A.sl.v484, kernelRun0_A.sl.v494, kernelRun0_A.sl.v491, kernelRun0_A.sl.v490, kernelRun0_A.sl.v500, kernelRun0_A.sl.v497,
    kernelRun0_A.sl.v496, kernelRun0_A.sl.cst_46, run_gain, run_reaching, run_early, run_closings, run_between, run_late, run_gating, run_valued, load_held]
  funext y
  refine View.canon_append_of_piecesOf _ [] [_] ⟨fun x => ?_, trivial⟩ y
    (View.cover_of_tiledL (s := S1x16x1024) _ S1x16x1024.size (by sl_kernel_rfl) y)
  show _ = View.ld (joined _) (Rect.unit (s := S1x16x1024) ![0, 0, 0] S1x16x1024.size inb_S1x16x1024_S1x16x1024_0_0_0) x
  rw [View.ld_unit_zero corner3]
  rfl

end Cert.Kernel6Ideal.Hand

end
-- ==== Proof.Hgrn.Array.lean ====
/-
  The arrays of the recurrent part's mixed rows and last states: the elements of `Proof/Hgrn/Mixed.lean` and
  `Proof/Hgrn/Target.lean`, from the arguments.
-/
module

public import proofs.«01_k».proof.Proof.Hgrn.Body
public import proofs.«01_k».proof.Proof.Hgrn.Rows
public import proofs.«01_k».proof.Proof.Gen.Kernel6Ideal.Value
public import Idealize.ShloMosaic.Lib.Pipeline.Covers
public import Idealize.ShloMosaic.Lib.Claim

@[expose] public section

set_option maxRecDepth 16384

noncomputable section

namespace Cert.Kernel6Ideal.Hand

open Idealize.ShloMosaic Idealize.ShloMosaic.TcCoe Idealize.ShloMosaic.Tactic
open Idealize.SL Idealize.SL.Sem
open Idealize.ShloMosaic.Pipeline (Dat Cfg Window)
open Idealize.ShloMosaic.Pipeline
open Cert.Kernel6Ideal Cert.Kernel6Ideal.Gen Cert.Mlp Cert.Kvq Cert.Hgrn

variable (m : (ℓ : Loc nD τ sig) → Buf (Elt Ideal) ℓ) (c : Dev nD)

/-! ## The arguments -/

/-- The residual rows as given. -/
def argH : Vec Ideal S16x16x1024 .f32 := m ((c : Thread nD τ).loc main_arg0)
/-- The gain as given. -/
def argG : Vec Ideal S1024 .f32 := m ((c : Thread nD τ).loc main_arg1)
/-- The matrix as given. -/
def argW : Vec Ideal S1024x4096 .f32 := m ((c : Thread nD τ).loc main_arg2)
/-- The two layers' numbers of the floors as given. -/
def argL : Vec Ideal S2x1024 .f32 := m ((c : Thread nD τ).loc main_arg3)
/-- The gain of the mixed rows as given. -/
def argN : Vec Ideal S1024 .f32 := m ((c : Thread nD τ).loc main_arg4)
/-- The states as given. -/
def argS : Vec Ideal S16x8x128x128 .f32 := m ((c : Thread nD τ).loc main_arg5)

/-- The gain as the lines before the call leave it. -/
theorem entry_v1 : V m c main_v1 = shapeCast S1x1024 (argG m c) shapeCasts_S1024_S1x1024 := by
  unfold V
  simp only [hostOps0, List.flatten_cons, List.flatten_nil, List.append_nil, List.cons_append, List.nil_append]
  after_results
  rfl

/-- The gain of the mixed rows as the lines before the call leave it. -/
theorem entry_v2 : V m c main_v2 = shapeCast S1x1024 (argN m c) shapeCasts_S1024_S1x1024 := by
  unfold V
  simp only [hostOps0, List.flatten_cons, List.flatten_nil, List.append_nil, List.cons_append, List.nil_append]
  after_results
  rfl

/-! ## Where the blocks lie -/

variable (t : Fin cfg0.N)

/-- The batch row of a grid point. -/
def batch : Fin 16 := ⟨((grid0.coords t) 0).val, ((grid0.coords t) 0).isLt⟩

/-- Blocks of rows, by the point's coordinates. -/
theorem transform0 (i : grid0.Coords) : cc0_transform_0 i = ![(i 0).val, 0, 0] := by
  unfold cc0_transform_0
  have h0 : (i 0).val < 16 := (i 0).isLt
  have h1 : (i 1).val = 0 := Nat.lt_one_iff.mp (i 1).isLt
  simp only [BitVec.toNat_ofNat, h1]
  rw [Nat.mod_eq_of_lt (by omega), Nat.mod_eq_of_lt (by omega)]

/-- Blocks of mixed rows, by the point's coordinates. -/
theorem transform6 (i : grid0.Coords) : cc0_transform_6 i = ![(i 0).val, 0, 0] := transform0 i

/-- Blocks of states, by the point's coordinates. -/
theorem transform7 (i : grid0.Coords) : cc0_transform_7 i = ![(i 0).val, 0, 0, 0] := by
  unfold cc0_transform_7
  have h0 : (i 0).val < 16 := (i 0).isLt
  simp only [BitVec.toNat_ofNat]
  rw [Nat.mod_eq_of_lt (by omega), Nat.mod_eq_of_lt (by omega)]

theorem index0 : win0_0.index t = ![(batch t).val, 0, 0] := transform0 (grid0.coords t)
theorem index1 : win0_1.index t = ![0, 0] := rfl
theorem index2 : win0_2.index t = ![0, 0] := rfl
theorem index3 : win0_3.index t = ![0, 0] := rfl
theorem index4 : win0_4.index t = ![0, 0] := rfl
theorem index5 : win0_5.index t = ![(batch t).val, 0, 0, 0] := transform7 (grid0.coords t)
theorem index6 : win0_6.index t = ![(batch t).val, 0, 0] := transform6 (grid0.coords t)
theorem index7 : win0_7.index t = ![(batch t).val, 0, 0, 0] := transform7 (grid0.coords t)

/-! ## What the blocks hold -/

theorem residual_apply (j : Fin 16) (e : Fin 1024) :
    (iblk m c 0 t : Vec Ideal S1x16x1024 .f32) (ix3 0 j e) = argH m c (ix3 (batch t) j e) := by
  have h : (win0_0.blk t).view.emb (ix3 0 j e) = ix3 (batch t) j e := by blk_ext [index0 t]
  show V m c main_arg0 ((win0_0.blk t).view.emb (ix3 0 j e)) = _
  rw [h]
  entry_read
  rfl

theorem gain_apply (e : Fin 1024) : (iblk m c 1 t : Vec Ideal S1x1024 .f32) (ix2 0 e) = argG m c (ix1 e) := by
  have h : (win0_1.blk t).view.emb (ix2 0 e) = ix2 0 e := by blk_ext [index1 t]
  show V m c main_v1 ((win0_1.blk t).view.emb (ix2 0 e)) = _
  rw [h]
  refine (congrFun (entry_v1 m c) _).trans ?_
  pointwise

theorem matrix_apply (e : Fin 1024) (d : Fin 4096) :
    (iblk m c 2 t : Vec Ideal S1024x4096 .bf16) (ix2 e d) = argW m c (ix2 e d) := by
  have h : (win0_2.blk t).view.emb (ix2 e d) = ix2 e d := by blk_ext [index2 t]
  show V m c main_v0 ((win0_2.blk t).view.emb (ix2 e d)) = _
  rw [h]
  entry_read
  pointwise
  rfl

theorem layers_apply (i : Fin 2) (d : Fin 1024) :
    (iblk m c 3 t : Vec Ideal S2x1024 .f32) (ix2 i d) = argL m c (ix2 i d) := by
  have h : (win0_3.blk t).view.emb (ix2 i d) = ix2 i d := by blk_ext [index3 t]
  show V m c main_arg3 ((win0_3.blk t).view.emb (ix2 i d)) = _
  rw [h]
  entry_read
  rfl

theorem scale_apply (d : Fin 1024) : (iblk m c 4 t : Vec Ideal S1x1024 .f32) (ix2 0 d) = argN m c (ix1 d) := by
  have h : (win0_4.blk t).view.emb (ix2 0 d) = ix2 0 d := by blk_ext [index4 t]
  show V m c main_v2 ((win0_4.blk t).view.emb (ix2 0 d)) = _
  rw [h]
  refine (congrFun (entry_v2 m c) _).trans ?_
  pointwise

theorem state_apply (h : Fin 8) (p q : Fin 128) :
    (iblk m c 5 t : Vec Ideal S1x8x128x128 .f32) (ix4 0 h p q) = argS m c (ix4 (batch t) h p q) := by
  have he : (win0_5.blk t).view.emb (ix4 0 h p q) = ix4 (batch t) h p q := by blk_ext [index5 t]
  show V m c main_arg5 ((win0_5.blk t).view.emb (ix4 0 h p q)) = _
  rw [he]
  entry_read
  rfl

/-! ## What a grid point stores -/

/-- A projected row of a block. -/
theorem line_apply (j : Fin 16) (d : Fin 4096) :
    line (iblk m c 0 t) (iblk m c 1 t) (iblk m c 2 t) j d = projected (argH m c) (argG m c) (argW m c) (batch t) j d := by
  unfold line
  simp only [residual_apply, gain_apply, matrix_apply]
  rfl

/-- The gates of a block's column. -/
theorem openings_eq (d : Fin 1024) : openings (iblk m c 0 t) (iblk m c 1 t) (iblk m c 2 t) (iblk m c 3 t) d
    = gates (argH m c) (argG m c) (argW m c) (argL m c) (batch t) d := by
  funext s
  unfold openings gates
  simp only [line_apply, layers_apply]

/-- The last states. -/
def lasts : S16x8x128x128.Idx → EReal := fun i =>
  last (argH m c) (argG m c) (argW m c) (argL m c) (argS m c) (i 0) (i 1) (i 2) (i 3)

/-- The mixed rows. -/
def rows : S16x16x1024.Idx → EReal := fun i => mixed (argH m c) (argG m c) (argW m c) (argL m c) (argN m c) (argS m c)
  (i 0) (i 1) (headOf (i 2)) (withinOf (i 2))

/-- The grid's coordinates of a batch row. -/
def point (b : Fin 16) : grid0.Coords := fun | 0 => b | 1 => (0 : Fin 1)

/-- The blocks of the states cover their array. -/
theorem covered7 : (cfg0.win 7).Covers :=
  (cfg0.win 7).covers_of_indexMap_surj rfl (by decide) fun β =>
    ⟨point ⟨(β 0).val, (β 0).isLt⟩, fun a => by
      refine (congrFun (transform7 (point ⟨(β 0).val, (β 0).isLt⟩)) a).trans ?_
      match a with
      | 0 => rfl
      | 1 => exact (Nat.lt_one_iff.mp (lt_of_lt_of_eq (β 1).isLt (by decide : (cfg0.win 7).nblk 1 = 1))).symm
      | 2 => exact (Nat.lt_one_iff.mp (lt_of_lt_of_eq (β 2).isLt (by decide : (cfg0.win 7).nblk 2 = 1))).symm
      | 3 => exact (Nat.lt_one_iff.mp (lt_of_lt_of_eq (β 3).isLt (by decide : (cfg0.win 7).nblk 3 = 1))).symm⟩

/-- What the run leaves in the array of the states. -/
theorem array7 : (dats m 0 c).arrAt 7 cfg0.N = lasts m c := by
  refine (dats m 0 c).arrAt_eq_of_covers 7 _ covered7 fun t hf y => ?_
  idx_vars y
  obtain rfl : y0 = 0 := Subsingleton.elim _ _
  have he : (win0_7.blk t).view.emb (ix4 0 y1 y2 y3) = ix4 (batch t) y1 y2 y3 := by
    blk_ext [index7 t]
  blk_simp
  rw [he, after0_7, outs_states]
  show stored ((iblk m c 5 t : Vec Ideal S1x8x128x128 .f32) (ix4 0 y1 y2 y3))
      (openings (iblk m c 0 t) (iblk m c 1 t) (iblk m c 2 t) (iblk m c 3 t) (valueCol y1 y2))
      (fun s => line (iblk m c 0 t) (iblk m c 1 t) (iblk m c 2 t) s (slab 2 (valueCol y1 y3)))
    = last (argH m c) (argG m c) (argW m c) (argL m c) (argS m c) (batch t) y1 y2 y3
  rw [state_apply, openings_eq]
  simp only [line_apply]
  rfl

/-- The blocks of the mixed rows cover their array. -/
theorem covered6 : (cfg0.win 6).Covers :=
  (cfg0.win 6).covers_of_indexMap_surj rfl (by decide) fun β =>
    ⟨point ⟨(β 0).val, (β 0).isLt⟩, fun a => by
      refine (congrFun (transform6 (point ⟨(β 0).val, (β 0).isLt⟩)) a).trans ?_
      match a with
      | 0 => rfl
      | 1 => exact (Nat.lt_one_iff.mp (lt_of_lt_of_eq (β 1).isLt (by decide : (cfg0.win 6).nblk 1 = 1))).symm
      | 2 => exact (Nat.lt_one_iff.mp (lt_of_lt_of_eq (β 2).isLt (by decide : (cfg0.win 6).nblk 2 = 1))).symm⟩

/-- What the run leaves in the array of the mixed rows, where the gates' floors are not too small. -/
theorem array6 (hm : ∀ d, Moderate fun i => argL m c (ix2 i d)) : (dats m 0 c).arrAt 6 cfg0.N = rows m c := by
  refine (dats m 0 c).arrAt_eq_of_covers 6 _ covered6 fun t hf y => ?_
  idx_vars y
  obtain rfl : y0 = 0 := Subsingleton.elim _ _
  have he : (win0_6.blk t).view.emb (ix3 0 y1 y2) = ix3 (batch t) y1 y2 := by
    blk_ext [index6 t]
  have hb : ∀ d, Moderate fun i => (iblk m c 3 t : Vec Ideal S2x1024 .f32) (ix2 i d) := fun d => by
    simp only [layers_apply]
    exact hm d
  blk_simp
  rw [he, after0_6, outs_mixed m c t hb]
  show evened (fun e => found (fun p s => swish (line (iblk m c 0 t) (iblk m c 1 t) (iblk m c 2 t) s (slab 0 (valueCol (headOf y2) p))))
        (fun p => openings (iblk m c 0 t) (iblk m c 1 t) (iblk m c 2 t) (iblk m c 3 t) (valueCol (headOf y2) p))
        (fun p => (iblk m c 5 t : Vec Ideal S1x8x128x128 .f32) (ix4 0 (headOf y2) p e))
        (fun s => line (iblk m c 0 t) (iblk m c 1 t) (iblk m c 2 t) s (slab 2 (valueCol (headOf y2) e))) y1)
      ((iblk m c 4 t : Vec Ideal S1x1024 .f32) (ix2 0 y2))
      (swish (line (iblk m c 0 t) (iblk m c 1 t) (iblk m c 2 t) y1 (slab 3 y2))) (withinOf y2)
    = mixed (argH m c) (argG m c) (argW m c) (argL m c) (argN m c) (argS m c) (batch t) y1 (headOf y2) (withinOf y2)
  unfold mixed
  simp only [line_apply, openings_eq, valueCol_of, state_apply, scale_apply]

/-- The whole program: the mixed rows and the states, and the arguments stay. -/
theorem result_run (ρ : Dev nD → PrngReg) (hm : ∀ c d, Moderate fun i => argL m c (ix2 i d)) :
    θ_run defs (onTc (τ := τ) (main (F := Ideal))) ⟨m, fun _ => 0, ρ⟩ (fun r => ∀ c : Dev nD,
      r.2.mem ((c : Thread nD τ).loc main_v3_0) = rows m c
      ∧ r.2.mem ((c : Thread nD τ).loc main_v3_1) = lasts m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨(h c).1.trans (array6 m c (hm c)), (h c).2.1.trans (array7 m c), (h c).2.2⟩) (Value.run_blocks m ρ)

end Cert.Kernel6Ideal.Hand

end
-- ==== Proof.Hgrn.Ref.lean ====
/-
  The reference of the recurrent part in named steps, and its last states' elements: those of `Proof/Hgrn/Target.lean`.
-/
module

public import proofs.«01_k».proof.Proof.Gen.Reference6Ideal.Run
public import proofs.«01_k».proof.Proof.Hgrn.Target

@[expose] public section

set_option maxRecDepth 16384

noncomputable section

namespace Cert.Reference6Ideal.Hand

open Idealize.ShloMosaic Idealize.ShloMosaic.TcCoe Idealize.ShloMosaic.Tactic Idealize.SL.Sem
open Cert.Reference6Ideal Cert.Reference6Ideal.Gen Cert.Mlp Cert.Kvq Cert.Hgrn

/-! ## Running sums -/

/-- A sum taken from the left is the sum. -/
theorem foldl_sum {n : ℕ} (g : Fin n → EReal) : (List.finRange n).foldl (fun r k => r + g k) 0 = ∑ k, g k := by
  rw [Fin.sum_univ_def, List.sum_eq_foldl, List.foldl_map]

/-- The indices of a window of sixteen places. -/
def places : Fin 16 ≃ (⟨4, ![1, 16, 1, 1]⟩ : Shape).Idx where
  toFun w := ix4 0 w 0 0
  invFun i := i 1
  left_inv _ := rfl
  right_inv i := by
    idx_vars i
    obtain rfl : i0 = 0 := Subsingleton.elim _ _
    obtain rfl : i2 = 0 := Subsingleton.elim _ _
    obtain rfl : i3 = 0 := Subsingleton.elim _ _
    rfl

/-- The indices of a window of two layers. -/
def layers : Fin 2 ≃ (⟨2, ![2, 1]⟩ : Shape).Idx where
  toFun w := ix2 w 0
  invFun i := i 0
  left_inv _ := rfl
  right_inv i := by
    idx_vars i
    obtain rfl : i1 = 0 := Subsingleton.elim _ _
    rfl

/-- The running sums along the places of a batch row. -/
def along (x : FVec Ideal S16x16x8x128 .f32) : FVec Ideal S16x16x8x128 .f32 :=
  Host.reduceWindowAdd ![1, 16, 1, 1] ![1, 1, 1, 1] ![0, 15, 0, 0] ![0, 0, 0, 0] x
    (broadcastInDim S_ ![] bcast_S_S_ (constant S_ .f32 0x00000000#32))
    reduceWindows_S16x16x8x128_S16x16x8x128_w1s1p0_0_w16s1p15_0_w1s1p0_0_w1s1p0_0 h_S_

/-- The running sums along the layers. -/
def stacked (x : FVec Ideal S2x1024 .f32) : FVec Ideal S2x1024 .f32 :=
  Host.reduceWindowAdd ![2, 1] ![1, 1] ![1, 0] ![0, 0] x
    (broadcastInDim S_ ![] bcast_S_S_ (constant S_ .f32 0x00000000#32)) reduceWindows_S2x1024_S2x1024_w2s1p1_0_w1s1p0_0 h_S_

/-- The sums start from zero. -/
theorem start (i : S_.Idx) :
    (broadcastInDim S_ ![] bcast_S_S_ (constant S_ .f32 0x00000000#32) : FVec Ideal S_ .f32) i = (0 : EReal) :=
  Ideal.ofBits_zero .f32

theorem along_apply (x : FVec Ideal S16x16x8x128 .f32) (b t : Fin 16) (h : Fin 8) (d : Fin 128) :
    along x (ix4 b t h d) = upto (fun s => x (ix4 b s h d)) t := by
  unfold along Host.reduceWindowAdd
  rw [start, Ideal.hostReduceWindowAdd_def]
  unfold Ideal.hostReduceWindowAdd Host.reduceWindow
  dsimp only
  rw [foldl_sum, ← sum_back]
  refine (Fintype.sum_equiv (places.trans (Shape.rowMajor _)) _ _ fun w => ?_).symm
  simp only [show (⟨4, ![1, 16, 1, 1]⟩ : Shape).rowMajor.symm ((places.trans (Shape.rowMajor _)) w) = ix4 0 w 0 0 from
    Equiv.symm_apply_apply _ _]
  have hb := b.isLt
  have hh := h.isLt
  have hd := d.isLt
  by_cases hw : 15 ≤ t.val + w.val ∧ t.val + w.val - 15 < 15 + 1
  · rw [dif_pos hw, dif_pos fun a => by
      match a with
      | 0 => show 0 ≤ b.val * 1 + 0 ∧ b.val * 1 + 0 - 0 < 16; omega
      | 1 => show 15 ≤ t.val * 1 + w.val ∧ t.val * 1 + w.val - 15 < 16; omega
      | 2 => show 0 ≤ h.val * 1 + 0 ∧ h.val * 1 + 0 - 0 < 8; omega
      | 3 => show 0 ≤ d.val * 1 + 0 ∧ d.val * 1 + 0 - 0 < 128; omega]
    refine congrArg x (funext fun a => Fin.ext ?_)
    match a with
    | 0 => show b.val = b.val * 1 + 0 - 0; omega
    | 1 => show t.val + w.val - 15 = t.val * 1 + w.val - 15; omega
    | 2 => show h.val = h.val * 1 + 0 - 0; omega
    | 3 => show d.val = d.val * 1 + 0 - 0; omega
  · rw [dif_neg hw, dif_neg fun hin => hw (by
      have h1 : 15 ≤ t.val * 1 + w.val ∧ t.val * 1 + w.val - 15 < 16 := hin 1
      omega)]

theorem stacked_apply (x : FVec Ideal S2x1024 .f32) (i : Fin 2) (d : Fin 1024) :
    stacked x (ix2 i d) = upto (fun s => x (ix2 s d)) i := by
  unfold stacked Host.reduceWindowAdd
  rw [start, Ideal.hostReduceWindowAdd_def]
  unfold Ideal.hostReduceWindowAdd Host.reduceWindow
  dsimp only
  rw [foldl_sum, ← sum_back]
  refine (Fintype.sum_equiv (layers.trans (Shape.rowMajor _)) _ _ fun w => ?_).symm
  simp only [show (⟨2, ![2, 1]⟩ : Shape).rowMajor.symm ((layers.trans (Shape.rowMajor _)) w) = ix2 w 0 from
    Equiv.symm_apply_apply _ _]
  have hd := d.isLt
  by_cases hw : 1 ≤ i.val + w.val ∧ i.val + w.val - 1 < 1 + 1
  · rw [dif_pos hw, dif_pos fun a => by
      match a with
      | 0 => show 1 ≤ i.val * 1 + w.val ∧ i.val * 1 + w.val - 1 < 2; omega
      | 1 => show 0 ≤ d.val * 1 + 0 ∧ d.val * 1 + 0 - 0 < 1024; omega]
    refine congrArg x (funext fun a => Fin.ext ?_)
    match a with
    | 0 => show i.val + w.val - 1 = i.val * 1 + w.val - 1; omega
    | 1 => show d.val = d.val * 1 + 0 - 0; omega
  · rw [dif_neg hw, dif_neg fun hin => hw (by
      have h1 : 1 ≤ i.val * 1 + w.val ∧ i.val * 1 + w.val - 1 < 2 := hin 0
      omega)]

/-! ## The steps -/

/-- The larger of each column's two numbers. -/
def crests (L : FVec Ideal S2x1024 .f32) : FVec Ideal S1024 .f32 :=
  maximumf (broadcastInDim S1024 ![] bcast_S_S1024 (constant S_ .f32 0xFF800000#32))
    (Host.reduce FloatOps.maximumf L (constant S_ .f32 0xFF800000#32) reducesTo_S2x1024_S1024_d0 h_S_)

/-- The exponentials of a column's numbers less the larger. -/
def risen (L : FVec Ideal S2x1024 .f32) : FVec Ideal S2x1024 .f32 :=
  Host.exp (subf L (broadcastInDim S2x1024 ![0, 1] bcast_S1x1024_S2x1024_0_1
    (broadcastInDim S1x1024 ![1] bcast_S1024_S1x1024_1 (crests L))))

/-- Each layer's share. -/
def shares (L : FVec Ideal S2x1024 .f32) : FVec Ideal S2x1024 .f32 :=
  Host.divf (risen L) (broadcastInDim S2x1024 ![0, 1] bcast_S1x1024_S2x1024_0_1
    (broadcastInDim S1x1024 ![1] bcast_S1024_S1x1024_1
      (Host.reduceAdd (risen L) (constant S_ .f32 0x00000000#32) reducesTo_S2x1024_S1024_d0 h_S_)))

/-- The floors of the gates: the first layer's running sum of the shares. -/
def floors (L : FVec Ideal S2x1024 .f32) : FVec Ideal S1024 .f32 :=
  shapeCast _ (extractStridedSlice S1x1024 ![0, 0] (stacked (shares L)) slices_S2x1024_S1x1024_0_0) shapeCasts_S1x1024_S1024

/-- The rows divided by the roots of their mean squares, scaled by the gain. -/
def scaled (X : FVec Ideal S16x16x1024 .f32) (g : FVec Ideal S1024 .f32) : FVec Ideal S16x16x1024 .f32 :=
  mulf (mulf X (broadcastInDim S16x16x1024 ![0, 1, 2] bcast_S16x16x1_S16x16x1024_0_1_2
      (Host.rsqrt (addf
        (Host.divf
          (broadcastInDim S16x16x1 ![0, 1] bcast_S16x16_S16x16x1_0_1
            (Host.reduceAdd (mulf X X) (constant S_ .f32 0x00000000#32) reducesTo_S16x16x1024_S16x16_d2 h_S_))
          (broadcastInDim S16x16x1 ![] bcast_S_S16x16x1 (constant S_ .f32 0x44800000#32)))
        (broadcastInDim S16x16x1 ![] bcast_S_S16x16x1 (constant S_ .f32 0x358637BD#32))))))
    (broadcastInDim S16x16x1024 ![0, 1, 2] bcast_S1x1x1024_S16x16x1024_0_1_2
      (broadcastInDim S1x1x1024 ![2] bcast_S1024_S1x1x1024_2 g))

/-- The rows times the matrix. -/
def table (H : FVec Ideal S16x16x1024 .f32) (g : FVec Ideal S1024 .f32) (W : FVec Ideal S1024x4096 .f32) :
    FVec Ideal S16x16x4096 .f32 :=
  Host.dotGeneral dot_S16x16x1024_S1024x4096_S16x16x4096_2_0_01_1_n_n none (scaled H g) W

/-- The gates, from the floors and the product. -/
def opened (l : FVec Ideal S1024 .f32) (T : FVec Ideal S16x16x4096 .f32) : FVec Ideal S16x16x1024 .f32 :=
  addf (broadcastInDim S16x16x1024 ![0, 1, 2] bcast_S1x1x1024_S16x16x1024_0_1_2
      (broadcastInDim S1x1x1024 ![2] bcast_S1024_S1x1x1024_2 l))
    (mulf (broadcastInDim S16x16x1024 ![0, 1, 2] bcast_S1x1x1024_S16x16x1024_0_1_2
        (broadcastInDim S1x1x1024 ![2] bcast_S1024_S1x1x1024_2
          (subf (broadcastInDim S1024 ![] bcast_S_S1024 (constant S_ .f32 0x3F800000#32)) l)))
      (Host.divf (broadcastInDim S16x16x1024 ![] bcast_S_S16x16x1024 (constant S_ .f32 0x3F800000#32))
        (addf (broadcastInDim S16x16x1024 ![] bcast_S_S16x16x1024 (constant S_ .f32 0x3F800000#32))
          (Host.exp (Host.negf (extractStridedSlice S16x16x1024 ![0, 0, 1024] T slices_S16x16x4096_S16x16x1024_0_0_1024))))))

/-- The running sums of the gates' logarithms. -/
def sunk (G : FVec Ideal S16x16x1024 .f32) : FVec Ideal S16x16x8x128 .f32 :=
  along (shapeCast _ (Host.log G) shapeCasts_S16x16x1024_S16x16x8x128)

/-- The sums of all places. -/
def final (B : FVec Ideal S16x16x8x128 .f32) : FVec Ideal S16x8x128 .f32 :=
  shapeCast _ (extractStridedSlice S16x1x8x128 ![0, 15, 0, 0] B slices_S16x16x8x128_S16x1x8x128_0_15_0_0)
    shapeCasts_S16x1x8x128_S16x8x128

/-- The keys, faded. -/
def keys (G : FVec Ideal S16x16x1024 .f32) (B : FVec Ideal S16x16x8x128 .f32) : FVec Ideal S16x16x8x128 .f32 :=
  mulf (shapeCast _ (subf (broadcastInDim S16x16x1024 ![] bcast_S_S16x16x1024 (constant S_ .f32 0x3F800000#32)) G)
      shapeCasts_S16x16x1024_S16x16x8x128)
    (Host.exp (subf (broadcastInDim S16x16x8x128 ![0, 1, 2, 3] bcast_S16x1x8x128_S16x16x8x128_0_1_2_3
      (broadcastInDim S16x1x8x128 ![0, 2, 3] bcast_S16x8x128_S16x1x8x128_0_2_3 (final B))) B))

/-- The states from the gates, the product and the states as given. -/
def kept (G : FVec Ideal S16x16x1024 .f32) (T : FVec Ideal S16x16x4096 .f32) (S : FVec Ideal S16x8x128x128 .f32) :
    FVec Ideal S16x8x128x128 .f32 :=
  addf (mulf (broadcastInDim S16x8x128x128 ![0, 1, 2, 3] bcast_S16x8x128x1_S16x8x128x128_0_1_2_3
      (broadcastInDim S16x8x128x1 ![0, 1, 2] bcast_S16x8x128_S16x8x128x1_0_1_2 (Host.exp (final (sunk G))))) S)
    (Host.dotGeneral dot_S16x16x8x128_S16x16x8x128_S16x8x128x128_1_1_3_3_02_02 none (keys G (sunk G))
      (shapeCast _ (extractStridedSlice S16x16x1024 ![0, 0, 2048] T slices_S16x16x4096_S16x16x1024_0_0_2048)
        shapeCasts_S16x16x1024_S16x16x8x128))

variable (m : (ℓ : Loc nD τ sig) → Buf (Elt Ideal) ℓ) (c : Dev nD)

/-- The residual rows as given. -/
def argH : FVec Ideal S16x16x1024 .f32 := m ((c : Thread nD τ).loc main_arg0)
/-- The gain as given. -/
def argG : FVec Ideal S1024 .f32 := m ((c : Thread nD τ).loc main_arg1)
/-- The matrix as given. -/
def argW : FVec Ideal S1024x4096 .f32 := m ((c : Thread nD τ).loc main_arg2)
/-- The two layers' numbers of the floors as given. -/
def argL : FVec Ideal S2x1024 .f32 := m ((c : Thread nD τ).loc main_arg3)
/-- The states as given. -/
def argS : FVec Ideal S16x8x128x128 .f32 := m ((c : Thread nD τ).loc main_arg5)

/-- The reference's last states are these steps'. -/
theorem result_eq : Value.res_main_v108 m c
    = kept (opened (floors (argL m c)) (table (argH m c) (argG m c) (argW m c))) (table (argH m c) (argG m c) (argW m c))
        (argS m c) := rfl

variable (H : FVec Ideal S16x16x1024 .f32) (g : FVec Ideal S1024 .f32) (W : FVec Ideal S1024x4096 .f32)
  (L : FVec Ideal S2x1024 .f32) (S : FVec Ideal S16x8x128x128 .f32) (b t : Fin 16)

/-! ## The steps read at one element -/

/-- A normed row's element. -/
theorem scaled_apply (d : Fin 1024) :
    scaled H g (ix3 b t d) = normed (fun e => H (ix3 b t e)) (fun e => g (ix1 e)) d := by
  unfold scaled
  pointwise
  rfl

/-- A projected row's element. -/
theorem table_apply (d : Fin 4096) : table H g W (ix3 b t d) = projected H g W b t d := by
  unfold table
  pointwise
  simp only [scaled_apply]
  rfl

/-- A reduction by the maximum along the layers. -/
theorem fold_apply (i : FVec Ideal S_ .f32) (hi : ∀ x, i x = (⊥ : EReal)) (d : Fin 1024) :
    Host.reduce FloatOps.maximumf L i reducesTo_S2x1024_S1024_d0 h_S_ (ix1 d) = crest fun k => L (ix2 k d) := by
  pointwise
  rw [hi]
  rfl

theorem max_apply (x y : FVec Ideal S1024 .f32) (j : S1024.Idx) : maximumf x y j = max (x j) (y j) := rfl

theorem least_apply (j : S1024.Idx) :
    broadcastInDim S1024 ![] bcast_S_S1024 (constant (F := Ideal) S_ .f32 0xFF800000#32) j = (⊥ : EReal) :=
  Cert.Attention.ofBits_neg_inf

theorem crests_apply (d : Fin 1024) : crests L (ix1 d) = crest fun k => L (ix2 k d) := by
  unfold crests
  rw [max_apply, least_apply, fold_apply L (constant S_ .f32 0xFF800000#32) (fun _ => Cert.Attention.ofBits_neg_inf), max_bot_left]

theorem risen_apply (k : Fin 2) (d : Fin 1024) :
    risen L (ix2 k d) = Ideal.exp (L (ix2 k d) - crest fun k => L (ix2 k d)) := by
  unfold risen
  pointwise
  rw [crests_apply]

theorem shares_apply (k : Fin 2) (d : Fin 1024) : shares L (ix2 k d)
    = Ideal.div (Ideal.exp (L (ix2 k d) - crest fun k => L (ix2 k d))) (∑ i, Ideal.exp (L (ix2 i d) - crest fun k => L (ix2 k d))) := by
  unfold shares
  pointwise
  simp only [risen_apply]

/-- A floor. -/
theorem floors_apply (d : Fin 1024) : floors L (ix1 d) = floor fun k => L (ix2 k d) := by
  unfold floors
  pointwise
  refine (stacked_apply (shares L) 0 d).trans ?_
  simp only [upto, Fin.sum_univ_two, shares_apply]
  simp [Hgrn.floor, Fin.sum_univ_two]

/-- A gate. -/
theorem opened_apply (d : Fin 1024) :
    opened (floors L) (table H g W) (ix3 b t d) = gates H g W L b d t := by
  unfold opened
  pointwise
  rw [floors_apply]
  have ht : table H g W (ix3 b t ⟨1024 + d.val, by omega⟩) = projected H g W b t (slab 1 d) := table_apply H g W b t (slab 1 d)
  rw [ht]
  unfold gates gate
  rw [zero_sub]

/-- A running sum of the gates' logarithms. -/
theorem sunk_apply (h : Fin 8) (p : Fin 128) :
    sunk (opened (floors L) (table H g W)) (ix4 b t h p) = faded (gates H g W L b (valueCol h p)) t := by
  unfold sunk
  rw [along_apply]
  unfold faded
  refine congrArg (fun f => upto f t) (funext fun s => ?_)
  pointwise
  exact congrArg Ideal.log (opened_apply H g W L b s (valueCol h p))

/-- The sum of all places. -/
theorem final_apply (B : FVec Ideal S16x16x8x128 .f32) (h : Fin 8) (p : Fin 128) : final B (ix3 b h p) = B (ix4 b 15 h p) := by
  unfold final
  pointwise

/-- A key, faded. -/
theorem keys_apply (h : Fin 8) (p : Fin 128) :
    keys (opened (floors L) (table H g W)) (sunk (opened (floors L) (table H g W))) (ix4 b t h p)
      = (1 - gates H g W L b (valueCol h p) t)
        * Ideal.exp (faded (gates H g W L b (valueCol h p)) 15 - faded (gates H g W L b (valueCol h p)) t) := by
  unfold keys
  pointwise
  rw [final_apply, sunk_apply, sunk_apply]
  exact congrArg (fun u => (1 - u) * _) (opened_apply H g W L b t (valueCol h p))

/-- A state. -/
theorem kept_apply (h : Fin 8) (p q : Fin 128) :
    kept (opened (floors L) (table H g W)) (table H g W) S (ix4 b h p q) = last H g W L S b h p q := by
  unfold kept
  pointwise
  rw [final_apply, sunk_apply]
  simp only [keys_apply]
  have hv : ∀ x, table H g W (ix3 b x ⟨2048 + (h.val * 128 + q.val), by omega⟩) = projected H g W b x (slab 2 (valueCol h q)) :=
    fun x => table_apply H g W b x (slab 2 (valueCol h q))
  simp only [hv]
  rfl

end Cert.Reference6Ideal.Hand

end
-- ==== Proof.Hgrn.RefRows.lean ====
/-
  The reference's mixed rows in named steps, and their elements: those of `Proof/Hgrn/Mixed.lean`.
-/
module

public import proofs.«01_k».proof.Proof.Hgrn.Ref
public import proofs.«01_k».proof.Proof.Hgrn.Mixed

@[expose] public section

set_option maxRecDepth 16384

noncomputable section

namespace Cert.Reference6Ideal.Hand

open Idealize.ShloMosaic Idealize.ShloMosaic.TcCoe Idealize.ShloMosaic.Tactic Idealize.SL.Sem
open Cert.Reference6Ideal Cert.Reference6Ideal.Gen Cert.Mlp Cert.Kvq Cert.Hgrn

/-! ## The steps -/

/-- Numbers times their sigmoids, by heads. -/
def swished (X : FVec Ideal S16x16x1024 .f32) : FVec Ideal S16x16x8x128 .f32 :=
  shapeCast _ (mulf X (Host.divf (broadcastInDim S16x16x1024 ![] bcast_S_S16x16x1024 (constant S_ .f32 0x3F800000#32))
    (addf (broadcastInDim S16x16x1024 ![] bcast_S_S16x16x1024 (constant S_ .f32 0x3F800000#32)) (Host.exp (Host.negf X)))))
    shapeCasts_S16x16x1024_S16x16x8x128

/-- The queries. -/
def queries (T : FVec Ideal S16x16x4096 .f32) : FVec Ideal S16x16x8x128 .f32 :=
  swished (extractStridedSlice S16x16x1024 ![0, 0, 0] T slices_S16x16x4096_S16x16x1024_0_0_0)

/-- The values. -/
def values (T : FVec Ideal S16x16x4096 .f32) : FVec Ideal S16x16x8x128 .f32 :=
  shapeCast _ (extractStridedSlice S16x16x1024 ![0, 0, 2048] T slices_S16x16x4096_S16x16x1024_0_0_2048)
    shapeCasts_S16x16x1024_S16x16x8x128

/-- What the gates leave open. -/
def shut (G : FVec Ideal S16x16x1024 .f32) : FVec Ideal S16x16x8x128 .f32 :=
  shapeCast _ (subf (broadcastInDim S16x16x1024 ![] bcast_S_S16x16x1024 (constant S_ .f32 0x3F800000#32)) G)
    shapeCasts_S16x16x1024_S16x16x8x128

/-- An array by its places as those that look. -/
def looking (X : FVec Ideal S16x16x8x128 .f32) : FVec Ideal S16x16x16x8x128 .f32 :=
  broadcastInDim S16x16x16x8x128 ![0, 1, 2, 3, 4] bcast_S16x16x1x8x128_S16x16x16x8x128_0_1_2_3_4
    (broadcastInDim S16x16x1x8x128 ![0, 1, 3, 4] bcast_S16x16x8x128_S16x16x1x8x128_0_1_3_4 X)

/-- An array by its places as those looked at. -/
def lookedAt (X : FVec Ideal S16x16x8x128 .f32) : FVec Ideal S16x16x16x8x128 .f32 :=
  broadcastInDim S16x16x16x8x128 ![0, 1, 2, 3, 4] bcast_S16x1x16x8x128_S16x16x16x8x128_0_1_2_3_4
    (broadcastInDim S16x1x16x8x128 ![0, 2, 3, 4] bcast_S16x16x8x128_S16x1x16x8x128_0_2_3_4 X)

/-- Which places lie at or before which. -/
def past : IVec S16x16 1 :=
  select (cmpi .sge (addi (iotaInDim S16x16 32 0) (broadcastInDim S16x16 ![] bcast_S_S16x16 (constantI S_ 32 0#32)))
    (iotaInDim S16x16 32 1)) (broadcastInDim S16x16 ![] bcast_S_S16x16 (constantI S_ 1 1#1))
    (broadcastInDim S16x16 ![] bcast_S_S16x16 (constantI S_ 1 0#1))

/-- The fadings between places. -/
def fades (B : FVec Ideal S16x16x8x128 .f32) : FVec Ideal S16x16x16x8x128 .f32 :=
  Host.exp (select (broadcastInDim S16x16x16x8x128 ![0, 1, 2, 3, 4] bcast_S1x16x16x1x1_S16x16x16x8x128_0_1_2_3_4
      (broadcastInDim S1x16x16x1x1 ![1, 2] bcast_S16x16_S1x16x16x1x1_1_2 past))
    (subf (looking B) (lookedAt B))
    (broadcastInDim S16x16x16x8x128 ![] bcast_S_S16x16x16x8x128 (id (constant S_ .f32 0xFF800000#32))))

/-- The weights between places. -/
def weights (G : FVec Ideal S16x16x1024 .f32) (T : FVec Ideal S16x16x4096 .f32) : FVec Ideal S16x16x16x8 .f32 :=
  Host.reduceAdd (mulf (mulf (looking (queries T)) (lookedAt (shut G))) (fades (sunk G)))
    (constant S_ .f32 0x00000000#32) reducesTo_S16x16x16x8x128_S16x16x16x8_d4 h_S_

/-- What the queries find. -/
def finds (G : FVec Ideal S16x16x1024 .f32) (T : FVec Ideal S16x16x4096 .f32) (S : FVec Ideal S16x8x128x128 .f32) :
    FVec Ideal S16x16x8x128 .f32 :=
  addf (transpose S16x16x8x128 [0, 3, 1, 2]
      (Host.dotGeneral dot_S16x16x8x128_S16x16x16x8_S16x8x128x16_1_2_3_1_02_03 none (values T) (weights G T))
      transposes_S16x8x128x16_S16x16x8x128_0_3_1_2)
    (transpose S16x16x8x128 [0, 3, 1, 2]
      (Host.dotGeneral dot_S16x8x128x128_S16x16x8x128_S16x8x128x16_2_3_3_1_01_02 none S (mulf (queries T) (Host.exp (sunk G))))
      transposes_S16x8x128x16_S16x16x8x128_0_3_1_2)

/-- The heads' rows divided by the roots of their mean squares, scaled by the gain and by the gating part. -/
def evens (X : FVec Ideal S16x16x8x128 .f32) (N : FVec Ideal S1024 .f32) (Z : FVec Ideal S16x16x8x128 .f32) :
    FVec Ideal S16x16x8x128 .f32 :=
  mulf (mulf (mulf X (broadcastInDim S16x16x8x128 ![0, 1, 2, 3] bcast_S16x16x8x1_S16x16x8x128_0_1_2_3
      (Host.rsqrt (addf
        (Host.divf
          (broadcastInDim S16x16x8x1 ![0, 1, 2] bcast_S16x16x8_S16x16x8x1_0_1_2
            (Host.reduceAdd (mulf X X) (constant S_ .f32 0x00000000#32) reducesTo_S16x16x8x128_S16x16x8_d3 h_S_))
          (broadcastInDim S16x16x8x1 ![] bcast_S_S16x16x8x1 (constant S_ .f32 0x43000000#32)))
        (broadcastInDim S16x16x8x1 ![] bcast_S_S16x16x8x1 (constant S_ .f32 0x358637BD#32))))))
    (broadcastInDim S16x16x8x128 ![0, 1, 2, 3] bcast_S1x1x8x128_S16x16x8x128_0_1_2_3
      (broadcastInDim S1x1x8x128 ![2, 3] bcast_S8x128_S1x1x8x128_2_3 (shapeCast _ N shapeCasts_S1024_S8x128)))) Z

/-- The mixed rows from the gates, the product, the gain and the states as given. -/
def mixes (G : FVec Ideal S16x16x1024 .f32) (T : FVec Ideal S16x16x4096 .f32) (N : FVec Ideal S1024 .f32)
    (S : FVec Ideal S16x8x128x128 .f32) : FVec Ideal S16x16x1024 .bf16 :=
  truncf .bf16 (shapeCast _ (evens (finds G T S) N
    (swished (extractStridedSlice S16x16x1024 ![0, 0, 3072] T slices_S16x16x4096_S16x16x1024_0_0_3072)))
    shapeCasts_S16x16x8x128_S16x16x1024) bitsLt_bf16_f32

variable (m : (ℓ : Loc nD τ sig) → Buf (Elt Ideal) ℓ) (c : Dev nD)

/-- The rows' gain as given. -/
def argN : FVec Ideal S1024 .f32 := m ((c : Thread nD τ).loc main_arg4)

/-- The reference's mixed rows are these steps'. -/
theorem mixes_eq : Value.res_main_v110 m c
    = mixes (opened (floors (argL m c)) (table (argH m c) (argG m c) (argW m c))) (table (argH m c) (argG m c) (argW m c))
        (argN m c) (argS m c) := rfl

variable (H : FVec Ideal S16x16x1024 .f32) (g : FVec Ideal S1024 .f32) (W : FVec Ideal S1024x4096 .f32)
  (L : FVec Ideal S2x1024 .f32) (N : FVec Ideal S1024 .f32) (S : FVec Ideal S16x8x128x128 .f32) (b t s : Fin 16) (h : Fin 8)

/-! ## The steps read at one element -/

theorem swished_apply (X : FVec Ideal S16x16x1024 .f32) (d : Fin 128) :
    swished X (ix4 b t h d) = swish (X (ix3 b t (valueCol h d))) := by
  unfold swished
  pointwise
  unfold swish
  rw [zero_sub]
  rfl

theorem queries_apply (p : Fin 128) :
    queries (table H g W) (ix4 b t h p) = swish (projected H g W b t (slab 0 (valueCol h p))) := by
  unfold queries
  rw [swished_apply]
  pointwise
  exact congrArg swish ((congrArg (fun e => table H g W (ix3 b t e)) (Fin.ext (by simp [slab]))).trans
    (table_apply H g W b t (slab 0 (valueCol h p))))

theorem values_apply (p : Fin 128) :
    values (table H g W) (ix4 b t h p) = projected H g W b t (slab 2 (valueCol h p)) := by
  unfold values
  pointwise
  exact table_apply H g W b t (slab 2 (valueCol h p))

theorem shut_apply (p : Fin 128) :
    shut (opened (floors L) (table H g W)) (ix4 b t h p) = 1 - gates H g W L b (valueCol h p) t := by
  unfold shut
  pointwise
  exact congrArg (fun u => 1 - u) (opened_apply H g W L b t (valueCol h p))

theorem looking_apply (X : FVec Ideal S16x16x8x128 .f32) (p : Fin 128) : looking X (ix5 b t s h p) = X (ix4 b t h p) := by
  unfold looking
  pointwise

theorem lookedAt_apply (X : FVec Ideal S16x16x8x128 .f32) (p : Fin 128) : lookedAt X (ix5 b t s h p) = X (ix4 b s h p) := by
  unfold lookedAt
  pointwise

theorem past_apply : past (ix2 t s) = if s ≤ t then 1#1 else 0#1 := by
  unfold past
  pointwise
  show Scalar.select (IntOp.cmpi CmpIPredicate.sle (BitVec.ofNat 32 s.val) (BitVec.ofNat 32 t.val + 0#32)) 1#1 0#1 = _
  rw [BitVec.add_zero, Cert.Attention.sle_ofNat _ _ (by omega) (by omega)]
  by_cases h : s.val ≤ t.val
  · rw [if_pos h, if_pos (Fin.le_def.mpr h)]
    rfl
  · rw [if_neg h, if_neg fun h' => h (Fin.le_def.mp h')]
    rfl

theorem fades_apply (p : Fin 128) : fades (sunk (opened (floors L) (table H g W))) (ix5 b t s h p)
    = if s ≤ t then Ideal.exp (faded (gates H g W L b (valueCol h p)) t - faded (gates H g W L b (valueCol h p)) s) else 0 := by
  unfold fades
  pointwise
  rw [looking_apply, lookedAt_apply, sunk_apply, sunk_apply, past_apply]
  by_cases hs : s ≤ t
  · rw [if_pos hs, if_pos hs]
    rfl
  · rw [if_neg hs, if_neg hs]
    show Ideal.exp (Ideal.ofBits .f32 0xFF800000#32) = 0
    rw [Cert.Attention.ofBits_neg_inf]
    rfl

theorem weights_apply : weights (opened (floors L) (table H g W)) (table H g W) (ix4 b t s h)
    = weight (fun p s => swish (projected H g W b s (slab 0 (valueCol h p)))) (fun p => gates H g W L b (valueCol h p)) t s := by
  unfold weights weight
  pointwise
  simp only [looking_apply, lookedAt_apply, fades_apply, queries_apply, shut_apply]
  split
  · rfl
  · simp only [mul_zero, Finset.sum_const_zero]

theorem finds_apply (e : Fin 128) : finds (opened (floors L) (table H g W)) (table H g W) S (ix4 b t h e)
    = found (fun p s => swish (projected H g W b s (slab 0 (valueCol h p)))) (fun p => gates H g W L b (valueCol h p))
      (fun p => S (ix4 b h p e)) (fun s => projected H g W b s (slab 2 (valueCol h e))) t := by
  unfold finds found
  pointwise
  simp only [values_apply, weights_apply, queries_apply, sunk_apply]
  simp only [mul_comm]

theorem evens_apply (X Z : FVec Ideal S16x16x8x128 .f32) (d : Fin 128) :
    evens X N Z (ix4 b t h d) = evened (fun e => X (ix4 b t h e)) (N (ix1 (valueCol h d))) (Z (ix4 b t h d)) d := by
  unfold evens
  pointwise
  rfl

/-- A mixed row's element. -/
theorem mixes_apply (d : Fin 128) : mixes (opened (floors L) (table H g W)) (table H g W) N S (ix3 b t (valueCol h d))
    = mixed H g W L N S b t h d := by
  unfold mixes
  pointwise
  have e : (ix4 b t (headOf (valueCol h d)) (withinOf (valueCol h d)) : S16x16x8x128.Idx) = ix4 b t h d := by
    rw [headOf_valueCol, withinOf_valueCol]
  refine (congrArg _ e).trans ?_
  rw [evens_apply, swished_apply]
  simp only [finds_apply]
  unfold mixed
  refine congrArg (fun z => evened _ _ (swish z) d) ?_
  pointwise
  exact table_apply H g W b t (slab 3 (valueCol h d))

/-- The reference's mixed rows. -/
def rows : FVec Ideal S16x16x1024 .bf16 := fun i =>
  mixed (argH m c) (argG m c) (argW m c) (argL m c) (argN m c) (argS m c) (i 0) (i 1) (headOf (i 2)) (withinOf (i 2))

theorem rows_eq : Value.res_main_v110 m c = rows m c := by
  rw [mixes_eq]
  funext i
  idx_vars i
  have e := mixes_apply (argH m c) (argG m c) (argW m c) (argL m c) (argN m c) (argS m c) i0 i1 (headOf i2) (withinOf i2)
  rw [valueCol_of] at e
  exact e

/-- The reference's run leaves these elements, and its arguments stay. -/
theorem run_steps (ρ : Dev nD → PrngReg) :
    θ_run defs (onTc (τ := τ) (main (F := Ideal))) ⟨m, fun _ => 0, ρ⟩ (fun r => ∀ c : Dev nD,
      r.2.mem ((c : Thread nD τ).loc main_v110) = rows m c
      ∧ r.2.mem ((c : Thread nD τ).loc main_v108)
        = (fun i => last (argH m c) (argG m c) (argW m c) (argL m c) (argS m c) (i 0) (i 1) (i 2) (i 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨((h c).1).trans (rows_eq m c), ((h c).2.1).trans ((result_eq m c).trans (funext fun i => by
    idx_vars i
    exact kept_apply _ _ _ _ _ _ _ _ _)), (h c).2.2⟩) (Value.run m ρ)

end Cert.Reference6Ideal.Hand

end
-- ==== Proof.Hgrn.Moderate.lean ====
/-
  What the precondition says: in each column the two layers' numbers are real, the second at most nine more than the first.
-/
module

public import proofs.«01_k».proof.Pre_moderate_floors
public import proofs.«01_k».proof.Proof.Hgrn.Mixed
public import proofs.«01_k».proof.Proof.Value.Finite

@[expose] public section

set_option maxRecDepth 16384

noncomputable section

namespace Cert.Hgrn

open Idealize.ShloMosaic Cert.Pre_moderate_floors

/-- The shapes of the precondition's operations fit together. -/
theorem moderate_facts : Cert.Pre_moderate_floors.Facts :=
  ⟨by decide, by decide, by decide, by decide, by decide, by decide, by decide, by decide⟩

/-- The precondition, read. -/
theorem moderate_of_floors [Cert.Pre_moderate_floors.Facts] (H : FVec Ideal S16x16x1024 .f32) (G : FVec Ideal S1024 .f32)
    (W : FVec Ideal S1024x4096 .f32) (L : FVec Ideal S2x1024 .f32) (N : FVec Ideal S1024 .f32)
    (S : FVec Ideal S16x8x128x128 .f32) (h : fn H G W L N S = fun _ => 1#1) (d : Fin 1024) : Moderate fun i => L (ix2 i d) := by
  have h0 := congrFun h ix0
  dsimp only [fn] at h0
  obtain ⟨hL, hD⟩ := IntOp.andi_eq_one.1 h0
  have hr := Cert.Attention.reals_of_all L _ (fun _ => Cert.Attention.ofBits_inf) fun i => Host.reduce_andi_all _ _ _ _ _ hL i
  have hd := Host.reduce_andi_all _ _ _ _ _ hD (ix1 d)
  have ha := hr (ix2 0 d)
  have hc := hr (ix2 1 d)
  refine ⟨(L (ix2 0 d) : EReal).toReal, (L (ix2 1 d) : EReal).toReal, ha.symm, hc.symm, ?_⟩
  have hle : (L (ix2 1 d) : EReal) - L (ix2 0 d) ≤ Ideal.ofBits .f32 0x41100000#32 := by
    revert hd
    pointwise
    intro hd
    by_contra hn
    rw [decide_eq_false hn] at hd
    exact absurd hd (by decide)
  rw [ofBits_nine, ← ha, ← hc, ← EReal.coe_sub] at hle
  exact EReal.coe_le_coe_iff.mp hle

end Cert.Hgrn

end
-- ==== Proof.Cache.Target.lean ====
/-
  What one element of the attention with past keys is, over the extended reals: for each component, the softmax of a query's
  products with the past and the new keys, the difference of the two components' weights, the average of the past and the
  new values under it, and the norm. And why powers of two of products in units of `log 2` give the same softmax.
-/
module

public import proofs.«01_k».proof.Proof.Value.Target

@[expose] public section

noncomputable section

namespace Cert.Cache

open Idealize.ShloMosaic Cert.Attention

/-- The product of a query with a key in one component of one head. -/
def product (q k : Fin 1024 → EReal) (h : Fin 8) (u : Fin 2) : EReal := ∑ d : Fin 64, q (column h u d) * k (column h u d)

/-- The greatest of the past and the new scores. -/
def top (f : Fin 1024 → EReal) (g : Fin 16 → EReal) : EReal :=
  max (Finset.univ.fold max ⊥ f) (Finset.univ.fold max ⊥ g)

/-- A score's share among the past and the new scores, by exponentials. -/
def share (f : Fin 1024 → EReal) (g : Fin 16 → EReal) (x : EReal) : EReal :=
  Ideal.div (Ideal.exp (x - top f g)) (∑ n, Ideal.exp (f n - top f g) + ∑ n, Ideal.exp (g n - top f g))

/-- A score's share, by powers of two. -/
def share2 (f : Fin 1024 → EReal) (g : Fin 16 → EReal) (x : EReal) : EReal :=
  Ideal.div (Ideal.exp2 (x - top f g)) (∑ n, Ideal.exp2 (f n - top f g) + ∑ n, Ideal.exp2 (g n - top f g))

/-- The weight of a product in the softmax of component `u`. -/
def weight (q : Fin 1024 → EReal) (kp : Fin 1024 → Fin 1024 → EReal) (kn : Fin 16 → Fin 1024 → EReal) (h : Fin 8) (u : Fin 2)
    (x : EReal) : EReal :=
  share (fun n => product q (kp n) h u * ((8⁻¹ : ℝ) : EReal)) (fun n => product q (kn n) h u * ((8⁻¹ : ℝ) : EReal))
    (x * ((8⁻¹ : ℝ) : EReal))

/-- The difference of the two components' weights of a key. -/
def heed (q : Fin 1024 → EReal) (kp : Fin 1024 → Fin 1024 → EReal) (kn : Fin 16 → Fin 1024 → EReal) (lam : EReal) (h : Fin 8)
    (k : Fin 1024 → EReal) : EReal :=
  weight q kp kn h 0 (product q k h 0) - lam * weight q kp kn h 1 (product q k h 1)

/-- The average of a column of the past and the new values. -/
def attended (q : Fin 1024 → EReal) (kp : Fin 1024 → Fin 1024 → EReal) (kn : Fin 16 → Fin 1024 → EReal) (lam : EReal) (h : Fin 8)
    (vp : Fin 1024 → EReal) (vn : Fin 16 → EReal) : EReal :=
  ∑ n, heed q kp kn lam h (kp n) * vp n + ∑ n, heed q kp kn lam h (kn n) * vn n

/-- The key of a past place, its heads, components and columns laid side by side. -/
def pastKey (P : (⟨5, ![16, 1024, 8, 2, 64]⟩ : Shape).Idx → EReal) (b : Fin 16) (n e : Fin 1024) : EReal :=
  P (ix5 b n ⟨e.val / 128, by omega⟩ ⟨e.val / 64 % 2, by omega⟩ ⟨e.val % 64, by omega⟩)

/-- The value of a past place, its heads laid side by side. -/
def pastValue (P : (⟨4, ![16, 1024, 8, 128]⟩ : Shape).Idx → EReal) (b : Fin 16) (n e : Fin 1024) : EReal :=
  P (ix4 b n ⟨e.val / 128, by omega⟩ ⟨e.val % 128, by omega⟩)

theorem pastKey_column (P : (⟨5, ![16, 1024, 8, 2, 64]⟩ : Shape).Idx → EReal) (b : Fin 16) (n : Fin 1024) (h : Fin 8) (u : Fin 2)
    (d : Fin 64) : pastKey P b n (column h u d) = P (ix5 b n h u d) := by
  unfold pastKey column
  congr 2 <;> apply Fin.ext <;> simp only <;> omega

theorem pastValue_wide (P : (⟨4, ![16, 1024, 8, 128]⟩ : Shape).Idx → EReal) (b : Fin 16) (n : Fin 1024) (h : Fin 8)
    (x : Fin 128) : pastValue P b n (wide h x) = P (ix4 b n h x) := by
  unfold pastValue wide
  congr 2 <;> apply Fin.ext <;> simp only <;> omega

/-- One element of the result, from the arguments: batch row `b`, place `t`, head `h`, column `d`. -/
def element (Q K V : (⟨3, ![16, 16, 1024]⟩ : Shape).Idx → EReal) (PK : (⟨5, ![16, 1024, 8, 2, 64]⟩ : Shape).Idx → EReal)
    (PV : (⟨4, ![16, 1024, 8, 128]⟩ : Shape).Idx → EReal) (L : (⟨2, ![4, 64]⟩ : Shape).Idx → EReal)
    (G : (⟨1, ![128]⟩ : Shape).Idx → EReal) (b t : Fin 16) (h : Fin 8) (d : Fin 128) : EReal :=
  normed (fun x => attended (fun e => Q (ix3 b t e)) (pastKey PK b) (fun n e => K (ix3 b n e)) (lambda fun a x => L (ix2 a x)) h
    (fun n => pastValue PV b n (wide h x)) (fun n => V (ix3 b n (wide h x)))) (G (ix1 d)) d

/-! ## Scores in units of `log 2` -/

/-- A power of two of a number in units of `log 2` is its exponential. -/
theorem exp2_unit (x : EReal) : Ideal.exp2 (x * (((Real.log 2)⁻¹ : ℝ) : EReal)) = Ideal.exp x := by
  have hl : 0 < Real.log 2 := Real.log_pos (by norm_num)
  have hi : 0 < (Real.log 2)⁻¹ := inv_pos.mpr hl
  induction x using EReal.rec with
  | bot =>
    rw [EReal.bot_mul_coe_of_pos hi]
    rfl
  | top =>
    rw [EReal.top_mul_coe_of_pos hi]
    rfl
  | coe r =>
    rw [← EReal.coe_mul, Ideal.exp2_coe, Ideal.exp_coe]
    show (((2 : ℝ) ^ (r * (Real.log 2)⁻¹) : ℝ) : EReal) = _
    rw [Real.rpow_def_of_pos (by norm_num)]
    congr 2
    field_simp

/-- The greatest of numbers scaled by a positive number. -/
theorem fold_scaled {ι : Type*} (s : Finset ι) (f : ι → EReal) {l : ℝ} (hl : 0 < l) :
    s.fold max (⊥ : EReal) (fun n => f n * (l : EReal)) = s.fold max ⊥ f * (l : EReal) := by
  classical
  have hm : Monotone fun x : EReal => x * (l : EReal) := fun a b h => mul_le_mul_of_nonneg_right h (EReal.coe_nonneg.mpr hl.le)
  induction s using Finset.induction_on with
  | empty => exact (EReal.bot_mul_coe_of_pos hl).symm
  | insert a s ha ih =>
    rw [Finset.fold_insert ha, Finset.fold_insert ha, ih]
    exact (hm.map_max).symm

/-- The greatest score of scores scaled by a positive number. -/
theorem top_scaled (f : Fin 1024 → EReal) (g : Fin 16 → EReal) {l : ℝ} (hl : 0 < l) :
    top (fun n => f n * (l : EReal)) (fun n => g n * (l : EReal)) = top f g * (l : EReal) := by
  have hm : Monotone fun x : EReal => x * (l : EReal) := fun a b h => mul_le_mul_of_nonneg_right h (EReal.coe_nonneg.mpr hl.le)
  unfold top
  rw [fold_scaled _ _ hl, fold_scaled _ _ hl]
  exact (hm.map_max).symm

/-- A difference of scaled numbers. -/
theorem sub_scaled (a b : EReal) {l : ℝ} (hl : 0 < l) : a * (l : EReal) - b * (l : EReal) = (a - b) * (l : EReal) := by
  rw [sub_eq_add_neg, sub_eq_add_neg, ← EReal.neg_mul, mul_comm a, mul_comm (-b), mul_comm (a + -b),
    EReal.left_distrib_of_nonneg_of_ne_top (EReal.coe_nonneg.mpr hl.le) (EReal.coe_ne_top l)]

/-- A sum of scaled numbers. -/
theorem sum_scaled {ι : Type*} (s : Finset ι) (f : ι → EReal) {l : ℝ} (hl : 0 < l) :
    ∑ n ∈ s, f n * (l : EReal) = (∑ n ∈ s, f n) * (l : EReal) := by
  classical
  induction s using Finset.induction_on with
  | empty => simp
  | insert a s ha ih =>
    rw [Finset.sum_insert ha, Finset.sum_insert ha, ih, mul_comm (f a), mul_comm (Finset.sum s f), mul_comm (f a + _),
      EReal.left_distrib_of_nonneg_of_ne_top (EReal.coe_nonneg.mpr hl.le) (EReal.coe_ne_top l)]

/-- The share by powers of two of scores in units of `log 2`. -/
theorem share2_unit (f : Fin 1024 → EReal) (g : Fin 16 → EReal) (x : EReal) :
    share2 (fun n => f n * ((8⁻¹ * (Real.log 2)⁻¹ : ℝ) : EReal)) (fun n => g n * ((8⁻¹ * (Real.log 2)⁻¹ : ℝ) : EReal))
        (x * ((8⁻¹ * (Real.log 2)⁻¹ : ℝ) : EReal))
      = share (fun n => f n * ((8⁻¹ : ℝ) : EReal)) (fun n => g n * ((8⁻¹ : ℝ) : EReal)) (x * ((8⁻¹ : ℝ) : EReal)) := by
  have hi : 0 < (Real.log 2)⁻¹ := inv_pos.mpr (Real.log_pos (by norm_num))
  have hc (y : EReal) : y * ((8⁻¹ * (Real.log 2)⁻¹ : ℝ) : EReal) = y * ((8⁻¹ : ℝ) : EReal) * (((Real.log 2)⁻¹ : ℝ) : EReal) := by
    rw [EReal.coe_mul, mul_assoc]
  unfold share2 share
  simp only [hc]
  rw [top_scaled _ _ hi]
  simp only [sub_scaled _ _ hi, exp2_unit]

/-- The product of a scaled query with a key. -/
theorem product_scaled (q k : Fin 1024 → EReal) (h : Fin 8) (u : Fin 2) {l : ℝ} (hl : 0 < l) :
    product (fun e => q e * (l : EReal)) k h u = product q k h u * (l : EReal) := by
  unfold product
  rw [← sum_scaled _ _ hl]
  exact Finset.sum_congr rfl fun d _ => by rw [mul_right_comm]

/-- The scale of the queries is positive. -/
theorem scale_pos : 0 < (8⁻¹ * (Real.log 2)⁻¹ : ℝ) :=
  mul_pos (by norm_num) (inv_pos.mpr (Real.log_pos (by norm_num)))

/-! ## Past and new places as one row -/

/-- A sum over the past and the new places. -/
theorem sum_places (f : Fin 1040 → EReal) :
    ∑ n, f n = ∑ n : Fin 1024, f ⟨n.val, by omega⟩ + ∑ n : Fin 16, f ⟨1024 + n.val, by omega⟩ :=
  Fin.sum_univ_add (a := 1024) (b := 16) f

/-- The greatest over the past and the new places. -/
theorem top_places (f : Fin 1040 → EReal) :
    Finset.univ.fold max (⊥ : EReal) f = top (fun n => f ⟨n.val, by omega⟩) (fun n => f ⟨1024 + n.val, by omega⟩) := by
  show Finset.univ.sup f = max (Finset.univ.sup fun n : Fin 1024 => f ⟨n.val, by omega⟩)
    (Finset.univ.sup fun n : Fin 16 => f ⟨1024 + n.val, by omega⟩)
  apply le_antisymm
  · refine Finset.sup_le fun n _ => ?_
    by_cases hn : n.val < 1024
    · exact le_max_of_le_left (Finset.le_sup (f := fun n : Fin 1024 => f ⟨n.val, by omega⟩) (Finset.mem_univ ⟨n.val, hn⟩))
    · refine le_max_of_le_right ((le_of_eq (congrArg f (Fin.ext ?_))).trans
        (Finset.le_sup (f := fun n : Fin 16 => f ⟨1024 + n.val, by omega⟩) (Finset.mem_univ ⟨n.val - 1024, by omega⟩)))
      show n.val = 1024 + (n.val - 1024)
      omega
  · exact max_le (Finset.sup_le fun n _ => Finset.le_sup (Finset.mem_univ _))
      (Finset.sup_le fun n _ => Finset.le_sup (Finset.mem_univ _))

end Cert.Cache

end
-- ==== Proof.Cache.Body.lean ====
/-
  What one grid point of the attention with past keys stores: the heads' rows side by side, each read at one element.
-/
module

public import proofs.«01_k».proof.Proof.Cache.Target
public import proofs.«01_k».proof.Proof.Gen.Kernel7Ideal.Frame
public import Idealize.ShloMosaic.Lib.Pointwise
public import Idealize.ShloMosaic.Lib.Pipeline.ValueKit
public import Idealize.ShloMosaic.Lib.Pipeline.ReadBack
public import Idealize.ShloMosaic.Lib.WholeRead
public import Idealize.ShloMosaic.Lib.KernelVsHost

@[expose] public section

set_option maxRecDepth 16384

noncomputable section

namespace Cert.Kernel7Ideal.Hand

open Idealize.ShloMosaic Idealize.ShloMosaic.TcCoe Cert.Kernel7Ideal Cert.Kernel7Ideal.Gen Cert.Cache
open Cert.Attention (lambda normed column wide ofBits_neg_inf sle_ofNat select_ite)

/-! ## The masks hide nothing -/

/-- A number divided by 64 and rounded down, as the kernel computes it. -/
def chunk (w : BitVec 32) : BitVec 32 := Scalar.select
  (IntOp.andi
    (IntOp.cmpi CmpIPredicate.ne
      (IntOp.subi (BitVec.setWidth 32 (IntOp.cmpi CmpIPredicate.sgt w 0#32)) (BitVec.setWidth 32 (IntOp.cmpi CmpIPredicate.slt w 0#32)))
      (Scalar.subi (Scalar.extui (Scalar.cmpi CmpIPredicate.sgt 64#32 0#32)) (Scalar.extui (Scalar.cmpi CmpIPredicate.slt 64#32 0#32))))
    (IntOp.cmpi CmpIPredicate.ne (IntOp.remsi ArithUnit.vector w 64#32) 0#32))
  (IntOp.subi (IntOp.divsi ArithUnit.vector w 64#32) 1#32)
  (IntOp.divsi ArithUnit.vector w 64#32)

/-- A past place's chunk. -/
theorem chunk_past : ∀ n : Fin 1024, chunk (BitVec.ofNat 32 n.val) = BitVec.ofNat 32 (n.val / 64) := by
  unfold chunk
  decide +kernel

/-- A new place's chunk, the one after the past. -/
theorem chunk_new : ∀ t : Fin 16, chunk (IntOp.addi (BitVec.ofNat 32 t.val) 1024#32) = BitVec.ofNat 32 16 := by
  unfold chunk
  decide +kernel

/-- Which past places a new one sees. -/
def seenPast : IVec S16x1024 1 := k0_pay8 k0_pay5 k0_pay6 k0_pay7 0#32

/-- Which new places a new one sees. -/
def seenNew : IVec S16x16 1 := k0_pay12 k0_pay9 64#32 k0_pay10 k0_pay11 (Scalar.extui (Scalar.cmpi .sgt 64#32 0#32)) 0#32

theorem seenPast_apply (t : Fin 16) (n : Fin 1024) : seenPast (ix2 t n) = 1#1 := by
  unfold seenPast
  pointwise [k0_pay8, k0_pay7, k0_pay6, k0_pay5, k0_pay4]
  refine (congrArg₂ (IntOp.cmpi CmpIPredicate.sle) (chunk_past n) (chunk_new t)).trans ?_
  rw [sle_ofNat _ _ (by omega) (by omega), if_pos (by omega)]

theorem seenNew_apply (t n : Fin 16) : seenNew (ix2 t n) = 1#1 := by
  unfold seenNew
  pointwise [k0_pay12, k0_pay11, k0_pay10, k0_pay9]
  refine (congrArg₂ (IntOp.cmpi CmpIPredicate.sle) (chunk_new n) (chunk_new t)).trans ?_
  rw [sle_ofNat _ _ (by omega) (by omega), if_pos (by omega)]

/-! ## Products over half the columns -/

/-- A column of one half. -/
def halfCol (u : Fin 2) (d : Fin 64) : Fin 128 := ⟨64 * u.val + d.val, by omega⟩

/-- A product over one half of the columns. -/
def half (u : Fin 2) (q k : Fin 128 → EReal) : EReal := ∑ d : Fin 64, q (halfCol u d) * k (halfCol u d)

/-- The product with the upper half of the query cleared. -/
theorem lower_half (q k : Fin 128 → EReal) : ∑ x, (if x.val < 64 then q x else 0) * k x = half 0 q k := by
  refine (Fin.sum_univ_add (a := 64) (b := 64) fun x : Fin 128 => (if x.val < 64 then q x else 0) * k x).trans ?_
  have z : ∑ i : Fin 64, (if (Fin.natAdd 64 i : Fin 128).val < 64 then q (Fin.natAdd 64 i) else 0) * k (Fin.natAdd 64 i) = 0 :=
    Finset.sum_eq_zero fun i _ => by
      rw [if_neg (by simp), zero_mul]
  refine (congrArg₂ (· + ·) (Finset.sum_congr rfl fun i _ => ?_) z).trans (add_zero _)
  have e : (Fin.castAdd 64 i : Fin 128) = halfCol 0 i := Fin.ext (by simp [halfCol])
  rw [if_pos (by simp), e]

/-- The product with the lower half of the query cleared. -/
theorem upper_half (q k : Fin 128 → EReal) : ∑ x, (if 64 ≤ x.val then q x else 0) * k x = half 1 q k := by
  refine (Fin.sum_univ_add (a := 64) (b := 64) fun x : Fin 128 => (if 64 ≤ x.val then q x else 0) * k x).trans ?_
  have z : ∑ i : Fin 64, (if 64 ≤ (Fin.castAdd 64 i : Fin 128).val then q (Fin.castAdd 64 i) else 0) * k (Fin.castAdd 64 i) = 0 :=
    Finset.sum_eq_zero fun i _ => by
      rw [if_neg (by simp), zero_mul]
  refine (congrArg₂ (· + ·) z (Finset.sum_congr rfl fun i _ => ?_)).trans (zero_add _)
  have e : (Fin.natAdd 64 i : Fin 128) = halfCol 1 i := Fin.ext (by simp [halfCol]; omega)
  rw [if_pos (by simp), e]

/-! ## One head -/

/-- The columns' numbers. -/
def lanes : IVec S16x128 32 := iota .tc S16x128 32 [1] iota_S16x128_d1_w32

variable (L : FVec Ideal S1x1 .f32) (q : FVec Ideal S16x128 .bf16) (kp : Vec Ideal S1x1024x128 .f32) (kn : Vec Ideal S1x16x128 .bf16)
  (vp : Vec Ideal S1x1024x128 .f32) (vn : Vec Ideal S1x16x128 .bf16) (G : Vec Ideal S1x128 .f32)

/-- The first component's products with the past keys. -/
def past0 : FVec Ideal S16x1024 .f32 := k0_pay18 lanes seenPast q (k0_pay14 (F := Ideal)) (k0_pay15 kp)
/-- The first component's products with the new keys. -/
def new0 : FVec Ideal S16x16 .f32 := k0_pay19 lanes seenNew q (k0_pay14 (F := Ideal)) kn
/-- The second component's products with the past keys. -/
def past1 : FVec Ideal S16x1024 .f32 := k0_pay27 lanes seenPast q (k0_pay14 (F := Ideal)) (k0_pay15 kp)
/-- The second component's products with the new keys. -/
def new1 : FVec Ideal S16x16 .f32 := k0_pay28 lanes seenNew q (k0_pay14 (F := Ideal)) kn

/-- The lower columns. -/
theorem lanes_lower : ∀ d : Fin 128, IntOp.cmpi CmpIPredicate.slt (BitVec.ofNat 32 d.val) 64#32
    = if d.val < 64 then 1#1 else 0#1 := by decide +kernel

/-- The upper columns. -/
theorem lanes_upper : ∀ d : Fin 128, IntOp.cmpi CmpIPredicate.sge (BitVec.ofNat 32 d.val) 64#32
    = if 64 ≤ d.val then 1#1 else 0#1 := by decide +kernel

theorem query0_apply (t : Fin 16) (x : Fin 128) :
    k0_pay17 lanes q (k0_pay14 (F := Ideal)) (ix2 t x) = if x.val < 64 then q (ix2 t x) else 0 := by
  unfold lanes
  pointwise [k0_pay17, k0_pay14]
  rw [lanes_lower, select_ite]

theorem query1_apply (t : Fin 16) (x : Fin 128) :
    k0_pay26 lanes q (k0_pay14 (F := Ideal)) (ix2 t x) = if 64 ≤ x.val then q (ix2 t x) else 0 := by
  unfold lanes
  pointwise [k0_pay26, k0_pay14]
  rw [lanes_upper, select_ite]

theorem past0_apply (t : Fin 16) (n : Fin 1024) :
    past0 q kp (ix2 t n) = half 0 (fun x => q (ix2 t x)) fun x => kp (ix3 0 n x) := by
  unfold past0
  pointwise [k0_pay18, k0_pay15]
  simp only [seenPast_apply, query0_apply]
  exact (if_pos rfl).trans (lower_half _ _)

theorem new0_apply (t n : Fin 16) : new0 q kn (ix2 t n) = half 0 (fun x => q (ix2 t x)) fun x => kn (ix3 0 n x) := by
  unfold new0
  pointwise [k0_pay19, k0_pay16]
  simp only [seenNew_apply, query0_apply]
  exact (if_pos rfl).trans (lower_half _ _)

theorem past1_apply (t : Fin 16) (n : Fin 1024) :
    past1 q kp (ix2 t n) = half 1 (fun x => q (ix2 t x)) fun x => kp (ix3 0 n x) := by
  unfold past1
  pointwise [k0_pay27, k0_pay15]
  simp only [seenPast_apply, query1_apply]
  exact (if_pos rfl).trans (upper_half _ _)

theorem new1_apply (t n : Fin 16) : new1 q kn (ix2 t n) = half 1 (fun x => q (ix2 t x)) fun x => kn (ix3 0 n x) := by
  unfold new1
  pointwise [k0_pay28, k0_pay16]
  simp only [seenNew_apply, query1_apply]
  exact (if_pos rfl).trans (upper_half _ _)

/-- The first component's weights of the past keys. -/
def weightPast : FVec Ideal S16x1024 .f32 := k0_pay24 lanes seenPast seenNew q (k0_pay14 (F := Ideal)) (k0_pay15 kp) kn
/-- The first component's weights of the new keys. -/
def weightNew : FVec Ideal S16x16 .f32 := k0_pay25 lanes seenPast seenNew q (k0_pay14 (F := Ideal)) (k0_pay15 kp) kn
/-- The second component's greatest product with a past key. -/
def topPast : FVec Ideal S16x1 .f32 := k0_pay29 lanes seenPast q (k0_pay14 (F := Ideal)) (k0_pay15 kp)

theorem top0_apply (t : Fin 16) : k0_pay20 lanes seenPast seenNew q (k0_pay14 (F := Ideal)) (k0_pay15 kp) kn (ix2 t 0)
    = top (fun n => past0 q kp (ix2 t n)) (fun n => new0 q kn (ix2 t n)) := by
  pointwise [k0_pay20]
  rw [ofBits_neg_inf]
  rfl

theorem power_past (t : Fin 16) (n : Fin 1024) :
    k0_pay21 lanes seenPast seenNew q (k0_pay14 (F := Ideal)) (k0_pay15 kp) kn (ix2 t n)
      = Ideal.exp2 (past0 q kp (ix2 t n) - top (fun n => past0 q kp (ix2 t n)) (fun n => new0 q kn (ix2 t n))) := by
  pointwise [k0_pay21]
  rw [top0_apply]
  rfl

theorem power_new (t n : Fin 16) :
    k0_pay22 lanes seenPast seenNew q (k0_pay14 (F := Ideal)) (k0_pay15 kp) kn (ix2 t n)
      = Ideal.exp2 (new0 q kn (ix2 t n) - top (fun n => past0 q kp (ix2 t n)) (fun n => new0 q kn (ix2 t n))) := by
  pointwise [k0_pay22]
  rw [top0_apply]
  rfl

theorem weightPast_apply (t : Fin 16) (n : Fin 1024) : weightPast q kp kn (ix2 t n)
    = share2 (fun n => past0 q kp (ix2 t n)) (fun n => new0 q kn (ix2 t n)) (past0 q kp (ix2 t n)) := by
  unfold weightPast
  pointwise [k0_pay24, k0_pay23]
  simp only [power_past, power_new]
  rfl

theorem weightNew_apply (t n : Fin 16) : weightNew q kp kn (ix2 t n)
    = share2 (fun n => past0 q kp (ix2 t n)) (fun n => new0 q kn (ix2 t n)) (new0 q kn (ix2 t n)) := by
  unfold weightNew
  pointwise [k0_pay25, k0_pay23]
  simp only [power_past, power_new]
  rfl

theorem topPast_apply (t : Fin 16) : topPast q kp (ix2 t 0) = Finset.univ.fold max ⊥ fun n => past1 q kp (ix2 t n) := by
  unfold topPast
  pointwise [k0_pay29]
  rw [ofBits_neg_inf]
  rfl

/-- A head's averages of the values. -/
def averages : FVec Ideal S16x128 .f32 :=
  k0_pay30 L (weightPast q kp kn) (weightNew q kp kn) (past1 q kp) (new1 q kn) (topPast q kp) vp vn

theorem averages_apply (t : Fin 16) (x : Fin 128) : averages L q kp kn vp vn (ix2 t x)
    = ∑ n, (weightPast q kp kn (ix2 t n) - L (ix2 0 0)
          * share2 (fun n => past1 q kp (ix2 t n)) (fun n => new1 q kn (ix2 t n)) (past1 q kp (ix2 t n))) * vp (ix3 0 n x)
      + ∑ n, (weightNew q kp kn (ix2 t n) - L (ix2 0 0)
          * share2 (fun n => past1 q kp (ix2 t n)) (fun n => new1 q kn (ix2 t n)) (new1 q kn (ix2 t n))) * vn (ix3 0 n x) := by
  unfold averages
  pointwise [k0_pay30]
  rw [ofBits_neg_inf, topPast_apply]
  rfl

/-- A head's rows. -/
def headOut : FVec Ideal S16x128 .f32 :=
  k0_pay33 (averages L q kp kn vp vn) (k0_pay31 G)
    (k0_pay32 L (weightPast q kp kn) (weightNew q kp kn) (past1 q kp) (new1 q kn) (topPast q kp) vp vn)

theorem headOut_apply (t : Fin 16) (x : Fin 128) : headOut L q kp kn vp vn G (ix2 t x)
    = normed (fun x => averages L q kp kn vp vn (ix2 t x)) (G (ix2 0 x)) x := by
  unfold headOut normed
  pointwise [k0_pay33, k0_pay32, k0_pay31]
  rfl

end Cert.Kernel7Ideal.Hand

end
-- ==== Proof.Cache.Rows.lean ====
/-
  What one grid point of the attention with past keys stores, from the blocks it reads.
-/
module

public import proofs.«01_k».proof.Proof.Cache.Body
public import proofs.«01_k».proof.Proof.Hgrn.Mixed

@[expose] public section

set_option maxRecDepth 16384

noncomputable section

namespace Cert.Kernel7Ideal.Hand

open Idealize.ShloMosaic Idealize.ShloMosaic.TcCoe Cert.Kernel7Ideal Cert.Kernel7Ideal.Gen Cert.Cache
open Cert.Attention (lambda normed column wide)
open Cert.Hgrn (headOf withinOf)

/-- The scale of the queries: an eighth, in units of `log 2`. -/
theorem q_scale_eq : Named.named (F := Ideal) (φ := .f32) κ "q_scale" 0x3E38AA3B#32
    = ((8⁻¹ * (Real.log 2)⁻¹ : ℝ) : EReal) := by
  rfl

/-- The corner of a block of two axes. -/
theorem corner2 : (![0, 0] : Fin 2 → ℕ) = fun _ => 0 := by
  funext a
  match a with
  | 0 => rfl
  | 1 => rfl

/-- The corner of a block of three axes. -/
theorem corner3 : (![0, 0, 0] : Fin 3 → ℕ) = fun _ => 0 := by
  funext a
  match a with
  | 0 => rfl
  | 1 => rfl
  | 2 => rfl

/-- A head's columns in a row of columns. -/
theorem head_columns (n : Fin 8) : S16x1024.Slices ![0, n.val * 128] S16x128 := by
  revert n
  decide

/-- A head's columns of the past places lie in the block. -/
theorem head_past (n : Fin 8) : ∀ a, (![0, 0, n.val * 128] : Fin 3 → ℕ) a + S1x1024x128.size a ≤ S1x1024x1024.size a := by
  revert n
  decide

/-- A head's columns of the new places lie in the block. -/
theorem head_new (n : Fin 8) : ∀ a, (![0, 0, n.val * 128] : Fin 3 → ℕ) a + S1x16x128.size a ≤ S1x16x1024.size a := by
  revert n
  decide

variable (x0 : Vec Ideal S4x64 .f32) (x1 : Vec Ideal S1x16x1024 .f32) (x2 x3 : Vec Ideal S1x16x1024 .bf16)
  (x4 x5 : Vec Ideal S1x1024x1024 .f32) (x6 : Vec Ideal S1x128 .f32)

/-- A head's scaled queries. -/
def headQuery (n : Fin 8) : FVec Ideal S16x128 .bf16 := extractStridedSlice S16x128 ![0, n.val * 128] (k0_pay3 x1) (head_columns n)

/-- A head's columns of the past places. -/
def headPast (x : Vec Ideal S1x1024x1024 .f32) (n : Fin 8) : Vec Ideal S1x1024x128 .f32 :=
  View.ld x (Rect.unit (s := S1x1024x1024) ![0, 0, n.val * 128] S1x1024x128.size (head_past n))

/-- A head's columns of the new places. -/
def headNew (x : Vec Ideal S1x16x1024 .bf16) (n : Fin 8) : Vec Ideal S1x16x128 .bf16 :=
  View.ld x (Rect.unit (s := S1x16x1024) ![0, 0, n.val * 128] S1x16x128.size (head_new n))

/-- A head's rows as the point computes them. -/
def headRows (n : Fin 8) : FVec Ideal S16x128 .f32 :=
  headOut (k0_pay2 x0) (headQuery x1 n) (headPast x4 n) (headNew x2 n) (headPast x5 n) (headNew x3 n) x6

/-- Eight heads' rows side by side. -/
def joined (f : Fin 8 → FVec Ideal S16x128 .f32) : Vec Ideal S1x16x1024 .bf16 :=
  shapeCast S1x16x1024 (truncf .bf16 (concatenate S16x1024 1 [⟨S16x128, f 0⟩, ⟨S16x128, f 1⟩, ⟨S16x128, f 2⟩, ⟨S16x128, f 3⟩, ⟨S16x128, f 4⟩,
    ⟨S16x128, f 5⟩, ⟨S16x128, f 6⟩, ⟨S16x128, f 7⟩]
    concatenates_S16x128_S16x128_S16x128_S16x128_S16x128_S16x128_S16x128_S16x128_S16x1024_d1) bitsLt_bf16_f32) shapeCasts_S16x1024_S1x16x1024

theorem joined_apply (f : Fin 8 → FVec Ideal S16x128 .f32) (t : Fin 16) (d : Fin 1024) :
    joined f (ix3 0 t d) = f (headOf d) (ix2 t (withinOf d)) := by
  have g (X : FVec Ideal S16x1024 .f32) :
      shapeCast S1x16x1024 (truncf .bf16 X bitsLt_bf16_f32) shapeCasts_S16x1024_S1x16x1024 (ix3 0 t d) = X (ix2 t d) := by
    pointwise
  have e : joined f (ix3 0 t d) = concatenate S16x1024 1 (List.ofFn fun n => ⟨S16x128, f n⟩)
      concatenates_S16x128_S16x128_S16x128_S16x128_S16x128_S16x128_S16x128_S16x128_S16x1024_d1 (ix2 t d) := g _
  rw [e]
  refine concatenate_ofFn_apply (t := S16x1024) (s₁ := S16x128) 1 f _ rfl 128 rfl (ix2 t d) (headOf d) rfl (ix2 t (withinOf d)) rfl fun b hb => ?_
  match b with
  | 0 => rfl
  | 1 => exact absurd rfl hb

theorem scaled_apply (t : Fin 16) (e : Fin 1024) :
    k0_pay3 x1 (ix2 t e) = x1 (ix3 0 t e) * ((8⁻¹ * (Real.log 2)⁻¹ : ℝ) : EReal) := by
  pointwise [k0_pay3]
  rw [q_scale_eq]

theorem headQuery_apply (h : Fin 8) (t : Fin 16) (x : Fin 128) :
    headQuery x1 h (ix2 t x) = x1 (ix3 0 t (wide h x)) * ((8⁻¹ * (Real.log 2)⁻¹ : ℝ) : EReal) := by
  rw [← scaled_apply]
  refine congrArg (k0_pay3 x1) (funext fun a => Fin.ext ?_)
  match a with
  | 0 => exact Nat.zero_add _
  | 1 => exact congrArg (· + x.val) (Nat.mul_comm _ _)

theorem headPast_apply (x : Vec Ideal S1x1024x1024 .f32) (h : Fin 8) (n : Fin 1024) (d : Fin 128) :
    headPast x h (ix3 0 n d) = x (ix3 0 n (wide h d)) := by
  refine congrArg x (funext fun a => Fin.ext ?_)
  match a with
  | 0 => rfl
  | 1 => exact (Nat.zero_add _).trans (Nat.one_mul _)
  | 2 => exact (congrArg (h.val * 128 + ·) (Nat.one_mul d.val)).trans (congrArg (· + d.val) (Nat.mul_comm _ _))

theorem headNew_apply (x : Vec Ideal S1x16x1024 .bf16) (h : Fin 8) (n : Fin 16) (d : Fin 128) :
    headNew x h (ix3 0 n d) = x (ix3 0 n (wide h d)) := by
  refine congrArg x (funext fun a => Fin.ext ?_)
  match a with
  | 0 => rfl
  | 1 => exact (Nat.zero_add _).trans (Nat.one_mul _)
  | 2 => exact (congrArg (h.val * 128 + ·) (Nat.one_mul d.val)).trans (congrArg (· + d.val) (Nat.mul_comm _ _))

/-- A head's half product is the product of the component's columns, scaled. -/
theorem half_eq (q k : Fin 1024 → EReal) (h : Fin 8) (u : Fin 2) :
    half u (fun x => q (wide h x) * ((8⁻¹ * (Real.log 2)⁻¹ : ℝ) : EReal)) (fun x => k (wide h x))
      = product q k h u * ((8⁻¹ * (Real.log 2)⁻¹ : ℝ) : EReal) := by
  rw [← product_scaled q k h u scale_pos]
  rfl

/-- The weight of the first attention less the second's. -/
theorem lambda_apply : k0_pay2 x0 (ix2 0 0) = lambda fun a x => x0 (ix2 a x) := by
  pointwise [k0_pay2, lambda]

/-- A head's averages, from the blocks. -/
theorem averages_eq (h : Fin 8) (t : Fin 16) (x : Fin 128) :
    averages (k0_pay2 x0) (headQuery x1 h) (headPast x4 h) (headNew x2 h) (headPast x5 h) (headNew x3 h) (ix2 t x)
      = attended (fun e => x1 (ix3 0 t e)) (fun n e => x4 (ix3 0 n e)) (fun n e => x2 (ix3 0 n e)) (lambda fun a x => x0 (ix2 a x)) h
          (fun n => x5 (ix3 0 n (wide h x))) (fun n => x3 (ix3 0 n (wide h x))) := by
  have p0 (n : Fin 1024) : past0 (headQuery x1 h) (headPast x4 h) (ix2 t n)
      = product (fun e => x1 (ix3 0 t e)) (fun e => x4 (ix3 0 n e)) h 0 * ((8⁻¹ * (Real.log 2)⁻¹ : ℝ) : EReal) := by
    rw [past0_apply, ← half_eq]
    simp only [headQuery_apply, headPast_apply]
  have n0 (n : Fin 16) : new0 (headQuery x1 h) (headNew x2 h) (ix2 t n)
      = product (fun e => x1 (ix3 0 t e)) (fun e => x2 (ix3 0 n e)) h 0 * ((8⁻¹ * (Real.log 2)⁻¹ : ℝ) : EReal) := by
    rw [new0_apply, ← half_eq]
    simp only [headQuery_apply, headNew_apply]
  have p1 (n : Fin 1024) : past1 (headQuery x1 h) (headPast x4 h) (ix2 t n)
      = product (fun e => x1 (ix3 0 t e)) (fun e => x4 (ix3 0 n e)) h 1 * ((8⁻¹ * (Real.log 2)⁻¹ : ℝ) : EReal) := by
    rw [past1_apply, ← half_eq]
    simp only [headQuery_apply, headPast_apply]
  have n1 (n : Fin 16) : new1 (headQuery x1 h) (headNew x2 h) (ix2 t n)
      = product (fun e => x1 (ix3 0 t e)) (fun e => x2 (ix3 0 n e)) h 1 * ((8⁻¹ * (Real.log 2)⁻¹ : ℝ) : EReal) := by
    rw [new1_apply, ← half_eq]
    simp only [headQuery_apply, headNew_apply]
  rw [averages_apply]
  simp only [weightPast_apply, weightNew_apply, p0, n0, p1, n1, headPast_apply, headNew_apply, lambda_apply]
  simp only [share2_unit]
  rfl

/-- A head's rows, from the blocks. -/
theorem headRows_apply (h : Fin 8) (t : Fin 16) (d : Fin 128) : headRows x0 x1 x2 x3 x4 x5 x6 h (ix2 t d)
    = normed (fun x => attended (fun e => x1 (ix3 0 t e)) (fun n e => x4 (ix3 0 n e)) (fun n e => x2 (ix3 0 n e))
        (lambda fun a x => x0 (ix2 a x)) h (fun n => x5 (ix3 0 n (wide h x))) (fun n => x3 (ix3 0 n (wide h x)))) (x6 (ix2 0 d)) d := by
  unfold headRows
  rw [headOut_apply]
  simp only [averages_eq]

set_option maxHeartbeats 4000000 in
/-- What a point stores is the heads' rows side by side. -/
theorem out_eq : out0_7 x0 x1 x2 x3 x4 x5 x6 = joined (headRows x0 x1 x2 x3 x4 x5 x6) := by
  unfold_out out0_7
  have e0 : View.ld x0 r0_0 = x0 := View.ld_unit_zero corner2 _ _
  have e1 : View.ld x1 r0_1 = x1 := View.ld_unit_zero corner3 _ _
  have e6 : View.ld x6 r0_4 = x6 := View.ld_unit_zero corner2 _ _
  simp only [e0, e1, e6]
  funext y
  refine View.canon_append_of_piecesOf _ [] [_] ⟨fun x => ?_, trivial⟩ y (View.cover_of_tiledL (s := S1x16x1024) _ S1x16x1024.size (by sl_kernel_rfl) y)
  show _ = View.ld (joined _) (Rect.unit (s := S1x16x1024) ![0, 0, 0] S1x16x1024.size inb_S1x16x1024_S1x16x1024_0_0_0) x
  rw [View.ld_unit_zero corner3]
  rfl

end Cert.Kernel7Ideal.Hand

end
-- ==== Proof.Cache.Array.lean ====
/-
  The array of the attention with past keys: the elements of `Proof/Cache/Target.lean`, from the arguments.
-/
module

public import proofs.«01_k».proof.Proof.Cache.Rows
public import proofs.«01_k».proof.Proof.Gen.Kernel7Ideal.Value
public import Idealize.ShloMosaic.Lib.Pipeline.Covers
public import Idealize.ShloMosaic.Lib.Claim

@[expose] public section

set_option maxRecDepth 16384

noncomputable section

namespace Cert.Kernel7Ideal.Hand

open Idealize.ShloMosaic Idealize.ShloMosaic.TcCoe Idealize.ShloMosaic.Tactic
open Idealize.SL Idealize.SL.Sem
open Idealize.ShloMosaic.Pipeline (Dat Cfg Window)
open Idealize.ShloMosaic.Pipeline
open Cert.Kernel7Ideal Cert.Kernel7Ideal.Gen Cert.Cache
open Cert.Attention (lambda normed column wide)
open Cert.Hgrn (headOf withinOf)

variable (m : (ℓ : Loc nD τ sig) → Buf (Elt Ideal) ℓ) (c : Dev nD)

/-! ## The arguments -/

/-- The queries as given. -/
def argQ : Vec Ideal S16x16x1024 .f32 := m ((c : Thread nD τ).loc main_arg0)
/-- The new keys as given. -/
def argK : Vec Ideal S16x16x1024 .f32 := m ((c : Thread nD τ).loc main_arg1)
/-- The new values as given. -/
def argV : Vec Ideal S16x16x1024 .f32 := m ((c : Thread nD τ).loc main_arg2)
/-- The past keys as given. -/
def argPK : Vec Ideal S16x1024x8x2x64 .f32 := m ((c : Thread nD τ).loc main_arg3)
/-- The past values as given. -/
def argPV : Vec Ideal S16x1024x8x128 .f32 := m ((c : Thread nD τ).loc main_arg4)
/-- The numbers of the second attention's weight as given. -/
def argL : Vec Ideal S4x64 .f32 := m ((c : Thread nD τ).loc main_arg5)
/-- The gain as given. -/
def argG : Vec Ideal S128 .f32 := m ((c : Thread nD τ).loc main_arg6)

/-- The past keys as the lines before the call leave them. -/
theorem entry_v2 : V m c main_v2 = shapeCast S16x1024x1024 (argPK m c) shapeCasts_S16x1024x8x2x64_S16x1024x1024 := by
  unfold V
  simp only [hostOps0, List.flatten_cons, List.flatten_nil, List.append_nil, List.cons_append, List.nil_append]
  after_results
  rfl

/-- The past values as the lines before the call leave them. -/
theorem entry_v3 : V m c main_v3 = shapeCast S16x1024x1024 (argPV m c) shapeCasts_S16x1024x8x128_S16x1024x1024 := by
  unfold V
  simp only [hostOps0, List.flatten_cons, List.flatten_nil, List.append_nil, List.cons_append, List.nil_append]
  after_results
  rfl

/-- The gain as the lines before the call leave it. -/
theorem entry_v4 : V m c main_v4 = shapeCast S1x128 (argG m c) shapeCasts_S128_S1x128 := by
  unfold V
  simp only [hostOps0, List.flatten_cons, List.flatten_nil, List.append_nil, List.cons_append, List.nil_append]
  after_results
  rfl

/-! ## Where the blocks lie -/

variable (t : Fin cfg0.N)

/-- The batch row of a grid point. -/
def batch : Fin 16 := ⟨((grid0.coords t) 0).val, ((grid0.coords t) 0).isLt⟩

/-- Blocks of rows, by the point's coordinate. -/
theorem transform7 (i : grid0.Coords) : cc0_transform_7 i = ![(i 0).val, 0, 0] := by
  unfold cc0_transform_7
  have h0 : (i 0).val < 16 := (i 0).isLt
  simp only [BitVec.toNat_ofNat]
  rw [Nat.mod_eq_of_lt (by omega)]

theorem index0 : win0_0.index t = ![0, 0] := rfl
theorem index1 : win0_1.index t = ![(batch t).val, 0, 0] := transform7 (grid0.coords t)
theorem index2 : win0_2.index t = ![(batch t).val, 0, 0] := transform7 (grid0.coords t)
theorem index3 : win0_3.index t = ![(batch t).val, 0, 0] := transform7 (grid0.coords t)
theorem index4 : win0_4.index t = ![(batch t).val, 0, 0] := transform7 (grid0.coords t)
theorem index5 : win0_5.index t = ![(batch t).val, 0, 0] := transform7 (grid0.coords t)
theorem index6 : win0_6.index t = ![0, 0] := rfl
theorem index7 : win0_7.index t = ![(batch t).val, 0, 0] := transform7 (grid0.coords t)

/-! ## What the blocks hold -/

theorem weight_apply (a : Fin 4) (x : Fin 64) : (iblk m c 0 t : Vec Ideal S4x64 .f32) (ix2 a x) = argL m c (ix2 a x) := by
  have h : (win0_0.blk t).view.emb (ix2 a x) = ix2 a x := by blk_ext [index0 t]
  show V m c main_arg5 ((win0_0.blk t).view.emb (ix2 a x)) = _
  rw [h]
  entry_read
  rfl

theorem query_apply (j : Fin 16) (e : Fin 1024) :
    (iblk m c 1 t : Vec Ideal S1x16x1024 .f32) (ix3 0 j e) = argQ m c (ix3 (batch t) j e) := by
  have h : (win0_1.blk t).view.emb (ix3 0 j e) = ix3 (batch t) j e := by blk_ext [index1 t]
  show V m c main_arg0 ((win0_1.blk t).view.emb (ix3 0 j e)) = _
  rw [h]
  entry_read
  rfl

theorem key_apply (j : Fin 16) (e : Fin 1024) :
    (iblk m c 2 t : Vec Ideal S1x16x1024 .bf16) (ix3 0 j e) = argK m c (ix3 (batch t) j e) := by
  have h : (win0_2.blk t).view.emb (ix3 0 j e) = ix3 (batch t) j e := by blk_ext [index2 t]
  show V m c main_v0 ((win0_2.blk t).view.emb (ix3 0 j e)) = _
  rw [h]
  entry_read
  pointwise
  rfl

theorem value_apply (j : Fin 16) (e : Fin 1024) :
    (iblk m c 3 t : Vec Ideal S1x16x1024 .bf16) (ix3 0 j e) = argV m c (ix3 (batch t) j e) := by
  have h : (win0_3.blk t).view.emb (ix3 0 j e) = ix3 (batch t) j e := by blk_ext [index3 t]
  show V m c main_v1 ((win0_3.blk t).view.emb (ix3 0 j e)) = _
  rw [h]
  entry_read
  pointwise
  rfl

theorem pastKey_apply (n e : Fin 1024) :
    (iblk m c 4 t : Vec Ideal S1x1024x1024 .f32) (ix3 0 n e) = pastKey (argPK m c) (batch t) n e := by
  have h : (win0_4.blk t).view.emb (ix3 0 n e) = ix3 (batch t) n e := by blk_ext [index4 t]
  show V m c main_v2 ((win0_4.blk t).view.emb (ix3 0 n e)) = _
  rw [h]
  refine (congrFun (entry_v2 m c) _).trans ?_
  pointwise [pastKey]

theorem pastValue_apply (n e : Fin 1024) :
    (iblk m c 5 t : Vec Ideal S1x1024x1024 .f32) (ix3 0 n e) = pastValue (argPV m c) (batch t) n e := by
  have h : (win0_5.blk t).view.emb (ix3 0 n e) = ix3 (batch t) n e := by blk_ext [index5 t]
  show V m c main_v3 ((win0_5.blk t).view.emb (ix3 0 n e)) = _
  rw [h]
  refine (congrFun (entry_v3 m c) _).trans ?_
  pointwise [pastValue]

theorem gain_apply (d : Fin 128) : (iblk m c 6 t : Vec Ideal S1x128 .f32) (ix2 0 d) = argG m c (ix1 d) := by
  have h : (win0_6.blk t).view.emb (ix2 0 d) = ix2 0 d := by blk_ext [index6 t]
  show V m c main_v4 ((win0_6.blk t).view.emb (ix2 0 d)) = _
  rw [h]
  refine (congrFun (entry_v4 m c) _).trans ?_
  pointwise

/-! ## The array -/

/-- The attended rows. -/
def rows : S16x16x1024.Idx → EReal := fun i => element (argQ m c) (argK m c) (argV m c) (argPK m c) (argPV m c) (argL m c) (argG m c)
  (i 0) (i 1) (headOf (i 2)) (withinOf (i 2))

/-- The grid's coordinates of a batch row. -/
def point (b : Fin 16) : grid0.Coords := fun | 0 => b

/-- The blocks of the attended rows cover their array. -/
theorem covered7 : (cfg0.win 7).Covers :=
  (cfg0.win 7).covers_of_indexMap_surj rfl (by decide) fun β =>
    ⟨point ⟨(β 0).val, (β 0).isLt⟩, fun a => by
      refine (congrFun (transform7 (point ⟨(β 0).val, (β 0).isLt⟩)) a).trans ?_
      match a with
      | 0 => rfl
      | 1 => exact (Nat.lt_one_iff.mp (lt_of_lt_of_eq (β 1).isLt (by decide : (cfg0.win 7).nblk 1 = 1))).symm
      | 2 => exact (Nat.lt_one_iff.mp (lt_of_lt_of_eq (β 2).isLt (by decide : (cfg0.win 7).nblk 2 = 1))).symm⟩

/-- What the run leaves in the array of the attended rows. -/
theorem array7 : (dats m 0 c).arrAt 7 cfg0.N = rows m c := by
  refine (dats m 0 c).arrAt_eq_of_covers 7 _ covered7 fun t hf y => ?_
  idx_vars y
  obtain rfl : y0 = 0 := Subsingleton.elim _ _
  have he : (win0_7.blk t).view.emb (ix3 0 y1 y2) = ix3 (batch t) y1 y2 := by
    blk_ext [index7 t]
  blk_simp
  rw [he, after0_7, out_eq]
  refine (joined_apply _ y1 y2).trans ?_
  rw [headRows_apply]
  simp only [weight_apply, query_apply, key_apply, value_apply, pastKey_apply, pastValue_apply, gain_apply]
  rfl

/-- The whole program: the attended rows, and the arguments stay. -/
theorem result_run (ρ : Dev nD → PrngReg) :
    θ_run defs (onTc (τ := τ) (main (F := Ideal))) ⟨m, fun _ => 0, ρ⟩ (fun r => ∀ c : Dev nD,
      r.2.mem ((c : Thread nD τ).loc main_v5) = rows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c => ⟨(h c).1.trans (array7 m c), (h c).2⟩) (Value.run_blocks m ρ)

end Cert.Kernel7Ideal.Hand

end
-- ==== Proof.Cache.Terms.lean ====
/-
  The attention with past keys, as the reference does it, in named steps: the rows of past and new places, the mask, the scaled and masked products, their softmax, the difference of the two
  components, the averages of the values, and the norm.
-/
module

public import proofs.«01_k».proof.Proof.Gen.Reference7Ideal.Run
public import Idealize.ShloMosaic.Lib.Pointwise

@[expose] public section

set_option maxRecDepth 16384

noncomputable section

namespace Cert.Reference7Ideal.Hand

open Idealize.ShloMosaic Idealize.ShloMosaic.TcCoe Cert.Reference7Ideal Cert.Reference7Ideal.Gen

/-- The chunk of 64 rows each row of a key lies in, along a row. -/
def chunks {s : Shape} (x : IVec s 32) (h : S_.BroadcastsInDim s (![] : Fin 0 → Fin s.rank)) : IVec s 32 :=
  select (andi (cmpi .ne (signi x) (broadcastInDim s ![] h (signi (id (constantI S_ 32 64#32)))))
      (cmpi .ne (Host.remsi x (broadcastInDim s ![] h (id (constantI S_ 32 64#32))))
        (broadcastInDim s ![] h (constantI S_ 32 0#32))))
    (subi (Host.divsi x (broadcastInDim s ![] h (id (constantI S_ 32 64#32)))) (broadcastInDim s ![] h (constantI S_ 32 1#32)))
    (Host.divsi x (broadcastInDim s ![] h (id (constantI S_ 32 64#32))))

/-- Which keys (second axis) each query (first axis) sees. -/
def sees : IVec S16x1040 1 :=
  cmpi .sle
    (broadcastInDim S16x1040 ![0, 1] bcast_S1x1040_S16x1040_0_1
      (chunks (broadcastInDim S1x1040 ![1] bcast_S1040_S1x1040_1 (iotaInDim S1040 32 0)) bcast_S_S1x1040))
    (broadcastInDim S16x1040 ![0, 1] bcast_S16x1_S16x1040_0_1
      (chunks (broadcastInDim S16x1 ![0] bcast_S16_S16x1_0
        (addi (broadcastInDim S16 ![] bcast_S_S16 (constantI S_ 32 1024#32)) (iotaInDim S16 32 0))) bcast_S_S16x1))

/-- The keys of the past and the new places. -/
def keys (P : FVec Ideal S16x1024x8x2x64 .f32) (K : FVec Ideal S16x16x1024 .f32) : FVec Ideal S16x1040x8x2x64 .f32 :=
  concatenate S16x1040x8x2x64 1 [⟨S16x1024x8x2x64, P⟩, ⟨S16x16x8x2x64, shapeCast _ K shapeCasts_S16x16x1024_S16x16x8x2x64⟩]
    concatenates_S16x1024x8x2x64_S16x16x8x2x64_S16x1040x8x2x64_d1

/-- The values of the past and the new places. -/
def values (P : FVec Ideal S16x1024x8x128 .f32) (V : FVec Ideal S16x16x1024 .f32) : FVec Ideal S16x1040x8x128 .f32 :=
  concatenate S16x1040x8x128 1 [⟨S16x1024x8x128, P⟩, ⟨S16x16x8x128, shapeCast _ V shapeCasts_S16x16x1024_S16x16x8x128⟩]
    concatenates_S16x1024x8x128_S16x16x8x128_S16x1040x8x128_d1

/-- The products of queries and keys over a component's 64 columns, scaled. -/
def products (Q : FVec Ideal S16x16x1024 .f32) (K : FVec Ideal S16x1040x8x2x64 .f32) : FVec Ideal S16x8x2x16x1040 .f32 :=
  mulf (Host.dotGeneral dot_S16x16x8x2x64_S16x1040x8x2x64_S16x8x2x16x1040_4_4_1_1_023_023 none
      (shapeCast _ Q shapeCasts_S16x16x1024_S16x16x8x2x64) K)
    (broadcastInDim S16x8x2x16x1040 ![] bcast_S_S16x8x2x16x1040 (constant S_ .f32 0x3E000000#32))

/-- The scores: the products where the query sees the key, the least value elsewhere. -/
def scores (Q : FVec Ideal S16x16x1024 .f32) (K : FVec Ideal S16x1040x8x2x64 .f32) : FVec Ideal S16x8x2x16x1040 .f32 :=
  select (broadcastInDim S16x8x2x16x1040 ![3, 4] bcast_S16x1040_S16x8x2x16x1040_3_4 sees) (products Q K)
    (broadcastInDim S16x8x2x16x1040 ![] bcast_S_S16x8x2x16x1040 (id (constant S_ .f32 0xFF800000#32)))

/-- The greatest score of each query. -/
def tops (S : FVec Ideal S16x8x2x16x1040 .f32) : FVec Ideal S16x8x2x16 .f32 :=
  maximumf (broadcastInDim S16x8x2x16 ![] bcast_S_S16x8x2x16 (constant S_ .f32 0xFF800000#32))
    (Host.reduce FloatOps.maximumf S (constant S_ .f32 0xFF800000#32) reducesTo_S16x8x2x16x1040_S16x8x2x16_d4 h_S_)

/-- A row's number along the keys. -/
def along (X : FVec Ideal S16x8x2x16 .f32) : FVec Ideal S16x8x2x16x1040 .f32 :=
  broadcastInDim S16x8x2x16x1040 ![0, 1, 2, 3, 4] bcast_S16x8x2x16x1_S16x8x2x16x1040_0_1_2_3_4
    (broadcastInDim S16x8x2x16x1 ![0, 1, 2, 3] bcast_S16x8x2x16_S16x8x2x16x1_0_1_2_3 X)

/-- The exponentials of the scores, shifted by the greatest. -/
def exps (S : FVec Ideal S16x8x2x16x1040 .f32) : FVec Ideal S16x8x2x16x1040 .f32 := Host.exp (subf S (along (tops S)))

/-- Each row's sum. -/
def totals (E : FVec Ideal S16x8x2x16x1040 .f32) : FVec Ideal S16x8x2x16 .f32 :=
  Host.reduceAdd E (constant S_ .f32 0x00000000#32) reducesTo_S16x8x2x16x1040_S16x8x2x16_d4 h_S_

/-- The softmax. -/
def softmax (S : FVec Ideal S16x8x2x16x1040 .f32) : FVec Ideal S16x8x2x16x1040 .f32 :=
  Host.divf (exps S) (along (totals (exps S)))

/-- The factor of the second component. -/
def factor (L : FVec Ideal S4x64 .f32) : FVec Ideal S_ .f32 :=
  addf (subf
      (Host.exp (Host.reduceAdd (mulf
          (shapeCast _ (extractStridedSlice S1x64 ![0, 0] L slices_S4x64_S1x64_0_0) shapeCasts_S1x64_S64)
          (shapeCast _ (extractStridedSlice S1x64 ![1, 0] L slices_S4x64_S1x64_1_0) shapeCasts_S1x64_S64))
        (constant S_ .f32 0x00000000#32) reducesTo_S64_S_d0 h_S_))
      (Host.exp (Host.reduceAdd (mulf
          (shapeCast _ (extractStridedSlice S1x64 ![2, 0] L slices_S4x64_S1x64_2_0) shapeCasts_S1x64_S64)
          (shapeCast _ (extractStridedSlice S1x64 ![3, 0] L slices_S4x64_S1x64_3_0) shapeCasts_S1x64_S64))
        (constant S_ .f32 0x00000000#32) reducesTo_S64_S_d0 h_S_)))
    (constant S_ .f32 0x3EB60549#32)

/-- The difference of the two components' softmaxes. -/
def weights (A : FVec Ideal S16x8x2x16x1040 .f32) (f : FVec Ideal S_ .f32) : FVec Ideal S16x8x16x1040 .f32 :=
  subf (shapeCast _ (extractStridedSlice S16x8x1x16x1040 ![0, 0, 0, 0, 0] A slices_S16x8x2x16x1040_S16x8x1x16x1040_0_0_0_0_0)
      shapeCasts_S16x8x1x16x1040_S16x8x16x1040)
    (mulf (broadcastInDim S16x8x16x1040 ![] bcast_S_S16x8x16x1040 f)
      (shapeCast _ (extractStridedSlice S16x8x1x16x1040 ![0, 0, 1, 0, 0] A slices_S16x8x2x16x1040_S16x8x1x16x1040_0_0_1_0_0)
        shapeCasts_S16x8x1x16x1040_S16x8x16x1040))

/-- The values averaged under the weights. -/
def mixed (V : FVec Ideal S16x1040x8x128 .f32) (W : FVec Ideal S16x8x16x1040 .f32) : FVec Ideal S16x16x8x128 .f32 :=
  transpose S16x16x8x128 [0, 3, 1, 2]
    (Host.dotGeneral dot_S16x1040x8x128_S16x8x16x1040_S16x8x128x16_1_3_3_2_02_01 none V W)
    transposes_S16x8x128x16_S16x16x8x128_0_3_1_2

/-- The norm over a head's columns, its gain and its constant. -/
def finished (O : FVec Ideal S16x16x8x128 .f32) (G : FVec Ideal S128 .f32) : FVec Ideal S16x16x1024 .bf16 :=
  truncf .bf16 (shapeCast _ (mulf (mulf (mulf O
      (broadcastInDim S16x16x8x128 ![0, 1, 2, 3] bcast_S16x16x8x1_S16x16x8x128_0_1_2_3
        (Host.rsqrt (addf
          (Host.divf
            (broadcastInDim S16x16x8x1 ![0, 1, 2] bcast_S16x16x8_S16x16x8x1_0_1_2
              (Host.reduceAdd (mulf O O) (constant S_ .f32 0x00000000#32) reducesTo_S16x16x8x128_S16x16x8_d3 h_S_))
            (broadcastInDim S16x16x8x1 ![] bcast_S_S16x16x8x1 (constant S_ .f32 0x43000000#32)))
          (broadcastInDim S16x16x8x1 ![] bcast_S_S16x16x8x1 (constant S_ .f32 0x358637BD#32))))))
      (broadcastInDim S16x16x8x128 ![0, 1, 2, 3] bcast_S1x1x1x128_S16x16x8x128_0_1_2_3
        (broadcastInDim S1x1x1x128 ![3] bcast_S128_S1x1x1x128_3 G)))
    (broadcastInDim S16x16x8x128 ![] bcast_S_S16x16x8x128 (constant S_ .f32 0x3F24FD5C#32)))
    shapeCasts_S16x16x8x128_S16x16x1024) bitsLt_bf16_f32

/-- The reference's result. -/
def answer (Q K V : FVec Ideal S16x16x1024 .f32) (PK : FVec Ideal S16x1024x8x2x64 .f32) (PV : FVec Ideal S16x1024x8x128 .f32)
    (L : FVec Ideal S4x64 .f32) (G : FVec Ideal S128 .f32) : FVec Ideal S16x16x1024 .bf16 :=
  finished (mixed (values PV V) (weights (softmax (scores Q (keys PK K))) (factor L))) G

/-- The reference's run leaves these steps' result. -/
theorem res_eq (m : (ℓ : Loc nD τ sig) → Buf (Elt Ideal) ℓ) (c : Dev nD) :
    Value.res_main_v72 m c = answer (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  unfold Value.res_main_v72
  rfl

end Cert.Reference7Ideal.Hand

end
-- ==== Proof.Cache.Ref.lean ====
/-
  The steps of the reference of the attention with past keys, read at one element: its result is that of
  `Proof/Cache/Target.lean`.
-/
module

public import proofs.«01_k».proof.Proof.Cache.Terms
public import proofs.«01_k».proof.Proof.Cache.Target

@[expose] public section

set_option maxRecDepth 16384

noncomputable section

namespace Cert.Reference7Ideal.Hand

open Idealize.ShloMosaic Cert.Reference7Ideal Cert.Reference7Ideal.Gen Cert.Cache
open Cert.Attention (lambda normed column wide ofBits_eighth ofBits_neg_inf sle_ofNat)

/-- The words of a floor division by 64: a key's chunk. -/
theorem key_chunk : ∀ n : Fin 1040,
    Scalar.select
      (IntOp.andi
        (IntOp.cmpi CmpIPredicate.ne
          (if BitVec.ofNat 32 n.val = 0 then (0 : BitVec 32) else if (BitVec.ofNat 32 n.val).msb = true then -1 else 1)
          (if (64#32 : BitVec 32) = 0 then (0 : BitVec 32) else if (64#32 : BitVec 32).msb = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32)
    = BitVec.ofNat 32 (n.val / 64) := by
  decide +kernel

/-- The words of a floor division by 64: a query's chunk, the one after the past. -/
theorem query_chunk : ∀ t : Fin 16,
    Scalar.select
      (IntOp.andi
        (IntOp.cmpi CmpIPredicate.ne
          (if IntOp.addi (1024#32) (BitVec.ofNat 32 t.val) = 0 then (0 : BitVec 32)
            else if (IntOp.addi (1024#32) (BitVec.ofNat 32 t.val)).msb = true then -1 else 1)
          (if (64#32 : BitVec 32) = 0 then (0 : BitVec 32) else if (64#32 : BitVec 32).msb = true then -1 else 1))
        (IntOp.cmpi CmpIPredicate.ne (IntOp.remsi ArithUnit.host (IntOp.addi (1024#32) (BitVec.ofNat 32 t.val)) 64#32) 0#32))
      (IntOp.subi (IntOp.divsi ArithUnit.host (IntOp.addi (1024#32) (BitVec.ofNat 32 t.val)) 64#32) 1#32)
      (IntOp.divsi ArithUnit.host (IntOp.addi (1024#32) (BitVec.ofNat 32 t.val)) 64#32)
    = BitVec.ofNat 32 16 := by
  decide +kernel

/-- A query sees every key. -/
theorem sees_apply (t : Fin 16) (n : Fin 1040) : sees (ix2 t n) = 1#1 := by
  unfold sees chunks
  pointwise
  refine (congrArg₂ (IntOp.cmpi CmpIPredicate.sle) (key_chunk n) (query_chunk t)).trans ?_
  rw [sle_ofNat _ _ (by omega) (by omega), if_pos (by omega)]

/-- The keys of the past and of the new places. -/
theorem keys_past (P : FVec Ideal S16x1024x8x2x64 .f32) (K : FVec Ideal S16x16x1024 .f32) (b : Fin 16) (n : Fin 1024) (h : Fin 8)
    (u : Fin 2) (d : Fin 64) : keys P K (ix5 b ⟨n.val, by omega⟩ h u d) = pastKey P b n (column h u d) := by
  rw [pastKey_column]
  unfold keys
  pointwise

theorem keys_new (P : FVec Ideal S16x1024x8x2x64 .f32) (K : FVec Ideal S16x16x1024 .f32) (b n : Fin 16) (h : Fin 8)
    (u : Fin 2) (d : Fin 64) : keys P K (ix5 b ⟨1024 + n.val, by omega⟩ h u d) = K (ix3 b n (column h u d)) := by
  unfold keys
  pointwise
  exact congrArg (fun e => K (ix3 b n e)) (Fin.ext (by simp only [column]; omega))

/-- The values of the past and of the new places. -/
theorem values_past (P : FVec Ideal S16x1024x8x128 .f32) (V : FVec Ideal S16x16x1024 .f32) (b : Fin 16) (n : Fin 1024) (h : Fin 8)
    (x : Fin 128) : values P V (ix4 b ⟨n.val, by omega⟩ h x) = pastValue P b n (wide h x) := by
  rw [pastValue_wide]
  unfold values
  pointwise

theorem values_new (P : FVec Ideal S16x1024x8x128 .f32) (V : FVec Ideal S16x16x1024 .f32) (b n : Fin 16) (h : Fin 8)
    (x : Fin 128) : values P V (ix4 b ⟨1024 + n.val, by omega⟩ h x) = V (ix3 b n (wide h x)) := by
  unfold values
  pointwise
  exact congrArg (fun e => V (ix3 b n e)) (Fin.ext (by simp only [wide]; omega))

/-- A score. -/
theorem scores_apply (Q : FVec Ideal S16x16x1024 .f32) (K : FVec Ideal S16x1040x8x2x64 .f32) (b : Fin 16) (h : Fin 8) (u : Fin 2)
    (t : Fin 16) (n : Fin 1040) (k : Fin 1024 → EReal) (hk : ∀ d, K (ix5 b n h u d) = k (column h u d)) :
    scores Q K (ix5 b h u t n) = product (fun e => Q (ix3 b t e)) k h u * ((8⁻¹ : ℝ) : EReal) := by
  have hc : ∀ x : Fin 64, (⟨h.val * 128 + u.val * 64 + x.val, by omega⟩ : Fin 1024) = column h u x :=
    fun x => Fin.ext (by simp only [column]; omega)
  unfold scores products product
  pointwise
  rw [sees_apply, ofBits_eighth]
  simp only [hc, hk]
  rfl

/-- A reduction by the maximum along the keys. -/
theorem fold_apply (S : FVec Ideal S16x8x2x16x1040 .f32) (i : FVec Ideal S_ .f32) (e : EReal) (hi : ∀ x, i x = e)
    (b : Fin 16) (h : Fin 8) (u : Fin 2) (t : Fin 16) :
    Host.reduce FloatOps.maximumf S i reducesTo_S16x8x2x16x1040_S16x8x2x16_d4 h_S_ (ix4 b h u t)
      = Finset.univ.fold max e fun n : Fin 1040 => S (ix5 b h u t n) := by
  pointwise
  rw [hi]

theorem max_apply (x y : FVec Ideal S16x8x2x16 .f32) (j : S16x8x2x16.Idx) : maximumf x y j = max (x j) (y j) := rfl

theorem least_apply (j : S16x8x2x16.Idx) :
    broadcastInDim S16x8x2x16 ![] bcast_S_S16x8x2x16 (constant (F := Ideal) S_ .f32 0xFF800000#32) j = (⊥ : EReal) :=
  ofBits_neg_inf

/-- A query's greatest score. -/
theorem tops_apply (S : FVec Ideal S16x8x2x16x1040 .f32) (b : Fin 16) (h : Fin 8) (u : Fin 2) (t : Fin 16) :
    tops S (ix4 b h u t) = Finset.univ.fold max (⊥ : EReal) fun n => S (ix5 b h u t n) := by
  unfold tops
  rw [max_apply, least_apply, fold_apply S (constant S_ .f32 0xFF800000#32) ⊥ (fun _ => ofBits_neg_inf), max_bot_left]

/-- An exponential. -/
theorem exps_apply (S : FVec Ideal S16x8x2x16x1040 .f32) (b : Fin 16) (h : Fin 8) (u : Fin 2) (t : Fin 16) (n : Fin 1040) :
    exps S (ix5 b h u t n) = Ideal.exp (S (ix5 b h u t n) - tops S (ix4 b h u t)) := by
  unfold exps along
  pointwise

/-- An entry of the softmax. -/
theorem softmax_apply (S : FVec Ideal S16x8x2x16x1040 .f32) (b : Fin 16) (h : Fin 8) (u : Fin 2) (t : Fin 16) (n : Fin 1040) :
    softmax S (ix5 b h u t n) = share (fun n => S (ix5 b h u t ⟨n.val, by omega⟩)) (fun n => S (ix5 b h u t ⟨1024 + n.val, by omega⟩))
      (S (ix5 b h u t n)) := by
  have e : softmax S (ix5 b h u t n) = Ideal.div (exps S (ix5 b h u t n)) (∑ k, exps S (ix5 b h u t k)) := by
    unfold softmax along totals
    pointwise
  rw [e]
  simp only [exps_apply, tops_apply]
  rw [sum_places, top_places]
  rfl

/-- The factor of the second component. -/
theorem factor_apply (L : FVec Ideal S4x64 .f32) : factor L ix0 = lambda fun a x => L (ix2 a x) := by
  unfold factor lambda
  pointwise

/-- The difference of two entries. -/
theorem weights_apply (A : FVec Ideal S16x8x2x16x1040 .f32) (f : FVec Ideal S_ .f32) (b : Fin 16) (h : Fin 8) (t : Fin 16)
    (n : Fin 1040) : weights A f (ix4 b h t n) = A (ix5 b h 0 t n) - f ix0 * A (ix5 b h 1 t n) := by
  unfold weights
  pointwise

/-- The sum of a column of values. -/
theorem mixed_apply (V : FVec Ideal S16x1040x8x128 .f32) (W : FVec Ideal S16x8x16x1040 .f32) (b t : Fin 16)
    (h : Fin 8) (x : Fin 128) : mixed V W (ix4 b t h x) = ∑ n : Fin 1040, V (ix4 b n h x) * W (ix4 b h t n) := by
  unfold mixed
  pointwise

/-- The normed row. -/
theorem finished_apply (O : FVec Ideal S16x16x8x128 .f32) (G : FVec Ideal S128 .f32) (b t : Fin 16) (e : Fin 1024) :
    finished O G (ix3 b t e) = normed (fun x => O (ix4 b t ⟨e.val / 128, by omega⟩ x))
      (G (ix1 ⟨e.val % 128, Nat.mod_lt _ (by omega)⟩)) ⟨e.val % 128, Nat.mod_lt _ (by omega)⟩ := by
  unfold finished normed
  pointwise

variable (Q K V : FVec Ideal S16x16x1024 .f32) (PK : FVec Ideal S16x1024x8x2x64 .f32) (PV : FVec Ideal S16x1024x8x128 .f32)
  (L : FVec Ideal S4x64 .f32) (G : FVec Ideal S128 .f32)

/-- The difference of the weights of a key, past or new. -/
theorem heeded (b : Fin 16) (h : Fin 8) (t : Fin 16) (n : Fin 1040) (k : Fin 1024 → EReal)
    (hk : ∀ u d, keys PK K (ix5 b n h u d) = k (column h u d)) :
    weights (softmax (scores Q (keys PK K))) (factor L) (ix4 b h t n)
      = heed (fun e => Q (ix3 b t e)) (pastKey PK b) (fun n e => K (ix3 b n e)) (lambda fun a x => L (ix2 a x)) h k := by
  have w (u : Fin 2) : softmax (scores Q (keys PK K)) (ix5 b h u t n)
      = weight (fun e => Q (ix3 b t e)) (pastKey PK b) (fun n e => K (ix3 b n e)) h u (product (fun e => Q (ix3 b t e)) k h u) := by
    rw [softmax_apply, scores_apply _ _ _ _ _ _ _ k (hk u)]
    exact congrArg₂ (fun f g => share f g _)
      (funext fun j => scores_apply Q (keys PK K) b h u t ⟨j.val, by omega⟩ (pastKey PK b j) fun d => keys_past PK K b j h u d)
      (funext fun j => scores_apply Q (keys PK K) b h u t ⟨1024 + j.val, by omega⟩ (fun e => K (ix3 b j e)) fun d => keys_new PK K b j h u d)
  rw [weights_apply, w, w, factor_apply]
  rfl

/-- The reference's result at an element. -/
theorem answer_apply (b t : Fin 16) (e : Fin 1024) : answer Q K V PK PV L G (ix3 b t e)
    = element Q K V PK PV L G b t ⟨e.val / 128, by omega⟩ ⟨e.val % 128, Nat.mod_lt _ (by omega)⟩ := by
  unfold answer
  rw [finished_apply]
  unfold element
  congr 1
  funext x
  rw [mixed_apply, sum_places]
  unfold attended
  refine congrArg₂ (· + ·) (Finset.sum_congr rfl fun n _ => ?_) (Finset.sum_congr rfl fun n _ => ?_)
  · rw [values_past, heeded Q K PK L b _ t ⟨n.val, by omega⟩ (pastKey PK b n) fun u d => keys_past PK K b n _ u d, mul_comm]
  · rw [values_new, heeded Q K PK L b _ t ⟨1024 + n.val, by omega⟩ (fun e => K (ix3 b n e)) fun u d => keys_new PK K b n _ u d, mul_comm]

end Cert.Reference7Ideal.Hand

end
-- ==== Proof.lean ====
/-
  The certificate. Each of the seven calls and its ideal twin run to the end, leave their arguments alone and every
  semaphore at zero; so do their references; each twin is the sanctioned idealization. The twins' results are their
  references': of the attention on finite queries, keys, values and mixing rows (`Proof/Value/Target.lean`); of the output
  projection and feed-forward part (`Proof/Mlp/Target.lean`) and of the projection to keys, values and queries
  (`Proof/Kvq/Target.lean`), of the prompt and of the sample, on any inputs; and of the sample's recurrent part's mixed rows
  (`Proof/Hgrn/Mixed.lean`) and last state (`Proof/Hgrn/Target.lean`) where the gates' floors are not too small
  (`Proof/Hgrn/Moderate.lean`).
-/
module

public import proofs.«01_k».proof.Defs
public import proofs.«01_k».proof.Proof.Bits.Launch
public import proofs.«01_k».proof.Proof.Ideal.Launch
public import proofs.«01_k».proof.Proof.Ideal.Array
public import proofs.«01_k».proof.Proof.Ref.Read
public import proofs.«01_k».proof.Proof.Value.Finite
public import proofs.«01_k».proof.Proof.Gen.ReferenceIdeal.Run
public import proofs.«01_k».proof.Proof.Gen.Kernel2.Frame
public import proofs.«01_k».proof.Proof.Mlp.Array
public import proofs.«01_k».proof.Proof.Mlp.Ref
public import proofs.«01_k».proof.Proof.Gen.Kernel3.Frame
public import proofs.«01_k».proof.Proof.Kvq.Array
public import proofs.«01_k».proof.Proof.Kvq.Ref
public import proofs.«01_k».proof.Proof.Gen.Kernel4.Frame
public import proofs.«01_k».proof.Proof.MlpSample.Array
public import proofs.«01_k».proof.Proof.MlpSample.Ref
public import proofs.«01_k».proof.Proof.Gen.Kernel5.Frame
public import proofs.«01_k».proof.Proof.KvqSample.Array
public import proofs.«01_k».proof.Proof.KvqSample.Ref
public import proofs.«01_k».proof.Proof.Gen.Kernel6.Frame
public import proofs.«01_k».proof.Proof.Hgrn.Array
public import proofs.«01_k».proof.Proof.Hgrn.RefRows
public import proofs.«01_k».proof.Proof.Hgrn.Moderate
public import proofs.«01_k».proof.Proof.Gen.Kernel7.Frame
public import proofs.«01_k».proof.Proof.Cache.Array
public import proofs.«01_k».proof.Proof.Cache.Ref
public import Idealize.ShloMosaic.Lib.Quiescent

@[expose] public section

noncomputable section

namespace Cert.Proof

open Idealize.ShloMosaic Idealize.ShloMosaic.TcCoe Idealize.SL.Sem Cert.Attention

/-- The reference runs to the end, leaves its arguments alone and every semaphore at zero. -/
theorem reference_quiescent : Cert.quiescent_ReferenceIdeal := fun m g _ => (θ_run _ _ _).mono
  (fun r h => ⟨fun c => (h c).2, sem_eq_zero_of_no_sems (by decide) r.2⟩) (Cert.ReferenceIdeal.Value.run m g)

/-- On finite inputs the kernel's twin and the reference leave the same array. -/
theorem algebraic [Cert.Pre_finite_inputs.Facts] : Cert.algebraic_KernelIdeal_ReferenceIdeal_pre_finite_inputs := by
  intro m g m' g' hpre hagree
  refine ⟨fun c => attention (Cert.KernelIdeal.Hand.argQ m c) (Cert.KernelIdeal.Hand.argK m c)
    (Cert.KernelIdeal.Hand.argV m c) (Cert.KernelIdeal.Hand.argL m c) (Cert.KernelIdeal.Hand.argG m c), ?_, ?_⟩
  · exact Cert.KernelIdeal.Hand.result_run m g fun c => reals_of_finite _ _ _ _ _ (hpre c)
  · refine (θ_run _ _ _).mono (fun r h c => ?_) (Cert.ReferenceIdeal.Value.run m' g')
    obtain ⟨e0, e1, e2, e3, e4⟩ := hagree c
    obtain ⟨hQ, hK, hV, hL⟩ := reals_of_finite _ _ _ _ _ (hpre c)
    refine ⟨(h c).1.trans ((Cert.ReferenceIdeal.Hand.res_eq m' c).trans ?_), (h c).2⟩
    rw [e0, e1, e2, e3, e4]
    exact Cert.ReferenceIdeal.Hand.answer_eq _ _ _ _ _ hQ hK hV hL

/-- The second reference runs to the end, leaves its arguments alone and every semaphore at zero. -/
theorem reference2_quiescent : Cert.quiescent_Reference2Ideal := fun m g _ => (θ_run _ _ _).mono
  (fun r h => ⟨fun c => (h c).2, sem_eq_zero_of_no_sems (by decide) r.2⟩) (Cert.Reference2Ideal.Value.run m g)

/-- The third reference runs to the end, leaves its arguments alone and every semaphore at zero. -/
theorem reference3_quiescent : Cert.quiescent_Reference3Ideal := fun m g _ => (θ_run _ _ _).mono
  (fun r h => ⟨fun c => (h c).2.2.2.2.2, sem_eq_zero_of_no_sems (by decide) r.2⟩) (Cert.Reference3Ideal.Value.run m g)

/-- The output projection and feed-forward part: the twin and the reference leave the same array. -/
theorem algebraic2 : Cert.algebraic_Kernel2Ideal_Reference2Ideal := by
  intro m g m' g' hpre hagree
  refine ⟨fun c => Cert.Kernel2Ideal.Hand.whole m c, Cert.Kernel2Ideal.Hand.result_run m g, ?_⟩
  refine (θ_run _ _ _).mono (fun r h c => ?_) (Cert.Reference2Ideal.Value.run m' g')
  obtain ⟨e0, e1, e2, e3, e4, e5, e6, e7⟩ := hagree c
  refine ⟨(h c).1.trans ((Cert.Reference2Ideal.Hand.res_eq m' c).trans ?_), (h c).2⟩
  rw [e0, e1, e2, e3, e4, e5, e6, e7]
  funext i
  idx_vars i
  exact Cert.Reference2Ideal.Hand.answer_apply _ _ _ _ _ _ _ _ i0 i1 i2

/-- The keys, values and queries: the twin and the reference leave the same five arrays. -/
theorem algebraic3 : Cert.algebraic_Kernel3Ideal_Reference3Ideal := by
  intro m g m' g' hpre hagree
  refine ⟨_, _, _, _, _, Cert.Kernel3Ideal.Hand.result_run m g, ?_⟩
  refine (θ_run _ _ _).mono (fun r h c => ?_) (Cert.Reference3Ideal.Hand.run_steps m' g')
  obtain ⟨e0, e1, e2, e3, e4⟩ := hagree c
  have hH : Cert.Reference3Ideal.Hand.argH m' c = Cert.Kernel3Ideal.Hand.argH m c := e0
  have hG : Cert.Reference3Ideal.Hand.argG m' c = Cert.Kernel3Ideal.Hand.argG m c := e1
  have hGq : Cert.Reference3Ideal.Hand.argGq m' c = Cert.Kernel3Ideal.Hand.argGq m c := e2
  have hW : Cert.Reference3Ideal.Hand.argW m' c = Cert.Kernel3Ideal.Hand.argW m c := e3
  have hWq : Cert.Reference3Ideal.Hand.argWq m' c = Cert.Kernel3Ideal.Hand.argWq m c := e4
  obtain ⟨hk, hv, hkb, hvb, hq, hargs⟩ := h c
  rw [hH, hG, hW] at hk hv hkb hvb
  rw [hH, hGq, hWq] at hq
  refine ⟨hk.trans ?_, hv.trans ?_, hkb.trans ?_, hvb.trans ?_, hq.trans ?_, hargs⟩
  · funext i
    idx_vars i
    exact Cert.Reference3Ideal.Hand.keys_apply _ _ _ i0 i1 i2 i3 i4
  · funext i
    idx_vars i
    exact Cert.Reference3Ideal.Hand.values_apply _ _ _ i0 i1 i2 i3
  · funext i
    idx_vars i
    exact Cert.Reference3Ideal.Hand.half_keys_apply _ _ _ i0 i1 i2
  · funext i
    idx_vars i
    exact Cert.Reference3Ideal.Hand.half_values_apply _ _ _ i0 i1 i2
  · funext i
    idx_vars i
    exact Cert.Reference3Ideal.Hand.asked_apply _ _ _ i0 i1 i2

/-- The fourth reference runs to the end, leaves its arguments alone and every semaphore at zero. -/
theorem reference4_quiescent : Cert.quiescent_Reference4Ideal := fun m g _ => (θ_run _ _ _).mono
  (fun r h => ⟨fun c => (h c).2, sem_eq_zero_of_no_sems (by decide) r.2⟩) (Cert.Reference4Ideal.Value.run m g)

/-- The fifth reference runs to the end, leaves its arguments alone and every semaphore at zero. -/
theorem reference5_quiescent : Cert.quiescent_Reference5Ideal := fun m g _ => (θ_run _ _ _).mono
  (fun r h => ⟨fun c => (h c).2.2.2.2.2, sem_eq_zero_of_no_sems (by decide) r.2⟩) (Cert.Reference5Ideal.Value.run m g)

/-- The output projection and feed-forward part of the sample: the twin and the reference leave the same array. -/
theorem algebraic4 : Cert.algebraic_Kernel4Ideal_Reference4Ideal := by
  intro m g m' g' hpre hagree
  refine ⟨fun c => Cert.Kernel4Ideal.Hand.whole m c, Cert.Kernel4Ideal.Hand.result_run m g, ?_⟩
  refine (θ_run _ _ _).mono (fun r h c => ?_) (Cert.Reference4Ideal.Value.run m' g')
  obtain ⟨e0, e1, e2, e3, e4, e5, e6, e7⟩ := hagree c
  refine ⟨(h c).1.trans ((Cert.Reference4Ideal.Hand.res_eq m' c).trans ?_), (h c).2⟩
  rw [e0, e1, e2, e3, e4, e5, e6, e7]
  funext i
  idx_vars i
  exact Cert.Reference4Ideal.Hand.answer_apply _ _ _ _ _ _ _ _ i0 i1 i2

/-- The keys, values and queries: the twin and the reference leave the same five arrays. -/
theorem algebraic5 : Cert.algebraic_Kernel5Ideal_Reference5Ideal := by
  intro m g m' g' hpre hagree
  refine ⟨_, _, _, _, _, Cert.Kernel5Ideal.Hand.result_run m g, ?_⟩
  refine (θ_run _ _ _).mono (fun r h c => ?_) (Cert.Reference5Ideal.Hand.run_steps m' g')
  obtain ⟨e0, e1, e2, e3, e4⟩ := hagree c
  have hH : Cert.Reference5Ideal.Hand.argH m' c = Cert.Kernel5Ideal.Hand.argH m c := e0
  have hG : Cert.Reference5Ideal.Hand.argG m' c = Cert.Kernel5Ideal.Hand.argG m c := e1
  have hGq : Cert.Reference5Ideal.Hand.argGq m' c = Cert.Kernel5Ideal.Hand.argGq m c := e2
  have hW : Cert.Reference5Ideal.Hand.argW m' c = Cert.Kernel5Ideal.Hand.argW m c := e3
  have hWq : Cert.Reference5Ideal.Hand.argWq m' c = Cert.Kernel5Ideal.Hand.argWq m c := e4
  obtain ⟨hk, hv, hkb, hvb, hq, hargs⟩ := h c
  rw [hH, hG, hW] at hk hv hkb hvb
  rw [hH, hGq, hWq] at hq
  refine ⟨hk.trans ?_, hv.trans ?_, hkb.trans ?_, hvb.trans ?_, hq.trans ?_, hargs⟩
  · funext i
    idx_vars i
    exact Cert.Reference5Ideal.Hand.keys_apply _ _ _ i0 i1 i2 i3 i4
  · funext i
    idx_vars i
    exact Cert.Reference5Ideal.Hand.values_apply _ _ _ i0 i1 i2 i3
  · funext i
    idx_vars i
    exact Cert.Reference5Ideal.Hand.half_keys_apply _ _ _ i0 i1 i2
  · funext i
    idx_vars i
    exact Cert.Reference5Ideal.Hand.half_values_apply _ _ _ i0 i1 i2
  · funext i
    idx_vars i
    exact Cert.Reference5Ideal.Hand.asked_apply _ _ _ i0 i1 i2

/-- The sixth reference runs to the end, leaves its arguments alone and every semaphore at zero. -/
theorem reference6_quiescent : Cert.quiescent_Reference6Ideal := fun m g _ => (θ_run _ _ _).mono
  (fun r h => ⟨fun c => (h c).2.2, sem_eq_zero_of_no_sems (by decide) r.2⟩) (Cert.Reference6Ideal.Value.run m g)

/-- The sample's recurrent part: where the gates' floors are not too small, the twin and the reference leave the same mixed
    rows and last states. -/
theorem algebraic6 [Cert.Pre_moderate_floors.Facts] : Cert.algebraic_Kernel6Ideal_Reference6Ideal_pre_moderate_floors := by
  intro m g m' g' hpre hagree
  refine ⟨_, _, Cert.Kernel6Ideal.Hand.result_run m g fun c d => Cert.Hgrn.moderate_of_floors _ _ _ _ _ _ (hpre c) d, ?_⟩
  refine (θ_run _ _ _).mono (fun r h c => ?_) (Cert.Reference6Ideal.Hand.run_steps m' g')
  obtain ⟨e0, e1, e2, e3, e4, e5⟩ := hagree c
  have hH : Cert.Reference6Ideal.Hand.argH m' c = Cert.Kernel6Ideal.Hand.argH m c := e0
  have hG : Cert.Reference6Ideal.Hand.argG m' c = Cert.Kernel6Ideal.Hand.argG m c := e1
  have hW : Cert.Reference6Ideal.Hand.argW m' c = Cert.Kernel6Ideal.Hand.argW m c := e2
  have hL : Cert.Reference6Ideal.Hand.argL m' c = Cert.Kernel6Ideal.Hand.argL m c := e3
  have hN : Cert.Reference6Ideal.Hand.argN m' c = Cert.Kernel6Ideal.Hand.argN m c := e4
  have hS : Cert.Reference6Ideal.Hand.argS m' c = Cert.Kernel6Ideal.Hand.argS m c := e5
  refine ⟨(h c).1.trans ?_, (h c).2.1.trans ?_, (h c).2.2⟩
  · unfold Cert.Reference6Ideal.Hand.rows
    rw [hH, hG, hW, hL, hN, hS]
    rfl
  · rw [hH, hG, hW, hL, hS]
    rfl

/-- The seventh reference runs to the end, leaves its arguments alone and every semaphore at zero. -/
theorem reference7_quiescent : Cert.quiescent_Reference7Ideal := fun m g _ => (θ_run _ _ _).mono
  (fun r h => ⟨fun c => (h c).2, sem_eq_zero_of_no_sems (by decide) r.2⟩) (Cert.Reference7Ideal.Value.run m g)

/-- The sample's attention with past keys: the twin and the reference leave the same array. -/
theorem algebraic7 : Cert.algebraic_Kernel7Ideal_Reference7Ideal := by
  intro m g m' g' hpre hagree
  refine ⟨fun c => Cert.Kernel7Ideal.Hand.rows m c, Cert.Kernel7Ideal.Hand.result_run m g, ?_⟩
  refine (θ_run _ _ _).mono (fun r h c => ?_) (Cert.Reference7Ideal.Value.run m' g')
  obtain ⟨e0, e1, e2, e3, e4, e5, e6⟩ := hagree c
  refine ⟨(h c).1.trans ((Cert.Reference7Ideal.Hand.res_eq m' c).trans ?_), (h c).2⟩
  rw [e0, e1, e2, e3, e4, e5, e6]
  funext i
  idx_vars i
  exact Cert.Reference7Ideal.Hand.answer_apply _ _ _ _ _ _ _ i0 i1 i2

/-- All claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, finite_facts,
  Cert.Hgrn.moderate_facts,
  fun m g _ => Cert.Kernel.Hand.quiescent m g,
  fun m g _ => Cert.KernelIdeal.Hand.quiescent m g,
  fun m g _ => Cert.KernelIdeal.Hand.quiescent m g,
  reference_quiescent,
  fun m g _ => reference_quiescent m g trivial,
  fun m g _ => Cert.Kernel2.Gen.frame m g,
  fun m g _ => Cert.Kernel2Ideal.Gen.frame m g,
  reference2_quiescent,
  fun m g _ => Cert.Kernel3.Gen.frame m g,
  fun m g _ => Cert.Kernel3Ideal.Gen.frame m g,
  reference3_quiescent,
  fun m g _ => Cert.Kernel4.Gen.frame m g,
  fun m g _ => Cert.Kernel4Ideal.Gen.frame m g,
  reference4_quiescent,
  fun m g _ => Cert.Kernel5.Gen.frame m g,
  fun m g _ => Cert.Kernel5Ideal.Gen.frame m g,
  reference5_quiescent,
  fun m g _ => Cert.Kernel6.Gen.frame m g,
  fun m g _ => Cert.Kernel6Ideal.Gen.frame m g,
  fun m g _ => Cert.Kernel6Ideal.Gen.frame m g,
  reference6_quiescent,
  fun m g _ => reference6_quiescent m g trivial,
  fun m g _ => Cert.Kernel7.Gen.frame m g,
  fun m g _ => Cert.Kernel7Ideal.Gen.frame m g,
  reference7_quiescent,
  ⟨IdealRules.named_const.statement _ _ _ _ _ rfl, IdealRules.named_const.statement _ _ _ _ _ rfl⟩,
  @algebraic finite_facts,
  trivial,
  algebraic2,
  trivial,
  algebraic3,
  trivial,
  algebraic4,
  trivial,
  algebraic5,
  trivial,
  @algebraic6 Cert.Hgrn.moderate_facts,
  IdealRules.named_const.statement _ _ _ _ _ rfl,
  algebraic7⟩

end Cert.Proof

end
